-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6)) (m ((c.tc : Thread Cert.Kernel15Ideal.nD Cert.Kernel15Ideal.τ).loc Cert.Kernel15Ideal.main_arg7)) (m ((c.tc : Thread Cert.Kernel15Ideal.nD Cert.Kernel15Ideal.τ).loc Cert.Kernel15Ideal.main_arg8)) (m ((c.tc : Thread Cert.Kernel15Ideal.nD Cert.Kernel15Ideal.τ).loc Cert.Kernel15Ideal.main_arg9))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5)) (m ((c.tc : Thread Cert.Reference15Ideal.nD Cert.Reference15Ideal.τ).loc Cert.Reference15Ideal.main_arg6)) (m ((c.tc : Thread Cert.Reference15Ideal.nD Cert.Reference15Ideal.τ).loc Cert.Reference15Ideal.main_arg7)) (m ((c.tc : Thread Cert.Reference15Ideal.nD Cert.Reference15Ideal.τ).loc Cert.Reference15Ideal.main_arg8)) (m ((c.tc : Thread Cert.Reference15Ideal.nD Cert.Reference15Ideal.τ).loc Cert.Reference15Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31_1)) (v1 : (c : Dev Cert.KernelIdeal.nD) → Buf (Elt Ideal) ((c.tc : Thread Cert.KernelIdeal.nD Cert.KernelIdeal.τ).loc Cert.KernelIdeal.main_v31_2)) (v2 : (c : Dev Cert.KernelIdeal.nD) → Buf (Elt Ideal) ((c.tc : Thread Cert.KernelIdeal.nD Cert.KernelIdeal.τ).loc Cert.KernelIdeal.main_v31_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_1) = v0 c
          ∧ r.2.mem ((c.tc : Thread Cert.KernelIdeal.nD Cert.KernelIdeal.τ).loc Cert.KernelIdeal.main_v31_2) = v1 c
          ∧ r.2.mem ((c.tc : Thread Cert.KernelIdeal.nD Cert.KernelIdeal.τ).loc Cert.KernelIdeal.main_v31_3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v15_0)) (v1 : (c : Dev Cert.Kernel2Ideal.nD) → Buf (Elt Ideal) ((c.tc : Thread Cert.Kernel2Ideal.nD Cert.Kernel2Ideal.τ).loc Cert.Kernel2Ideal.main_v15_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_0) = v0 c
          ∧ r.2.mem ((c.tc : Thread Cert.Kernel2Ideal.nD Cert.Kernel2Ideal.τ).loc Cert.Kernel2Ideal.main_v15_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_v8) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)) (v2 : (c : Dev Cert.Kernel5Ideal.nD) → Buf (Elt Ideal) ((c.tc : Thread Cert.Kernel5Ideal.nD Cert.Kernel5Ideal.τ).loc Cert.Kernel5Ideal.main_v7_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_v7_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v74) = v0 c
          ∧ r.2.mem ((c.tc : Thread Cert.Reference5Ideal.nD Cert.Reference5Ideal.τ).loc Cert.Reference5Ideal.main_v48) = v1 c
          ∧ r.2.mem ((c.tc : Thread Cert.Reference5Ideal.nD Cert.Reference5Ideal.τ).loc Cert.Reference5Ideal.main_v45) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)) (v3 : (c : Dev Cert.Kernel6Ideal.nD) → Buf (Elt Ideal) ((c.tc : Thread Cert.Kernel6Ideal.nD Cert.Kernel6Ideal.τ).loc Cert.Kernel6Ideal.main_v5_3)) (v4 : (c : Dev Cert.Kernel6Ideal.nD) → Buf (Elt Ideal) ((c.tc : Thread Cert.Kernel6Ideal.nD Cert.Kernel6Ideal.τ).loc Cert.Kernel6Ideal.main_v5_4)) (v5 : (c : Dev Cert.Kernel6Ideal.nD) → Buf (Elt Ideal) ((c.tc : Thread Cert.Kernel6Ideal.nD Cert.Kernel6Ideal.τ).loc Cert.Kernel6Ideal.main_v5_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_v5_3) = v3 c
          ∧ r.2.mem ((c.tc : Thread Cert.Kernel6Ideal.nD Cert.Kernel6Ideal.τ).loc Cert.Kernel6Ideal.main_v5_4) = v4 c
          ∧ r.2.mem ((c.tc : Thread Cert.Kernel6Ideal.nD Cert.Kernel6Ideal.τ).loc Cert.Kernel6Ideal.main_v5_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v85) = v0 c
          ∧ r.2.mem ((c.tc : Thread Cert.Reference6Ideal.nD Cert.Reference6Ideal.τ).loc Cert.Reference6Ideal.main_v84) = v1 c
          ∧ r.2.mem ((c.tc : Thread Cert.Reference6Ideal.nD Cert.Reference6Ideal.τ).loc Cert.Reference6Ideal.main_v86) = v2 c
          ∧ r.2.mem ((c.tc : Thread Cert.Reference6Ideal.nD Cert.Reference6Ideal.τ).loc Cert.Reference6Ideal.main_v87) = v3 c
          ∧ r.2.mem ((c.tc : Thread Cert.Reference6Ideal.nD Cert.Reference6Ideal.τ).loc Cert.Reference6Ideal.main_v58) = v4 c
          ∧ r.2.mem ((c.tc : Thread Cert.Reference6Ideal.nD Cert.Reference6Ideal.τ).loc Cert.Reference6Ideal.main_v55) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)) (v2 : (c : Dev Cert.Kernel8Ideal.nD) → Buf (Elt Ideal) ((c.tc : Thread Cert.Kernel8Ideal.nD Cert.Kernel8Ideal.τ).loc Cert.Kernel8Ideal.main_v3_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_v3_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_v26) = v1 c
          ∧ r.2.mem ((c.tc : Thread Cert.Reference8Ideal.nD Cert.Reference8Ideal.τ).loc Cert.Reference8Ideal.main_v27) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v6) = v2 c
          ∧ r.2.mem ((c.tc : Thread Cert.Reference9Ideal.nD Cert.Reference9Ideal.τ).loc Cert.Reference9Ideal.main_v12) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v6) = v2 c
          ∧ r.2.mem ((c.tc : Thread Cert.Reference10Ideal.nD Cert.Reference10Ideal.τ).loc Cert.Reference10Ideal.main_v12) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)) (v3 : (c : Dev Cert.Kernel11Ideal.nD) → Buf (Elt Ideal) ((c.tc : Thread Cert.Kernel11Ideal.nD Cert.Kernel11Ideal.τ).loc Cert.Kernel11Ideal.main_v3_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_v3_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v28) = v0 c
          ∧ r.2.mem ((c.tc : Thread Cert.Reference11Ideal.nD Cert.Reference11Ideal.τ).loc Cert.Reference11Ideal.main_v29) = v1 c
          ∧ r.2.mem ((c.tc : Thread Cert.Reference11Ideal.nD Cert.Reference11Ideal.τ).loc Cert.Reference11Ideal.main_v30) = v2 c
          ∧ r.2.mem ((c.tc : Thread Cert.Reference11Ideal.nD Cert.Reference11Ideal.τ).loc Cert.Reference11Ideal.main_v31) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v6) = v2 c
          ∧ r.2.mem ((c.tc : Thread Cert.Reference12Ideal.nD Cert.Reference12Ideal.τ).loc Cert.Reference12Ideal.main_v12) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v259) = v0 c
          ∧ r.2.mem ((c.tc : Thread Cert.Reference13Ideal.nD Cert.Reference13Ideal.τ).loc Cert.Reference13Ideal.main_v261) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v29) = v0 c
          ∧ r.2.mem ((c.tc : Thread Cert.Reference14Ideal.nD Cert.Reference14Ideal.τ).loc Cert.Reference14Ideal.main_v34) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)) →
    ∃ (v0 : (c : Dev Cert.Kernel15Ideal.nD) → Buf (Elt Ideal) ((c.tc : Thread Cert.Kernel15Ideal.nD Cert.Kernel15Ideal.τ).loc Cert.Kernel15Ideal.main_v8_0)) (v1 : (c : Dev Cert.Kernel15Ideal.nD) → Buf (Elt Ideal) ((c.tc : Thread Cert.Kernel15Ideal.nD Cert.Kernel15Ideal.τ).loc Cert.Kernel15Ideal.main_v8_1)) (v2 : (c : Dev Cert.Kernel15Ideal.nD) → Buf (Elt Ideal) ((c.tc : Thread Cert.Kernel15Ideal.nD Cert.Kernel15Ideal.τ).loc Cert.Kernel15Ideal.main_v8_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v8_0) = v0 c
          ∧ r.2.mem ((c.tc : Thread Cert.Kernel15Ideal.nD Cert.Kernel15Ideal.τ).loc Cert.Kernel15Ideal.main_v8_1) = v1 c
          ∧ r.2.mem ((c.tc : Thread Cert.Kernel15Ideal.nD Cert.Kernel15Ideal.τ).loc Cert.Kernel15Ideal.main_v8_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v86) = v0 c
          ∧ r.2.mem ((c.tc : Thread Cert.Reference15Ideal.nD Cert.Reference15Ideal.τ).loc Cert.Reference15Ideal.main_v59) = v1 c
          ∧ r.2.mem ((c.tc : Thread Cert.Reference15Ideal.nD Cert.Reference15Ideal.τ).loc Cert.Reference15Ideal.main_v52) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite5 : Cert.Pre_finite5.Facts) (hPre_finite6 : Cert.Pre_finite6.Facts) (hPre_finite15 : Cert.Pre_finite15.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite15 (hKernel15Ideal := hKernel15Ideal) (hReference15Ideal := hReference15Ideal) (hPre_finite15 := hPre_finite15)
-- ==== Pre_finite.lean ====
abbrev S4224x1024 : Shape := ⟨2, ![4224, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩

class Facts : Prop where
  bcast_S_S4224x1024 : S_.BroadcastsInDim S4224x1024 (![] : Fin 0 → Fin S4224x1024.rank)
  reducesTo_S4224x1024_S_d0_1 : S4224x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_arg5 : FVec F S4224x1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4224x1024 .f32 := Host.absf main_arg5
  let main_cst_8 : FVec F S_ .f32 := constant S_ .f32 0x7F800000#32
  let main_v25 : FVec F S4224x1024 .f32 := broadcastInDim S4224x1024 ![] bcast_S_S4224x1024 main_cst_8
  let main_v26 : IVec S4224x1024 1 := cmpf .olt main_v24 main_v25
  let main_c_9 : IVec S_ 1 := constantI S_ 1 1#1
  let main_v27 : IVec S_ 1 := (fun x v => Host.reduce IntOp.andi x v reducesTo_S4224x1024_S_d0_1 h_S_) main_v26 main_c_9
  let main_v28 : IVec S_ 1 := andi main_v23 main_v27
  main_v28

def fn {F : FTy → Type} [FloatOps F] (main_arg0 : FVec F S4224x1024 .f32) (main_arg1 : FVec F S1x1024 .f32) (main_arg2 : FVec F S1x1024 .f32) (main_arg3 : FVec F S1024x4096 .f32) (main_arg4 : FVec F S4096x1024 .f32) (main_arg5 : FVec F S4224x1024 .f32) : IVec S_ 1 :=
  let main_v0 : FVec F S4224x1024 .f32 := Host.absf main_arg0
  let main_cst : FVec F S_ .f32 := constant S_ .f32 0x7F800000#32
  let main_v1 : FVec F S4224x1024 .f32 := broadcastInDim S4224x1024 ![] bcast_S_S4224x1024 main_cst
  let main_v2 : IVec S4224x1024 1 := cmpf .olt main_v0 main_v1
  let main_c : IVec S_ 1 := constantI S_ 1 1#1
  let main_v3 : IVec S_ 1 := (fun x v => Host.reduce IntOp.andi x v reducesTo_S4224x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_v13 main_v16
-- ==== Pre_finite15.lean ====
abbrev S16x1024 : Shape := ⟨2, ![16, 1024]⟩
abbrev S1x1024 : Shape := ⟨2, ![1, 1024]⟩
abbrev S1024x2688 : Shape := ⟨2, ![1024, 2688]⟩
abbrev S4224x1024 : Shape := ⟨2, ![4224, 1024]⟩
abbrev S4224x512 : Shape := ⟨2, ![4224, 512]⟩
abbrev S4224x128 : Shape := ⟨2, ![4224, 128]⟩
abbrev S_ : Shape := ⟨0, ![]⟩

class Facts : Prop where
  bcast_S_S16x1024 : S_.BroadcastsInDim S16x1024 (![] : Fin 0 → Fin S16x1024.rank)
  reducesTo_S16x1024_S_d0_1 : S16x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2688 : S_.BroadcastsInDim S1024x2688 (![] : Fin 0 → Fin S1024x2688.rank)
  reducesTo_S1024x2688_S_d0_1 : S1024x2688.ReducesTo [0, 1] S_
  bcast_S_S4224x1024 : S_.BroadcastsInDim S4224x1024 (![] : Fin 0 → Fin S4224x1024.rank)
  reducesTo_S4224x1024_S_d0_1 : S4224x1024.ReducesTo [0, 1] S_
  bcast_S_S4224x512 : S_.BroadcastsInDim S4224x512 (![] : Fin 0 → Fin S4224x512.rank)
  reducesTo_S4224x512_S_d0_1 : S4224x512.ReducesTo [0, 1] S_
  bcast_S_S4224x128 : S_.BroadcastsInDim S4224x128 (![] : Fin 0 → Fin S4224x128.rank)
  reducesTo_S4224x128_S_d0_1 : S4224x128.ReducesTo [0, 1] S_

variable [Facts]

def fn_part2 {F : FTy → Type} [FloatOps F] (main_arg8 : FVec F S4224x512 .f32) (main_arg9 : FVec F S4224x128 .f32) (main_v33 : IVec S_ 1) : IVec S_ 1 :=
  let main_v34 : FVec F S4224x512 .f32 := Host.absf main_arg8
  let main_cst_12 : FVec F S_ .f32 := constant S_ .f32 0x7F800000#32
  let main_v35 : FVec F S4224x512 .f32 := broadcastInDim S4224x512 ![] bcast_S_S4224x512 main_cst_12
  let main_v36 : IVec S4224x512 1 := cmpf .olt main_v34 main_v35
  let main_c_13 : IVec S_ 1 := constantI S_ 1 1#1
  let main_v37 : IVec S_ 1 := (fun x v => Host.reduce IntOp.andi x v reducesTo_S4224x512_S_d0_1 h_S_) main_v36 main_c_13
  let main_v38 : IVec S_ 1 := andi main_v33 main_v37
  let main_v39 : FVec F S4224x128 .f32 := Host.absf main_arg9
  let main_cst_14 : FVec F S_ .f32 := constant S_ .f32 0x7F800000#32
  let main_v40 : FVec F S4224x128 .f32 := broadcastInDim S4224x128 ![] bcast_S_S4224x128 main_cst_14
  let main_v41 : IVec S4224x128 1 := cmpf .olt main_v39 main_v40
  let main_c_15 : IVec S_ 1 := constantI S_ 1 1#1
  let main_v42 : IVec S_ 1 := (fun x v => Host.reduce IntOp.andi x v reducesTo_S4224x128_S_d0_1 h_S_) main_v41 main_c_15
  let main_v43 : IVec S_ 1 := andi main_v38 main_v42
  main_v43

def fn_part1 {F : FTy → Type} [FloatOps F] (main_arg5 : FVec F S4224x1024 .f32) (main_arg6 : FVec F S4224x512 .f32) (main_arg7 : FVec F S4224x512 .f32) (main_arg8 : FVec F S4224x512 .f32) (main_arg9 : FVec F S4224x128 .f32) (main_v13 : IVec S_ 1) (main_v16 : IVec S4224x1024 1) : IVec S_ 1 :=
  let main_c_5 : IVec S_ 1 := constantI S_ 1 1#1
  let main_v17 : IVec S_ 1 := (fun x v => Host.reduce IntOp.andi x v reducesTo_S4224x1024_S_d0_1 h_S_) main_v16 main_c_5
  let main_v18 : IVec S_ 1 := andi main_v13 main_v17
  let main_v19 : FVec F S4224x1024 .f32 := Host.absf main_arg5
  let main_cst_6 : FVec F S_ .f32 := constant S_ .f32 0x7F800000#32
  let main_v20 : FVec F S4224x1024 .f32 := broadcastInDim S4224x1024 ![] bcast_S_S4224x1024 main_cst_6
  let main_v21 : IVec S4224x1024 1 := cmpf .olt main_v19 main_v20
  let main_c_7 : IVec S_ 1 := constantI S_ 1 1#1
  let main_v22 : IVec S_ 1 := (fun x v => Host.reduce IntOp.andi x v reducesTo_S4224x1024_S_d0_1 h_S_) main_v21 main_c_7
  let main_v23 : IVec S_ 1 := andi main_v18 main_v22
  let main_v24 : FVec F S4224x512 .f32 := Host.absf main_arg6
  let main_cst_8 : FVec F S_ .f32 := constant S_ .f32 0x7F800000#32
  let main_v25 : FVec F S4224x512 .f32 := broadcastInDim S4224x512 ![] bcast_S_S4224x512 main_cst_8
  let main_v26 : IVec S4224x512 1 := cmpf .olt main_v24 main_v25
  let main_c_9 : IVec S_ 1 := constantI S_ 1 1#1
  let main_v27 : IVec S_ 1 := (fun x v => Host.reduce IntOp.andi x v reducesTo_S4224x512_S_d0_1 h_S_) main_v26 main_c_9
  let main_v28 : IVec S_ 1 := andi main_v23 main_v27
  let main_v29 : FVec F S4224x512 .f32 := Host.absf main_arg7
  let main_cst_10 : FVec F S_ .f32 := constant S_ .f32 0x7F800000#32
  let main_v30 : FVec F S4224x512 .f32 := broadcastInDim S4224x512 ![] bcast_S_S4224x512 main_cst_10
  let main_v31 : IVec S4224x512 1 := cmpf .olt main_v29 main_v30
  let main_c_11 : IVec S_ 1 := constantI S_ 1 1#1
  let main_v32 : IVec S_ 1 := (fun x v => Host.reduce IntOp.andi x v reducesTo_S4224x512_S_d0_1 h_S_) main_v31 main_c_11
  let main_v33 : IVec S_ 1 := andi main_v28 main_v32
  fn_part2 (F := F) main_arg8 main_arg9 main_v33

def fn {F : FTy → Type} [FloatOps F] (main_arg0 : FVec F S16x1024 .f32) (main_arg1 : FVec F S1x1024 .f32) (main_arg2 : FVec F S1x1024 .f32) (main_arg3 : FVec F S1024x2688 .f32) (main_arg4 : FVec F S4224x1024 .f32) (main_arg5 : FVec F S4224x1024 .f32) (main_arg6 : FVec F S4224x512 .f32) (main_arg7 : FVec F S4224x512 .f32) (main_arg8 : FVec F S4224x512 .f32) (main_arg9 : FVec F S4224x128 .f32) : IVec S_ 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_c : IVec S_ 1 := constantI S_ 1 1#1
  let main_v3 : IVec S_ 1 := (fun x v => Host.reduce IntOp.andi x v reducesTo_S16x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2688 .f32 := Host.absf main_arg3
  let main_cst_2 : FVec F S_ .f32 := constant S_ .f32 0x7F800000#32
  let main_v10 : FVec F S1024x2688 .f32 := broadcastInDim S1024x2688 ![] bcast_S_S1024x2688 main_cst_2
  let main_v11 : IVec S1024x2688 1 := cmpf .olt main_v9 main_v10
  let main_c_3 : IVec S_ 1 := constantI S_ 1 1#1
  let main_v12 : IVec S_ 1 := (fun x v => Host.reduce IntOp.andi x v reducesTo_S1024x2688_S_d0_1 h_S_) main_v11 main_c_3
  let main_v13 : IVec S_ 1 := andi main_v8 main_v12
  let main_v14 : FVec F S4224x1024 .f32 := Host.absf main_arg4
  let main_cst_4 : FVec F S_ .f32 := constant S_ .f32 0x7F800000#32
  let main_v15 : FVec F S4224x1024 .f32 := broadcastInDim S4224x1024 ![] bcast_S_S4224x1024 main_cst_4
  let main_v16 : IVec S4224x1024 1 := cmpf .olt main_v14 main_v15
  fn_part1 (F := F) main_arg5 main_arg6 main_arg7 main_arg8 main_arg9 main_v13 main_v16
-- ==== Pre_finite5.lean ====
abbrev S4096x1024 : Shape := ⟨2, ![4096, 1024]⟩
abbrev S1x1024 : Shape := ⟨2, ![1, 1024]⟩
abbrev S1024x2688 : Shape := ⟨2, ![1024, 2688]⟩
abbrev S4224x1024 : Shape := ⟨2, ![4224, 1024]⟩
abbrev S4224x512 : Shape := ⟨2, ![4224, 512]⟩
abbrev S4224x128 : Shape := ⟨2, ![4224, 128]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2688 : S_.BroadcastsInDim S1024x2688 (![] : Fin 0 → Fin S1024x2688.rank)
  reducesTo_S1024x2688_S_d0_1 : S1024x2688.ReducesTo [0, 1] S_
  bcast_S_S4224x1024 : S_.BroadcastsInDim S4224x1024 (![] : Fin 0 → Fin S4224x1024.rank)
  reducesTo_S4224x1024_S_d0_1 : S4224x1024.ReducesTo [0, 1] S_
  bcast_S_S4224x512 : S_.BroadcastsInDim S4224x512 (![] : Fin 0 → Fin S4224x512.rank)
  reducesTo_S4224x512_S_d0_1 : S4224x512.ReducesTo [0, 1] S_
  bcast_S_S4224x128 : S_.BroadcastsInDim S4224x128 (![] : Fin 0 → Fin S4224x128.rank)
  reducesTo_S4224x128_S_d0_1 : S4224x128.ReducesTo [0, 1] S_

variable [Facts]

def fn_part2 {F : FTy → Type} [FloatOps F] (main_arg8 : FVec F S4224x512 .f32) (main_arg9 : FVec F S4224x128 .f32) (main_v33 : IVec S_ 1) : IVec S_ 1 :=
  let main_v34 : FVec F S4224x512 .f32 := Host.absf main_arg8
  let main_cst_12 : FVec F S_ .f32 := constant S_ .f32 0x7F800000#32
  let main_v35 : FVec F S4224x512 .f32 := broadcastInDim S4224x512 ![] bcast_S_S4224x512 main_cst_12
  let main_v36 : IVec S4224x512 1 := cmpf .olt main_v34 main_v35
  let main_c_13 : IVec S_ 1 := constantI S_ 1 1#1
  let main_v37 : IVec S_ 1 := (fun x v => Host.reduce IntOp.andi x v reducesTo_S4224x512_S_d0_1 h_S_) main_v36 main_c_13
  let main_v38 : IVec S_ 1 := andi main_v33 main_v37
  let main_v39 : FVec F S4224x128 .f32 := Host.absf main_arg9
  let main_cst_14 : FVec F S_ .f32 := constant S_ .f32 0x7F800000#32
  let main_v40 : FVec F S4224x128 .f32 := broadcastInDim S4224x128 ![] bcast_S_S4224x128 main_cst_14
  let main_v41 : IVec S4224x128 1 := cmpf .olt main_v39 main_v40
  let main_c_15 : IVec S_ 1 := constantI S_ 1 1#1
  let main_v42 : IVec S_ 1 := (fun x v => Host.reduce IntOp.andi x v reducesTo_S4224x128_S_d0_1 h_S_) main_v41 main_c_15
  let main_v43 : IVec S_ 1 := andi main_v38 main_v42
  main_v43

def fn_part1 {F : FTy → Type} [FloatOps F] (main_arg5 : FVec F S4224x1024 .f32) (main_arg6 : FVec F S4224x512 .f32) (main_arg7 : FVec F S4224x512 .f32) (main_arg8 : FVec F S4224x512 .f32) (main_arg9 : FVec F S4224x128 .f32) (main_v13 : IVec S_ 1) (main_v16 : IVec S4224x1024 1) : IVec S_ 1 :=
  let main_c_5 : IVec S_ 1 := constantI S_ 1 1#1
  let main_v17 : IVec S_ 1 := (fun x v => Host.reduce IntOp.andi x v reducesTo_S4224x1024_S_d0_1 h_S_) main_v16 main_c_5
  let main_v18 : IVec S_ 1 := andi main_v13 main_v17
  let main_v19 : FVec F S4224x1024 .f32 := Host.absf main_arg5
  let main_cst_6 : FVec F S_ .f32 := constant S_ .f32 0x7F800000#32
  let main_v20 : FVec F S4224x1024 .f32 := broadcastInDim S4224x1024 ![] bcast_S_S4224x1024 main_cst_6
  let main_v21 : IVec S4224x1024 1 := cmpf .olt main_v19 main_v20
  let main_c_7 : IVec S_ 1 := constantI S_ 1 1#1
  let main_v22 : IVec S_ 1 := (fun x v => Host.reduce IntOp.andi x v reducesTo_S4224x1024_S_d0_1 h_S_) main_v21 main_c_7
  let main_v23 : IVec S_ 1 := andi main_v18 main_v22
  let main_v24 : FVec F S4224x512 .f32 := Host.absf main_arg6
  let main_cst_8 : FVec F S_ .f32 := constant S_ .f32 0x7F800000#32
  let main_v25 : FVec F S4224x512 .f32 := broadcastInDim S4224x512 ![] bcast_S_S4224x512 main_cst_8
  let main_v26 : IVec S4224x512 1 := cmpf .olt main_v24 main_v25
  let main_c_9 : IVec S_ 1 := constantI S_ 1 1#1
  let main_v27 : IVec S_ 1 := (fun x v => Host.reduce IntOp.andi x v reducesTo_S4224x512_S_d0_1 h_S_) main_v26 main_c_9
  let main_v28 : IVec S_ 1 := andi main_v23 main_v27
  let main_v29 : FVec F S4224x512 .f32 := Host.absf main_arg7
  let main_cst_10 : FVec F S_ .f32 := constant S_ .f32 0x7F800000#32
  let main_v30 : FVec F S4224x512 .f32 := broadcastInDim S4224x512 ![] bcast_S_S4224x512 main_cst_10
  let main_v31 : IVec S4224x512 1 := cmpf .olt main_v29 main_v30
  let main_c_11 : IVec S_ 1 := constantI S_ 1 1#1
  let main_v32 : IVec S_ 1 := (fun x v => Host.reduce IntOp.andi x v reducesTo_S4224x512_S_d0_1 h_S_) main_v31 main_c_11
  let main_v33 : IVec S_ 1 := andi main_v28 main_v32
  fn_part2 (F := F) main_arg8 main_arg9 main_v33

def fn {F : FTy → Type} [FloatOps F] (main_arg0 : FVec F S4096x1024 .f32) (main_arg1 : FVec F S1x1024 .f32) (main_arg2 : FVec F S1x1024 .f32) (main_arg3 : FVec F S1024x2688 .f32) (main_arg4 : FVec F S4224x1024 .f32) (main_arg5 : FVec F S4224x1024 .f32) (main_arg6 : FVec F S4224x512 .f32) (main_arg7 : FVec F S4224x512 .f32) (main_arg8 : FVec F S4224x512 .f32) (main_arg9 : FVec F S4224x128 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2688 .f32 := Host.absf main_arg3
  let main_cst_2 : FVec F S_ .f32 := constant S_ .f32 0x7F800000#32
  let main_v10 : FVec F S1024x2688 .f32 := broadcastInDim S1024x2688 ![] bcast_S_S1024x2688 main_cst_2
  let main_v11 : IVec S1024x2688 1 := cmpf .olt main_v9 main_v10
  let main_c_3 : IVec S_ 1 := constantI S_ 1 1#1
  let main_v12 : IVec S_ 1 := (fun x v => Host.reduce IntOp.andi x v reducesTo_S1024x2688_S_d0_1 h_S_) main_v11 main_c_3
  let main_v13 : IVec S_ 1 := andi main_v8 main_v12
  let main_v14 : FVec F S4224x1024 .f32 := Host.absf main_arg4
  let main_cst_4 : FVec F S_ .f32 := constant S_ .f32 0x7F800000#32
  let main_v15 : FVec F S4224x1024 .f32 := broadcastInDim S4224x1024 ![] bcast_S_S4224x1024 main_cst_4
  let main_v16 : IVec S4224x1024 1 := cmpf .olt main_v14 main_v15
  fn_part1 (F := F) main_arg5 main_arg6 main_arg7 main_arg8 main_arg9 main_v13 main_v16
-- ==== Pre_finite6.lean ====
abbrev S4224x1024 : Shape := ⟨2, ![4224, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩

class Facts : Prop where
  bcast_S_S4224x1024 : S_.BroadcastsInDim S4224x1024 (![] : Fin 0 → Fin S4224x1024.rank)
  reducesTo_S4224x1024_S_d0_1 : S4224x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S4096x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4224x1024 .f32) (main_arg1 : FVec F S1024x4096 .f32) (main_arg2 : FVec F S4096x1024 .f32) (main_arg3 : FVec F S1x1024 .f32) (main_arg4 : FVec F S1x1024 .f32) (main_arg5 : FVec F S4096x1024 .f32) : IVec S_ 1 :=
  let main_v0 : FVec F S4224x1024 .f32 := Host.absf main_arg0
  let main_cst : FVec F S_ .f32 := constant S_ .f32 0x7F800000#32
  let main_v1 : FVec F S4224x1024 .f32 := broadcastInDim S4224x1024 ![] bcast_S_S4224x1024 main_cst
  let main_v2 : IVec S4224x1024 1 := cmpf .olt main_v0 main_v1
  let main_c : IVec S_ 1 := constantI S_ 1 1#1
  let main_v3 : IVec S_ 1 := (fun x v => Host.reduce IntOp.andi x v reducesTo_S4224x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_v13 main_v16
-- ==== Kernel.lean ====
abbrev S4224x1024 : Shape := ⟨2, ![4224, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S4224 : Shape := ⟨1, ![4224]⟩
abbrev S4224x1 : Shape := ⟨2, ![4224, 1]⟩
abbrev S4224x4096 : Shape := ⟨2, ![4224, 4096]⟩
abbrev S1024x8x512 : Shape := ⟨3, ![1024, 8, 512]⟩
abbrev S8x1024x512 : Shape := ⟨3, ![8, 1024, 512]⟩
abbrev S704x1024 : Shape := ⟨2, ![704, 1024]⟩
abbrev S2x1024x512 : Shape := ⟨3, ![2, 1024, 512]⟩
abbrev S1024x1024 : Shape := ⟨2, ![1024, 1024]⟩
abbrev S512x1024 : Shape := ⟨2, ![512, 1024]⟩
abbrev S704x512 : Shape := ⟨2, ![704, 512]⟩
abbrev S1x1024x512 : Shape := ⟨3, ![1, 1024, 512]⟩
abbrev S1024x512 : Shape := ⟨2, ![1024, 512]⟩
abbrev S352x1024 : Shape := ⟨2, ![352, 1024]⟩
abbrev S352x512 : Shape := ⟨2, ![352, 512]⟩
abbrev S352 : Shape := ⟨1, ![352]⟩
abbrev S352x1 : Shape := ⟨2, ![352, 1]⟩
abbrev S1024 : Shape := ⟨1, ![1024]⟩

abbrev nBuf : Space → Nat
  | .hbm => 46
  | .vmem => 20
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S4224x1024, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S4224x1024, .f32⟩
  | .hbm, ⟨13, _⟩ => ⟨S4224x1024, .f32⟩
  | .hbm, ⟨14, _⟩ => ⟨S4224x1024, .f32⟩
  | .hbm, ⟨15, _⟩ => ⟨S_, .f32⟩
  | .hbm, ⟨16, _⟩ => ⟨S4224, .f32⟩
  | .hbm, ⟨17, _⟩ => ⟨S4224x1, .f32⟩
  | .hbm, ⟨18, _⟩ => ⟨S_, .f32⟩
  | .hbm, ⟨19, _⟩ => ⟨S4224x1, .f32⟩
  | .hbm, ⟨20, _⟩ => ⟨S4224x1, .f32⟩
  | .hbm, ⟨21, _⟩ => ⟨S4224x1024, .f32⟩
  | .hbm, ⟨22, _⟩ => ⟨S4224x1024, .f32⟩
  | .hbm, ⟨23, _⟩ => ⟨S_, .f32⟩
  | .hbm, ⟨24, _⟩ => ⟨S4224x1, .f32⟩
  | .hbm, ⟨25, _⟩ => ⟨S4224x1, .f32⟩
  | .hbm, ⟨26, _⟩ => ⟨S4224x1, .f32⟩
  | .hbm, ⟨27, _⟩ => ⟨S4224x1024, .f32⟩
  | .hbm, ⟨28, _⟩ => ⟨S4224x1024, .f32⟩
  | .hbm, ⟨29, _⟩ => ⟨S4224x1024, .f32⟩
  | .hbm, ⟨30, _⟩ => ⟨S4224x1024, .f32⟩
  | .hbm, ⟨31, _⟩ => ⟨S4224x1024, .f32⟩
  | .hbm, ⟨32, _⟩ => ⟨S4224x1024, .f32⟩
  | .hbm, ⟨33, _⟩ => ⟨S4224x1024, .bf16⟩
  | .hbm, ⟨34, _⟩ => ⟨S1024x4096, .bf16⟩
  | .hbm, ⟨35, _⟩ => ⟨S4224x4096, .f32⟩
  | .hbm, ⟨36, _⟩ => ⟨S4224x4096, .bf16⟩
  | .hbm, ⟨37, _⟩ => ⟨S1024x4096, .bf16⟩
  | .hbm, ⟨38, _⟩ => ⟨S1024x8x512, .bf16⟩
  | .hbm, ⟨39, _⟩ => ⟨S8x1024x512, .bf16⟩
  | .hbm, ⟨40, _⟩ => ⟨S4224x1024, .bf16⟩
  | .hbm, ⟨41, _⟩ => ⟨S4096x1024, .bf16⟩
  | .hbm, ⟨42, _⟩ => ⟨S4224x4096, .bf16⟩
  | .hbm, ⟨43, _⟩ => ⟨S4224x1024, .f32⟩
  | .hbm, ⟨44, _⟩ => ⟨S1x1024, .f32⟩
  | .hbm, ⟨45, _⟩ => ⟨S1x1024, .f32⟩
  | .local _ .vmem, ⟨0, _⟩ => ⟨S704x1024, .f32⟩
  | .local _ .vmem, ⟨1, _⟩ => ⟨S704x1024, .f32⟩
  | .local _ .vmem, ⟨2, _⟩ => ⟨S704x1024, .bf16⟩
  | .local _ .vmem, ⟨3, _⟩ => ⟨S704x1024, .bf16⟩
  | .local _ .vmem, ⟨4, _⟩ => ⟨S704x1024, .bf16⟩
  | .local _ .vmem, ⟨5, _⟩ => ⟨S704x1024, .bf16⟩
  | .local _ .vmem, ⟨6, _⟩ => ⟨S2x1024x512, .bf16⟩
  | .local _ .vmem, ⟨7, _⟩ => ⟨S2x1024x512, .bf16⟩
  | .local _ .vmem, ⟨8, _⟩ => ⟨S1024x1024, .bf16⟩
  | .local _ .vmem, ⟨9, _⟩ => ⟨S1024x1024, .bf16⟩
  | .local _ .vmem, ⟨10, _⟩ => ⟨S704x1024, .f32⟩
  | .local _ .vmem, ⟨11, _⟩ => ⟨S704x1024, .f32⟩
  | .local _ .vmem, ⟨12, _⟩ => ⟨S1x1024, .f32⟩
  | .local _ .vmem, ⟨13, _⟩ => ⟨S704x1024, .bf16⟩
  | .local _ .vmem, ⟨14, _⟩ => ⟨S704x1024, .bf16⟩
  | .local _ .vmem, ⟨15, _⟩ => ⟨S704x1024, .f32⟩
  | .local _ .vmem, ⟨16, _⟩ => ⟨S704x1024, .f32⟩
  | .local _ .vmem, ⟨17, _⟩ => ⟨S1x1024, .f32⟩
  | .local _ .vmem, ⟨18, _⟩ => ⟨S1x1024, .f32⟩
  | .local _ .vmem, ⟨19, _⟩ => ⟨S704x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31_0 : Ref sig .tc := ⟨.hbm, 42, rfl⟩
abbrev main_v31_1 : Ref sig .tc := ⟨.hbm, 43, rfl⟩
abbrev main_v31_2 : Ref sig .tc := ⟨.hbm, 44, rfl⟩
abbrev main_v31_3 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨2, ![6, 4], ![false, false]⟩

def k0_cond3 (i : grid0.Coords) : BitVec 1 :=
  let arg1 : BitVec 32 := BitVec.ofNat 32 (i 1).val
  let c3_i32 : BitVec 32 := 3#32
  let v8 : BitVec 1 := Scalar.cmpi .slt arg1 c3_i32
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c3_i32_5 : BitVec 32 := 3#32
  let v11 : BitVec 1 := Scalar.cmpi .eq arg1 c3_i32_5
  let v12 : BitVec 32 := Scalar.extui v11
  let c0_i32_6 : BitVec 32 := 0#32
  let v13 : BitVec 1 := Scalar.cmpi .ne v12 c0_i32_6
  v13

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S704x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S704x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S4224x1024 : Shape := ⟨2, ![4224, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S4224 : Shape := ⟨1, ![4224]⟩
abbrev S4224x1 : Shape := ⟨2, ![4224, 1]⟩
abbrev S4224x4096 : Shape := ⟨2, ![4224, 4096]⟩
abbrev S1024 : Shape := ⟨1, ![1024]⟩

abbrev nBuf : Space → Nat
  | .hbm => 110
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S4224x1024, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S4224x1024, .f32⟩
  | .hbm, ⟨13, _⟩ => ⟨S4224x1024, .f32⟩
  | .hbm, ⟨14, _⟩ => ⟨S4224x1024, .f32⟩
  | .hbm, ⟨15, _⟩ => ⟨S_, .f32⟩
  | .hbm, ⟨16, _⟩ => ⟨S4224x1024, .f32⟩
  | .hbm, ⟨17, _⟩ => ⟨S4224x1024, .f32⟩
  | .hbm, ⟨18, _⟩ => ⟨S_, .f32⟩
  | .hbm, ⟨19, _⟩ => ⟨S4224, .f32⟩
  | .hbm, ⟨20, _⟩ => ⟨S4224x1, .f32⟩
  | .hbm, ⟨21, _⟩ => ⟨S_, .f32⟩
  | .hbm, ⟨22, _⟩ => ⟨S4224x1, .f32⟩
  | .hbm, ⟨23, _⟩ => ⟨S4224x1, .f32⟩
  | .hbm, ⟨24, _⟩ => ⟨S4224x1024, .f32⟩
  | .hbm, ⟨25, _⟩ => ⟨S4224x1024, .f32⟩
  | .hbm, ⟨26, _⟩ => ⟨S_, .f32⟩
  | .hbm, ⟨27, _⟩ => ⟨S4224x1, .f32⟩
  | .hbm, ⟨28, _⟩ => ⟨S4224x1, .f32⟩
  | .hbm, ⟨29, _⟩ => ⟨S4224x1, .f32⟩
  | .hbm, ⟨30, _⟩ => ⟨S4224x1, .f32⟩
  | .hbm, ⟨31, _⟩ => ⟨S_, .f32⟩
  | .hbm, ⟨32, _⟩ => ⟨S4224x1, .f32⟩
  | .hbm, ⟨33, _⟩ => ⟨S4224x1, .f32⟩
  | .hbm, ⟨34, _⟩ => ⟨S4224x1024, .f32⟩
  | .hbm, ⟨35, _⟩ => ⟨S4224x1024, .f32⟩
  | .hbm, ⟨36, _⟩ => ⟨S4224x1024, .f32⟩
  | .hbm, ⟨37, _⟩ => ⟨S4224x1024, .f32⟩
  | .hbm, ⟨38, _⟩ => ⟨S4224x1024, .f32⟩
  | .hbm, ⟨39, _⟩ => ⟨S4224x1024, .f32⟩
  | .hbm, ⟨40, _⟩ => ⟨S4224x4096, .f32⟩
  | .hbm, ⟨41, _⟩ => ⟨S_, .f32⟩
  | .hbm, ⟨42, _⟩ => ⟨S4224x4096, .f32⟩
  | .hbm, ⟨43, _⟩ => ⟨S4224x4096, .f32⟩
  | .hbm, ⟨44, _⟩ => ⟨S_, .f32⟩
  | .hbm, ⟨45, _⟩ => ⟨S4224x4096, .f32⟩
  | .hbm, ⟨46, _⟩ => ⟨S4224x4096, .i1⟩
  | .hbm, ⟨47, _⟩ => ⟨S_, .f32⟩
  | .hbm, ⟨48, _⟩ => ⟨S4224x4096, .f32⟩
  | .hbm, ⟨49, _⟩ => ⟨S4224x4096, .f32⟩
  | .hbm, ⟨50, _⟩ => ⟨S_, .f32⟩
  | .hbm, ⟨51, _⟩ => ⟨S4224x4096, .f32⟩
  | .hbm, ⟨52, _⟩ => ⟨S4224x4096, .f32⟩
  | .hbm, ⟨53, _⟩ => ⟨S4224x1024, .f32⟩
  | .hbm, ⟨54, _⟩ => ⟨S_, .f32⟩
  | .hbm, ⟨55, _⟩ => ⟨S4224x1024, .f32⟩
  | .hbm, ⟨56, _⟩ => ⟨S4224x1024, .f32⟩
  | .hbm, ⟨57, _⟩ => ⟨S4224x1024, .f32⟩
  | .hbm, ⟨58, _⟩ => ⟨S4224x1024, .f32⟩
  | .hbm, ⟨59, _⟩ => ⟨S4224x1024, .f32⟩
  | .hbm, ⟨60, _⟩ => ⟨S_, .f32⟩
  | .hbm, ⟨61, _⟩ => ⟨S4224x1024, .f32⟩
  | .hbm, ⟨62, _⟩ => ⟨S4224x1024, .f32⟩
  | .hbm, ⟨63, _⟩ => ⟨S4224x4096, .f32⟩
  | .hbm, ⟨64, _⟩ => ⟨S4224x4096, .f32⟩
  | .hbm, ⟨65, _⟩ => ⟨S_, .f32⟩
  | .hbm, ⟨66, _⟩ => ⟨S4224x4096, .f32⟩
  | .hbm, ⟨67, _⟩ => ⟨S4224x4096, .f32⟩
  | .hbm, ⟨68, _⟩ => ⟨S4224x1024, .f32⟩
  | .hbm, ⟨69, _⟩ => ⟨S4224x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S4224x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S4224x1024, .f32⟩
  | .hbm, ⟨78, _⟩ => ⟨S4224x1024, .f32⟩
  | .hbm, ⟨79, _⟩ => ⟨S4224x1024, .f32⟩
  | .hbm, ⟨80, _⟩ => ⟨S_, .f32⟩
  | .hbm, ⟨81, _⟩ => ⟨S4224, .f32⟩
  | .hbm, ⟨82, _⟩ => ⟨S4224x1, .f32⟩
  | .hbm, ⟨83, _⟩ => ⟨S4224x1024, .f32⟩
  | .hbm, ⟨84, _⟩ => ⟨S4224x1024, .f32⟩
  | .hbm, ⟨85, _⟩ => ⟨S4224x1, .f32⟩
  | .hbm, ⟨86, _⟩ => ⟨S4224x1024, .f32⟩
  | .hbm, ⟨87, _⟩ => ⟨S_, .f32⟩
  | .hbm, ⟨88, _⟩ => ⟨S4224, .f32⟩
  | .hbm, ⟨89, _⟩ => ⟨S4224x1, .f32⟩
  | .hbm, ⟨90, _⟩ => ⟨S_, .f32⟩
  | .hbm, ⟨91, _⟩ => ⟨S4224x1, .f32⟩
  | .hbm, ⟨92, _⟩ => ⟨S4224x1, .f32⟩
  | .hbm, ⟨93, _⟩ => ⟨S_, .f32⟩
  | .hbm, ⟨94, _⟩ => ⟨S4224, .f32⟩
  | .hbm, ⟨95, _⟩ => ⟨S4224x1024, .f32⟩
  | .hbm, ⟨96, _⟩ => ⟨S4224x1024, .f32⟩
  | .hbm, ⟨97, _⟩ => ⟨S4224x1024, .f32⟩
  | .hbm, ⟨98, _⟩ => ⟨S_, .f32⟩
  | .hbm, ⟨99, _⟩ => ⟨S4224, .f32⟩
  | .hbm, ⟨100, _⟩ => ⟨S4224x1, .f32⟩
  | .hbm, ⟨101, _⟩ => ⟨S4224x1024, .f32⟩
  | .hbm, ⟨102, _⟩ => ⟨S4224x1, .f32⟩
  | .hbm, ⟨103, _⟩ => ⟨S_, .f32⟩
  | .hbm, ⟨104, _⟩ => ⟨S4224x1, .f32⟩
  | .hbm, ⟨105, _⟩ => ⟨S4224x1, .f32⟩
  | .hbm, ⟨106, _⟩ => ⟨S_, .f32⟩
  | .hbm, ⟨107, _⟩ => ⟨S4224, .f32⟩
  | .hbm, ⟨108, _⟩ => ⟨S4224x1024, .f32⟩
  | .hbm, ⟨109, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_15 : Ref sig .tc := ⟨.hbm, 87, rfl⟩
abbrev main_v63 : Ref sig .tc := ⟨.hbm, 88, rfl⟩
abbrev main_v64 : Ref sig .tc := ⟨.hbm, 89, rfl⟩
abbrev main_cst_16 : Ref sig .tc := ⟨.hbm, 90, rfl⟩
abbrev main_v65 : Ref sig .tc := ⟨.hbm, 91, rfl⟩
abbrev main_v66 : Ref sig .tc := ⟨.hbm, 92, rfl⟩
abbrev main_cst_17 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_18 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_19 : Ref sig .tc := ⟨.hbm, 103, rfl⟩
abbrev main_v75 : Ref sig .tc := ⟨.hbm, 104, rfl⟩
abbrev main_v76 : Ref sig .tc := ⟨.hbm, 105, rfl⟩
abbrev main_cst_20 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]
-- ==== Kernel2.lean ====
abbrev S4224x1024 : Shape := ⟨2, ![4224, 1024]⟩
abbrev S1024x4096 : Shape := ⟨2, ![1024, 4096]⟩
abbrev S4096x1024 : Shape := ⟨2, ![4096, 1024]⟩
abbrev S4224x4096 : Shape := ⟨2, ![4224, 4096]⟩
abbrev S_ : Shape := ⟨0, ![]⟩
abbrev S8x1024x512 : Shape := ⟨3, ![8, 1024, 512]⟩
abbrev S8x512x1024 : Shape := ⟨3, ![8, 512, 1024]⟩
abbrev S704x1024 : Shape := ⟨2, ![704, 1024]⟩
abbrev S2x1024x512 : Shape := ⟨3, ![2, 1024, 512]⟩
abbrev S2x512x1024 : Shape := ⟨3, ![2, 512, 1024]⟩
abbrev S1x1024x512 : Shape := ⟨3, ![1, 1024, 512]⟩
abbrev S1024x512 : Shape := ⟨2, ![1024, 512]⟩
abbrev S704x512 : Shape := ⟨2, ![704, 512]⟩
abbrev S1x512x1024 : Shape := ⟨3, ![1, 512, 1024]⟩
abbrev S512x1024 : Shape := ⟨2, ![512, 1024]⟩

abbrev nBuf : Space → Nat
  | .hbm => 23
  | .vmem => 14
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4096x1024, .f32⟩
  | .hbm, ⟨3, _⟩ => ⟨S4224x1024, .f32⟩
  | .hbm, ⟨4, _⟩ => ⟨S4224x1024, .bf16⟩
  | .hbm, ⟨5, _⟩ => ⟨S4224x1024, .bf16⟩
  | .hbm, ⟨6, _⟩ => ⟨S1024x4096, .bf16⟩
  | .hbm, ⟨7, _⟩ => ⟨S4224x4096, .f32⟩
  | .hbm, ⟨8, _⟩ => ⟨S4224x4096, .bf16⟩
  | .hbm, ⟨9, _⟩ => ⟨S4096x1024, .bf16⟩
  | .hbm, ⟨10, _⟩ => ⟨S1024x4096, .bf16⟩
  | .hbm, ⟨11, _⟩ => ⟨S4224x4096, .f32⟩
  | .hbm, ⟨12, _⟩ => ⟨S4224x4096, .f32⟩
  | .hbm, ⟨13, _⟩ => ⟨S_, .f32⟩
  | .hbm, ⟨14, _⟩ => ⟨S4224x4096, .f32⟩
  | .hbm, ⟨15, _⟩ => ⟨S4224x4096, .f32⟩
  | .hbm, ⟨16, _⟩ => ⟨S_, .f32⟩
  | .hbm, ⟨17, _⟩ => ⟨S4224x4096, .f32⟩
  | .hbm, ⟨18, _⟩ => ⟨S4224x4096, .f32⟩
  | .hbm, ⟨19, _⟩ => ⟨S4224x4096, .f32⟩
  | .hbm, ⟨20, _⟩ => ⟨S4224x4096, .bf16⟩
  | .hbm, ⟨21, _⟩ => ⟨S8x1024x512, .bf16⟩
  | .hbm, ⟨22, _⟩ => ⟨S8x512x1024, .bf16⟩
  | .local _ .vmem, ⟨0, _⟩ => ⟨S704x1024, .bf16⟩
  | .local _ .vmem, ⟨1, _⟩ => ⟨S704x1024, .bf16⟩
  | .local _ .vmem, ⟨2, _⟩ => ⟨S704x1024, .bf16⟩
  | .local _ .vmem, ⟨3, _⟩ => ⟨S704x1024, .bf16⟩
  | .local _ .vmem, ⟨4, _⟩ => ⟨S704x1024, .bf16⟩
  | .local _ .vmem, ⟨5, _⟩ => ⟨S704x1024, .bf16⟩
  | .local _ .vmem, ⟨6, _⟩ => ⟨S704x1024, .bf16⟩
  | .local _ .vmem, ⟨7, _⟩ => ⟨S704x1024, .bf16⟩
  | .local _ .vmem, ⟨8, _⟩ => ⟨S2x1024x512, .bf16⟩
  | .local _ .vmem, ⟨9, _⟩ => ⟨S2x1024x512, .bf16⟩
  | .local _ .vmem, ⟨10, _⟩ => ⟨S2x512x1024, .bf16⟩
  | .local _ .vmem, ⟨11, _⟩ => ⟨S2x512x1024, .bf16⟩
  | .local _ .vmem, ⟨12, _⟩ => ⟨S2x1024x512, .f32⟩
  | .local _ .vmem, ⟨13, _⟩ => ⟨S2x512x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 6], ![false, false]⟩

def k0_cond2 (i : grid0.Coords) : BitVec 1 :=
  let arg1 : BitVec 32 := BitVec.ofNat 32 (i 1).val
  let c5_i32 : BitVec 32 := 5#32
  let v57 : BitVec 1 := Scalar.cmpi .eq arg1 c5_i32
  let v58 : BitVec 32 := Scalar.extui v57
  let c0_i32_43 : BitVec 32 := 0#32
  let v59 : BitVec 1 := Scalar.cmpi .ne v58 c0_i32_43
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S4224x1024 : Shape := ⟨2, ![4224, 1024]⟩
abbrev S1024x4096 : Shape := ⟨2, ![1024, 4096]⟩
abbrev S4096x1024 : Shape := ⟨2, ![4096, 1024]⟩
abbrev S4224x4096 : Shape := ⟨2, ![4224, 4096]⟩
abbrev S_ : Shape := ⟨0, ![]⟩
abbrev S1024x8x512 : Shape := ⟨3, ![1024, 8, 512]⟩
abbrev S8x1024x512 : Shape := ⟨3, ![8, 1024, 512]⟩
abbrev S8x512x1024 : Shape := ⟨3, ![8, 512, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4096x1024, .f32⟩
  | .hbm, ⟨3, _⟩ => ⟨S4224x1024, .f32⟩
  | .hbm, ⟨4, _⟩ => ⟨S4224x4096, .f32⟩
  | .hbm, ⟨5, _⟩ => ⟨S_, .f32⟩
  | .hbm, ⟨6, _⟩ => ⟨S4224x4096, .f32⟩
  | .hbm, ⟨7, _⟩ => ⟨S4224x4096, .f32⟩
  | .hbm, ⟨8, _⟩ => ⟨S_, .f32⟩
  | .hbm, ⟨9, _⟩ => ⟨S4224x4096, .f32⟩
  | .hbm, ⟨10, _⟩ => ⟨S4224x4096, .i1⟩
  | .hbm, ⟨11, _⟩ => ⟨S_, .f32⟩
  | .hbm, ⟨12, _⟩ => ⟨S4224x4096, .f32⟩
  | .hbm, ⟨13, _⟩ => ⟨S4224x4096, .f32⟩
  | .hbm, ⟨14, _⟩ => ⟨S_, .f32⟩
  | .hbm, ⟨15, _⟩ => ⟨S4224x4096, .f32⟩
  | .hbm, ⟨16, _⟩ => ⟨S4224x4096, .f32⟩
  | .hbm, ⟨17, _⟩ => ⟨S4224x1024, .f32⟩
  | .hbm, ⟨18, _⟩ => ⟨S1024x4096, .f32⟩
  | .hbm, ⟨19, _⟩ => ⟨S4096x1024, .f32⟩
  | .hbm, ⟨20, _⟩ => ⟨S4224x4096, .f32⟩
  | .hbm, ⟨21, _⟩ => ⟨S4224x4096, .f32⟩
  | .hbm, ⟨22, _⟩ => ⟨S_, .f32⟩
  | .hbm, ⟨23, _⟩ => ⟨S4224x4096, .f32⟩
  | .hbm, ⟨24, _⟩ => ⟨S4224x4096, .f32⟩
  | .hbm, ⟨25, _⟩ => ⟨S4096x1024, .f32⟩
  | .hbm, ⟨26, _⟩ => ⟨S1024x4096, .f32⟩
  | .hbm, ⟨27, _⟩ => ⟨S1024x8x512, .f32⟩
  | .hbm, ⟨28, _⟩ => ⟨S8x1024x512, .f32⟩
  | .hbm, ⟨29, _⟩ => ⟨S8x1024x512, .bf16⟩
  | .hbm, ⟨30, _⟩ => ⟨S8x512x1024, .f32⟩
  | .hbm, ⟨31, _⟩ => ⟨S8x512x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel3.lean ====
abbrev S4224x512 : Shape := ⟨2, ![4224, 512]⟩
abbrev S1024x1024 : Shape := ⟨2, ![1024, 1024]⟩
abbrev S4224x1024 : Shape := ⟨2, ![4224, 1024]⟩
abbrev S704x1024 : Shape := ⟨2, ![704, 1024]⟩
abbrev S704x512 : Shape := ⟨2, ![704, 512]⟩
abbrev S512x1024 : Shape := ⟨2, ![512, 1024]⟩

abbrev nBuf : Space → Nat
  | .hbm => 9
  | .vmem => 11
  | .smem => 0
  | _ => 0

abbrev bufTy : (tb : Table) → Fin (tcTables nBuf tb) → BufTy
  | .hbm, ⟨0, _⟩ => ⟨S4224x512, .f32⟩
  | .hbm, ⟨1, _⟩ => ⟨S4224x512, .f32⟩
  | .hbm, ⟨2, _⟩ => ⟨S1024x1024, .f32⟩
  | .hbm, ⟨3, _⟩ => ⟨S4224x1024, .f32⟩
  | .hbm, ⟨4, _⟩ => ⟨S4224x512, .bf16⟩
  | .hbm, ⟨5, _⟩ => ⟨S4224x512, .bf16⟩
  | .hbm, ⟨6, _⟩ => ⟨S1024x1024, .bf16⟩
  | .hbm, ⟨7, _⟩ => ⟨S4224x1024, .f32⟩
  | .hbm, ⟨8, _⟩ => ⟨S1024x1024, .bf16⟩
  | .local _ .vmem, ⟨0, _⟩ => ⟨S704x1024, .f32⟩
  | .local _ .vmem, ⟨1, _⟩ => ⟨S704x1024, .f32⟩
  | .local _ .vmem, ⟨2, _⟩ => ⟨S704x512, .bf16⟩
  | .local _ .vmem, ⟨3, _⟩ => ⟨S704x512, .bf16⟩
  | .local _ .vmem, ⟨4, _⟩ => ⟨S704x512, .bf16⟩
  | .local _ .vmem, ⟨5, _⟩ => ⟨S704x512, .bf16⟩
  | .local _ .vmem, ⟨6, _⟩ => ⟨S1024x1024, .bf16⟩
  | .local _ .vmem, ⟨7, _⟩ => ⟨S704x1024, .f32⟩
  | .local _ .vmem, ⟨8, _⟩ => ⟨S704x1024, .f32⟩
  | .local _ .vmem, ⟨9, _⟩ => ⟨S1024x1024, .bf16⟩
  | .local _ .vmem, ⟨10, _⟩ => ⟨S1024x1024, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![6], ![false]⟩

def k0_cond2 (i : grid0.Coords) : BitVec 1 :=
  let arg0 : BitVec 32 := BitVec.ofNat 32 (i 0).val
  let c5_i32 : BitVec 32 := 5#32
  let v25 : BitVec 1 := Scalar.cmpi .eq arg0 c5_i32
  let v26 : BitVec 32 := Scalar.extui v25
  let c0_i32_19 : BitVec 32 := 0#32
  let v27 : BitVec 1 := Scalar.cmpi .ne v26 c0_i32_19
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S704x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S704x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S704x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference3Ideal.lean ====
abbrev S4224x512 : Shape := ⟨2, ![4224, 512]⟩
abbrev S1024x1024 : Shape := ⟨2, ![1024, 1024]⟩
abbrev S4224x1024 : Shape := ⟨2, ![4224, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4224x512, .f32⟩
  | .hbm, ⟨1, _⟩ => ⟨S4224x512, .f32⟩
  | .hbm, ⟨2, _⟩ => ⟨S1024x1024, .f32⟩
  | .hbm, ⟨3, _⟩ => ⟨S4224x1024, .f32⟩
  | .hbm, ⟨4, _⟩ => ⟨S4224x1024, .f32⟩
  | .hbm, ⟨5, _⟩ => ⟨S4224x1024, .f32⟩
  | .hbm, ⟨6, _⟩ => ⟨S1024x1024, .f32⟩
  | .hbm, ⟨7, _⟩ => ⟨S1024x1024, .f32⟩
  | .hbm, ⟨8, _⟩ => ⟨S4224x1024, .f32⟩
  | .hbm, ⟨9, _⟩ => ⟨S4224x512, .f32⟩
  | .hbm, ⟨10, _⟩ => ⟨S4224x512, .f32⟩
  | .hbm, ⟨11, _⟩ => ⟨S4224x1024, .f32⟩
  | .hbm, ⟨12, _⟩ => ⟨S1024x1024, .bf16⟩
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel4.lean ====
abbrev S4224x1024 : Shape := ⟨2, ![4224, 1024]⟩
abbrev S4224x512 : Shape := ⟨2, ![4224, 512]⟩
abbrev S4224x128 : Shape := ⟨2, ![4224, 128]⟩
abbrev S2688x1024 : Shape := ⟨2, ![2688, 1024]⟩
abbrev S704x1024 : Shape := ⟨2, ![704, 1024]⟩
abbrev S704x512 : Shape := ⟨2, ![704, 512]⟩
abbrev S704x128 : Shape := ⟨2, ![704, 128]⟩
abbrev S1024x1024 : Shape := ⟨2, ![1024, 1024]⟩
abbrev S512x1024 : Shape := ⟨2, ![512, 1024]⟩
abbrev S128x1024 : Shape := ⟨2, ![128, 1024]⟩

abbrev nBuf : Space → Nat
  | .hbm => 13
  | .vmem => 14
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x512, .f32⟩
  | .hbm, ⟨3, _⟩ => ⟨S4224x512, .f32⟩
  | .hbm, ⟨4, _⟩ => ⟨S4224x512, .f32⟩
  | .hbm, ⟨5, _⟩ => ⟨S4224x128, .f32⟩
  | .hbm, ⟨6, _⟩ => ⟨S4224x1024, .bf16⟩
  | .hbm, ⟨7, _⟩ => ⟨S4224x512, .bf16⟩
  | .hbm, ⟨8, _⟩ => ⟨S4224x512, .bf16⟩
  | .hbm, ⟨9, _⟩ => ⟨S4224x512, .bf16⟩
  | .hbm, ⟨10, _⟩ => ⟨S4224x128, .bf16⟩
  | .hbm, ⟨11, _⟩ => ⟨S4224x1024, .bf16⟩
  | .hbm, ⟨12, _⟩ => ⟨S2688x1024, .bf16⟩
  | .local _ .vmem, ⟨0, _⟩ => ⟨S704x1024, .bf16⟩
  | .local _ .vmem, ⟨1, _⟩ => ⟨S704x1024, .bf16⟩
  | .local _ .vmem, ⟨2, _⟩ => ⟨S704x1024, .bf16⟩
  | .local _ .vmem, ⟨3, _⟩ => ⟨S704x1024, .bf16⟩
  | .local _ .vmem, ⟨4, _⟩ => ⟨S704x512, .bf16⟩
  | .local _ .vmem, ⟨5, _⟩ => ⟨S704x512, .bf16⟩
  | .local _ .vmem, ⟨6, _⟩ => ⟨S704x512, .bf16⟩
  | .local _ .vmem, ⟨7, _⟩ => ⟨S704x512, .bf16⟩
  | .local _ .vmem, ⟨8, _⟩ => ⟨S704x512, .bf16⟩
  | .local _ .vmem, ⟨9, _⟩ => ⟨S704x512, .bf16⟩
  | .local _ .vmem, ⟨10, _⟩ => ⟨S704x128, .bf16⟩
  | .local _ .vmem, ⟨11, _⟩ => ⟨S704x128, .bf16⟩
  | .local _ .vmem, ⟨12, _⟩ => ⟨S2688x1024, .bf16⟩
  | .local _ .vmem, ⟨13, _⟩ => ⟨S2688x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![6], ![false]⟩

def k0_cond2 (i : grid0.Coords) : BitVec 1 :=
  let arg0 : BitVec 32 := BitVec.ofNat 32 (i 0).val
  let c5_i32 : BitVec 32 := 5#32
  let v53 : BitVec 1 := Scalar.cmpi .eq arg0 c5_i32
  let v54 : BitVec 32 := Scalar.extui v53
  let c0_i32_40 : BitVec 32 := 0#32
  let v55 : BitVec 1 := Scalar.cmpi .ne v54 c0_i32_40
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S704x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S704x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S704x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S704x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2688x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S4224x1024 : Shape := ⟨2, ![4224, 1024]⟩
abbrev S4224x512 : Shape := ⟨2, ![4224, 512]⟩
abbrev S4224x128 : Shape := ⟨2, ![4224, 128]⟩
abbrev S4224x2688 : Shape := ⟨2, ![4224, 2688]⟩
abbrev S_ : Shape := ⟨0, ![]⟩
abbrev S1024x2688 : Shape := ⟨2, ![1024, 2688]⟩
abbrev S2688x1024 : Shape := ⟨2, ![2688, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x512, .f32⟩
  | .hbm, ⟨3, _⟩ => ⟨S4224x512, .f32⟩
  | .hbm, ⟨4, _⟩ => ⟨S4224x512, .f32⟩
  | .hbm, ⟨5, _⟩ => ⟨S4224x128, .f32⟩
  | .hbm, ⟨6, _⟩ => ⟨S4224x2688, .f32⟩
  | .hbm, ⟨7, _⟩ => ⟨S_, .f32⟩
  | .hbm, ⟨8, _⟩ => ⟨S1024x2688, .f32⟩
  | .hbm, ⟨9, _⟩ => ⟨S4224x2688, .f32⟩
  | .hbm, ⟨10, _⟩ => ⟨S2688x1024, .f32⟩
  | .hbm, ⟨11, _⟩ => ⟨S1024x2688, .f32⟩
  | .hbm, ⟨12, _⟩ => ⟨S2688x1024, .f32⟩
  | .hbm, ⟨13, _⟩ => ⟨S2688x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S1024x2688 : Shape := ⟨2, ![1024, 2688]⟩
abbrev S4224x1024 : Shape := ⟨2, ![4224, 1024]⟩
abbrev S4224x512 : Shape := ⟨2, ![4224, 512]⟩
abbrev S4224x128 : Shape := ⟨2, ![4224, 128]⟩
abbrev S2688x1024 : Shape := ⟨2, ![2688, 1024]⟩
abbrev S512x1024 : Shape := ⟨2, ![512, 1024]⟩
abbrev S512x512 : Shape := ⟨2, ![512, 512]⟩
abbrev S512x128 : Shape := ⟨2, ![512, 128]⟩
abbrev S1024x1024 : Shape := ⟨2, ![1024, 1024]⟩
abbrev S128x1024 : Shape := ⟨2, ![128, 1024]⟩
abbrev S512 : Shape := ⟨1, ![512]⟩
abbrev S512x1 : Shape := ⟨2, ![512, 1]⟩
abbrev S1024 : Shape := ⟨1, ![1024]⟩

abbrev nBuf : Space → Nat
  | .hbm => 20
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x2688, .f32⟩
  | .hbm, ⟨4, _⟩ => ⟨S4224x1024, .f32⟩
  | .hbm, ⟨5, _⟩ => ⟨S4224x1024, .f32⟩
  | .hbm, ⟨6, _⟩ => ⟨S4224x512, .f32⟩
  | .hbm, ⟨7, _⟩ => ⟨S4224x512, .f32⟩
  | .hbm, ⟨8, _⟩ => ⟨S4224x512, .f32⟩
  | .hbm, ⟨9, _⟩ => ⟨S4224x128, .f32⟩
  | .hbm, ⟨10, _⟩ => ⟨S4224x1024, .bf16⟩
  | .hbm, ⟨11, _⟩ => ⟨S4224x512, .bf16⟩
  | .hbm, ⟨12, _⟩ => ⟨S4224x512, .bf16⟩
  | .hbm, ⟨13, _⟩ => ⟨S4224x512, .bf16⟩
  | .hbm, ⟨14, _⟩ => ⟨S4224x128, .bf16⟩
  | .hbm, ⟨15, _⟩ => ⟨S2688x1024, .f32⟩
  | .hbm, ⟨16, _⟩ => ⟨S2688x1024, .bf16⟩
  | .hbm, ⟨17, _⟩ => ⟨S4096x1024, .f32⟩
  | .hbm, ⟨18, _⟩ => ⟨S1x1024, .f32⟩
  | .hbm, ⟨19, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x128, .bf16⟩
  | .local _ .vmem, ⟨11, _⟩ => ⟨S512x128, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S2688x1024, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2112_i32 : BitVec 32 := 2112#32
  let v17 : BitVec 32 := Scalar.muli v16 c2112_i32
  let c64_i32 : BitVec 32 := 64#32
  let v18 : BitVec 32 := Scalar.addi v17 c64_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  v30
def k0_mult2 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2112_i32 : BitVec 32 := 2112#32
  let v17 : BitVec 32 := Scalar.muli v16 c2112_i32
  let c64_i32 : BitVec 32 := 64#32
  let v18 : BitVec 32 := Scalar.addi v17 c64_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  v30
def k0_mult3 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2112_i32 : BitVec 32 := 2112#32
  let v17 : BitVec 32 := Scalar.muli v16 c2112_i32
  let c64_i32 : BitVec 32 := 64#32
  let v18 : BitVec 32 := Scalar.addi v17 c64_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  v30
def k0_mult4 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2112_i32 : BitVec 32 := 2112#32
  let v17 : BitVec 32 := Scalar.muli v16 c2112_i32
  let c64_i32 : BitVec 32 := 64#32
  let v18 : BitVec 32 := Scalar.addi v17 c64_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  v30
def k0_mult5 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2112_i32 : BitVec 32 := 2112#32
  let v17 : BitVec 32 := Scalar.muli v16 c2112_i32
  let c64_i32 : BitVec 32 := 64#32
  let v18 : BitVec 32 := Scalar.addi v17 c64_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  v30
def k0_mult6 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2112_i32 : BitVec 32 := 2112#32
  let v17 : BitVec 32 := Scalar.muli v16 c2112_i32
  let c64_i32 : BitVec 32 := 64#32
  let v18 : BitVec 32 := Scalar.addi v17 c64_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  v30
def cc0_transform_0 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2112_i32 : BitVec 32 := 2112#32
  let v17 : BitVec 32 := Scalar.muli v16 c2112_i32
  let c64_i32 : BitVec 32 := 64#32
  let v18 : BitVec 32 := Scalar.addi v17 c64_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_1 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2112_i32 : BitVec 32 := 2112#32
  let v17 : BitVec 32 := Scalar.muli v16 c2112_i32
  let c64_i32 : BitVec 32 := 64#32
  let v18 : BitVec 32 := Scalar.addi v17 c64_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_2 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2112_i32 : BitVec 32 := 2112#32
  let v17 : BitVec 32 := Scalar.muli v16 c2112_i32
  let c64_i32 : BitVec 32 := 64#32
  let v18 : BitVec 32 := Scalar.addi v17 c64_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_3 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2112_i32 : BitVec 32 := 2112#32
  let v17 : BitVec 32 := Scalar.muli v16 c2112_i32
  let c64_i32 : BitVec 32 := 64#32
  let v18 : BitVec 32 := Scalar.addi v17 c64_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_4 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2112_i32 : BitVec 32 := 2112#32
  let v17 : BitVec 32 := Scalar.muli v16 c2112_i32
  let c64_i32 : BitVec 32 := 64#32
  let v18 : BitVec 32 := Scalar.addi v17 c64_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_5 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2112_i32 : BitVec 32 := 2112#32
  let v17 : BitVec 32 := Scalar.muli v16 c2112_i32
  let c64_i32 : BitVec 32 := 64#32
  let v18 : BitVec 32 := Scalar.addi v17 c64_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2688x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference5Ideal.lean ====
abbrev S4096x1024 : Shape := ⟨2, ![4096, 1024]⟩
abbrev S1x1024 : Shape := ⟨2, ![1, 1024]⟩
abbrev S1024x2688 : Shape := ⟨2, ![1024, 2688]⟩
abbrev S4224x1024 : Shape := ⟨2, ![4224, 1024]⟩
abbrev S4224x512 : Shape := ⟨2, ![4224, 512]⟩
abbrev S4224x128 : Shape := ⟨2, ![4224, 128]⟩
abbrev S_ : Shape := ⟨0, ![]⟩
abbrev S4096 : Shape := ⟨1, ![4096]⟩
abbrev S4096x1 : Shape := ⟨2, ![4096, 1]⟩
abbrev S2x2048x1024 : Shape := ⟨3, ![2, 2048, 1024]⟩
abbrev S2x64x1024 : Shape := ⟨3, ![2, 64, 1024]⟩
abbrev S2x2112x1024 : Shape := ⟨3, ![2, 2112, 1024]⟩
abbrev S4224x2688 : Shape := ⟨2, ![4224, 2688]⟩
abbrev S1024 : Shape := ⟨1, ![1024]⟩

abbrev nBuf : Space → Nat
  | .hbm => 105
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x2688, .f32⟩
  | .hbm, ⟨4, _⟩ => ⟨S4224x1024, .f32⟩
  | .hbm, ⟨5, _⟩ => ⟨S4224x1024, .f32⟩
  | .hbm, ⟨6, _⟩ => ⟨S4224x512, .f32⟩
  | .hbm, ⟨7, _⟩ => ⟨S4224x512, .f32⟩
  | .hbm, ⟨8, _⟩ => ⟨S4224x512, .f32⟩
  | .hbm, ⟨9, _⟩ => ⟨S4224x128, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S2x2048x1024, .f32⟩
  | .hbm, ⟨45, _⟩ => ⟨S_, .f32⟩
  | .hbm, ⟨46, _⟩ => ⟨S2x64x1024, .f32⟩
  | .hbm, ⟨47, _⟩ => ⟨S2x2112x1024, .f32⟩
  | .hbm, ⟨48, _⟩ => ⟨S_, .f32⟩
  | .hbm, ⟨49, _⟩ => ⟨S2x64x1024, .f32⟩
  | .hbm, ⟨50, _⟩ => ⟨S4224x1024, .f32⟩
  | .hbm, ⟨51, _⟩ => ⟨S_, .f32⟩
  | .hbm, ⟨52, _⟩ => ⟨S4224x1024, .f32⟩
  | .hbm, ⟨53, _⟩ => ⟨S4224x1024, .f32⟩
  | .hbm, ⟨54, _⟩ => ⟨S4224x2688, .f32⟩
  | .hbm, ⟨55, _⟩ => ⟨S4224x2688, .f32⟩
  | .hbm, ⟨56, _⟩ => ⟨S4224x1024, .f32⟩
  | .hbm, ⟨57, _⟩ => ⟨S_, .f32⟩
  | .hbm, ⟨58, _⟩ => ⟨S4224x1024, .f32⟩
  | .hbm, ⟨59, _⟩ => ⟨S4224x1024, .f32⟩
  | .hbm, ⟨60, _⟩ => ⟨S4224x1024, .f32⟩
  | .hbm, ⟨61, _⟩ => ⟨S2x2112x1024, .f32⟩
  | .hbm, ⟨62, _⟩ => ⟨S2x64x1024, .f32⟩
  | .hbm, ⟨63, _⟩ => ⟨S2x2048x1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S4096x1024, .f32⟩
  | .hbm, ⟨79, _⟩ => ⟨S4096x1024, .f32⟩
  | .hbm, ⟨80, _⟩ => ⟨S4096x1, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S_, .f32⟩
  | .hbm, ⟨89, _⟩ => ⟨S4096, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S4096, .f32⟩
  | .hbm, ⟨95, _⟩ => ⟨S4096x1, .f32⟩
  | .hbm, ⟨96, _⟩ => ⟨S4096x1024, .f32⟩
  | .hbm, ⟨97, _⟩ => ⟨S4096x1, .f32⟩
  | .hbm, ⟨98, _⟩ => ⟨S_, .f32⟩
  | .hbm, ⟨99, _⟩ => ⟨S4096x1, .f32⟩
  | .hbm, ⟨100, _⟩ => ⟨S4096x1, .f32⟩
  | .hbm, ⟨101, _⟩ => ⟨S_, .f32⟩
  | .hbm, ⟨102, _⟩ => ⟨S4096, .f32⟩
  | .hbm, ⟨103, _⟩ => ⟨S4096x1024, .f32⟩
  | .hbm, ⟨104, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_11 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_12 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_13 : Ref sig .tc := ⟨.hbm, 82, rfl⟩
abbrev main_v58 : Ref sig .tc := ⟨.hbm, 83, rfl⟩
abbrev main_v59 : Ref sig .tc := ⟨.hbm, 84, rfl⟩
abbrev main_cst_14 : Ref sig .tc := ⟨.hbm, 85, rfl⟩
abbrev main_v60 : Ref sig .tc := ⟨.hbm, 86, rfl⟩
abbrev main_v61 : Ref sig .tc := ⟨.hbm, 87, rfl⟩
abbrev main_cst_15 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_16 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_17 : Ref sig .tc := ⟨.hbm, 98, rfl⟩
abbrev main_v70 : Ref sig .tc := ⟨.hbm, 99, rfl⟩
abbrev main_v71 : Ref sig .tc := ⟨.hbm, 100, rfl⟩
abbrev main_cst_18 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩

abbrev nD : Nat := 1
abbrev τ : Topo := Topo.v7x

variable {F : FTy → Type} [FloatOps F]
-- ==== Kernel6.lean ====
abbrev S4224x1024 : Shape := ⟨2, ![4224, 1024]⟩
abbrev S1024x4096 : Shape := ⟨2, ![1024, 4096]⟩
abbrev S4096x1024 : Shape := ⟨2, ![4096, 1024]⟩
abbrev S1x1024 : Shape := ⟨2, ![1, 1024]⟩
abbrev S1024x8x512 : Shape := ⟨3, ![1024, 8, 512]⟩
abbrev S8x1024x512 : Shape := ⟨3, ![8, 1024, 512]⟩
abbrev S4224x4096 : Shape := ⟨2, ![4224, 4096]⟩
abbrev S8x128 : Shape := ⟨2, ![8, 128]⟩
abbrev S352x1024 : Shape := ⟨2, ![352, 1024]⟩
abbrev S352x4096 : Shape := ⟨2, ![352, 4096]⟩
abbrev S352x1 : Shape := ⟨2, ![352, 1]⟩
abbrev S176x1024 : Shape := ⟨2, ![176, 1024]⟩
abbrev S1x1024x512 : Shape := ⟨3, ![1, 1024, 512]⟩
abbrev S1024x512 : Shape := ⟨2, ![1024, 512]⟩
abbrev S176x512 : Shape := ⟨2, ![176, 512]⟩
abbrev S512x1024 : Shape := ⟨2, ![512, 1024]⟩
abbrev S176 : Shape := ⟨1, ![176]⟩
abbrev S176x1 : Shape := ⟨2, ![176, 1]⟩
abbrev S1x176x1 : Shape := ⟨3, ![1, 176, 1]⟩
abbrev S1 : Shape := ⟨1, ![1]⟩
abbrev S1x1x1 : Shape := ⟨3, ![1, 1, 1]⟩
abbrev S1024 : Shape := ⟨1, ![1024]⟩

abbrev nBuf : Space → Nat
  | .hbm => 17
  | .vmem => 19
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1024x4096, .bf16⟩
  | .hbm, ⟨7, _⟩ => ⟨S1024x8x512, .bf16⟩
  | .hbm, ⟨8, _⟩ => ⟨S8x1024x512, .bf16⟩
  | .hbm, ⟨9, _⟩ => ⟨S4224x1024, .bf16⟩
  | .hbm, ⟨10, _⟩ => ⟨S4096x1024, .bf16⟩
  | .hbm, ⟨11, _⟩ => ⟨S4224x4096, .bf16⟩
  | .hbm, ⟨12, _⟩ => ⟨S4224x1024, .f32⟩
  | .hbm, ⟨13, _⟩ => ⟨S4224x1024, .bf16⟩
  | .hbm, ⟨14, _⟩ => ⟨S8x128, .f32⟩
  | .hbm, ⟨15, _⟩ => ⟨S1x1024, .f32⟩
  | .hbm, ⟨16, _⟩ => ⟨S1x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .bf16⟩
  | .local _ .vmem, ⟨3, _⟩ => ⟨S352x1024, .bf16⟩
  | .local _ .vmem, ⟨4, _⟩ => ⟨S8x1024x512, .bf16⟩
  | .local _ .vmem, ⟨5, _⟩ => ⟨S4096x1024, .bf16⟩
  | .local _ .vmem, ⟨6, _⟩ => ⟨S1x1024, .f32⟩
  | .local _ .vmem, ⟨7, _⟩ => ⟨S1x1024, .f32⟩
  | .local _ .vmem, ⟨8, _⟩ => ⟨S352x1024, .f32⟩
  | .local _ .vmem, ⟨9, _⟩ => ⟨S352x1024, .f32⟩
  | .local _ .vmem, ⟨10, _⟩ => ⟨S352x4096, .bf16⟩
  | .local _ .vmem, ⟨11, _⟩ => ⟨S352x4096, .bf16⟩
  | .local _ .vmem, ⟨12, _⟩ => ⟨S352x1024, .f32⟩
  | .local _ .vmem, ⟨13, _⟩ => ⟨S352x1024, .f32⟩
  | .local _ .vmem, ⟨14, _⟩ => ⟨S352x1024, .bf16⟩
  | .local _ .vmem, ⟨15, _⟩ => ⟨S352x1024, .bf16⟩
  | .local _ .vmem, ⟨16, _⟩ => ⟨S8x128, .f32⟩
  | .local _ .vmem, ⟨17, _⟩ => ⟨S1x1024, .f32⟩
  | .local _ .vmem, ⟨18, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![12], ![false]⟩

def k0_mult1 (i : grid0.Coords) : BitVec 32 :=
  let arg0 : BitVec 32 := BitVec.ofNat 32 (i 0).val
  let c352_i32 : BitVec 32 := 352#32
  let v0 : BitVec 32 := Scalar.muli arg0 c352_i32
  let c64_i32 : BitVec 32 := 64#32
  let c352_i32_0 : BitVec 32 := 352#32
  let v1 : BitVec 32 := Scalar.muli arg0 c352_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2112_i32 : BitVec 32 := 2112#32
  let c0_i32_2 : BitVec 32 := 0#32
  let v8 : BitVec 1 := Scalar.cmpi .sgt c2112_i32 c0_i32_2
  let v9 : BitVec 32 := Scalar.extui v8
  let c0_i32_3 : BitVec 32 := 0#32
  let v10 : BitVec 1 := Scalar.cmpi .slt c2112_i32 c0_i32_3
  let v11 : BitVec 32 := Scalar.extui v10
  let v12 : BitVec 32 := Scalar.subi v9 v11
  let v13 : BitVec 1 := Scalar.cmpi .ne v7 v12
  let v14 : BitVec 32 := Scalar.remsi v1 c2112_i32
  let c0_i32_4 : BitVec 32 := 0#32
  let v15 : BitVec 1 := Scalar.cmpi .ne v14 c0_i32_4
  let v16 : BitVec 1 := Scalar.andi v13 v15
  let v2 : BitVec 32 := Scalar.divsi v1 c2112_i32
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi v18 c1_i32_5
  let v20 : BitVec 32 := Scalar.muli c64_i32 v19
  let v21 : BitVec 32 := Scalar.subi v0 v20
  let c0_i32_6 : BitVec 32 := 0#32
  let v22 : BitVec 32 := Scalar.maxsi v21 c0_i32_6
  v22
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c352_i32 : BitVec 32 := 352#32
  let v0 : BitVec 32 := Scalar.muli arg0 c352_i32
  let c352_i32_0 : BitVec 32 := 352#32
  let v1 : BitVec 32 := Scalar.muli arg0 c352_i32_0
  let c2112_i32 : BitVec 32 := 2112#32
  let v2 : BitVec 32 := Scalar.divsi v1 c2112_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2112_i32 c0_i32_2
  let v9 : BitVec 32 := Scalar.extui v8
  let c0_i32_3 : BitVec 32 := 0#32
  let v10 : BitVec 1 := Scalar.cmpi .slt c2112_i32 c0_i32_3
  let v11 : BitVec 32 := Scalar.extui v10
  let v12 : BitVec 32 := Scalar.subi v9 v11
  let v13 : BitVec 1 := Scalar.cmpi .ne v7 v12
  let v14 : BitVec 32 := Scalar.remsi v1 c2112_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi v18 c1_i32_5
  let c64_i32 : BitVec 32 := 64#32
  let v20 : BitVec 32 := Scalar.muli c64_i32 v19
  let v21 : BitVec 32 := Scalar.subi v0 v20
  let c0_i32_6 : BitVec 32 := 0#32
  let v22 : BitVec 32 := Scalar.maxsi v21 c0_i32_6
  let v23 : BitVec 32 := v22
  let c0_i32_7 : BitVec 32 := 0#32
  let c0_i32_8 : BitVec 32 := 0#32
  ![v23.toNat, c0_i32_7.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S352x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference6Ideal.lean ====
abbrev S4224x1024 : Shape := ⟨2, ![4224, 1024]⟩
abbrev S1024x4096 : Shape := ⟨2, ![1024, 4096]⟩
abbrev S4096x1024 : Shape := ⟨2, ![4096, 1024]⟩
abbrev S1x1024 : Shape := ⟨2, ![1, 1024]⟩
abbrev S4224x4096 : Shape := ⟨2, ![4224, 4096]⟩
abbrev S_ : Shape := ⟨0, ![]⟩
abbrev S4224 : Shape := ⟨1, ![4224]⟩
abbrev S4224x1 : Shape := ⟨2, ![4224, 1]⟩
abbrev S2x2112x1024 : Shape := ⟨3, ![2, 2112, 1024]⟩
abbrev S2x2048x1024 : Shape := ⟨3, ![2, 2048, 1024]⟩
abbrev S2x2048 : Shape := ⟨2, ![2, 2048]⟩
abbrev S1024 : Shape := ⟨1, ![1024]⟩
abbrev S8x128 : Shape := ⟨2, ![8, 128]⟩

abbrev nBuf : Space → Nat
  | .hbm => 122
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4224x4096, .f32⟩
  | .hbm, ⟨7, _⟩ => ⟨S_, .f32⟩
  | .hbm, ⟨8, _⟩ => ⟨S4224x1024, .f32⟩
  | .hbm, ⟨9, _⟩ => ⟨S4224x1024, .f32⟩
  | .hbm, ⟨10, _⟩ => ⟨S_, .f32⟩
  | .hbm, ⟨11, _⟩ => ⟨S4224x4096, .f32⟩
  | .hbm, ⟨12, _⟩ => ⟨S4224x4096, .f32⟩
  | .hbm, ⟨13, _⟩ => ⟨S4224x4096, .f32⟩
  | .hbm, ⟨14, _⟩ => ⟨S4224x1024, .f32⟩
  | .hbm, ⟨15, _⟩ => ⟨S4224x1024, .f32⟩
  | .hbm, ⟨16, _⟩ => ⟨S_, .f32⟩
  | .hbm, ⟨17, _⟩ => ⟨S4224, .f32⟩
  | .hbm, ⟨18, _⟩ => ⟨S4224x1, .f32⟩
  | .hbm, ⟨19, _⟩ => ⟨S_, .f32⟩
  | .hbm, ⟨20, _⟩ => ⟨S4224x1, .f32⟩
  | .hbm, ⟨21, _⟩ => ⟨S4224x1, .f32⟩
  | .hbm, ⟨22, _⟩ => ⟨S4224x1024, .f32⟩
  | .hbm, ⟨23, _⟩ => ⟨S4224x1024, .f32⟩
  | .hbm, ⟨24, _⟩ => ⟨S4224x1024, .f32⟩
  | .hbm, ⟨25, _⟩ => ⟨S_, .f32⟩
  | .hbm, ⟨26, _⟩ => ⟨S4224x1024, .f32⟩
  | .hbm, ⟨27, _⟩ => ⟨S4224x1024, .f32⟩
  | .hbm, ⟨28, _⟩ => ⟨S_, .f32⟩
  | .hbm, ⟨29, _⟩ => ⟨S4224, .f32⟩
  | .hbm, ⟨30, _⟩ => ⟨S4224x1, .f32⟩
  | .hbm, ⟨31, _⟩ => ⟨S_, .f32⟩
  | .hbm, ⟨32, _⟩ => ⟨S4224x1, .f32⟩
  | .hbm, ⟨33, _⟩ => ⟨S4224x1, .f32⟩
  | .hbm, ⟨34, _⟩ => ⟨S4224x1024, .f32⟩
  | .hbm, ⟨35, _⟩ => ⟨S4224x1024, .f32⟩
  | .hbm, ⟨36, _⟩ => ⟨S_, .f32⟩
  | .hbm, ⟨37, _⟩ => ⟨S4224x1, .f32⟩
  | .hbm, ⟨38, _⟩ => ⟨S4224x1, .f32⟩
  | .hbm, ⟨39, _⟩ => ⟨S4224x1, .f32⟩
  | .hbm, ⟨40, _⟩ => ⟨S4224x1, .f32⟩
  | .hbm, ⟨41, _⟩ => ⟨S_, .f32⟩
  | .hbm, ⟨42, _⟩ => ⟨S4224x1, .f32⟩
  | .hbm, ⟨43, _⟩ => ⟨S4224x1, .f32⟩
  | .hbm, ⟨44, _⟩ => ⟨S4224x1024, .f32⟩
  | .hbm, ⟨45, _⟩ => ⟨S4224x1024, .f32⟩
  | .hbm, ⟨46, _⟩ => ⟨S4224x1024, .f32⟩
  | .hbm, ⟨47, _⟩ => ⟨S4224x1024, .f32⟩
  | .hbm, ⟨48, _⟩ => ⟨S4224x1024, .f32⟩
  | .hbm, ⟨49, _⟩ => ⟨S4224x1024, .f32⟩
  | .hbm, ⟨50, _⟩ => ⟨S2x2112x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S_, .f32⟩
  | .hbm, ⟨56, _⟩ => ⟨S2x2048x1024, .f32⟩
  | .hbm, ⟨57, _⟩ => ⟨S2x2048x1024, .f32⟩
  | .hbm, ⟨58, _⟩ => ⟨S_, .f32⟩
  | .hbm, ⟨59, _⟩ => ⟨S2x2048, .f32⟩
  | .hbm, ⟨60, _⟩ => ⟨S_, .f32⟩
  | .hbm, ⟨61, _⟩ => ⟨S2x2048, .f32⟩
  | .hbm, ⟨62, _⟩ => ⟨S2x2048, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S2x2048, .f32⟩
  | .hbm, ⟨71, _⟩ => ⟨S_, .f32⟩
  | .hbm, ⟨72, _⟩ => ⟨S2x2048, .f32⟩
  | .hbm, ⟨73, _⟩ => ⟨S2x2048, .f32⟩
  | .hbm, ⟨74, _⟩ => ⟨S2x2048x1024, .f32⟩
  | .hbm, ⟨75, _⟩ => ⟨S2x2048x1024, .f32⟩
  | .hbm, ⟨76, _⟩ => ⟨S_, .f32⟩
  | .hbm, ⟨77, _⟩ => ⟨S2x2112x1024, .f32⟩
  | .hbm, ⟨78, _⟩ => ⟨S4224x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S4224x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S4224x1024, .f32⟩
  | .hbm, ⟨87, _⟩ => ⟨S4224x1024, .f32⟩
  | .hbm, ⟨88, _⟩ => ⟨S4224x1024, .f32⟩
  | .hbm, ⟨89, _⟩ => ⟨S_, .f32⟩
  | .hbm, ⟨90, _⟩ => ⟨S4224, .f32⟩
  | .hbm, ⟨91, _⟩ => ⟨S4224x1, .f32⟩
  | .hbm, ⟨92, _⟩ => ⟨S4224x1024, .f32⟩
  | .hbm, ⟨93, _⟩ => ⟨S4224x1024, .f32⟩
  | .hbm, ⟨94, _⟩ => ⟨S4224x1, .f32⟩
  | .hbm, ⟨95, _⟩ => ⟨S4224x1024, .f32⟩
  | .hbm, ⟨96, _⟩ => ⟨S_, .f32⟩
  | .hbm, ⟨97, _⟩ => ⟨S4224, .f32⟩
  | .hbm, ⟨98, _⟩ => ⟨S4224x1, .f32⟩
  | .hbm, ⟨99, _⟩ => ⟨S_, .f32⟩
  | .hbm, ⟨100, _⟩ => ⟨S4224x1, .f32⟩
  | .hbm, ⟨101, _⟩ => ⟨S4224x1, .f32⟩
  | .hbm, ⟨102, _⟩ => ⟨S_, .f32⟩
  | .hbm, ⟨103, _⟩ => ⟨S4224, .f32⟩
  | .hbm, ⟨104, _⟩ => ⟨S4224x1024, .f32⟩
  | .hbm, ⟨105, _⟩ => ⟨S4224x1024, .f32⟩
  | .hbm, ⟨106, _⟩ => ⟨S4224x1024, .f32⟩
  | .hbm, ⟨107, _⟩ => ⟨S_, .f32⟩
  | .hbm, ⟨108, _⟩ => ⟨S4224, .f32⟩
  | .hbm, ⟨109, _⟩ => ⟨S4224x1, .f32⟩
  | .hbm, ⟨110, _⟩ => ⟨S4224x1024, .f32⟩
  | .hbm, ⟨111, _⟩ => ⟨S4224x1, .f32⟩
  | .hbm, ⟨112, _⟩ => ⟨S_, .f32⟩
  | .hbm, ⟨113, _⟩ => ⟨S4224x1, .f32⟩
  | .hbm, ⟨114, _⟩ => ⟨S4224x1, .f32⟩
  | .hbm, ⟨115, _⟩ => ⟨S_, .f32⟩
  | .hbm, ⟨116, _⟩ => ⟨S4224, .f32⟩
  | .hbm, ⟨117, _⟩ => ⟨S4224x1024, .f32⟩
  | .hbm, ⟨118, _⟩ => ⟨S4224x1024, .f32⟩
  | .hbm, ⟨119, _⟩ => ⟨S4224x4096, .bf16⟩
  | .hbm, ⟨120, _⟩ => ⟨S4224x1024, .bf16⟩
  | .hbm, ⟨121, _⟩ => ⟨S8x128, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call0_cst : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_cst_12 : Ref sig .tc := ⟨.hbm, 67, rfl⟩
abbrev main_cst_13 : Ref sig .tc := ⟨.hbm, 68, rfl⟩
abbrev main_v46 : Ref sig .tc := ⟨.hbm, 69, rfl⟩
abbrev main_v47 : Ref sig .tc := ⟨.hbm, 70, rfl⟩
abbrev main_cst_14 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_15 : Ref sig .tc := ⟨.hbm, 76, rfl⟩
abbrev main_v52 : Ref sig .tc := ⟨.hbm, 77, rfl⟩
abbrev main_v53 : Ref sig .tc := ⟨.hbm, 78, rfl⟩
abbrev main_cst_16 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_17 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_18 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_19 : Ref sig .tc := ⟨.hbm, 96, rfl⟩
abbrev main_v68 : Ref sig .tc := ⟨.hbm, 97, rfl⟩
abbrev main_v69 : Ref sig .tc := ⟨.hbm, 98, rfl⟩
abbrev main_cst_20 : Ref sig .tc := ⟨.hbm, 99, rfl⟩
abbrev main_v70 : Ref sig .tc := ⟨.hbm, 100, rfl⟩
abbrev main_v71 : Ref sig .tc := ⟨.hbm, 101, rfl⟩
abbrev main_cst_21 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_22 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_23 : Ref sig .tc := ⟨.hbm, 112, rfl⟩
abbrev main_v80 : Ref sig .tc := ⟨.hbm, 113, rfl⟩
abbrev main_v81 : Ref sig .tc := ⟨.hbm, 114, rfl⟩
abbrev main_cst_24 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]
-- ==== Kernel7.lean ====
abbrev S4224x1024 : Shape := ⟨2, ![4224, 1024]⟩
abbrev S1024x2688 : Shape := ⟨2, ![1024, 2688]⟩
abbrev S2688x1024 : Shape := ⟨2, ![2688, 1024]⟩
abbrev S4224x2688 : Shape := ⟨2, ![4224, 2688]⟩
abbrev S704x1024 : Shape := ⟨2, ![704, 1024]⟩
abbrev S704x2688 : Shape := ⟨2, ![704, 2688]⟩

abbrev nBuf : Space → Nat
  | .hbm => 6
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1024x2688, .f32⟩
  | .hbm, ⟨2, _⟩ => ⟨S4224x1024, .bf16⟩
  | .hbm, ⟨3, _⟩ => ⟨S2688x1024, .f32⟩
  | .hbm, ⟨4, _⟩ => ⟨S2688x1024, .bf16⟩
  | .hbm, ⟨5, _⟩ => ⟨S4224x2688, .f32⟩
  | .local _ .vmem, ⟨0, _⟩ => ⟨S704x1024, .bf16⟩
  | .local _ .vmem, ⟨1, _⟩ => ⟨S704x1024, .bf16⟩
  | .local _ .vmem, ⟨2, _⟩ => ⟨S2688x1024, .bf16⟩
  | .local _ .vmem, ⟨3, _⟩ => ⟨S704x2688, .f32⟩
  | .local _ .vmem, ⟨4, _⟩ => ⟨S704x2688, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2688x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S704x2688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4224x1024 : Shape := ⟨2, ![4224, 1024]⟩
abbrev S1024x2688 : Shape := ⟨2, ![1024, 2688]⟩
abbrev S4224x2688 : Shape := ⟨2, ![4224, 2688]⟩

abbrev nBuf : Space → Nat
  | .hbm => 3
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x2688, .f32⟩
  | .hbm, ⟨2, _⟩ => ⟨S4224x2688, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel8.lean ====
abbrev S4224x1024 : Shape := ⟨2, ![4224, 1024]⟩
abbrev S4224x512 : Shape := ⟨2, ![4224, 512]⟩
abbrev S1024x1024 : Shape := ⟨2, ![1024, 1024]⟩
abbrev S1x1024 : Shape := ⟨2, ![1, 1024]⟩
abbrev S704x1024 : Shape := ⟨2, ![704, 1024]⟩
abbrev S704x512 : Shape := ⟨2, ![704, 512]⟩
abbrev S176x512 : Shape := ⟨2, ![176, 512]⟩
abbrev S512x1024 : Shape := ⟨2, ![512, 1024]⟩
abbrev S176x1024 : Shape := ⟨2, ![176, 1024]⟩
abbrev S176 : Shape := ⟨1, ![176]⟩
abbrev S176x1 : Shape := ⟨2, ![176, 1]⟩

abbrev nBuf : Space → Nat
  | .hbm => 12
  | .vmem => 15
  | .smem => 0
  | _ => 0

abbrev bufTy : (tb : Table) → Fin (tcTables nBuf tb) → BufTy
  | .hbm, ⟨0, _⟩ => ⟨S4224x1024, .f32⟩
  | .hbm, ⟨1, _⟩ => ⟨S4224x512, .f32⟩
  | .hbm, ⟨2, _⟩ => ⟨S4224x512, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S4224x512, .bf16⟩
  | .hbm, ⟨7, _⟩ => ⟨S4224x512, .bf16⟩
  | .hbm, ⟨8, _⟩ => ⟨S1024x1024, .bf16⟩
  | .hbm, ⟨9, _⟩ => ⟨S4224x1024, .f32⟩
  | .hbm, ⟨10, _⟩ => ⟨S4224x1024, .f32⟩
  | .hbm, ⟨11, _⟩ => ⟨S4224x1024, .bf16⟩
  | .local _ .vmem, ⟨0, _⟩ => ⟨S704x1024, .f32⟩
  | .local _ .vmem, ⟨1, _⟩ => ⟨S704x1024, .f32⟩
  | .local _ .vmem, ⟨2, _⟩ => ⟨S704x512, .bf16⟩
  | .local _ .vmem, ⟨3, _⟩ => ⟨S704x512, .bf16⟩
  | .local _ .vmem, ⟨4, _⟩ => ⟨S704x512, .bf16⟩
  | .local _ .vmem, ⟨5, _⟩ => ⟨S704x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S704x1024, .f32⟩
  | .local _ .vmem, ⟨10, _⟩ => ⟨S704x1024, .f32⟩
  | .local _ .vmem, ⟨11, _⟩ => ⟨S704x1024, .f32⟩
  | .local _ .vmem, ⟨12, _⟩ => ⟨S704x1024, .f32⟩
  | .local _ .vmem, ⟨13, _⟩ => ⟨S704x1024, .bf16⟩
  | .local _ .vmem, ⟨14, _⟩ => ⟨S704x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S704x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S704x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S704x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S704x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S4224x1024 : Shape := ⟨2, ![4224, 1024]⟩
abbrev S4224x512 : Shape := ⟨2, ![4224, 512]⟩
abbrev S1024x1024 : Shape := ⟨2, ![1024, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩

abbrev nBuf : Space → Nat
  | .hbm => 40
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x512, .f32⟩
  | .hbm, ⟨2, _⟩ => ⟨S4224x512, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S4224x1024, .f32⟩
  | .hbm, ⟨7, _⟩ => ⟨S4224x1024, .f32⟩
  | .hbm, ⟨8, _⟩ => ⟨S_, .f32⟩
  | .hbm, ⟨9, _⟩ => ⟨S4224x1024, .f32⟩
  | .hbm, ⟨10, _⟩ => ⟨S4224x1024, .f32⟩
  | .hbm, ⟨11, _⟩ => ⟨S4224x1024, .f32⟩
  | .hbm, ⟨12, _⟩ => ⟨S_, .f32⟩
  | .hbm, ⟨13, _⟩ => ⟨S4224, .f32⟩
  | .hbm, ⟨14, _⟩ => ⟨S4224x1, .f32⟩
  | .hbm, ⟨15, _⟩ => ⟨S_, .f32⟩
  | .hbm, ⟨16, _⟩ => ⟨S4224x1, .f32⟩
  | .hbm, ⟨17, _⟩ => ⟨S4224x1, .f32⟩
  | .hbm, ⟨18, _⟩ => ⟨S4224x1024, .f32⟩
  | .hbm, ⟨19, _⟩ => ⟨S4224x1024, .f32⟩
  | .hbm, ⟨20, _⟩ => ⟨S4224x1024, .f32⟩
  | .hbm, ⟨21, _⟩ => ⟨S_, .f32⟩
  | .hbm, ⟨22, _⟩ => ⟨S4224, .f32⟩
  | .hbm, ⟨23, _⟩ => ⟨S4224x1, .f32⟩
  | .hbm, ⟨24, _⟩ => ⟨S_, .f32⟩
  | .hbm, ⟨25, _⟩ => ⟨S4224x1, .f32⟩
  | .hbm, ⟨26, _⟩ => ⟨S4224x1, .f32⟩
  | .hbm, ⟨27, _⟩ => ⟨S4224x1024, .f32⟩
  | .hbm, ⟨28, _⟩ => ⟨S4224x1024, .f32⟩
  | .hbm, ⟨29, _⟩ => ⟨S_, .f32⟩
  | .hbm, ⟨30, _⟩ => ⟨S4224x1, .f32⟩
  | .hbm, ⟨31, _⟩ => ⟨S4224x1, .f32⟩
  | .hbm, ⟨32, _⟩ => ⟨S4224x1, .f32⟩
  | .hbm, ⟨33, _⟩ => ⟨S4224x1024, .f32⟩
  | .hbm, ⟨34, _⟩ => ⟨S4224x1024, .f32⟩
  | .hbm, ⟨35, _⟩ => ⟨S4224x1024, .f32⟩
  | .hbm, ⟨36, _⟩ => ⟨S4224x1024, .f32⟩
  | .hbm, ⟨37, _⟩ => ⟨S4224x1024, .f32⟩
  | .hbm, ⟨38, _⟩ => ⟨S4224x1024, .f32⟩
  | .hbm, ⟨39, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel9.lean ====
abbrev S8x1024x512 : Shape := ⟨3, ![8, 1024, 512]⟩
abbrev S1024x512 : Shape := ⟨2, ![1024, 512]⟩
abbrev S8x128x512 : Shape := ⟨3, ![8, 128, 512]⟩
abbrev S128x512 : Shape := ⟨2, ![128, 512]⟩
abbrev S1x128x512 : Shape := ⟨3, ![1, 128, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S8x128x512, .bf16⟩
  | .local _ .vmem, ⟨1, _⟩ => ⟨S8x128x512, .bf16⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S8x1024x512 : Shape := ⟨3, ![8, 1024, 512]⟩
abbrev S1024x512 : Shape := ⟨2, ![1024, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S8x1024x512, .f32⟩
  | .hbm, ⟨5, _⟩ => ⟨S_, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel10.lean ====
abbrev S8x512x1024 : Shape := ⟨3, ![8, 512, 1024]⟩
abbrev S512x1024 : Shape := ⟨2, ![512, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S8x512x1024 : Shape := ⟨3, ![8, 512, 1024]⟩
abbrev S512x1024 : Shape := ⟨2, ![512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel11.lean ====
abbrev S8x322x1024 : Shape := ⟨3, ![8, 322, 1024]⟩
abbrev S1x1024x322 : Shape := ⟨3, ![1, 1024, 322]⟩
abbrev S322x1x1024 : Shape := ⟨3, ![322, 1, 1024]⟩
abbrev S8x322x256 : Shape := ⟨3, ![8, 322, 256]⟩
abbrev S322x1x256 : Shape := ⟨3, ![322, 1, 256]⟩
abbrev S1x322x256 : Shape := ⟨3, ![1, 322, 256]⟩
abbrev S322x256 : Shape := ⟨2, ![322, 256]⟩

abbrev nBuf : Space → Nat
  | .hbm => 11
  | .vmem => 16
  | .smem => 0
  | _ => 0

abbrev bufTy : (tb : Table) → Fin (tcTables nBuf tb) → BufTy
  | .hbm, ⟨0, _⟩ => ⟨S8x322x1024, .bf16⟩
  | .hbm, ⟨1, _⟩ => ⟨S1x1024x322, .f32⟩
  | .hbm, ⟨2, _⟩ => ⟨S1x1024x322, .f32⟩
  | .hbm, ⟨3, _⟩ => ⟨S1x1024x322, .f32⟩
  | .hbm, ⟨4, _⟩ => ⟨S322x1x1024, .f32⟩
  | .hbm, ⟨5, _⟩ => ⟨S322x1x1024, .f32⟩
  | .hbm, ⟨6, _⟩ => ⟨S322x1x1024, .f32⟩
  | .hbm, ⟨7, _⟩ => ⟨S322x1x1024, .f32⟩
  | .hbm, ⟨8, _⟩ => ⟨S322x1x1024, .f32⟩
  | .hbm, ⟨9, _⟩ => ⟨S322x1x1024, .f32⟩
  | .hbm, ⟨10, _⟩ => ⟨S322x1x1024, .f32⟩
  | .local _ .vmem, ⟨0, _⟩ => ⟨S8x322x256, .bf16⟩
  | .local _ .vmem, ⟨1, _⟩ => ⟨S8x322x256, .bf16⟩
  | .local _ .vmem, ⟨2, _⟩ => ⟨S322x1x256, .f32⟩
  | .local _ .vmem, ⟨3, _⟩ => ⟨S322x1x256, .f32⟩
  | .local _ .vmem, ⟨4, _⟩ => ⟨S322x1x256, .f32⟩
  | .local _ .vmem, ⟨5, _⟩ => ⟨S322x1x256, .f32⟩
  | .local _ .vmem, ⟨6, _⟩ => ⟨S322x1x256, .f32⟩
  | .local _ .vmem, ⟨7, _⟩ => ⟨S322x1x256, .f32⟩
  | .local _ .vmem, ⟨8, _⟩ => ⟨S322x1x256, .f32⟩
  | .local _ .vmem, ⟨9, _⟩ => ⟨S322x1x256, .f32⟩
  | .local _ .vmem, ⟨10, _⟩ => ⟨S322x1x256, .f32⟩
  | .local _ .vmem, ⟨11, _⟩ => ⟨S322x1x256, .f32⟩
  | .local _ .vmem, ⟨12, _⟩ => ⟨S322x1x256, .f32⟩
  | .local _ .vmem, ⟨13, _⟩ => ⟨S322x1x256, .f32⟩
  | .local _ .vmem, ⟨14, _⟩ => ⟨S322x1x256, .f32⟩
  | .local _ .vmem, ⟨15, _⟩ => ⟨S322x1x256, .f32⟩
  | _, _ => ⟨S8x322x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x322x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S322x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S322x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S322x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S322x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S322x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S322x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S322x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S8x322x1024 : Shape := ⟨3, ![8, 322, 1024]⟩
abbrev S1x1024x322 : Shape := ⟨3, ![1, 1024, 322]⟩
abbrev S_ : Shape := ⟨0, ![]⟩
abbrev S322x1024 : Shape := ⟨2, ![322, 1024]⟩
abbrev S1024x322 : Shape := ⟨2, ![1024, 322]⟩
abbrev S322x1x1024 : Shape := ⟨3, ![322, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x322x1024, .bf16⟩
  | .hbm, ⟨1, _⟩ => ⟨S1x1024x322, .f32⟩
  | .hbm, ⟨2, _⟩ => ⟨S1x1024x322, .f32⟩
  | .hbm, ⟨3, _⟩ => ⟨S1x1024x322, .f32⟩
  | .hbm, ⟨4, _⟩ => ⟨S8x322x1024, .f32⟩
  | .hbm, ⟨5, _⟩ => ⟨S_, .f32⟩
  | .hbm, ⟨6, _⟩ => ⟨S322x1024, .f32⟩
  | .hbm, ⟨7, _⟩ => ⟨S1024x322, .f32⟩
  | .hbm, ⟨8, _⟩ => ⟨S1x1024x322, .f32⟩
  | .hbm, ⟨9, _⟩ => ⟨S_, .f32⟩
  | .hbm, ⟨10, _⟩ => ⟨S1x1024x322, .f32⟩
  | .hbm, ⟨11, _⟩ => ⟨S1x1024x322, .f32⟩
  | .hbm, ⟨12, _⟩ => ⟨S_, .f32⟩
  | .hbm, ⟨13, _⟩ => ⟨S1x1024x322, .f32⟩
  | .hbm, ⟨14, _⟩ => ⟨S1x1024x322, .f32⟩
  | .hbm, ⟨15, _⟩ => ⟨S1x1024x322, .f32⟩
  | .hbm, ⟨16, _⟩ => ⟨S_, .f32⟩
  | .hbm, ⟨17, _⟩ => ⟨S1x1024x322, .f32⟩
  | .hbm, ⟨18, _⟩ => ⟨S1x1024x322, .f32⟩
  | .hbm, ⟨19, _⟩ => ⟨S1x1024x322, .f32⟩
  | .hbm, ⟨20, _⟩ => ⟨S_, .f32⟩
  | .hbm, ⟨21, _⟩ => ⟨S1x1024x322, .f32⟩
  | .hbm, ⟨22, _⟩ => ⟨S1x1024x322, .f32⟩
  | .hbm, ⟨23, _⟩ => ⟨S1x1024x322, .f32⟩
  | .hbm, ⟨24, _⟩ => ⟨S_, .f32⟩
  | .hbm, ⟨25, _⟩ => ⟨S1x1024x322, .f32⟩
  | .hbm, ⟨26, _⟩ => ⟨S1x1024x322, .f32⟩
  | .hbm, ⟨27, _⟩ => ⟨S_, .f32⟩
  | .hbm, ⟨28, _⟩ => ⟨S1x1024x322, .f32⟩
  | .hbm, ⟨29, _⟩ => ⟨S1x1024x322, .f32⟩
  | .hbm, ⟨30, _⟩ => ⟨S1x1024x322, .f32⟩
  | .hbm, ⟨31, _⟩ => ⟨S_, .f32⟩
  | .hbm, ⟨32, _⟩ => ⟨S1x1024x322, .f32⟩
  | .hbm, ⟨33, _⟩ => ⟨S1x1024x322, .f32⟩
  | .hbm, ⟨34, _⟩ => ⟨S1x1024x322, .f32⟩
  | .hbm, ⟨35, _⟩ => ⟨S_, .f32⟩
  | .hbm, ⟨36, _⟩ => ⟨S1x1024x322, .f32⟩
  | .hbm, ⟨37, _⟩ => ⟨S1x1024x322, .f32⟩
  | .hbm, ⟨38, _⟩ => ⟨S1x1024x322, .f32⟩
  | .hbm, ⟨39, _⟩ => ⟨S_, .f32⟩
  | .hbm, ⟨40, _⟩ => ⟨S1x1024x322, .f32⟩
  | .hbm, ⟨41, _⟩ => ⟨S1x1024x322, .f32⟩
  | .hbm, ⟨42, _⟩ => ⟨S322x1x1024, .f32⟩
  | .hbm, ⟨43, _⟩ => ⟨S322x1x1024, .f32⟩
  | .hbm, ⟨44, _⟩ => ⟨S322x1x1024, .f32⟩
  | .hbm, ⟨45, _⟩ => ⟨S322x1x1024, .f32⟩
  | _, _ => ⟨S8x322x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel12.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference12Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel13.lean ====
abbrev S4224x2688 : Shape := ⟨2, ![4224, 2688]⟩
abbrev S31x512 : Shape := ⟨2, ![31, 512]⟩
abbrev S1x512 : Shape := ⟨2, ![1, 512]⟩
abbrev S_ : Shape := ⟨0, ![]⟩
abbrev S32x512 : Shape := ⟨2, ![32, 512]⟩
abbrev S4224x512 : Shape := ⟨2, ![4224, 512]⟩
abbrev S704x512 : Shape := ⟨2, ![704, 512]⟩
abbrev S736x512 : Shape := ⟨2, ![736, 512]⟩
abbrev S96x512 : Shape := ⟨2, ![96, 512]⟩
abbrev S64x512 : Shape := ⟨2, ![64, 512]⟩
abbrev S64 : Shape := ⟨1, ![64]⟩
abbrev S64x1 : Shape := ⟨2, ![64, 1]⟩

abbrev nBuf : Space → Nat
  | .hbm => 10
  | .vmem => 17
  | .smem => 0
  | _ => 0

abbrev bufTy : (tb : Table) → Fin (tcTables nBuf tb) → BufTy
  | .hbm, ⟨0, _⟩ => ⟨S4224x2688, .f32⟩
  | .hbm, ⟨1, _⟩ => ⟨S31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S_, .i32⟩
  | .hbm, ⟨6, _⟩ => ⟨S_, .f32⟩
  | .hbm, ⟨7, _⟩ => ⟨S32x512, .f32⟩
  | .hbm, ⟨8, _⟩ => ⟨S4224x512, .f32⟩
  | .hbm, ⟨9, _⟩ => ⟨S4224x512, .bf16⟩
  | .local _ .vmem, ⟨0, _⟩ => ⟨S704x512, .f32⟩
  | .local _ .vmem, ⟨1, _⟩ => ⟨S704x512, .f32⟩
  | .local _ .vmem, ⟨2, _⟩ => ⟨S704x512, .f32⟩
  | .local _ .vmem, ⟨3, _⟩ => ⟨S704x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S704x512, .f32⟩
  | .local _ .vmem, ⟨13, _⟩ => ⟨S704x512, .f32⟩
  | .local _ .vmem, ⟨14, _⟩ => ⟨S704x512, .bf16⟩
  | .local _ .vmem, ⟨15, _⟩ => ⟨S704x512, .bf16⟩
  | .local _ .vmem, ⟨16, _⟩ => ⟨S736x512, .f32⟩
  | _, _ => ⟨S4224x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![6], ![false]⟩

@[reducible] def k0_t1_loop : Scf.Loop 32 :=
  let c0_i32_16 : BitVec 32 := 0#32
  let c11_i32 : BitVec 32 := 11#32
  let v31 : BitVec 32 := Scalar.addi c0_i32_16 c11_i32
  let c1_i32 : BitVec 32 := 1#32
  ⟨c0_i32_16, v31, c1_i32⟩
def k0_mult1 (k0_t1 : Fin k0_t1_loop.trips) : BitVec 32 :=
  let c0_i32_16 : BitVec 32 := 0#32
  let c1_i32 : BitVec 32 := 1#32
  let arg12 : BitVec 32 := Scf.iv c0_i32_16 c1_i32 k0_t1
  let c64_i32 : BitVec 32 := 64#32
  let v32 : BitVec 32 := Scalar.muli arg12 c64_i32
  v32
def k0_off1 (k0_t1 : Fin k0_t1_loop.trips) : Fin 2 → Nat :=
  let c0_i32_16 : BitVec 32 := 0#32
  let c1_i32 : BitVec 32 := 1#32
  let arg12 : BitVec 32 := Scf.iv c0_i32_16 c1_i32 k0_t1
  let c64_i32 : BitVec 32 := 64#32
  let v32 : BitVec 32 := Scalar.muli arg12 c64_i32
  let v33 : BitVec 32 := v32
  let v34 : Index := Scalar.indexCast v33
  let c0_18 : Index := 0#32
  ![v34.toNat, 0]
def k0_off2 (k0_t1 : Fin k0_t1_loop.trips) : Fin 2 → Nat :=
  let c0_i32_16 : BitVec 32 := 0#32
  let c1_i32 : BitVec 32 := 1#32
  let arg12 : BitVec 32 := Scf.iv c0_i32_16 c1_i32 k0_t1
  let c64_i32 : BitVec 32 := 64#32
  let v32 : BitVec 32 := Scalar.muli arg12 c64_i32
  let v33 : BitVec 32 := v32
  let v231 : Index := Scalar.indexCast v33
  let c0_53 : Index := 0#32
  ![v231.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c22_i32 : BitVec 32 := 22#32
  let v0 : BitVec 32 := Scalar.muli arg0 c22_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c22_i32 : BitVec 32 := 22#32
  let v0 : BitVec 32 := Scalar.muli arg0 c22_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S704x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S704x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S704x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S704x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference13Ideal.lean ====
abbrev S4224x2688 : Shape := ⟨2, ![4224, 2688]⟩
abbrev S31x512 : Shape := ⟨2, ![31, 512]⟩
abbrev S1x512 : Shape := ⟨2, ![1, 512]⟩
abbrev S4224x512 : Shape := ⟨2, ![4224, 512]⟩
abbrev S2x2112x512 : Shape := ⟨3, ![2, 2112, 512]⟩
abbrev S_ : Shape := ⟨0, ![]⟩
abbrev S2x30x512 : Shape := ⟨3, ![2, 30, 512]⟩
abbrev S2x2142x512 : Shape := ⟨3, ![2, 2142, 512]⟩
abbrev S512 : Shape := ⟨1, ![512]⟩
abbrev S1x1x512 : Shape := ⟨3, ![1, 1, 512]⟩
abbrev S2x2112 : Shape := ⟨2, ![2, 2112]⟩
abbrev S2x2112x1 : Shape := ⟨3, ![2, 2112, 1]⟩

abbrev nBuf : Space → Nat
  | .hbm => 284
  | .vmem => 0
  | .smem => 0
  | _ => 0

abbrev hbmTy0_0 (i : Nat) : BufTy := match i % 128 with
  | 0 => ⟨S4224x2688, .f32⟩
  | 1 => ⟨S31x512, .f32⟩
  | 2 => ⟨S1x512, .f32⟩
  | 3 => ⟨S1x512, .f32⟩
  | 4 => ⟨S1x512, .f32⟩
  | 5 => ⟨S4224x512, .f32⟩
  | 6 => ⟨S2x2112x512, .f32⟩
  | 7 => ⟨S4224x512, .f32⟩
  | 8 => ⟨S2x2112x512, .f32⟩
  | 9 => ⟨S2x2112x512, .f32⟩
  | 10 => ⟨S2x2112x512, .f32⟩
  | 11 => ⟨S_, .f32⟩
  | 12 => ⟨S2x2112x512, .f32⟩
  | 13 => ⟨S2x2112x512, .f32⟩
  | 14 => ⟨S_, .f32⟩
  | 15 => ⟨S2x2112x512, .f32⟩
  | 16 => ⟨S2x2112x512, .f32⟩
  | 17 => ⟨S2x2112x512, .f32⟩
  | 18 => ⟨S_, .f32⟩
  | 19 => ⟨S2x30x512, .f32⟩
  | 20 => ⟨S2x2142x512, .f32⟩
  | 21 => ⟨S2x2112x512, .f32⟩
  | 22 => ⟨S1x512, .f32⟩
  | 23 => ⟨S512, .f32⟩
  | 24 => ⟨S1x1x512, .f32⟩
  | 25 => ⟨S2x2112x512, .f32⟩
  | 26 => ⟨S2x2112x512, .f32⟩
  | 27 => ⟨S_, .f32⟩
  | 28 => ⟨S2x2112x512, .f32⟩
  | 29 => ⟨S2x2112x512, .f32⟩
  | 30 => ⟨S2x2112x512, .f32⟩
  | 31 => ⟨S1x512, .f32⟩
  | 32 => ⟨S512, .f32⟩
  | 33 => ⟨S1x1x512, .f32⟩
  | 34 => ⟨S2x2112x512, .f32⟩
  | 35 => ⟨S2x2112x512, .f32⟩
  | 36 => ⟨S2x2112x512, .f32⟩
  | 37 => ⟨S2x2112x512, .f32⟩
  | 38 => ⟨S1x512, .f32⟩
  | 39 => ⟨S512, .f32⟩
  | 40 => ⟨S1x1x512, .f32⟩
  | 41 => ⟨S2x2112x512, .f32⟩
  | 42 => ⟨S2x2112x512, .f32⟩
  | 43 => ⟨S2x2112x512, .f32⟩
  | 44 => ⟨S2x2112x512, .f32⟩
  | 45 => ⟨S1x512, .f32⟩
  | 46 => ⟨S512, .f32⟩
  | 47 => ⟨S1x1x512, .f32⟩
  | 48 => ⟨S2x2112x512, .f32⟩
  | 49 => ⟨S2x2112x512, .f32⟩
  | 50 => ⟨S2x2112x512, .f32⟩
  | 51 => ⟨S2x2112x512, .f32⟩
  | 52 => ⟨S1x512, .f32⟩
  | 53 => ⟨S512, .f32⟩
  | 54 => ⟨S1x1x512, .f32⟩
  | 55 => ⟨S2x2112x512, .f32⟩
  | 56 => ⟨S2x2112x512, .f32⟩
  | 57 => ⟨S2x2112x512, .f32⟩
  | 58 => ⟨S2x2112x512, .f32⟩
  | 59 => ⟨S1x512, .f32⟩
  | 60 => ⟨S512, .f32⟩
  | 61 => ⟨S1x1x512, .f32⟩
  | 62 => ⟨S2x2112x512, .f32⟩
  | 63 => ⟨S2x2112x512, .f32⟩
  | 64 => ⟨S2x2112x512, .f32⟩
  | 65 => ⟨S2x2112x512, .f32⟩
  | 66 => ⟨S1x512, .f32⟩
  | 67 => ⟨S512, .f32⟩
  | 68 => ⟨S1x1x512, .f32⟩
  | 69 => ⟨S2x2112x512, .f32⟩
  | 70 => ⟨S2x2112x512, .f32⟩
  | 71 => ⟨S2x2112x512, .f32⟩
  | 72 => ⟨S2x2112x512, .f32⟩
  | 73 => ⟨S1x512, .f32⟩
  | 74 => ⟨S512, .f32⟩
  | 75 => ⟨S1x1x512, .f32⟩
  | 76 => ⟨S2x2112x512, .f32⟩
  | 77 => ⟨S2x2112x512, .f32⟩
  | 78 => ⟨S2x2112x512, .f32⟩
  | 79 => ⟨S2x2112x512, .f32⟩
  | 80 => ⟨S1x512, .f32⟩
  | 81 => ⟨S512, .f32⟩
  | 82 => ⟨S1x1x512, .f32⟩
  | 83 => ⟨S2x2112x512, .f32⟩
  | 84 => ⟨S2x2112x512, .f32⟩
  | 85 => ⟨S2x2112x512, .f32⟩
  | 86 => ⟨S2x2112x512, .f32⟩
  | 87 => ⟨S1x512, .f32⟩
  | 88 => ⟨S512, .f32⟩
  | 89 => ⟨S1x1x512, .f32⟩
  | 90 => ⟨S2x2112x512, .f32⟩
  | 91 => ⟨S2x2112x512, .f32⟩
  | 92 => ⟨S2x2112x512, .f32⟩
  | 93 => ⟨S2x2112x512, .f32⟩
  | 94 => ⟨S1x512, .f32⟩
  | 95 => ⟨S512, .f32⟩
  | 96 => ⟨S1x1x512, .f32⟩
  | 97 => ⟨S2x2112x512, .f32⟩
  | 98 => ⟨S2x2112x512, .f32⟩
  | 99 => ⟨S2x2112x512, .f32⟩
  | 100 => ⟨S2x2112x512, .f32⟩
  | 101 => ⟨S1x512, .f32⟩
  | 102 => ⟨S512, .f32⟩
  | 103 => ⟨S1x1x512, .f32⟩
  | 104 => ⟨S2x2112x512, .f32⟩
  | 105 => ⟨S2x2112x512, .f32⟩
  | 106 => ⟨S2x2112x512, .f32⟩
  | 107 => ⟨S2x2112x512, .f32⟩
  | 108 => ⟨S1x512, .f32⟩
  | 109 => ⟨S512, .f32⟩
  | 110 => ⟨S1x1x512, .f32⟩
  | 111 => ⟨S2x2112x512, .f32⟩
  | 112 => ⟨S2x2112x512, .f32⟩
  | 113 => ⟨S2x2112x512, .f32⟩
  | 114 => ⟨S2x2112x512, .f32⟩
  | 115 => ⟨S1x512, .f32⟩
  | 116 => ⟨S512, .f32⟩
  | 117 => ⟨S1x1x512, .f32⟩
  | 118 => ⟨S2x2112x512, .f32⟩
  | 119 => ⟨S2x2112x512, .f32⟩
  | 120 => ⟨S2x2112x512, .f32⟩
  | 121 => ⟨S2x2112x512, .f32⟩
  | 122 => ⟨S1x512, .f32⟩
  | 123 => ⟨S512, .f32⟩
  | 124 => ⟨S1x1x512, .f32⟩
  | 125 => ⟨S2x2112x512, .f32⟩
  | 126 => ⟨S2x2112x512, .f32⟩
  | 127 => ⟨S2x2112x512, .f32⟩
  | _ => ⟨S4224x2688, .f32⟩

abbrev hbmTy0_1 (i : Nat) : BufTy := match i % 128 with
  | 0 => ⟨S2x2112x512, .f32⟩
  | 1 => ⟨S1x512, .f32⟩
  | 2 => ⟨S512, .f32⟩
  | 3 => ⟨S1x1x512, .f32⟩
  | 4 => ⟨S2x2112x512, .f32⟩
  | 5 => ⟨S2x2112x512, .f32⟩
  | 6 => ⟨S2x2112x512, .f32⟩
  | 7 => ⟨S2x2112x512, .f32⟩
  | 8 => ⟨S1x512, .f32⟩
  | 9 => ⟨S512, .f32⟩
  | 10 => ⟨S1x1x512, .f32⟩
  | 11 => ⟨S2x2112x512, .f32⟩
  | 12 => ⟨S2x2112x512, .f32⟩
  | 13 => ⟨S2x2112x512, .f32⟩
  | 14 => ⟨S2x2112x512, .f32⟩
  | 15 => ⟨S1x512, .f32⟩
  | 16 => ⟨S512, .f32⟩
  | 17 => ⟨S1x1x512, .f32⟩
  | 18 => ⟨S2x2112x512, .f32⟩
  | 19 => ⟨S2x2112x512, .f32⟩
  | 20 => ⟨S2x2112x512, .f32⟩
  | 21 => ⟨S2x2112x512, .f32⟩
  | 22 => ⟨S1x512, .f32⟩
  | 23 => ⟨S512, .f32⟩
  | 24 => ⟨S1x1x512, .f32⟩
  | 25 => ⟨S2x2112x512, .f32⟩
  | 26 => ⟨S2x2112x512, .f32⟩
  | 27 => ⟨S2x2112x512, .f32⟩
  | 28 => ⟨S2x2112x512, .f32⟩
  | 29 => ⟨S1x512, .f32⟩
  | 30 => ⟨S512, .f32⟩
  | 31 => ⟨S1x1x512, .f32⟩
  | 32 => ⟨S2x2112x512, .f32⟩
  | 33 => ⟨S2x2112x512, .f32⟩
  | 34 => ⟨S2x2112x512, .f32⟩
  | 35 => ⟨S2x2112x512, .f32⟩
  | 36 => ⟨S1x512, .f32⟩
  | 37 => ⟨S512, .f32⟩
  | 38 => ⟨S1x1x512, .f32⟩
  | 39 => ⟨S2x2112x512, .f32⟩
  | 40 => ⟨S2x2112x512, .f32⟩
  | 41 => ⟨S2x2112x512, .f32⟩
  | 42 => ⟨S2x2112x512, .f32⟩
  | 43 => ⟨S1x512, .f32⟩
  | 44 => ⟨S512, .f32⟩
  | 45 => ⟨S1x1x512, .f32⟩
  | 46 => ⟨S2x2112x512, .f32⟩
  | 47 => ⟨S2x2112x512, .f32⟩
  | 48 => ⟨S2x2112x512, .f32⟩
  | 49 => ⟨S2x2112x512, .f32⟩
  | 50 => ⟨S1x512, .f32⟩
  | 51 => ⟨S512, .f32⟩
  | 52 => ⟨S1x1x512, .f32⟩
  | 53 => ⟨S2x2112x512, .f32⟩
  | 54 => ⟨S2x2112x512, .f32⟩
  | 55 => ⟨S2x2112x512, .f32⟩
  | 56 => ⟨S2x2112x512, .f32⟩
  | 57 => ⟨S1x512, .f32⟩
  | 58 => ⟨S512, .f32⟩
  | 59 => ⟨S1x1x512, .f32⟩
  | 60 => ⟨S2x2112x512, .f32⟩
  | 61 => ⟨S2x2112x512, .f32⟩
  | 62 => ⟨S2x2112x512, .f32⟩
  | 63 => ⟨S2x2112x512, .f32⟩
  | 64 => ⟨S1x512, .f32⟩
  | 65 => ⟨S512, .f32⟩
  | 66 => ⟨S1x1x512, .f32⟩
  | 67 => ⟨S2x2112x512, .f32⟩
  | 68 => ⟨S2x2112x512, .f32⟩
  | 69 => ⟨S2x2112x512, .f32⟩
  | 70 => ⟨S2x2112x512, .f32⟩
  | 71 => ⟨S1x512, .f32⟩
  | 72 => ⟨S512, .f32⟩
  | 73 => ⟨S1x1x512, .f32⟩
  | 74 => ⟨S2x2112x512, .f32⟩
  | 75 => ⟨S2x2112x512, .f32⟩
  | 76 => ⟨S2x2112x512, .f32⟩
  | 77 => ⟨S2x2112x512, .f32⟩
  | 78 => ⟨S1x512, .f32⟩
  | 79 => ⟨S512, .f32⟩
  | 80 => ⟨S1x1x512, .f32⟩
  | 81 => ⟨S2x2112x512, .f32⟩
  | 82 => ⟨S2x2112x512, .f32⟩
  | 83 => ⟨S2x2112x512, .f32⟩
  | 84 => ⟨S2x2112x512, .f32⟩
  | 85 => ⟨S1x512, .f32⟩
  | 86 => ⟨S512, .f32⟩
  | 87 => ⟨S1x1x512, .f32⟩
  | 88 => ⟨S2x2112x512, .f32⟩
  | 89 => ⟨S2x2112x512, .f32⟩
  | 90 => ⟨S2x2112x512, .f32⟩
  | 91 => ⟨S2x2112x512, .f32⟩
  | 92 => ⟨S1x512, .f32⟩
  | 93 => ⟨S512, .f32⟩
  | 94 => ⟨S1x1x512, .f32⟩
  | 95 => ⟨S2x2112x512, .f32⟩
  | 96 => ⟨S2x2112x512, .f32⟩
  | 97 => ⟨S2x2112x512, .f32⟩
  | 98 => ⟨S2x2112x512, .f32⟩
  | 99 => ⟨S1x512, .f32⟩
  | 100 => ⟨S512, .f32⟩
  | 101 => ⟨S1x1x512, .f32⟩
  | 102 => ⟨S2x2112x512, .f32⟩
  | 103 => ⟨S2x2112x512, .f32⟩
  | 104 => ⟨S2x2112x512, .f32⟩
  | 105 => ⟨S2x2112x512, .f32⟩
  | 106 => ⟨S1x512, .f32⟩
  | 107 => ⟨S512, .f32⟩
  | 108 => ⟨S1x1x512, .f32⟩
  | 109 => ⟨S2x2112x512, .f32⟩
  | 110 => ⟨S2x2112x512, .f32⟩
  | 111 => ⟨S2x2112x512, .f32⟩
  | 112 => ⟨S1x1x512, .f32⟩
  | 113 => ⟨S2x2112x512, .f32⟩
  | 114 => ⟨S2x2112x512, .f32⟩
  | 115 => ⟨S_, .f32⟩
  | 116 => ⟨S2x2112, .f32⟩
  | 117 => ⟨S2x2112x1, .f32⟩
  | 118 => ⟨S_, .f32⟩
  | 119 => ⟨S2x2112x1, .f32⟩
  | 120 => ⟨S2x2112x1, .f32⟩
  | 121 => ⟨S2x2112x512, .f32⟩
  | 122 => ⟨S2x2112x512, .f32⟩
  | 123 => ⟨S2x2112x512, .f32⟩
  | 124 => ⟨S_, .f32⟩
  | 125 => ⟨S2x2112, .f32⟩
  | 126 => ⟨S2x2112x1, .f32⟩
  | 127 => ⟨S_, .f32⟩
  | _ => ⟨S4224x2688, .f32⟩

abbrev hbmTy0_2 (i : Nat) : BufTy := match i % 128 with
  | 0 => ⟨S2x2112x1, .f32⟩
  | 1 => ⟨S2x2112x1, .f32⟩
  | 2 => ⟨S2x2112x512, .f32⟩
  | 3 => ⟨S2x2112x512, .f32⟩
  | 4 => ⟨S_, .f32⟩
  | 5 => ⟨S2x2112x1, .f32⟩
  | 6 => ⟨S2x2112x1, .f32⟩
  | 7 => ⟨S2x2112x1, .f32⟩
  | 8 => ⟨S2x2112x512, .f32⟩
  | 9 => ⟨S2x2112x512, .f32⟩
  | 10 => ⟨S1x1x512, .f32⟩
  | 11 => ⟨S2x2112x512, .f32⟩
  | 12 => ⟨S2x2112x512, .f32⟩
  | 13 => ⟨S1x1x512, .f32⟩
  | 14 => ⟨S2x2112x512, .f32⟩
  | 15 => ⟨S2x2112x512, .f32⟩
  | 16 => ⟨S2x2112x512, .f32⟩
  | 17 => ⟨S2x2112x512, .f32⟩
  | 18 => ⟨S_, .f32⟩
  | 19 => ⟨S2x2112x512, .f32⟩
  | 20 => ⟨S2x2112x512, .f32⟩
  | 21 => ⟨S_, .f32⟩
  | 22 => ⟨S2x2112x512, .f32⟩
  | 23 => ⟨S2x2112x512, .f32⟩
  | 24 => ⟨S2x2112x512, .f32⟩
  | 25 => ⟨S4224x512, .f32⟩
  | 26 => ⟨S4224x512, .f32⟩
  | 27 => ⟨S4224x512, .bf16⟩
  | _ => ⟨S4224x2688, .f32⟩

abbrev hbmTy (i : Nat) : BufTy := match i / 128 with
  | 0 => hbmTy0_0 i
  | 1 => hbmTy0_1 i
  | 2 => hbmTy0_2 i
  | _ => ⟨S4224x2688, .f32⟩

abbrev bufTy : (tb : Table) → Fin (tcTables nBuf tb) → BufTy
  | .hbm, ⟨i, _⟩ => hbmTy i
  | _, _ => ⟨S4224x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_cst_3 : Ref sig .tc := ⟨.hbm, 243, rfl⟩
abbrev main_v234 : Ref sig .tc := ⟨.hbm, 244, rfl⟩
abbrev main_v235 : Ref sig .tc := ⟨.hbm, 245, rfl⟩
abbrev main_cst_4 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_cst_5 : Ref sig .tc := ⟨.hbm, 252, rfl⟩
abbrev main_v241 : Ref sig .tc := ⟨.hbm, 253, rfl⟩
abbrev main_v242 : Ref sig .tc := ⟨.hbm, 254, rfl⟩
abbrev main_cst_6 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_cst_7 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_v256 : Ref sig .tc := ⟨.hbm, 270, rfl⟩
abbrev main_v257 : Ref sig .tc := ⟨.hbm, 271, rfl⟩
abbrev main_call0_v0 : Ref sig .tc := ⟨.hbm, 272, rfl⟩
abbrev main_call0_v1 : Ref sig .tc := ⟨.hbm, 273, rfl⟩
abbrev main_call0_cst : Ref sig .tc := ⟨.hbm, 274, rfl⟩
abbrev main_call0_v2 : Ref sig .tc := ⟨.hbm, 275, rfl⟩
abbrev main_call0_v3 : Ref sig .tc := ⟨.hbm, 276, rfl⟩
abbrev main_call0_cst_0 : Ref sig .tc := ⟨.hbm, 277, rfl⟩
abbrev main_call0_v4 : Ref sig .tc := ⟨.hbm, 278, rfl⟩
abbrev main_call0_v5 : Ref sig .tc := ⟨.hbm, 279, rfl⟩
abbrev main_v258 : Ref sig .tc := ⟨.hbm, 280, rfl⟩
abbrev main_v259 : Ref sig .tc := ⟨.hbm, 281, rfl⟩
abbrev main_v260 : Ref sig .tc := ⟨.hbm, 282, rfl⟩
abbrev main_v261 : Ref sig .tc := ⟨.hbm, 283, rfl⟩

abbrev nD : Nat := 1
abbrev τ : Topo := Topo.v7x

variable {F : FTy → Type} [FloatOps F]
-- ==== Kernel14.lean ====
abbrev S16x1024 : Shape := ⟨2, ![16, 1024]⟩
abbrev S1x1024 : Shape := ⟨2, ![1, 1024]⟩
abbrev S4224x1024 : Shape := ⟨2, ![4224, 1024]⟩
abbrev S_ : Shape := ⟨0, ![]⟩
abbrev S64x1024 : Shape := ⟨2, ![64, 1024]⟩
abbrev S64 : Shape := ⟨1, ![64]⟩
abbrev S64x1 : Shape := ⟨2, ![64, 1]⟩

abbrev nBuf : Space → Nat
  | .hbm => 10
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1x1024, .f32⟩
  | .hbm, ⟨2, _⟩ => ⟨S1x1024, .f32⟩
  | .hbm, ⟨3, _⟩ => ⟨S4224x1024, .f32⟩
  | .hbm, ⟨4, _⟩ => ⟨S4224x1024, .bf16⟩
  | .hbm, ⟨5, _⟩ => ⟨S_, .i32⟩
  | .hbm, ⟨6, _⟩ => ⟨S_, .f32⟩
  | .hbm, ⟨7, _⟩ => ⟨S64x1024, .f32⟩
  | .hbm, ⟨8, _⟩ => ⟨S4224x1024, .f32⟩
  | .hbm, ⟨9, _⟩ => ⟨S4224x1024, .bf16⟩
  | .local _ .vmem, ⟨0, _⟩ => ⟨S64x1024, .f32⟩
  | .local _ .vmem, ⟨1, _⟩ => ⟨S1x1024, .f32⟩
  | .local _ .vmem, ⟨2, _⟩ => ⟨S1x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .bf16⟩
  | .local _ .vmem, ⟨6, _⟩ => ⟨S64x1024, .bf16⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c33_i32 : BitVec 32 := 33#32
  let v0 : BitVec 32 := Scalar.muli arg0 c33_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c33_i32 : BitVec 32 := 33#32
  let v0 : BitVec 32 := Scalar.muli arg0 c33_i32
  let c0_i32 : BitVec 32 := 0#32
  let c0_i32_0 : BitVec 32 := 0#32
  ![v0.toNat, c0_i32.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference14Ideal.lean ====
abbrev S16x1024 : Shape := ⟨2, ![16, 1024]⟩
abbrev S1x1024 : Shape := ⟨2, ![1, 1024]⟩
abbrev S4224x1024 : Shape := ⟨2, ![4224, 1024]⟩
abbrev S_ : Shape := ⟨0, ![]⟩
abbrev S48x1024 : Shape := ⟨2, ![48, 1024]⟩
abbrev S16 : Shape := ⟨1, ![16]⟩
abbrev S16x1 : Shape := ⟨2, ![16, 1]⟩
abbrev S64x1024 : Shape := ⟨2, ![64, 1024]⟩
abbrev S1x64x1024 : Shape := ⟨3, ![1, 64, 1024]⟩
abbrev S2x64x1024 : Shape := ⟨3, ![2, 64, 1024]⟩
abbrev S2x2112x1024 : Shape := ⟨3, ![2, 2112, 1024]⟩
abbrev S2x2048x1024 : Shape := ⟨3, ![2, 2048, 1024]⟩

abbrev nBuf : Space → Nat
  | .hbm => 46
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x1024, .f32⟩
  | .hbm, ⟨2, _⟩ => ⟨S1x1024, .f32⟩
  | .hbm, ⟨3, _⟩ => ⟨S4224x1024, .f32⟩
  | .hbm, ⟨4, _⟩ => ⟨S4224x1024, .bf16⟩
  | .hbm, ⟨5, _⟩ => ⟨S_, .f32⟩
  | .hbm, ⟨6, _⟩ => ⟨S48x1024, .f32⟩
  | .hbm, ⟨7, _⟩ => ⟨S_, .f32⟩
  | .hbm, ⟨8, _⟩ => ⟨S16, .f32⟩
  | .hbm, ⟨9, _⟩ => ⟨S16x1, .f32⟩
  | .hbm, ⟨10, _⟩ => ⟨S_, .f32⟩
  | .hbm, ⟨11, _⟩ => ⟨S16x1, .f32⟩
  | .hbm, ⟨12, _⟩ => ⟨S16x1, .f32⟩
  | .hbm, ⟨13, _⟩ => ⟨S16x1024, .f32⟩
  | .hbm, ⟨14, _⟩ => ⟨S16x1024, .f32⟩
  | .hbm, ⟨15, _⟩ => ⟨S16x1024, .f32⟩
  | .hbm, ⟨16, _⟩ => ⟨S_, .f32⟩
  | .hbm, ⟨17, _⟩ => ⟨S16, .f32⟩
  | .hbm, ⟨18, _⟩ => ⟨S16x1, .f32⟩
  | .hbm, ⟨19, _⟩ => ⟨S_, .f32⟩
  | .hbm, ⟨20, _⟩ => ⟨S16x1, .f32⟩
  | .hbm, ⟨21, _⟩ => ⟨S16x1, .f32⟩
  | .hbm, ⟨22, _⟩ => ⟨S16x1024, .f32⟩
  | .hbm, ⟨23, _⟩ => ⟨S16x1024, .f32⟩
  | .hbm, ⟨24, _⟩ => ⟨S_, .f32⟩
  | .hbm, ⟨25, _⟩ => ⟨S16x1, .f32⟩
  | .hbm, ⟨26, _⟩ => ⟨S16x1, .f32⟩
  | .hbm, ⟨27, _⟩ => ⟨S16x1, .f32⟩
  | .hbm, ⟨28, _⟩ => ⟨S16x1024, .f32⟩
  | .hbm, ⟨29, _⟩ => ⟨S16x1024, .f32⟩
  | .hbm, ⟨30, _⟩ => ⟨S16x1024, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S64x1024, .f32⟩
  | .hbm, ⟨35, _⟩ => ⟨S1x64x1024, .f32⟩
  | .hbm, ⟨36, _⟩ => ⟨S2x64x1024, .f32⟩
  | .hbm, ⟨37, _⟩ => ⟨S2x2112x1024, .f32⟩
  | .hbm, ⟨38, _⟩ => ⟨S2x2048x1024, .f32⟩
  | .hbm, ⟨39, _⟩ => ⟨S2x2112x1024, .f32⟩
  | .hbm, ⟨40, _⟩ => ⟨S4224x1024, .f32⟩
  | .hbm, ⟨41, _⟩ => ⟨S2x64x1024, .bf16⟩
  | .hbm, ⟨42, _⟩ => ⟨S2x2112x1024, .bf16⟩
  | .hbm, ⟨43, _⟩ => ⟨S2x2048x1024, .bf16⟩
  | .hbm, ⟨44, _⟩ => ⟨S2x2112x1024, .bf16⟩
  | .hbm, ⟨45, _⟩ => ⟨S4224x1024, .bf16⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel15.lean ====
abbrev S16x1024 : Shape := ⟨2, ![16, 1024]⟩
abbrev S1x1024 : Shape := ⟨2, ![1, 1024]⟩
abbrev S1024x2688 : Shape := ⟨2, ![1024, 2688]⟩
abbrev S4224x1024 : Shape := ⟨2, ![4224, 1024]⟩
abbrev S4224x512 : Shape := ⟨2, ![4224, 512]⟩
abbrev S4224x128 : Shape := ⟨2, ![4224, 128]⟩
abbrev S_ : Shape := ⟨0, ![]⟩
abbrev S64x1024 : Shape := ⟨2, ![64, 1024]⟩
abbrev S2688x1024 : Shape := ⟨2, ![2688, 1024]⟩
abbrev S64x512 : Shape := ⟨2, ![64, 512]⟩
abbrev S64x128 : Shape := ⟨2, ![64, 128]⟩
abbrev S1024x1024 : Shape := ⟨2, ![1024, 1024]⟩
abbrev S512x1024 : Shape := ⟨2, ![512, 1024]⟩
abbrev S128x1024 : Shape := ⟨2, ![128, 1024]⟩
abbrev S64x1 : Shape := ⟨2, ![64, 1]⟩
abbrev S64 : Shape := ⟨1, ![64]⟩
abbrev S1024 : Shape := ⟨1, ![1024]⟩

abbrev nBuf : Space → Nat
  | .hbm => 23
  | .vmem => 18
  | .smem => 0
  | _ => 0

abbrev bufTy : (tb : Table) → Fin (tcTables nBuf tb) → BufTy
  | .hbm, ⟨0, _⟩ => ⟨S16x1024, .f32⟩
  | .hbm, ⟨1, _⟩ => ⟨S1x1024, .f32⟩
  | .hbm, ⟨2, _⟩ => ⟨S1x1024, .f32⟩
  | .hbm, ⟨3, _⟩ => ⟨S1024x2688, .f32⟩
  | .hbm, ⟨4, _⟩ => ⟨S4224x1024, .f32⟩
  | .hbm, ⟨5, _⟩ => ⟨S4224x1024, .f32⟩
  | .hbm, ⟨6, _⟩ => ⟨S4224x512, .f32⟩
  | .hbm, ⟨7, _⟩ => ⟨S4224x512, .f32⟩
  | .hbm, ⟨8, _⟩ => ⟨S4224x512, .f32⟩
  | .hbm, ⟨9, _⟩ => ⟨S4224x128, .f32⟩
  | .hbm, ⟨10, _⟩ => ⟨S_, .i32⟩
  | .hbm, ⟨11, _⟩ => ⟨S_, .f32⟩
  | .hbm, ⟨12, _⟩ => ⟨S64x1024, .f32⟩
  | .hbm, ⟨13, _⟩ => ⟨S4224x1024, .bf16⟩
  | .hbm, ⟨14, _⟩ => ⟨S4224x512, .bf16⟩
  | .hbm, ⟨15, _⟩ => ⟨S4224x512, .bf16⟩
  | .hbm, ⟨16, _⟩ => ⟨S4224x512, .bf16⟩
  | .hbm, ⟨17, _⟩ => ⟨S4224x128, .bf16⟩
  | .hbm, ⟨18, _⟩ => ⟨S2688x1024, .f32⟩
  | .hbm, ⟨19, _⟩ => ⟨S2688x1024, .bf16⟩
  | .hbm, ⟨20, _⟩ => ⟨S16x1024, .f32⟩
  | .hbm, ⟨21, _⟩ => ⟨S1x1024, .f32⟩
  | .hbm, ⟨22, _⟩ => ⟨S1x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .bf16⟩
  | .local _ .vmem, ⟨3, _⟩ => ⟨S64x1024, .bf16⟩
  | .local _ .vmem, ⟨4, _⟩ => ⟨S64x512, .bf16⟩
  | .local _ .vmem, ⟨5, _⟩ => ⟨S64x512, .bf16⟩
  | .local _ .vmem, ⟨6, _⟩ => ⟨S64x512, .bf16⟩
  | .local _ .vmem, ⟨7, _⟩ => ⟨S64x512, .bf16⟩
  | .local _ .vmem, ⟨8, _⟩ => ⟨S64x512, .bf16⟩
  | .local _ .vmem, ⟨9, _⟩ => ⟨S64x512, .bf16⟩
  | .local _ .vmem, ⟨10, _⟩ => ⟨S64x128, .bf16⟩
  | .local _ .vmem, ⟨11, _⟩ => ⟨S64x128, .bf16⟩
  | .local _ .vmem, ⟨12, _⟩ => ⟨S64x1024, .f32⟩
  | .local _ .vmem, ⟨13, _⟩ => ⟨S1x1024, .f32⟩
  | .local _ .vmem, ⟨14, _⟩ => ⟨S2688x1024, .bf16⟩
  | .local _ .vmem, ⟨15, _⟩ => ⟨S16x1024, .f32⟩
  | .local _ .vmem, ⟨16, _⟩ => ⟨S1x1024, .f32⟩
  | .local _ .vmem, ⟨17, _⟩ => ⟨S1x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c33_i32 : BitVec 32 := 33#32
  let v0 : BitVec 32 := Scalar.muli arg0 c33_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c33_i32 : BitVec 32 := 33#32
  let v0 : BitVec 32 := Scalar.muli arg0 c33_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c33_i32 : BitVec 32 := 33#32
  let v0 : BitVec 32 := Scalar.muli arg0 c33_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c33_i32 : BitVec 32 := 33#32
  let v0 : BitVec 32 := Scalar.muli arg0 c33_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c33_i32 : BitVec 32 := 33#32
  let v0 : BitVec 32 := Scalar.muli arg0 c33_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c33_i32 : BitVec 32 := 33#32
  let v0 : BitVec 32 := Scalar.muli arg0 c33_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2688x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference15Ideal.lean ====
abbrev S16x1024 : Shape := ⟨2, ![16, 1024]⟩
abbrev S1x1024 : Shape := ⟨2, ![1, 1024]⟩
abbrev S1024x2688 : Shape := ⟨2, ![1024, 2688]⟩
abbrev S4224x1024 : Shape := ⟨2, ![4224, 1024]⟩
abbrev S4224x512 : Shape := ⟨2, ![4224, 512]⟩
abbrev S4224x128 : Shape := ⟨2, ![4224, 128]⟩
abbrev S1x16x1024 : Shape := ⟨3, ![1, 16, 1024]⟩
abbrev S2x16x1024 : Shape := ⟨3, ![2, 16, 1024]⟩
abbrev S_ : Shape := ⟨0, ![]⟩
abbrev S2x16 : Shape := ⟨2, ![2, 16]⟩
abbrev S2x16x1 : Shape := ⟨3, ![2, 16, 1]⟩
abbrev S1x1x1024 : Shape := ⟨3, ![1, 1, 1024]⟩
abbrev S2x48x1024 : Shape := ⟨3, ![2, 48, 1024]⟩
abbrev S2x2048x1024 : Shape := ⟨3, ![2, 2048, 1024]⟩
abbrev S2x2112x1024 : Shape := ⟨3, ![2, 2112, 1024]⟩
abbrev S4224x2688 : Shape := ⟨2, ![4224, 2688]⟩
abbrev S1024 : Shape := ⟨1, ![1024]⟩

abbrev nBuf : Space → Nat
  | .hbm => 123
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x1024, .f32⟩
  | .hbm, ⟨2, _⟩ => ⟨S1x1024, .f32⟩
  | .hbm, ⟨3, _⟩ => ⟨S1024x2688, .f32⟩
  | .hbm, ⟨4, _⟩ => ⟨S4224x1024, .f32⟩
  | .hbm, ⟨5, _⟩ => ⟨S4224x1024, .f32⟩
  | .hbm, ⟨6, _⟩ => ⟨S4224x512, .f32⟩
  | .hbm, ⟨7, _⟩ => ⟨S4224x512, .f32⟩
  | .hbm, ⟨8, _⟩ => ⟨S4224x512, .f32⟩
  | .hbm, ⟨9, _⟩ => ⟨S4224x128, .f32⟩
  | .hbm, ⟨10, _⟩ => ⟨S1x16x1024, .f32⟩
  | .hbm, ⟨11, _⟩ => ⟨S2x16x1024, .f32⟩
  | .hbm, ⟨12, _⟩ => ⟨S_, .f32⟩
  | .hbm, ⟨13, _⟩ => ⟨S2x16, .f32⟩
  | .hbm, ⟨14, _⟩ => ⟨S2x16x1, .f32⟩
  | .hbm, ⟨15, _⟩ => ⟨S_, .f32⟩
  | .hbm, ⟨16, _⟩ => ⟨S2x16x1, .f32⟩
  | .hbm, ⟨17, _⟩ => ⟨S2x16x1, .f32⟩
  | .hbm, ⟨18, _⟩ => ⟨S2x16x1024, .f32⟩
  | .hbm, ⟨19, _⟩ => ⟨S2x16x1024, .f32⟩
  | .hbm, ⟨20, _⟩ => ⟨S2x16x1024, .f32⟩
  | .hbm, ⟨21, _⟩ => ⟨S_, .f32⟩
  | .hbm, ⟨22, _⟩ => ⟨S2x16x1024, .f32⟩
  | .hbm, ⟨23, _⟩ => ⟨S2x16x1024, .f32⟩
  | .hbm, ⟨24, _⟩ => ⟨S_, .f32⟩
  | .hbm, ⟨25, _⟩ => ⟨S2x16, .f32⟩
  | .hbm, ⟨26, _⟩ => ⟨S2x16x1, .f32⟩
  | .hbm, ⟨27, _⟩ => ⟨S_, .f32⟩
  | .hbm, ⟨28, _⟩ => ⟨S2x16x1, .f32⟩
  | .hbm, ⟨29, _⟩ => ⟨S2x16x1, .f32⟩
  | .hbm, ⟨30, _⟩ => ⟨S2x16x1024, .f32⟩
  | .hbm, ⟨31, _⟩ => ⟨S2x16x1024, .f32⟩
  | .hbm, ⟨32, _⟩ => ⟨S_, .f32⟩
  | .hbm, ⟨33, _⟩ => ⟨S2x16x1, .f32⟩
  | .hbm, ⟨34, _⟩ => ⟨S2x16x1, .f32⟩
  | .hbm, ⟨35, _⟩ => ⟨S2x16x1, .f32⟩
  | .hbm, ⟨36, _⟩ => ⟨S2x16x1, .f32⟩
  | .hbm, ⟨37, _⟩ => ⟨S_, .f32⟩
  | .hbm, ⟨38, _⟩ => ⟨S2x16x1, .f32⟩
  | .hbm, ⟨39, _⟩ => ⟨S2x16x1, .f32⟩
  | .hbm, ⟨40, _⟩ => ⟨S2x16x1024, .f32⟩
  | .hbm, ⟨41, _⟩ => ⟨S2x16x1024, .f32⟩
  | .hbm, ⟨42, _⟩ => ⟨S1x1x1024, .f32⟩
  | .hbm, ⟨43, _⟩ => ⟨S2x16x1024, .f32⟩
  | .hbm, ⟨44, _⟩ => ⟨S2x16x1024, .f32⟩
  | .hbm, ⟨45, _⟩ => ⟨S1x1x1024, .f32⟩
  | .hbm, ⟨46, _⟩ => ⟨S2x16x1024, .f32⟩
  | .hbm, ⟨47, _⟩ => ⟨S2x16x1024, .f32⟩
  | .hbm, ⟨48, _⟩ => ⟨S_, .f32⟩
  | .hbm, ⟨49, _⟩ => ⟨S2x48x1024, .f32⟩
  | .hbm, ⟨50, _⟩ => ⟨S_, .f32⟩
  | .hbm, ⟨51, _⟩ => ⟨S2x2048x1024, .f32⟩
  | .hbm, ⟨52, _⟩ => ⟨S2x2112x1024, .f32⟩
  | .hbm, ⟨53, _⟩ => ⟨S_, .f32⟩
  | .hbm, ⟨54, _⟩ => ⟨S2x48x1024, .f32⟩
  | .hbm, ⟨55, _⟩ => ⟨S_, .f32⟩
  | .hbm, ⟨56, _⟩ => ⟨S2x2048x1024, .f32⟩
  | .hbm, ⟨57, _⟩ => ⟨S4224x1024, .f32⟩
  | .hbm, ⟨58, _⟩ => ⟨S_, .f32⟩
  | .hbm, ⟨59, _⟩ => ⟨S4224x1024, .f32⟩
  | .hbm, ⟨60, _⟩ => ⟨S4224x1024, .f32⟩
  | .hbm, ⟨61, _⟩ => ⟨S4224x2688, .f32⟩
  | .hbm, ⟨62, _⟩ => ⟨S4224x2688, .f32⟩
  | .hbm, ⟨63, _⟩ => ⟨S4224x1024, .f32⟩
  | .hbm, ⟨64, _⟩ => ⟨S_, .f32⟩
  | .hbm, ⟨65, _⟩ => ⟨S4224x1024, .f32⟩
  | .hbm, ⟨66, _⟩ => ⟨S4224x1024, .f32⟩
  | .hbm, ⟨67, _⟩ => ⟨S4224x1024, .f32⟩
  | .hbm, ⟨68, _⟩ => ⟨S2x2112x1024, .f32⟩
  | .hbm, ⟨69, _⟩ => ⟨S2x48x1024, .f32⟩
  | .hbm, ⟨70, _⟩ => ⟨S2x16x1024, .f32⟩
  | .hbm, ⟨71, _⟩ => ⟨S2x2048x1024, .f32⟩
  | .hbm, ⟨72, _⟩ => ⟨S_, .f32⟩
  | .hbm, ⟨73, _⟩ => ⟨S1024, .f32⟩
  | .hbm, ⟨74, _⟩ => ⟨S1x1x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S2x16x1024, .f32⟩
  | .hbm, ⟨79, _⟩ => ⟨S_, .f32⟩
  | .hbm, ⟨80, _⟩ => ⟨S1024, .f32⟩
  | .hbm, ⟨81, _⟩ => ⟨S1x1x1024, .f32⟩
  | .hbm, ⟨82, _⟩ => ⟨S2x16x1024, .f32⟩
  | .hbm, ⟨83, _⟩ => ⟨S2x16x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S2x16x1024, .f32⟩
  | .hbm, ⟨88, _⟩ => ⟨S_, .f32⟩
  | .hbm, ⟨89, _⟩ => ⟨S2x16, .f32⟩
  | .hbm, ⟨90, _⟩ => ⟨S2x16x1, .f32⟩
  | .hbm, ⟨91, _⟩ => ⟨S2x16x1024, .f32⟩
  | .hbm, ⟨92, _⟩ => ⟨S2x16x1024, .f32⟩
  | .hbm, ⟨93, _⟩ => ⟨S2x16x1, .f32⟩
  | .hbm, ⟨94, _⟩ => ⟨S2x16x1024, .f32⟩
  | .hbm, ⟨95, _⟩ => ⟨S_, .f32⟩
  | .hbm, ⟨96, _⟩ => ⟨S2x16, .f32⟩
  | .hbm, ⟨97, _⟩ => ⟨S2x16x1, .f32⟩
  | .hbm, ⟨98, _⟩ => ⟨S_, .f32⟩
  | .hbm, ⟨99, _⟩ => ⟨S2x16x1, .f32⟩
  | .hbm, ⟨100, _⟩ => ⟨S2x16x1, .f32⟩
  | .hbm, ⟨101, _⟩ => ⟨S_, .f32⟩
  | .hbm, ⟨102, _⟩ => ⟨S2x16, .f32⟩
  | .hbm, ⟨103, _⟩ => ⟨S2x16x1024, .f32⟩
  | .hbm, ⟨104, _⟩ => ⟨S2x16x1024, .f32⟩
  | .hbm, ⟨105, _⟩ => ⟨S2x16x1024, .f32⟩
  | .hbm, ⟨106, _⟩ => ⟨S_, .f32⟩
  | .hbm, ⟨107, _⟩ => ⟨S2x16, .f32⟩
  | .hbm, ⟨108, _⟩ => ⟨S2x16x1, .f32⟩
  | .hbm, ⟨109, _⟩ => ⟨S2x16x1024, .f32⟩
  | .hbm, ⟨110, _⟩ => ⟨S2x16x1, .f32⟩
  | .hbm, ⟨111, _⟩ => ⟨S_, .f32⟩
  | .hbm, ⟨112, _⟩ => ⟨S2x16x1, .f32⟩
  | .hbm, ⟨113, _⟩ => ⟨S2x16x1, .f32⟩
  | .hbm, ⟨114, _⟩ => ⟨S_, .f32⟩
  | .hbm, ⟨115, _⟩ => ⟨S2x16, .f32⟩
  | .hbm, ⟨116, _⟩ => ⟨S2x16x1024, .f32⟩
  | .hbm, ⟨117, _⟩ => ⟨S2x16x1024, .f32⟩
  | .hbm, ⟨118, _⟩ => ⟨S_, .f32⟩
  | .hbm, ⟨119, _⟩ => ⟨S16x1024, .f32⟩
  | .hbm, ⟨120, _⟩ => ⟨S1x16x1024, .f32⟩
  | .hbm, ⟨121, _⟩ => ⟨S_, .f32⟩
  | .hbm, ⟨122, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_cst_10 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_11 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_12 : Ref sig .tc := ⟨.hbm, 72, rfl⟩
abbrev main_v49 : Ref sig .tc := ⟨.hbm, 73, rfl⟩
abbrev main_v50 : Ref sig .tc := ⟨.hbm, 74, rfl⟩
abbrev main_cst_13 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_14 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_15 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_16 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_17 : Ref sig .tc := ⟨.hbm, 95, rfl⟩
abbrev main_v67 : Ref sig .tc := ⟨.hbm, 96, rfl⟩
abbrev main_v68 : Ref sig .tc := ⟨.hbm, 97, rfl⟩
abbrev main_cst_18 : Ref sig .tc := ⟨.hbm, 98, rfl⟩
abbrev main_v69 : Ref sig .tc := ⟨.hbm, 99, rfl⟩
abbrev main_v70 : Ref sig .tc := ⟨.hbm, 100, rfl⟩
abbrev main_cst_19 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_20 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_21 : Ref sig .tc := ⟨.hbm, 111, rfl⟩
abbrev main_v79 : Ref sig .tc := ⟨.hbm, 112, rfl⟩
abbrev main_v80 : Ref sig .tc := ⟨.hbm, 113, rfl⟩
abbrev main_cst_22 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_23 : Ref sig .tc := ⟨.hbm, 118, rfl⟩
abbrev main_v84 : Ref sig .tc := ⟨.hbm, 119, rfl⟩
abbrev main_v85 : Ref sig .tc := ⟨.hbm, 120, rfl⟩
abbrev main_cst_24 : Ref sig .tc := ⟨.hbm, 121, rfl⟩
abbrev main_v86 : Ref sig .tc := ⟨.hbm, 122, rfl⟩

abbrev nD : Nat := 1
abbrev τ : Topo := Topo.v7x

variable {F : FTy → Type} [FloatOps F]
-- ==== Proof.Spec.lean ====
module

public import Idealize.ShloMosaic.Lib.Pointwise

/-! The functions the programs compute, on the extended reals. -/

@[expose] public section
noncomputable section
namespace Cert.Spec
open Idealize.ShloMosaic

abbrev two : EReal := Ideal.ofBits FTy.f32 0x40000000#32
abbrev alpha : EReal := Ideal.ofBits FTy.f32 0x3F9837F0#32
abbrev width : EReal := Ideal.ofBits FTy.f32 0x44800000#32
abbrev eps : EReal := Ideal.ofBits FTy.f32 0x3727C5AC#32

/-! ## Layer norm of a row and its gradient -/

def mean (x : Fin 1024 → EReal) : EReal := Ideal.div (∑ k, x k) width
def cen (x : Fin 1024 → EReal) (q : Fin 1024) : EReal := x q - mean x
def rstd (x : Fin 1024 → EReal) : EReal := Ideal.rsqrt (Ideal.div (∑ k, cen x k * cen x k) width + eps)
def xhat (x : Fin 1024 → EReal) (q : Fin 1024) : EReal := cen x q * rstd x
/-- The gradient of `xhat` at `x` along `gy`, in the closed form. -/
def lnBwd (gy x : Fin 1024 → EReal) (q : Fin 1024) : EReal :=
  rstd x * (gy q - mean gy - xhat x q * mean (fun k => gy k * xhat x k))

/-! ## The gradient of the hidden layer -/

section
variable (D : Fin 4224 → Fin 1024 → EReal) (H : Fin 4224 → Fin 4096 → EReal)
  (W1 : Fin 8 → Fin 1024 → Fin 512 → EReal) (W2 : Fin 4096 → Fin 1024 → EReal)

/-- The gradient at the hidden units: through the second product and the square of `relu`. -/
def dhid (r : Fin 4224) (k : Fin 4096) : EReal := (∑ x, D r x * W2 k x) * (two * max (H r k) 0)

/-- What the `s`-th slice of 512 hidden units adds to the gradient of the layer's input. -/
def slice (r : Fin 4224) (q : Fin 1024) (s : ℕ) : EReal :=
  if h : s < 8 then ∑ x : Fin 512, dhid D H W2 r ⟨512 * s + x.val, by omega⟩ * W1 ⟨s, h⟩ q x else 0

/-- The gradient at the layer's input: the residual's and that of all slices. -/
def dsum (C : Fin 4224 → Fin 1024 → EReal) (r : Fin 4224) (q : Fin 1024) : EReal :=
  alpha * C r q + ∑ s ∈ Finset.range 8, slice D H W1 W2 r q s
end

/-! ## Sums over blocks -/

theorem sum_blocks {n b N : ℕ} (h : n * b = N) (f : Fin N → EReal) :
    ∑ s : Fin n, ∑ x : Fin b, f ⟨b * s.val + x.val, h ▸ (calc b * s.val + x.val < b * s.val + b := by omega
      _ = b * (s.val + 1) := by ring
      _ ≤ b * n := Nat.mul_le_mul_left b s.isLt
      _ = n * b := Nat.mul_comm b n)⟩ = ∑ k, f k := by
  subst h
  rw [← Fintype.sum_prod_type' (f := fun (s : Fin n) (x : Fin b) => f _)]
  refine Fintype.sum_equiv finProdFinEquiv _ _ fun p => congrArg f (Fin.ext ?_)
  show b * p.1.val + p.2.val = p.2.val + b * p.1.val
  omega

/-- The sum of `f` over the `i`-th block of 704 rows. -/
def rows (f : Fin 4224 → EReal) (i : ℕ) : EReal := if h : i < 6 then ∑ p : Fin 704, f ⟨704 * i + p.val, by omega⟩ else 0

theorem sum_rows (f : Fin 4224 → EReal) : ∑ i ∈ Finset.range 6, rows f i = ∑ r, f r := by
  rw [← Fin.sum_univ_eq_sum_range, ← sum_blocks (n := 6) (b := 704) rfl f]
  exact Finset.sum_congr rfl fun i _ => dif_pos i.isLt

/-- The two halves of a block of 704 rows. -/
theorem sum_halves (f : Fin 704 → EReal) :
    ∑ x : Fin 352, f ⟨x.val, by omega⟩ + ∑ x : Fin 352, f ⟨352 + x.val, by omega⟩ = ∑ p, f p := by
  rw [← sum_blocks (n := 2) (b := 352) rfl f, Fin.sum_univ_two]
  congr 1

theorem dsum_eq (D : Fin 4224 → Fin 1024 → EReal) (H : Fin 4224 → Fin 4096 → EReal)
    (W1 : Fin 8 → Fin 1024 → Fin 512 → EReal) (W2 : Fin 4096 → Fin 1024 → EReal) (C : Fin 4224 → Fin 1024 → EReal)
    (w1 : Fin 1024 → Fin 4096 → EReal) (hw : ∀ s q (x : Fin 512), W1 s q x = w1 q ⟨512 * s.val + x.val, by omega⟩) (r q) :
    dsum D H W1 W2 C r q = alpha * C r q + ∑ k, dhid D H W2 r k * w1 q k := by
  unfold dsum
  rw [← Fin.sum_univ_eq_sum_range, ← sum_blocks (n := 8) (b := 512) rfl fun k => dhid D H W2 r k * w1 q k]
  congr 1
  refine Finset.sum_congr rfl fun s _ => (dif_pos s.isLt).trans (Finset.sum_congr rfl fun x _ => ?_)
  rw [hw]

end Cert.Spec
-- ==== Proof.StepA.lean ====
module

public import proofs.«01_k».proof.Proof.Gen.KernelIdeal.Value
public import proofs.«01_k».proof.Proof.Spec

/-! What the kernel of the activations' gradient leaves after each grid point, read at an index. -/

@[expose] public section
noncomputable section
namespace Cert.KernelIdeal.StepA
open Cert.KernelIdeal Cert.KernelIdeal.Gen Idealize.ShloMosaic Idealize.ShloMosaic.TcCoe Idealize.SL.Sem Cert.Spec

variable (m : (ℓ : Loc nD τ sig) → Buf (Elt Ideal) ℓ)

theorem hz : (![0, 0] : Fin 2 → Nat) = fun _ => 0 := by decide

/-! ## The arrays the windows are cut from -/

def aC (c : Dev nD) (r : Fin 4224) (q : Fin 1024) : EReal := V m c (Pipeline.arrRef spec0 0) (ix2 r q)
def aD (c : Dev nD) (r : Fin 4224) (q : Fin 1024) : EReal := V m c (Pipeline.arrRef spec0 1) (ix2 r q)
def aH (c : Dev nD) (r : Fin 4224) (q : Fin 4096) : EReal := V m c (Pipeline.arrRef spec0 2) (ix2 r q)
def aW1 (c : Dev nD) (s : Fin 8) (q : Fin 1024) (x : Fin 512) : EReal := V m c (Pipeline.arrRef spec0 3) (ix3 s q x)
def aW2 (c : Dev nD) (k : Fin 4096) (q : Fin 1024) : EReal := V m c (Pipeline.arrRef spec0 4) (ix2 k q)
def aP (c : Dev nD) (r : Fin 4224) (q : Fin 1024) : EReal := V m c (Pipeline.arrRef spec0 5) (ix2 r q)
def aG (c : Dev nD) (q : Fin 1024) : EReal := V m c (Pipeline.arrRef spec0 6) (ix2 0 q)

theorem lt24 (t : Fin cfg0.N) : t.val < 24 := lt_of_lt_of_eq t.isLt N_0

/-- Row `p` of point `t`'s block of rows. -/
def row (t : Fin cfg0.N) (p : Fin 704) : Fin 4224 := ⟨704 * (t.val / 4) + p.val, by have := lt24 t; omega⟩
/-- Hidden unit `x` of point `t`'s block of hidden units. -/
def unit (t : Fin cfg0.N) (x : Fin 1024) : Fin 4096 := ⟨1024 * (t.val % 4) + x.val, by omega⟩

/-! ## The blocks -/

def bC (c : Dev nD) (t : Fin cfg0.N) (p : Fin 704) (q : Fin 1024) : EReal := iblk m c 0 t (ix2 p q)
def bD (c : Dev nD) (t : Fin cfg0.N) (p : Fin 704) (q : Fin 1024) : EReal := iblk m c 1 t (ix2 p q)
def bH (c : Dev nD) (t : Fin cfg0.N) (p : Fin 704) (x : Fin 1024) : EReal := iblk m c 2 t (ix2 p x)
def bW1 (c : Dev nD) (t : Fin cfg0.N) (s : Fin 2) (q : Fin 1024) (x : Fin 512) : EReal := iblk m c 3 t (ix3 s q x)
def bW2 (c : Dev nD) (t : Fin cfg0.N) (x q : Fin 1024) : EReal := iblk m c 4 t (ix2 x q)
def bP (c : Dev nD) (t : Fin cfg0.N) (p : Fin 704) (q : Fin 1024) : EReal := iblk m c 5 t (ix2 p q)
def bG (c : Dev nD) (t : Fin cfg0.N) (q : Fin 1024) : EReal := iblk m c 6 t (ix2 0 q)

theorem idx (t : Fin cfg0.N) : (win0_0.index t (0 : Fin 2) = t.val / 4 ∧ win0_0.index t (1 : Fin 2) = 0)
    ∧ (win0_1.index t (0 : Fin 2) = t.val / 4 ∧ win0_1.index t (1 : Fin 2) = 0)
    ∧ (win0_2.index t (0 : Fin 2) = t.val / 4 ∧ win0_2.index t (1 : Fin 2) = t.val % 4)
    ∧ (win0_3.index t (0 : Fin 3) = t.val % 4 ∧ win0_3.index t (1 : Fin 3) = 0 ∧ win0_3.index t (2 : Fin 3) = 0)
    ∧ (win0_4.index t (0 : Fin 2) = t.val % 4 ∧ win0_4.index t (1 : Fin 2) = 0)
    ∧ (win0_5.index t (0 : Fin 2) = t.val / 4 ∧ win0_5.index t (1 : Fin 2) = 0)
    ∧ (win0_6.index t (0 : Fin 2) = 0 ∧ win0_6.index t (1 : Fin 2) = 0) :=
  (by decide +kernel : ∀ t : Fin grid0.N, (win0_0.index t (0 : Fin 2) = t.val / 4 ∧ win0_0.index t (1 : Fin 2) = 0)
    ∧ (win0_1.index t (0 : Fin 2) = t.val / 4 ∧ win0_1.index t (1 : Fin 2) = 0)
    ∧ (win0_2.index t (0 : Fin 2) = t.val / 4 ∧ win0_2.index t (1 : Fin 2) = t.val % 4)
    ∧ (win0_3.index t (0 : Fin 3) = t.val % 4 ∧ win0_3.index t (1 : Fin 3) = 0 ∧ win0_3.index t (2 : Fin 3) = 0)
    ∧ (win0_4.index t (0 : Fin 2) = t.val % 4 ∧ win0_4.index t (1 : Fin 2) = 0)
    ∧ (win0_5.index t (0 : Fin 2) = t.val / 4 ∧ win0_5.index t (1 : Fin 2) = 0)
    ∧ (win0_6.index t (0 : Fin 2) = 0 ∧ win0_6.index t (1 : Fin 2) = 0)) t

theorem iblk0 (c : Dev nD) (t : Fin cfg0.N) (p : Fin 704) (q : Fin 1024) : bC m c t p q = aC m c (row t p) q := by
  refine congrArg (V m c (Pipeline.arrRef spec0 0)) (funext fun a => Fin.ext ?_)
  obtain ⟨⟨e0, e1⟩, -⟩ := idx t
  match a with
  | ⟨0, _⟩ => show win0_0.index t (0 : Fin 2) * 704 + 1 * p.val = 704 * (t.val / 4) + p.val; omega
  | ⟨1, _⟩ => show win0_0.index t (1 : Fin 2) * 1024 + 1 * q.val = q.val; omega

theorem iblk1 (c : Dev nD) (t : Fin cfg0.N) (p : Fin 704) (q : Fin 1024) : bD m c t p q = aD m c (row t p) q := by
  refine congrArg (V m c (Pipeline.arrRef spec0 1)) (funext fun a => Fin.ext ?_)
  obtain ⟨-, ⟨e0, e1⟩, -⟩ := idx t
  match a with
  | ⟨0, _⟩ => show win0_1.index t (0 : Fin 2) * 704 + 1 * p.val = 704 * (t.val / 4) + p.val; omega
  | ⟨1, _⟩ => show win0_1.index t (1 : Fin 2) * 1024 + 1 * q.val = q.val; omega

theorem iblk2 (c : Dev nD) (t : Fin cfg0.N) (p : Fin 704) (x : Fin 1024) : bH m c t p x = aH m c (row t p) (unit t x) := by
  refine congrArg (V m c (Pipeline.arrRef spec0 2)) (funext fun a => Fin.ext ?_)
  obtain ⟨-, -, ⟨e0, e1⟩, -⟩ := idx t
  match a with
  | ⟨0, _⟩ => show win0_2.index t (0 : Fin 2) * 704 + 1 * p.val = 704 * (t.val / 4) + p.val; omega
  | ⟨1, _⟩ => show win0_2.index t (1 : Fin 2) * 1024 + 1 * x.val = 1024 * (t.val % 4) + x.val; omega

theorem iblk3 (c : Dev nD) (t : Fin cfg0.N) (s : Fin 2) (q : Fin 1024) (x : Fin 512) :
    bW1 m c t s q x = aW1 m c ⟨2 * (t.val % 4) + s.val, by omega⟩ q x := by
  refine congrArg (V m c (Pipeline.arrRef spec0 3)) (funext fun a => Fin.ext ?_)
  obtain ⟨-, -, -, ⟨e0, e1, e2⟩, -⟩ := idx t
  match a with
  | ⟨0, _⟩ => show win0_3.index t (0 : Fin 3) * 2 + 1 * s.val = 2 * (t.val % 4) + s.val; omega
  | ⟨1, _⟩ => show win0_3.index t (1 : Fin 3) * 1024 + 1 * q.val = q.val; omega
  | ⟨2, _⟩ => show win0_3.index t (2 : Fin 3) * 512 + 1 * x.val = x.val; omega

theorem iblk4 (c : Dev nD) (t : Fin cfg0.N) (x q : Fin 1024) : bW2 m c t x q = aW2 m c (unit t x) q := by
  refine congrArg (V m c (Pipeline.arrRef spec0 4)) (funext fun a => Fin.ext ?_)
  obtain ⟨-, -, -, -, ⟨e0, e1⟩, -⟩ := idx t
  match a with
  | ⟨0, _⟩ => show win0_4.index t (0 : Fin 2) * 1024 + 1 * x.val = 1024 * (t.val % 4) + x.val; omega
  | ⟨1, _⟩ => show win0_4.index t (1 : Fin 2) * 1024 + 1 * q.val = q.val; omega

theorem iblk5 (c : Dev nD) (t : Fin cfg0.N) (p : Fin 704) (q : Fin 1024) : bP m c t p q = aP m c (row t p) q := by
  refine congrArg (V m c (Pipeline.arrRef spec0 5)) (funext fun a => Fin.ext ?_)
  obtain ⟨-, -, -, -, -, ⟨e0, e1⟩, -⟩ := idx t
  match a with
  | ⟨0, _⟩ => show win0_5.index t (0 : Fin 2) * 704 + 1 * p.val = 704 * (t.val / 4) + p.val; omega
  | ⟨1, _⟩ => show win0_5.index t (1 : Fin 2) * 1024 + 1 * q.val = q.val; omega

theorem iblk6 (c : Dev nD) (t : Fin cfg0.N) (q : Fin 1024) : bG m c t q = aG m c q := by
  refine congrArg (V m c (Pipeline.arrRef spec0 6)) (funext fun a => Fin.ext ?_)
  obtain ⟨-, -, -, -, -, -, e0, e1⟩ := idx t
  match a with
  | ⟨0, _⟩ => show win0_6.index t (0 : Fin 2) * 1 + 1 * 0 = 0; omega
  | ⟨1, _⟩ => show win0_6.index t (1 : Fin 2) * 1024 + 1 * q.val = q.val; omega

/-! ## One point's two slices -/

/-- The two slices of a point, from the blocks. -/
def add2 (c : Dev nD) (t : Fin cfg0.N) (z : EReal) (p : Fin 704) (q : Fin 1024) : EReal :=
  z + ∑ x : Fin 512, (∑ y, bD m c t p y * bW2 m c t ⟨x.val, by omega⟩ y) *
      (two * max (bH m c t p ⟨x.val, by omega⟩) 0) * bW1 m c t 0 q x
    + ∑ x : Fin 512, (∑ y, bD m c t p y * bW2 m c t ⟨512 + x.val, by omega⟩ y) *
      (two * max (bH m c t p ⟨512 + x.val, by omega⟩) 0) * bW1 m c t 1 q x

abbrev sl (c : Dev nD) (r : Fin 4224) (q : Fin 1024) (s : ℕ) : EReal := slice (aD m c) (aH m c) (aW1 m c) (aW2 m c) r q s

theorem hid_eq (c : Dev nD) (t : Fin cfg0.N) (p : Fin 704) (x : Fin 1024) (k : Fin 4096) (h : unit t x = k) :
    (∑ y, bD m c t p y * bW2 m c t x y) * (two * max (bH m c t p x) 0) = dhid (aD m c) (aH m c) (aW2 m c) (row t p) k := by
  subst h
  have e : ∑ y, bD m c t p y * bW2 m c t x y = ∑ y, aD m c (row t p) y * aW2 m c (unit t x) y :=
    Finset.sum_congr rfl fun y _ => by rw [iblk1, iblk4]
  rw [e, iblk2]; rfl

theorem slice_lo (c : Dev nD) (t : Fin cfg0.N) (p : Fin 704) (q : Fin 1024) :
    ∑ x : Fin 512, (∑ y, bD m c t p y * bW2 m c t ⟨x.val, by omega⟩ y) * (two * max (bH m c t p ⟨x.val, by omega⟩) 0) * bW1 m c t 0 q x
      = sl m c (row t p) q (2 * (t.val % 4)) := by
  refine Eq.trans ?_ (dif_pos (show 2 * (t.val % 4) < 8 by omega)).symm
  refine Finset.sum_congr rfl fun x _ => ?_
  rw [hid_eq m c t p ⟨x.val, by omega⟩ ⟨512 * (2 * (t.val % 4)) + x.val, by omega⟩ (Fin.ext (show 1024 * (t.val % 4) + x.val = 512 * (2 * (t.val % 4)) + x.val by omega)), iblk3]
  rfl

theorem slice_hi (c : Dev nD) (t : Fin cfg0.N) (p : Fin 704) (q : Fin 1024) :
    ∑ x : Fin 512, (∑ y, bD m c t p y * bW2 m c t ⟨512 + x.val, by omega⟩ y) * (two * max (bH m c t p ⟨512 + x.val, by omega⟩) 0) * bW1 m c t 1 q x
      = sl m c (row t p) q (2 * (t.val % 4) + 1) := by
  refine Eq.trans ?_ (dif_pos (show 2 * (t.val % 4) + 1 < 8 by omega)).symm
  refine Finset.sum_congr rfl fun x _ => ?_
  rw [hid_eq m c t p ⟨512 + x.val, by omega⟩ ⟨512 * (2 * (t.val % 4) + 1) + x.val, by omega⟩ (Fin.ext (show 1024 * (t.val % 4) + (512 + x.val) = 512 * (2 * (t.val % 4) + 1) + x.val by omega)), iblk3]
  rfl

theorem add2_eq (c : Dev nD) (t : Fin cfg0.N) (z : EReal) (p : Fin 704) (q : Fin 1024) :
    add2 m c t z p q = z + sl m c (row t p) q (2 * (t.val % 4)) + sl m c (row t p) q (2 * (t.val % 4) + 1) := by
  rw [← slice_lo, ← slice_hi]; rfl

/-- What the point before `t` left. -/
abbrev prev (c : Dev nD) (t : Fin cfg0.N) := outsAt0 m c (t.val - 1) (Nat.lt_of_le_of_lt (Nat.sub_le ..) t.isLt)

/-! ## What is carried, case by case -/

theorem scratch_A (c : Dev nD) (t : Fin cfg0.N) (h0 : t.val % 24 = 0) (h1 : t.val % 4 = 0) (h2 : t.val % 4 ≤ 2) (h3 : ¬t.val % 4 = 3)
    (p : Fin 704) (q : Fin 1024) : (outsAt0 m c t.val t.isLt).2.2.2.2 (ix2 p q) = add2 m c t 0 p q := by
  rw [outsAt0_A m c t h0 h1 h2 h3]
  dsimp only
  unfold sout0_A_0
  rw [View.read_writes_eq_canon _ _ _ (fun y => scover0_A_0 (y := y) ..)]
  unfold kernelRun0_A; dsimp only
  sl_unfold_words
  dsimp only
  simp only [View.canon_cons_unit_zero (S := S704x1024) hz, View.readCov_unit_zero (S := S704x1024) _ hz, View.readAt_eq_ld,
    View.ld_unit_zero (S := S704x1024) hz, shapeCast_self, (hs0_0 t).read_unread, (hs0_1 t).read_unread, (hs0_2 t).read_unread,
    (hs0_3 t).read_unread, (hs0_4 t).read_unread, (Memref.isWhole_whole _).read_unread]
  unfold_payloads
  pointwise
  exact (congrArg (· + _) (zero_add _)).symm

theorem scratch_D (c : Dev nD) (t : Fin cfg0.N) (h0 : ¬t.val % 24 = 0) (h1 : t.val % 4 = 0) (h2 : t.val % 4 ≤ 2) (h3 : ¬t.val % 4 = 3)
    (p : Fin 704) (q : Fin 1024) : (outsAt0 m c t.val t.isLt).2.2.2.2 (ix2 p q) = add2 m c t 0 p q := by
  rw [outsAt0_D m c t h0 h1 h2 h3]
  dsimp only
  unfold sout0_D_0
  rw [View.read_writes_eq_canon _ _ _ (fun y => scover0_D_0 (y := y) ..)]
  unfold kernelRun0_D; dsimp only
  sl_unfold_words
  dsimp only
  simp only [View.canon_cons_unit_zero (S := S704x1024) hz, View.readCov_unit_zero (S := S704x1024) _ hz, View.readAt_eq_ld,
    View.ld_unit_zero (S := S704x1024) hz, shapeCast_self, (hs0_0 t).read_unread, (hs0_1 t).read_unread, (hs0_2 t).read_unread,
    (hs0_3 t).read_unread, (hs0_4 t).read_unread, (Memref.isWhole_whole _).read_unread]
  unfold_payloads
  pointwise
  exact (congrArg (· + _) (zero_add _)).symm

theorem scratch_B (c : Dev nD) (t : Fin cfg0.N) (h0 : ¬t.val % 24 = 0) (h1 : ¬t.val % 4 = 0) (h2 : t.val % 4 ≤ 2) (h3 : ¬t.val % 4 = 3)
    (p : Fin 704) (q : Fin 1024) : (outsAt0 m c t.val t.isLt).2.2.2.2 (ix2 p q)
      = add2 m c t ((prev m c t).2.2.2.2 (ix2 p q)) p q := by
  rw [outsAt0_B m c t h0 h1 h2 h3]
  dsimp only
  unfold sout0_B_0
  rw [View.read_writes_eq_canon _ _ _ (fun y => scover0_B_0 (y := y) ..)]
  unfold kernelRun0_B; dsimp only
  rw [View.canon_unit_zero hz]
  sl_unfold_words
  dsimp only
  simp only [View.readAt_eq_ld,
    View.ld_unit_zero (S := S704x1024) hz, shapeCast_self, (hs0_0 t).read_unread, (hs0_1 t).read_unread, (hs0_2 t).read_unread,
    (hs0_3 t).read_unread, (hs0_4 t).read_unread, (Memref.isWhole_whole _).read_unread]
  unfold_payloads
  pointwise
  rfl

/-- The gradient at the layer's input, from the last point's blocks. -/
def dsb (c : Dev nD) (t : Fin cfg0.N) (p : Fin 704) (q : Fin 1024) : EReal :=
  alpha * bC m c t p q
    + add2 m c t ((prev m c t).2.2.2.2 (ix2 p q)) p q

theorem dg_C (c : Dev nD) (t : Fin cfg0.N) (h0 : ¬t.val % 24 = 0) (h1 : ¬t.val % 4 = 0) (h2 : ¬ t.val % 4 ≤ 2) (h3 : t.val % 4 = 3)
    (q : Fin 1024) : (outsAt0 m c t.val t.isLt).2.2.1 (ix2 0 q)
      = (prev m c t).2.2.1 (ix2 0 q)
        + ∑ x : Fin 352, dsb m c t ⟨x.val, by omega⟩ q * xhat (fun k => bP m c t ⟨x.val, by omega⟩ k) q
        + ∑ x : Fin 352, dsb m c t ⟨352 + x.val, by omega⟩ q * xhat (fun k => bP m c t ⟨352 + x.val, by omega⟩ k) q := by
  rw [outsAt0_C m c t h0 h1 h2 h3]
  dsimp only
  unfold out0_C_9
  rw [View.read_writes_eq_canon _ _ _ (fun y => cover0_C_9 (y := y) ..)]
  unfold kernelRun0_C; dsimp only
  sl_unfold_words
  dsimp only
  simp only [View.readAt_eq_ld, View.canon_cons_unit_zero (S := S1x1024) hz, View.readCov_unit_zero (S := S1x1024) _ hz,
    View.ld_unit_zero (S := S704x1024) hz, View.ld_unit_zero (S := S1x1024) hz, shapeCast_self, (hs0_0 t).read_unread,
    (hs0_1 t).read_unread, (hs0_2 t).read_unread, (hs0_3 t).read_unread, (hs0_4 t).read_unread, (hs0_5 t).read_unread,
    (hs0_6 t).read_unread, (hs0_9 t).read_unread, (hs0_10 t).read_unread, (Memref.isWhole_whole _).read_unread]
  unfold_payloads
  pointwise
  rfl

theorem db_C (c : Dev nD) (t : Fin cfg0.N) (h0 : ¬t.val % 24 = 0) (h1 : ¬t.val % 4 = 0) (h2 : ¬ t.val % 4 ≤ 2) (h3 : t.val % 4 = 3)
    (q : Fin 1024) : (outsAt0 m c t.val t.isLt).2.2.2.1 (ix2 0 q)
      = (prev m c t).2.2.2.1 (ix2 0 q)
        + ∑ x : Fin 352, dsb m c t ⟨x.val, by omega⟩ q
        + ∑ x : Fin 352, dsb m c t ⟨352 + x.val, by omega⟩ q := by
  rw [outsAt0_C m c t h0 h1 h2 h3]
  dsimp only
  unfold out0_C_10
  rw [View.read_writes_eq_canon _ _ _ (fun y => cover0_C_10 (y := y) ..)]
  unfold kernelRun0_C; dsimp only
  sl_unfold_words
  dsimp only
  simp only [View.readAt_eq_ld, View.canon_cons_unit_zero (S := S1x1024) hz, View.readCov_unit_zero (S := S1x1024) _ hz,
    View.ld_unit_zero (S := S704x1024) hz, View.ld_unit_zero (S := S1x1024) hz, shapeCast_self, (hs0_0 t).read_unread,
    (hs0_1 t).read_unread, (hs0_2 t).read_unread, (hs0_3 t).read_unread, (hs0_4 t).read_unread, (hs0_5 t).read_unread,
    (hs0_6 t).read_unread, (hs0_9 t).read_unread, (hs0_10 t).read_unread, (Memref.isWhole_whole _).read_unread]
  unfold_payloads
  pointwise
  rfl

/-! ## The norm's gradient, on the two halves of a block of rows -/

theorem ln_lo (d : FVec Ideal S352x1024 .f32) (x : Vec Ideal S352x1024 .f32) (g : Vec Ideal S1x1024 .f32) (p : Fin 352) (q : Fin 1024) :
    k0_pay26 d (k0_pay22 x) (k0_pay23 x) g (ix2 p q)
      = lnBwd (fun k => d (ix2 p k) * g (ix2 0 k)) (fun k => x (ix2 p k)) q := by
  unfold_payloads
  pointwise
  rfl

theorem ln_hi (d : FVec Ideal S352x1024 .f32) (x : Vec Ideal S352x1024 .f32) (g : Vec Ideal S1x1024 .f32) (p : Fin 352) (q : Fin 1024) :
    k0_pay6 (k0_pay29 x) (k0_pay30 x) (k0_pay33 d g) (k0_pay34 d g) (k0_pay35 d x g) (ix2 p q)
      = lnBwd (fun k => d (ix2 p k) * g (ix2 0 k)) (fun k => x (ix2 p k)) q := by
  unfold_payloads
  pointwise
  rfl

theorem emb_row (o : ℕ) (inb : ∀ a, (![o, 0] : Fin 2 → ℕ) a + (![352, 1024] : Fin 2 → ℕ) a ≤ S704x1024.size a) (a : Fin 352) (b : Fin 1024) (h : o + a.val < 704) :
    (Rect.unit (s := S704x1024) ![o, 0] ![352, 1024] inb).emb (ix2 a b) = ix2 (⟨o + a.val, h⟩ : Fin 704) b := by
  funext k; apply Fin.ext
  match k with
  | ⟨0, _⟩ => show o + 1 * a.val = o + a.val; omega
  | ⟨1, _⟩ => show 0 + 1 * b.val = b.val; omega

/-- The gradient at the layer's input on the upper half of the last point's rows, as the body computes it … -/
def dsLo (c : Dev nD) (t : Fin cfg0.N) : FVec Ideal S352x1024 .f32 :=
  k0_pay20
    (k0_pay14
      (k0_pay11 (View.ld (iblk m c 1 t) (Rect.unit ![0, 0] ![352, 1024] inb_S704x1024_S352x1024_0_0))
        (View.ld (iblk m c 4 t) (Rect.unit ![0, 0] ![512, 1024] inb_S1024x1024_S512x1024_0_0))
        (View.ld (prev m c t).2.2.2.2 (Rect.unit ![0, 0] ![352, 1024] inb_S704x1024_S352x1024_0_0))
        (View.ld (iblk m c 2 t) (Rect.unit ![0, 0] ![352, 512] inb_S704x1024_S352x512_0_0))
        (View.ld (iblk m c 3 t) (Rect.unit ![0, 0, 0] ![1, 1024, 512] inb_S2x1024x512_S1x1024x512_0_0_0)))
      (k0_pay12 (View.ld (iblk m c 1 t) (Rect.unit ![0, 0] ![352, 1024] inb_S704x1024_S352x1024_0_0))
        (View.ld (iblk m c 4 t) (Rect.unit ![512, 0] ![512, 1024] inb_S1024x1024_S512x1024_512_0))
        (View.ld (iblk m c 2 t) (Rect.unit ![0, 512] ![352, 512] inb_S704x1024_S352x512_0_512)))
      (View.ld (iblk m c 3 t) (Rect.unit ![1, 0, 0] ![1, 1024, 512] inb_S2x1024x512_S1x1024x512_1_0_0)))
    (View.ld (iblk m c 0 t) (Rect.unit ![0, 0] ![352, 1024] inb_S704x1024_S352x1024_0_0))

/-- … and on the lower half. -/
def dsHi (c : Dev nD) (t : Fin cfg0.N) : FVec Ideal S352x1024 .f32 :=
  k0_pay27
    (k0_pay19
      (k0_pay15 (View.ld (iblk m c 1 t) (Rect.unit ![352, 0] ![352, 1024] inb_S704x1024_S352x1024_352_0))
        (View.ld (iblk m c 4 t) (Rect.unit ![512, 0] ![512, 1024] inb_S1024x1024_S512x1024_512_0)))
      (View.ld (prev m c t).2.2.2.2 (Rect.unit ![352, 0] ![352, 1024] inb_S704x1024_S352x1024_352_0))
      (k0_pay17 (View.ld (iblk m c 1 t) (Rect.unit ![352, 0] ![352, 1024] inb_S704x1024_S352x1024_352_0))
        (View.ld (iblk m c 4 t) (Rect.unit ![0, 0] ![512, 1024] inb_S1024x1024_S512x1024_0_0))
        (View.ld (iblk m c 2 t) (Rect.unit ![352, 0] ![352, 512] inb_S704x1024_S352x512_352_0))
        (View.ld (iblk m c 3 t) (Rect.unit ![0, 0, 0] ![1, 1024, 512] inb_S2x1024x512_S1x1024x512_0_0_0)))
      (View.ld (iblk m c 2 t) (Rect.unit ![352, 512] ![352, 512] inb_S704x1024_S352x512_352_512))
      (View.ld (iblk m c 3 t) (Rect.unit ![1, 0, 0] ![1, 1024, 512] inb_S2x1024x512_S1x1024x512_1_0_0)))
    (View.ld (iblk m c 0 t) (Rect.unit ![352, 0] ![352, 1024] inb_S704x1024_S352x1024_352_0))

theorem dsLo_apply (c : Dev nD) (t : Fin cfg0.N) (a : Fin 352) (k : Fin 1024) : dsLo m c t (ix2 a k) = dsb m c t ⟨a.val, by omega⟩ k := by
  unfold dsLo
  unfold_payloads
  pointwise
  rfl

theorem dsHi_apply (c : Dev nD) (t : Fin cfg0.N) (a : Fin 352) (k : Fin 1024) : dsHi m c t (ix2 a k) = dsb m c t ⟨352 + a.val, by omega⟩ k := by
  unfold dsHi
  unfold_payloads
  pointwise
  rfl

theorem pLo_apply (c : Dev nD) (t : Fin cfg0.N) (a : Fin 352) (k : Fin 1024) :
    View.ld (iblk m c 5 t) (Rect.unit ![0, 0] ![352, 1024] inb_S704x1024_S352x1024_0_0) (ix2 a k) = bP m c t ⟨a.val, by omega⟩ k := by
  pointwise; rfl

theorem pHi_apply (c : Dev nD) (t : Fin cfg0.N) (a : Fin 352) (k : Fin 1024) :
    View.ld (iblk m c 5 t) (Rect.unit ![352, 0] ![352, 1024] inb_S704x1024_S352x1024_352_0) (ix2 a k) = bP m c t ⟨352 + a.val, by omega⟩ k := by
  pointwise; rfl

theorem dp_C (c : Dev nD) (t : Fin cfg0.N) (h0 : ¬t.val % 24 = 0) (h1 : ¬t.val % 4 = 0) (h2 : ¬ t.val % 4 ≤ 2) (h3 : t.val % 4 = 3)
    (p : Fin 704) (q : Fin 1024) : (outsAt0 m c t.val t.isLt).2.1 (ix2 p q)
      = lnBwd (fun k => dsb m c t p k * bG m c t k) (fun k => bP m c t p k) q := by
  rw [outsAt0_C m c t h0 h1 h2 h3]
  dsimp only
  unfold out0_C_8
  rw [View.read_writes_eq_canon _ _ _ (fun y => cover0_C_8 (y := y) ..)]
  refine View.canon_apply_of_pieces (Val := Elt Ideal) (e := .f32) (S := S704x1024)
    (fun i => lnBwd (fun k => dsb m c t (i 0) k * bG m c t k) (fun k => bP m c t (i 0) k) (i 1)) _ ?_ (ix2 p q)
    (cover0_C_8 ..)
  unfold kernelRun0_C; dsimp only
  sl_unfold_words
  dsimp only
  simp only [View.readAt_eq_ld, View.canon_cons_unit_zero (S := S1x1024) hz, View.readCov_unit_zero (S := S1x1024) _ hz,
    View.ld_unit_zero (S := S704x1024) hz, View.ld_unit_zero (S := S1x1024) hz, shapeCast_self, (hs0_0 t).read_unread,
    (hs0_1 t).read_unread, (hs0_2 t).read_unread, (hs0_3 t).read_unread, (hs0_4 t).read_unread, (hs0_5 t).read_unread,
    (hs0_6 t).read_unread, (hs0_9 t).read_unread, (hs0_10 t).read_unread, (Memref.isWhole_whole _).read_unread]
  intro pc hpc x
  simp only [List.mem_cons, List.not_mem_nil, or_false] at hpc
  rcases hpc with rfl | rfl
  · obtain ⟨a, b, rfl⟩ : ∃ (a : Fin 352) (b : Fin 1024), x = ix2 a b := ⟨x 0, x 1, ValueIdx.eq_ix2 x⟩
    refine (ln_hi (dsHi m c t) _ _ a b).trans ?_
    simp only [pHi_apply, dsHi_apply]
    rw [emb_row 352 _ a b (by omega)]
    rfl
  · obtain ⟨a, b, rfl⟩ : ∃ (a : Fin 352) (b : Fin 1024), x = ix2 a b := ⟨x 0, x 1, ValueIdx.eq_ix2 x⟩
    refine (ln_lo (dsLo m c t) _ _ a b).trans ?_
    simp only [pLo_apply, dsLo_apply]
    rw [emb_row 0 _ a b (by omega)]
    simp only [Nat.zero_add]
    rfl

/-! ## The untouched sums -/

theorem sums_A (c : Dev nD) (t : Fin cfg0.N) (h0 : t.val % 24 = 0) (h1 : t.val % 4 = 0) (h2 : t.val % 4 ≤ 2) (h3 : ¬t.val % 4 = 3)
    (q : Fin 1024) : (outsAt0 m c t.val t.isLt).2.2.1 (ix2 0 q) = 0 ∧ (outsAt0 m c t.val t.isLt).2.2.2.1 (ix2 0 q) = 0 := by
  rw [outsAt0_A m c t h0 h1 h2 h3]
  dsimp only
  unfold out0_A_9 out0_A_10
  rw [View.read_writes_eq_canon _ _ _ (fun y => cover0_A_9 (y := y) ..), View.read_writes_eq_canon _ _ _ (fun y => cover0_A_10 (y := y) ..)]
  unfold kernelRun0_A; dsimp only
  rw [View.canon_unit_zero hz, View.canon_unit_zero hz]
  unfold_payloads
  constructor <;> pointwise

theorem sums_B (c : Dev nD) (t : Fin cfg0.N) (h0 : ¬t.val % 24 = 0) (h1 : ¬t.val % 4 = 0) (h2 : t.val % 4 ≤ 2) (h3 : ¬t.val % 4 = 3) :
    (outsAt0 m c t.val t.isLt).2.2.1 = (prev m c t).2.2.1 ∧ (outsAt0 m c t.val t.isLt).2.2.2.1 = (prev m c t).2.2.2.1 := by
  rw [outsAt0_B m c t h0 h1 h2 h3]; exact ⟨rfl, rfl⟩

theorem sums_D (c : Dev nD) (t : Fin cfg0.N) (h0 : ¬t.val % 24 = 0) (h1 : t.val % 4 = 0) (h2 : t.val % 4 ≤ 2) (h3 : ¬t.val % 4 = 3) :
    (outsAt0 m c t.val t.isLt).2.2.1 = (prev m c t).2.2.1 ∧ (outsAt0 m c t.val t.isLt).2.2.2.1 = (prev m c t).2.2.2.1 := by
  rw [outsAt0_D m c t h0 h1 h2 h3]; exact ⟨rfl, rfl⟩

end Cert.KernelIdeal.StepA
-- ==== Proof.ValueA.lean ====
module

public import proofs.«01_k».proof.Proof.StepA

/-! The three results of the kernel of the activations' gradient, as functions of the arrays it is launched on. -/

@[expose] public section
noncomputable section
namespace Cert.KernelIdeal.StepA
open Cert.KernelIdeal Cert.KernelIdeal.Gen Idealize.ShloMosaic Idealize.ShloMosaic.TcCoe Idealize.SL.Sem Cert.Spec

variable (m : (ℓ : Loc nD τ sig) → Buf (Elt Ideal) ℓ)

/-- The gradient at the layer's input. -/
abbrev dS (c : Dev nD) (r : Fin 4224) (q : Fin 1024) : EReal := dsum (aD m c) (aH m c) (aW1 m c) (aW2 m c) (aC m c) r q

/-- The carried sum: the slices of hidden units seen so far. -/
theorem scratch_eq (c : Dev nD) : ∀ (n : ℕ) (hn : n < cfg0.N), n % 4 ≤ 2 → ∀ (p : Fin 704) (q : Fin 1024),
    (outsAt0 m c n hn).2.2.2.2 (ix2 p q) = ∑ s ∈ Finset.range (2 * (n % 4) + 2), sl m c (row ⟨n, hn⟩ p) q s := by
  intro n
  induction n with
  | zero =>
    intro hn _ p q
    refine (scratch_A m c ⟨0, hn⟩ rfl rfl (Nat.zero_le 2) (show ¬ 0 % 4 = 3 by decide) p q).trans ?_
    rw [add2_eq, zero_add, Finset.sum_range_succ, Finset.sum_range_succ, Finset.sum_range_zero, zero_add]; rfl
  | succ n ih =>
    intro hn h2 p q
    have h24 := lt24 ⟨n + 1, hn⟩
    dsimp only at h24
    by_cases h1 : (n + 1) % 4 = 0
    · have e : add2 m c ⟨n + 1, hn⟩ 0 p q = ∑ s ∈ Finset.range (2 * ((n + 1) % 4) + 2), sl m c (row ⟨n + 1, hn⟩ p) q s := by
        rw [add2_eq, zero_add]
        dsimp only
        rw [h1, Finset.sum_range_succ, Finset.sum_range_succ, Finset.sum_range_zero, zero_add]
      by_cases h0 : (n + 1) % 24 = 0
      · exact (scratch_A m c ⟨n + 1, hn⟩ h0 h1 h2 (by dsimp only; omega) p q).trans e
      · exact (scratch_D m c ⟨n + 1, hn⟩ h0 h1 h2 (by dsimp only; omega) p q).trans e
    · refine (scratch_B m c ⟨n + 1, hn⟩ (by dsimp only; omega) h1 h2 (by dsimp only; omega) p q).trans ?_
      rw [add2_eq]
      have := ih (Nat.lt_of_succ_lt hn) (by omega) p q
      have hr : row ⟨n, Nat.lt_of_succ_lt hn⟩ p = row ⟨n + 1, hn⟩ p := Fin.ext (show 704 * (n / 4) + p.val = 704 * ((n + 1) / 4) + p.val by omega)
      rw [hr] at this
      rw [Finset.sum_range_succ, Finset.sum_range_succ, show 2 * ((n + 1) % 4) = 2 * (n % 4) + 2 by omega, ← this,
        show 2 * (n % 4) + 2 = 2 * ((n + 1) % 4) by omega]
      rfl

theorem dsb_eq (c : Dev nD) (t : Fin cfg0.N) (h3 : t.val % 4 = 3) (p : Fin 704) (q : Fin 1024) : dsb m c t p q = dS m c (row t p) q := by
  show _ = dsum _ _ _ _ _ _ _
  unfold dsb dsum
  have h := scratch_eq m c (t.val - 1) (Nat.lt_of_le_of_lt (Nat.sub_le ..) t.isLt) (by omega) p q
  have hr : row ⟨t.val - 1, Nat.lt_of_le_of_lt (Nat.sub_le ..) t.isLt⟩ p = row t p :=
    Fin.ext (show 704 * ((t.val - 1) / 4) + p.val = 704 * (t.val / 4) + p.val by omega)
  rw [hr] at h
  rw [iblk0, add2_eq, h, h3, show 2 * ((t.val - 1) % 4) + 2 = 6 by omega, Finset.sum_range_succ _ 7, Finset.sum_range_succ _ 6]

/-- What row `r` adds to the gradient of the norm's scale. -/
abbrev gRow (c : Dev nD) (q : Fin 1024) (r : Fin 4224) : EReal := dS m c r q * xhat (aP m c r) q

theorem dg_last (c : Dev nD) (t : Fin cfg0.N) (h3 : t.val % 4 = 3) (q : Fin 1024) :
    (outsAt0 m c t.val t.isLt).2.2.1 (ix2 0 q) = (prev m c t).2.2.1 (ix2 0 q) + rows (gRow m c q) (t.val / 4) := by
  have h24 := lt24 t
  have hp : ∀ p, dsb m c t p q * xhat (fun k => bP m c t p k) q = gRow m c q (row t p) := by
    intro p
    rw [dsb_eq m c t h3, show (fun k => bP m c t p k) = aP m c (row t p) from funext fun k => iblk5 m c t p k]
  rw [dg_C m c t (by omega) (by omega) (by omega) h3, add_assoc, rows, dif_pos (by omega)]
  congr 1
  rw [sum_halves fun p => dsb m c t p q * xhat (fun k => bP m c t p k) q]
  exact Finset.sum_congr rfl fun p _ => hp p

theorem db_last (c : Dev nD) (t : Fin cfg0.N) (h3 : t.val % 4 = 3) (q : Fin 1024) :
    (outsAt0 m c t.val t.isLt).2.2.2.1 (ix2 0 q) = (prev m c t).2.2.2.1 (ix2 0 q) + rows (fun r => dS m c r q) (t.val / 4) := by
  have h24 := lt24 t
  rw [db_C m c t (by omega) (by omega) (by omega) h3, add_assoc, rows, dif_pos (by omega)]
  congr 1
  rw [sum_halves fun p => dsb m c t p q]
  exact Finset.sum_congr rfl fun p _ => dsb_eq m c t h3 p q

/-- The sums over rows: the blocks of rows seen so far. -/
theorem sums_eq (c : Dev nD) (q : Fin 1024) : ∀ (n : ℕ) (hn : n < cfg0.N),
    (outsAt0 m c n hn).2.2.1 (ix2 0 q) = ∑ i ∈ Finset.range ((n + 1) / 4), rows (gRow m c q) i
    ∧ (outsAt0 m c n hn).2.2.2.1 (ix2 0 q) = ∑ i ∈ Finset.range ((n + 1) / 4), rows (fun r => dS m c r q) i := by
  intro n
  induction n with
  | zero =>
    intro hn
    obtain ⟨e1, e2⟩ := sums_A m c ⟨0, hn⟩ rfl rfl (Nat.zero_le 2) (show ¬ 0 % 4 = 3 by decide) q
    exact ⟨e1.trans (by simp), e2.trans (by simp)⟩
  | succ n ih =>
    intro hn
    have h24 := lt24 ⟨n + 1, hn⟩
    dsimp only at h24
    obtain ⟨i1, i2⟩ := ih (Nat.lt_of_succ_lt hn)
    by_cases h3 : (n + 1) % 4 = 3
    · rw [show (n + 1 + 1) / 4 = (n + 1) / 4 + 1 by omega, Finset.sum_range_succ, Finset.sum_range_succ, ← i1, ← i2]
      exact ⟨dg_last m c ⟨n + 1, hn⟩ h3 q, db_last m c ⟨n + 1, hn⟩ h3 q⟩
    · rw [show (n + 1 + 1) / 4 = (n + 1) / 4 by omega, ← i1, ← i2]
      by_cases h1 : (n + 1) % 4 = 0
      · obtain ⟨e1, e2⟩ := sums_D m c ⟨n + 1, hn⟩ (by dsimp only; omega) h1 (by dsimp only; omega) h3
        exact ⟨congrFun e1 _, congrFun e2 _⟩
      · obtain ⟨e1, e2⟩ := sums_B m c ⟨n + 1, hn⟩ (by dsimp only; omega) h1 (by dsimp only; omega) h3
        exact ⟨congrFun e1 _, congrFun e2 _⟩

/-! ## The results -/

theorem G8_apply (c : Dev nD) (r : Fin 4224) (q : Fin 1024) :
    (Value.G8 m c : S4224x1024.Idx → EReal) (ix2 r q) = lnBwd (fun k => dS m c r k * aG m c k) (aP m c r) q := by
  have hN : cfg0.N = 24 := N_0
  have hp : Value.pt8Of (ix2 r q) < cfg0.N := by show 4 * (1 * (r.val / 704 - 0) + 1 * (q.val / 1024 - 0)) + 3 < _; omega
  have hp' : Value.pt8Of (ix2 r q) = 4 * (r.val / 704) + 3 := by show 4 * (1 * (r.val / 704 - 0) + 1 * (q.val / 1024 - 0)) + 3 = _; omega
  have hl : Value.loc8Of (ix2 r q) = ix2 ⟨r.val % 704, by omega⟩ q := by
    funext a; apply Fin.ext
    match a with
    | ⟨0, _⟩ => rfl
    | ⟨1, _⟩ => show q.val % 1024 = q.val; omega
  have h3 : Value.pt8Of (ix2 r q) % 4 = 3 := by omega
  have hr : row ⟨_, hp⟩ ⟨r.val % 704, by omega⟩ = r :=
    Fin.ext (show 704 * (Value.pt8Of (ix2 r q) / 4) + r.val % 704 = r.val by omega)
  show Value.G8 m c (ix2 r q) = _
  unfold Value.G8
  rw [dif_pos hp, hl, ← Value.outsAt0_sweep m c _ hp]
  refine (dp_C m c ⟨_, hp⟩ (by dsimp only; omega) (by dsimp only; omega) (by dsimp only; omega) h3 _ q).trans ?_
  simp only [dsb_eq m c ⟨_, hp⟩ h3, iblk5, iblk6, hr]

theorem G9_apply (c : Dev nD) (q : Fin 1024) : (Value.G9 m c : S1x1024.Idx → EReal) (ix2 0 q) = ∑ r, dS m c r q * xhat (aP m c r) q := by
  show Value.G9 m c (ix2 0 q) = _
  rw [Value.G9_last, ← Value.outsAt0_sweep m c 23 (lt_of_lt_of_eq (by decide) N_0.symm), (sums_eq m c q 23 _).1]
  exact sum_rows _

theorem G10_apply (c : Dev nD) (q : Fin 1024) : (Value.G10 m c : S1x1024.Idx → EReal) (ix2 0 q) = ∑ r, dS m c r q := by
  show Value.G10 m c (ix2 0 q) = _
  rw [Value.G10_last, ← Value.outsAt0_sweep m c 23 (lt_of_lt_of_eq (by decide) N_0.symm), (sums_eq m c q 23 _).2]
  exact sum_rows _

end Cert.KernelIdeal.StepA
-- ==== Proof.HostA.lean ====
module

public import proofs.«01_k».proof.Proof.StepA
public import Idealize.ShloMosaic.Lib.StableHlo.ReadAt

/-! The arrays the kernel of the activations' gradient is launched on, from the program's arguments. -/

@[expose] public section
noncomputable section
namespace Cert.KernelIdeal.StepA
open Cert.KernelIdeal Cert.KernelIdeal.Gen Idealize.ShloMosaic Idealize.ShloMosaic.TcCoe Idealize.SL.Sem Cert.Spec

variable (m : (ℓ : Loc nD τ sig) → Buf (Elt Ideal) ℓ)

theorem aC_eq (c : Dev nD) (r : Fin 4224) (q : Fin 1024) : aC m c r q = m ((c.tc : Thread nD τ).loc main_arg5) (ix2 r q) := by
  unfold aC V
  after_reads_at

theorem aD_eq (c : Dev nD) (r : Fin 4224) (q : Fin 1024) : aD m c r q = m ((c.tc : Thread nD τ).loc main_arg5) (ix2 r q) := by
  unfold aD V
  after_reads_at

theorem aH_eq (c : Dev nD) (r : Fin 4224) (k : Fin 4096) : aH m c r k
    = (∑ x : Fin 1024, (xhat (fun k => (m ((c.tc : Thread nD τ).loc main_arg0) (ix2 r k) : EReal)) x * (m ((c.tc : Thread nD τ).loc main_arg1) (ix2 0 x) : EReal)
        + m ((c.tc : Thread nD τ).loc main_arg2) (ix2 0 x)) * (m ((c.tc : Thread nD τ).loc main_arg3) (ix2 x k) : EReal) : EReal) := by
  unfold aH V
  after_reads_at
  rfl

theorem aW1_eq (c : Dev nD) (s : Fin 8) (q : Fin 1024) (x : Fin 512) : aW1 m c s q x = m ((c.tc : Thread nD τ).loc main_arg3) (ix2 q ⟨512 * s.val + x.val, by omega⟩) := by
  unfold aW1 V
  after_reads_at
  exact congrArg (fun k => m (c, Proc.tc.devRef main_arg3) (ix2 q k)) (Fin.ext (show s.val * 512 + x.val = 512 * s.val + x.val by omega))

theorem aW2_eq (c : Dev nD) (k : Fin 4096) (q : Fin 1024) : aW2 m c k q = m ((c.tc : Thread nD τ).loc main_arg4) (ix2 k q) := by
  unfold aW2 V
  after_reads_at

theorem aP_eq (c : Dev nD) (r : Fin 4224) (q : Fin 1024) : aP m c r q = m ((c.tc : Thread nD τ).loc main_arg0) (ix2 r q) := by
  unfold aP V
  after_reads_at

theorem aG_eq (c : Dev nD) (q : Fin 1024) : aG m c q = m ((c.tc : Thread nD τ).loc main_arg1) (ix2 0 q) := by
  unfold aG V
  after_reads_at

end Cert.KernelIdeal.StepA
-- ==== Proof.Ln.lean ====
module

public import proofs.«01_k».proof.Proof.Spec

/-! On real entries the closed form of the norm's gradient is the gradient taken step by step. -/

@[expose] public section
noncomputable section
namespace Cert.Spec
open Idealize.ShloMosaic

/-! ## Real values among the extended reals -/

def IsReal (x : EReal) : Prop := ∃ r : ℝ, x = r

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.maxOf {x y : EReal} (hx : IsReal x) (hy : IsReal y) : IsReal (max x y) := by
  rcases max_choice x y with h | h <;> rw [h] <;> assumption
theorem IsReal.zero : IsReal 0 := ⟨0, rfl⟩
theorem IsReal.sum {ι : Type} {s : Finset ι} {f : ι → EReal} (h : ∀ i, IsReal (f i)) : IsReal (∑ i ∈ s, f i) :=
  Finset.sum_induction f IsReal (fun _ _ => IsReal.add) IsReal.zero fun i _ => h i

/-- What has an absolute value under infinity is real. -/
theorem IsReal.of_abs {x : EReal} (h : max x (-x) < ⊤) : IsReal x := by
  induction x using EReal.rec with
  | bot => simp at h
  | top => simp at h
  | coe r => exact ⟨r, rfl⟩

theorem width_eq : width = ((1024 : ℝ) : EReal) := by simp [width, Ideal.ofBits, Ideal.ieee, -EReal.coe_mul]; norm_num
theorem two_eq : two = ((2 : ℝ) : EReal) := by simp [two, Ideal.ofBits, Ideal.ieee, -EReal.coe_mul]; norm_num
theorem alpha_real : IsReal alpha := by unfold alpha IsReal; simp [Ideal.ofBits, Ideal.ieee, -EReal.coe_mul]
theorem eps_pos : ∃ r : ℝ, 0 < r ∧ eps = r := by
  unfold eps; simp [Ideal.ofBits, Ideal.ieee, -EReal.coe_mul]
abbrev negHalf : EReal := Ideal.ofBits FTy.f32 0xBF000000#32
theorem negHalf_eq : negHalf = ((-(1/2) : ℝ) : EReal) := by simp [negHalf, Ideal.ofBits, Ideal.ieee, -EReal.coe_mul]; norm_num

theorem coe_sum {ι : Type} (s : Finset ι) (a : ι → ℝ) : ∑ k ∈ s, (a k : EReal) = ((∑ k ∈ s, a k : ℝ) : EReal) :=
  (map_sum (⟨⟨fun r : ℝ => (r : EReal), EReal.coe_zero⟩, EReal.coe_add⟩ : ℝ →+ EReal) a s).symm

theorem div_width (a : ℝ) : Ideal.div (a : EReal) width = ((a / 1024 : ℝ) : EReal) := by
  rw [width_eq, Ideal.div_coe (by norm_num), ← EReal.coe_mul]; congr 1; ring

/-! ## The norm of a real row -/

section
variable (a : Fin 1024 → ℝ)

def rMean : ℝ := (∑ k, a k) / 1024
def rCen (q : Fin 1024) : ℝ := a q - rMean a
def rVar (e : ℝ) : ℝ := (∑ k, rCen a k * rCen a k) / 1024 + e

theorem mean_coe : mean (fun k => (a k : EReal)) = (rMean a : EReal) := by
  unfold mean; rw [coe_sum, div_width]; rfl
theorem cen_coe (q : Fin 1024) : cen (fun k => (a k : EReal)) q = (rCen a q : EReal) := by
  unfold cen; rw [mean_coe, ← EReal.coe_sub]; rfl
theorem var_coe (e : ℝ) (he : eps = e) :
    Ideal.div (∑ k, cen (fun k => (a k : EReal)) k * cen (fun k => (a k : EReal)) k) width + eps = (rVar a e : EReal) := by
  simp only [cen_coe, ← EReal.coe_mul, coe_sum, div_width]
  rw [he, ← EReal.coe_add]; rfl
theorem rVar_pos (e : ℝ) (he : 0 < e) : 0 < rVar a e :=
  add_pos_of_nonneg_of_pos (div_nonneg (Finset.sum_nonneg fun k _ => mul_self_nonneg _) (by norm_num)) he
theorem rstd_coe (e : ℝ) (he : eps = e) (h : 0 < e) : rstd (fun k => (a k : EReal)) = (((√(rVar a e))⁻¹ : ℝ) : EReal) := by
  unfold rstd
  rw [var_coe a e he, Ideal.rsqrt_coe, if_neg (rVar_pos a e h).not_gt, if_neg (rVar_pos a e h).ne']
theorem sum_rCen : ∑ k, rCen a k = 0 := by
  unfold rCen rMean
  rw [Finset.sum_sub_distrib, Finset.sum_const, Finset.card_univ, Fintype.card_fin, nsmul_eq_mul]
  push_cast; ring
end

/-- A row of reals has real centred entries and a real normalised row. -/
theorem xhat_real {x : Fin 1024 → EReal} (hx : ∀ k, IsReal (x k)) (q : Fin 1024) : IsReal (xhat x q) := by
  choose a ha using hx
  obtain rfl : x = fun k => (a k : EReal) := funext ha
  obtain ⟨e, h, he⟩ := eps_pos
  unfold xhat
  rw [cen_coe, rstd_coe a e he h]
  exact IsReal.mul ⟨_, rfl⟩ ⟨_, rfl⟩

/-! ## Its gradient step by step -/

section
variable (gy x : Fin 1024 → EReal)
/-- What reaches the row through the variance. -/
def viaVar (q : Fin 1024) : EReal :=
  Ideal.div ((∑ k, cen x k * gy k) * (negHalf * Ideal.div (rstd x) (Ideal.div (∑ k, cen x k * cen x k) width + eps))) width * (two * cen x q)
/-- The gradient of `xhat` at `x` along `gy`: through the difference, the variance and the mean. -/
def lnVjp (q : Fin 1024) : EReal :=
  gy q * rstd x + viaVar gy x q + Ideal.div (∑ k, -(gy k * rstd x) + ∑ k, -(viaVar gy x k)) width
end

theorem lnBwd_eq {gy x : Fin 1024 → EReal} (hg : ∀ k, IsReal (gy k)) (hx : ∀ k, IsReal (x k)) (q : Fin 1024) : lnBwd gy x q = lnVjp gy x q := by
  choose a ha using hx
  choose b hb using hg
  obtain rfl : x = fun k => (a k : EReal) := funext ha
  obtain rfl : gy = fun k => (b k : EReal) := funext hb
  obtain ⟨e, h, he⟩ := eps_pos
  have hv := rVar_pos a e h
  unfold lnBwd lnVjp viaVar xhat
  have hvar := var_coe a e he
  simp only [cen_coe] at hvar
  simp only [rstd_coe a e he h, cen_coe, hvar]
  simp only [Ideal.div_coe hv.ne', negHalf_eq, two_eq, mean_coe, ← EReal.coe_mul, ← EReal.coe_sub, ← EReal.coe_add, ← EReal.coe_neg, coe_sum, div_width]
  congr 1
  generalize hs : (√(rVar a e))⁻¹ = s
  have hss : s * s = 1 / rVar a e := by
    rw [← hs, ← mul_inv, Real.mul_self_sqrt hv.le, one_div]
  rw [← hss]
  unfold rMean
  have e1 : ∑ k, b k * (rCen a k * s) = s * ∑ k, rCen a k * b k := by
    rw [Finset.mul_sum]; exact Finset.sum_congr rfl fun k _ => by ring
  have e2 : ∑ k, -(b k * s) = -(s * ∑ k, b k) := by
    rw [Finset.mul_sum, Finset.sum_neg_distrib]; congr 1; exact Finset.sum_congr rfl fun k _ => by ring
  rw [e1, e2]
  generalize ∑ k, rCen a k * b k = T
  have e3 : ∑ k, -(T * (-(1 / 2) * (s * (s * s))) / 1024 * (2 * rCen a k)) = 0 := by
    rw [← mul_zero (-(T * (-(1 / 2) * (s * (s * s))) / 1024 * 2)), ← sum_rCen a, Finset.mul_sum]
    exact Finset.sum_congr rfl fun k _ => by ring
  rw [e3]
  ring

end Cert.Spec
-- ==== Proof.RefA.lean ====
module

public import proofs.«01_k».proof.Proof.Gen.ReferenceIdeal.Read
public import proofs.«01_k».proof.Proof.Ln

/-! The reference's values at an index. -/

@[expose] public section
noncomputable section
namespace Cert.ReferenceIdeal.RefA
open Cert.ReferenceIdeal Cert.ReferenceIdeal.Gen Cert.ReferenceIdeal.Read Idealize.ShloMosaic Idealize.ShloMosaic.TcCoe Idealize.ShloMosaic.StableHlo Cert.Spec

variable (x0 : (⟨S4224x1024, .f32⟩ : BufTy).Contents (Elt Ideal)) (x1 x2 : (⟨S1x1024, .f32⟩ : BufTy).Contents (Elt Ideal))
  (x3 : (⟨S1024x4096, .f32⟩ : BufTy).Contents (Elt Ideal)) (x4 : (⟨S4096x1024, .f32⟩ : BufTy).Contents (Elt Ideal))
  (x5 : (⟨S4224x1024, .f32⟩ : BufTy).Contents (Elt Ideal))

/-- Row `r` of the layer's input before the norm. -/
abbrev P (r : Fin 4224) (k : Fin 1024) : EReal := x0 (ix2 r k)

theorem v14_eq (r : Fin 4224) (q : Fin 1024) : val_main_v14 (F := Ideal) x0 (ix2 r q) = cen (P x0 r) q := by
  unfold val_main_v14 val_main_v13 val_main_v3 val_main_v2 val_main_v1 val_main_v0 val_main_cst val_main_cst_0
  pointwise
  rfl

theorem v5_eq (r : Fin 4224) (q : Fin 1024) : val_main_v5 (F := Ideal) x0 (ix2 r q) = cen (P x0 r) q := v14_eq x0 r q

theorem v17_eq (r : Fin 4224) : val_main_v17 (F := Ideal) x0 (ix2 r 0) = rstd (P x0 r) := by
  unfold val_main_v17 val_main_v16 val_main_v15 val_main_v12 val_main_v11 val_main_v10 val_main_v9 val_main_v6 val_main_cst_4 val_main_cst_3 val_main_cst_2
  pointwise
  simp only [v5_eq]
  rfl

theorem v22_eq (r : Fin 4224) (q : Fin 1024) : val_main_v22 (F := Ideal) x0 (ix2 r q) = xhat (P x0 r) q := by
  unfold val_main_v22 val_main_v21
  pointwise
  rw [v14_eq, v17_eq]
  rfl

/-- The norm of row `r`. -/
abbrev N (r : Fin 4224) (k : Fin 1024) : EReal := xhat (P x0 r) k * x1 (ix2 0 k) + x2 (ix2 0 k)
/-- The hidden units before `relu`. -/
abbrev H (r : Fin 4224) (k : Fin 4096) : EReal := ∑ x, N x0 x1 x2 r x * x3 (ix2 x k)
/-- The gradient at the norm. -/
abbrev dS (r : Fin 4224) (q : Fin 1024) : EReal :=
  alpha * x5 (ix2 r q) + ∑ k, dhid (fun r x => x5 (ix2 r x)) (H x0 x1 x2 x3) (fun k x => x4 (ix2 k x)) r k * x3 (ix2 q k)

theorem v27_eq (r : Fin 4224) (k : Fin 4096) : val_main_v27 (F := Ideal) x0 x1 x2 x3 (ix2 r k) = H x0 x1 x2 x3 r k := by
  unfold val_main_v27 val_main_v26 val_main_v25 val_main_v24 val_main_v23
  pointwise
  simp only [v22_eq]

theorem v46_eq (r : Fin 4224) (k : Fin 4096) : val_main_v46 (F := Ideal) x0 x1 x2 x3 x4 x5 (ix2 r k)
    = dhid (fun r x => x5 (ix2 r x)) (H x0 x1 x2 x3) (fun k x => x4 (ix2 k x)) r k := by
  unfold val_main_v46 val_main_v45 val_main_v44 val_main_v43 val_main_v34 val_main_v33 val_main_v30 val_main_v29 val_main_cst_11 val_main_cst_8 val_main_cst_6 val_main_v40 val_main_v28 val_main_call0_v0 val_main_call0_cst
  pointwise
  simp only [v27_eq]
  unfold dhid
  split_ifs with h
  · rfl
  · rw [max_eq_right (not_lt.1 h), mul_zero, mul_zero]

theorem v48_eq (r : Fin 4224) (q : Fin 1024) : val_main_v48 (F := Ideal) x0 x1 x2 x3 x4 x5 (ix2 r q) = dS x0 x1 x2 x3 x4 x5 r q := by
  unfold val_main_v48 val_main_v47 val_main_v42 val_main_v41 val_main_v39 val_main_cst_10
  pointwise
  simp only [v46_eq]

theorem v50_eq (q : Fin 1024) : val_main_v50 (F := Ideal) x0 x1 x2 x3 x4 x5 (ix2 0 q) = ∑ r, dS x0 x1 x2 x3 x4 x5 r q := by
  unfold val_main_v50 val_main_v49 val_main_cst_12
  pointwise
  simp only [v48_eq]

theorem v53_eq (q : Fin 1024) : val_main_v53 (F := Ideal) x0 x1 x2 x3 x4 x5 (ix2 0 q) = ∑ r, xhat (P x0 r) q * dS x0 x1 x2 x3 x4 x5 r q := by
  unfold val_main_v53 val_main_v52 val_main_v51 val_main_cst_13
  pointwise
  simp only [v48_eq, v22_eq]

theorem v55_eq (r : Fin 4224) (q : Fin 1024) : val_main_v55 (F := Ideal) x0 x1 x2 x3 x4 x5 (ix2 r q) = dS x0 x1 x2 x3 x4 x5 r q * x1 (ix2 0 q) := by
  unfold val_main_v55 val_main_v54
  pointwise
  rw [v48_eq]

theorem v60_eq (r : Fin 4224) (q : Fin 1024) : val_main_v60 (F := Ideal) x0 x1 x2 x3 x4 x5 (ix2 r q) = dS x0 x1 x2 x3 x4 x5 r q * x1 (ix2 0 q) * rstd (P x0 r) := by
  unfold val_main_v60 val_main_v59
  pointwise
  rw [v55_eq, v17_eq]

theorem v69_eq (r : Fin 4224) (q : Fin 1024) : val_main_v69 (F := Ideal) x0 x1 x2 x3 x4 x5 (ix2 r q)
    = viaVar (fun k => dS x0 x1 x2 x3 x4 x5 r k * x1 (ix2 0 k)) (P x0 r) q := by
  unfold val_main_v69 val_main_v68 val_main_v67 val_main_v66 val_main_v65 val_main_v61 val_main_v58 val_main_v57 val_main_v56 val_main_v20 val_main_v19 val_main_v18 val_main_v16 val_main_v15 val_main_v12 val_main_v11 val_main_v10 val_main_v9 val_main_v6 val_main_v8 val_main_v7 val_main_cst_17 val_main_cst_16 val_main_cst_14 val_main_cst_5 val_main_cst_1 val_main_cst_4 val_main_cst_3 val_main_cst_2
  pointwise
  rw [Fin.sum_univ_one]
  simp only [v55_eq, v5_eq, v14_eq, v17_eq]
  rfl

theorem v79_eq (r : Fin 4224) (q : Fin 1024) : val_main_v79 (F := Ideal) x0 x1 x2 x3 x4 x5 (ix2 r q)
    = lnVjp (fun k => dS x0 x1 x2 x3 x4 x5 r k * x1 (ix2 0 k)) (P x0 r) q := by
  unfold val_main_v79 val_main_v78 val_main_v77 val_main_v76 val_main_v75 val_main_v74 val_main_v73 val_main_v72 val_main_v71 val_main_v70 val_main_v64 val_main_v63 val_main_v62 val_main_cst_20 val_main_cst_19 val_main_cst_18 val_main_cst_15
  pointwise
  rw [Fin.sum_univ_one]
  simp only [v60_eq, v69_eq]
  rfl

end Cert.ReferenceIdeal.RefA
-- ==== Proof.Finite.lean ====
module

public import proofs.«01_k».proof.Proof.Ln
public import Idealize.ShloMosaic.Lib.ReduceAll

/-! What a finiteness check says of an array's entries. -/

@[expose] public section
noncomputable section
namespace Cert.Spec
open Idealize.ShloMosaic

/-- An array all of whose absolute values are under infinity has real entries. -/
theorem real_of_all {s t u : Shape} {axes : List (Fin s.rank)} [Subsingleton t.Idx] (x : FVec Ideal s .f32) (y : FVec Ideal s .f32) (hy : ∀ i, y i = Ideal.ofBits .f32 0x7F800000#32)
    (init : u.Idx → BitVec 1) (h : s.ReducesTo axes t) (hu : 0 < u.numel) (j : t.Idx)
    (e : Host.reduce IntOp.andi (cmpf .olt (Host.absf x) y) init h hu j = 1#1) (i : s.Idx) : IsReal (x i) := by
  have := Host.reduce_andi_all _ _ _ _ _ e i
  revert this
  pointwise
  rw [hy i, show Ideal.ofBits .f32 0x7F800000#32 = (⊤ : EReal) by simp [Ideal.ofBits, Ideal.ieee]]
  intro h
  refine IsReal.of_abs (show FloatOps.absf (x i) < (⊤ : EReal) from ?_)
  by_contra hn
  rw [decide_eq_false hn] at h
  exact absurd h (by decide)

end Cert.Spec
-- ==== Proof.PreA.lean ====
module

public import proofs.«01_k».proof.Proof.Gen.Pre_finite
public import proofs.«01_k».proof.Proof.Finite

/-! Under the precondition every argument's entries are real. -/

@[expose] public section
noncomputable section
namespace Cert.Pre_finite
open Idealize.ShloMosaic Cert.Spec Cert.Pre_finite.Gen

variable (x0 : FVec Ideal S4224x1024 .f32) (x1 x2 : FVec Ideal S1x1024 .f32) (x3 : FVec Ideal S1024x4096 .f32) (x4 : FVec Ideal S4096x1024 .f32) (x5 : FVec Ideal S4224x1024 .f32)

theorem real_args (h : ∀ i, fn (F := Ideal) x0 x1 x2 x3 x4 x5 i = 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) := by
  have h := h ix0
  unfold fn fn_part1 at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all _ _ (fun _ => rfl) _ _ _ _ h0, real_of_all _ _ (fun _ => rfl) _ _ _ _ h1, real_of_all _ _ (fun _ => rfl) _ _ _ _ h2,
    real_of_all _ _ (fun _ => rfl) _ _ _ _ h3, real_of_all _ _ (fun _ => rfl) _ _ _ _ h4, real_of_all _ _ (fun _ => rfl) _ _ _ _ h5⟩

end Cert.Pre_finite
-- ==== Proof.ClaimA.lean ====
module

public import proofs.«01_k».proof.Defs
public import proofs.«01_k».proof.Proof.ValueA
public import proofs.«01_k».proof.Proof.HostA
public import proofs.«01_k».proof.Proof.RefA
public import proofs.«01_k».proof.Proof.PreA
public import proofs.«01_k».proof.Proof.Gen.Kernel.Frame
public import proofs.«01_k».proof.Proof.Gen.KernelIdeal.Frame

/-! The kernel of the activations' gradient computes what the reference computes. -/

@[expose] public section
noncomputable section
namespace Cert.ClaimA
open Idealize.ShloMosaic Idealize.ShloMosaic.TcCoe Idealize.SL.Sem Cert.Spec Cert.KernelIdeal Cert.KernelIdeal.StepA

variable (m : (ℓ : Loc nD τ sig) → Buf (Elt Ideal) ℓ) (c : Dev nD)

abbrev A0 : (⟨S4224x1024, .f32⟩ : BufTy).Contents (Elt Ideal) := m ((c.tc : Thread nD τ).loc main_arg0)
abbrev A1 : (⟨S1x1024, .f32⟩ : BufTy).Contents (Elt Ideal) := m ((c.tc : Thread nD τ).loc main_arg1)
abbrev A2 : (⟨S1x1024, .f32⟩ : BufTy).Contents (Elt Ideal) := m ((c.tc : Thread nD τ).loc main_arg2)
abbrev A3 : (⟨S1024x4096, .f32⟩ : BufTy).Contents (Elt Ideal) := m ((c.tc : Thread nD τ).loc main_arg3)
abbrev A4 : (⟨S4096x1024, .f32⟩ : BufTy).Contents (Elt Ideal) := m ((c.tc : Thread nD τ).loc main_arg4)
abbrev A5 : (⟨S4224x1024, .f32⟩ : BufTy).Contents (Elt Ideal) := m ((c.tc : Thread nD τ).loc main_arg5)

theorem dS_eq (r : Fin 4224) (q : Fin 1024) :
    StepA.dS m c r q = ReferenceIdeal.RefA.dS (A0 m c) (A1 m c) (A2 m c) (A3 m c) (A4 m c) (A5 m c) r q := by
  have hC : aC m c = fun r q => A5 m c (ix2 r q) := funext fun r => funext fun q => aC_eq m c r q
  have hD : aD m c = fun r q => A5 m c (ix2 r q) := funext fun r => funext fun q => aD_eq m c r q
  have hH : aH m c = ReferenceIdeal.RefA.H (A0 m c) (A1 m c) (A2 m c) (A3 m c) := funext fun r => funext fun k => aH_eq m c r k
  have hW : aW2 m c = fun k q => A4 m c (ix2 k q) := funext fun k => funext fun q => aW2_eq m c k q
  unfold StepA.dS
  rw [dsum_eq _ _ _ _ _ (fun q k => A3 m c (ix2 q k)) (aW1_eq m c), hC, hD, hH, hW]

theorem dS_real (h0 : ∀ i, IsReal (A0 m c i)) (h1 : ∀ i, IsReal (A1 m c i)) (h2 : ∀ i, IsReal (A2 m c i)) (h3 : ∀ i, IsReal (A3 m c i))
    (h4 : ∀ i, IsReal (A4 m c i)) (h5 : ∀ i, IsReal (A5 m c i)) (r : Fin 4224) (q : Fin 1024) :
    IsReal (ReferenceIdeal.RefA.dS (A0 m c) (A1 m c) (A2 m c) (A3 m c) (A4 m c) (A5 m c) r q) :=
  (alpha_real.mul (h5 _)).add (IsReal.sum fun k => ((IsReal.sum fun x => (h5 _).mul (h4 _)).mul (IsReal.mul ⟨2, two_eq⟩
    ((IsReal.sum fun x => (((xhat_real (fun k => h0 _) x).mul (h1 _)).add (h2 _)).mul (h3 _)).maxOf IsReal.zero))).mul (h3 _))

/-- The three results, index by index. -/
theorem out0 (h0 : ∀ i, IsReal (A0 m c i)) (h1 : ∀ i, IsReal (A1 m c i)) (h2 : ∀ i, IsReal (A2 m c i)) (h3 : ∀ i, IsReal (A3 m c i))
    (h4 : ∀ i, IsReal (A4 m c i)) (h5 : ∀ i, IsReal (A5 m c i)) :
    ReferenceIdeal.Read.val_main_v79 (F := Ideal) (A0 m c) (A1 m c) (A2 m c) (A3 m c) (A4 m c) (A5 m c) = Value.G8 m c := by
  funext i
  obtain ⟨r, q, rfl⟩ : ∃ r q, i = ix2 r q := ⟨_, _, ValueIdx.eq_ix2 i⟩
  rw [ReferenceIdeal.RefA.v79_eq]
  refine Eq.trans ?_ (G8_apply m c r q).symm
  have hP : aP m c r = ReferenceIdeal.RefA.P (A0 m c) r := funext fun k => aP_eq m c r k
  simp only [dS_eq, aG_eq, hP]
  exact (lnBwd_eq (fun k => (dS_real m c h0 h1 h2 h3 h4 h5 r k).mul (h1 _)) (fun k => h0 _) q).symm

theorem out1 : ReferenceIdeal.Read.val_main_v53 (F := Ideal) (A0 m c) (A1 m c) (A2 m c) (A3 m c) (A4 m c) (A5 m c) = Value.G9 m c := by
  funext i
  obtain ⟨r, q, rfl⟩ : ∃ r q, i = ix2 r q := ⟨_, _, ValueIdx.eq_ix2 i⟩
  obtain rfl := Subsingleton.elim r 0
  rw [ReferenceIdeal.RefA.v53_eq]
  refine Eq.trans ?_ (G9_apply m c q).symm
  refine Finset.sum_congr rfl fun r _ => ?_
  have hP : aP m c r = ReferenceIdeal.RefA.P (A0 m c) r := funext fun k => aP_eq m c r k
  rw [dS_eq, hP, mul_comm]

theorem out2 : ReferenceIdeal.Read.val_main_v50 (F := Ideal) (A0 m c) (A1 m c) (A2 m c) (A3 m c) (A4 m c) (A5 m c) = Value.G10 m c := by
  funext i
  obtain ⟨r, q, rfl⟩ : ∃ r q, i = ix2 r q := ⟨_, _, ValueIdx.eq_ix2 i⟩
  obtain rfl := Subsingleton.elim r 0
  rw [ReferenceIdeal.RefA.v50_eq]
  refine Eq.trans ?_ (G10_apply m c q).symm
  exact Finset.sum_congr rfl fun r _ => (dS_eq m c r q).symm

theorem algebraic : Cert.algebraic_KernelIdeal_ReferenceIdeal_pre_finite := by
  intro m g m' g' hpre hargs
  refine ⟨fun c => Value.G8 m c, fun c => Value.G9 m c, fun c => Value.G10 m c, ?_, ?_⟩
  · refine (θ_run _ _ _).mono ?_ (Value.run m g)
    exact fun r h c => (h c).2
  · refine (θ_run _ _ _).mono ?_ (ReferenceIdeal.Value.run m' g')
    intro r h c
    obtain ⟨e0, e1, e2, hk⟩ := h c
    obtain ⟨a0, a1, a2, a3, a4, a5⟩ := hargs c
    obtain ⟨h0, h1, h2, h3, h4, h5⟩ := Pre_finite.real_args _ _ _ _ _ _ (fun i => congrFun (hpre c) i)
    refine ⟨e0.trans ?_, e1.trans ?_, e2.trans ?_, hk⟩
    · rw [ReferenceIdeal.Read.val_main_v79_eq, a0, a1, a2, a3, a4, a5]; exact out0 m c h0 h1 h2 h3 h4 h5
    · rw [ReferenceIdeal.Read.val_main_v53_eq, a0, a1, a2, a3, a4, a5]; exact out1 m c
    · rw [ReferenceIdeal.Read.val_main_v50_eq, a0, a1, a2, a3, a4, a5]; exact out2 m c

end Cert.ClaimA
-- ==== Proof.StepB.lean ====
module

public import proofs.«01_k».proof.Proof.Gen.Kernel2Ideal.Value
public import proofs.«01_k».proof.Proof.Spec
public import Idealize.ShloMosaic.Lib.Pipeline.ReadBack

/-! What the kernel of the weights' gradient leaves after each grid point, read at an index. -/

@[expose] public section
noncomputable section
namespace Cert.Kernel2Ideal.StepB
open Cert.Kernel2Ideal Cert.Kernel2Ideal.Gen Idealize.ShloMosaic Idealize.ShloMosaic.TcCoe Idealize.SL.Sem Cert.Spec

variable (m : (ℓ : Loc nD τ sig) → Buf (Elt Ideal) ℓ)

theorem hz : (![0, 0] : Fin 2 → Nat) = fun _ => 0 := by decide
theorem hz3 : (![0, 0, 0] : Fin 3 → Nat) = fun _ => 0 := by decide

/-! ## The arrays the windows are cut from, and the blocks -/

def aS (c : Dev nD) (r : Fin 4224) (q : Fin 1024) : EReal := V m c (Pipeline.arrRef spec0 0) (ix2 r q)
def aH (c : Dev nD) (r : Fin 4224) (k : Fin 4096) : EReal := V m c (Pipeline.arrRef spec0 1) (ix2 r k)
def aE (c : Dev nD) (r : Fin 4224) (k : Fin 4096) : EReal := V m c (Pipeline.arrRef spec0 2) (ix2 r k)
def aD (c : Dev nD) (r : Fin 4224) (q : Fin 1024) : EReal := V m c (Pipeline.arrRef spec0 3) (ix2 r q)

theorem lt24 (t : Fin cfg0.N) : t.val < 24 := lt_of_lt_of_eq t.isLt N_0

/-- Row `p` of point `t`'s block of rows. -/
def row (t : Fin cfg0.N) (p : Fin 704) : Fin 4224 := ⟨704 * (t.val % 6) + p.val, by omega⟩
/-- Hidden unit `x` of point `t`'s block of hidden units. -/
def unit (t : Fin cfg0.N) (x : Fin 1024) : Fin 4096 := ⟨1024 * (t.val / 6) + x.val, by have := lt24 t; omega⟩

def bS (c : Dev nD) (t : Fin cfg0.N) (p : Fin 704) (q : Fin 1024) : EReal := iblk m c 0 t (ix2 p q)
def bH (c : Dev nD) (t : Fin cfg0.N) (p : Fin 704) (x : Fin 1024) : EReal := iblk m c 1 t (ix2 p x)
def bE (c : Dev nD) (t : Fin cfg0.N) (p : Fin 704) (x : Fin 1024) : EReal := iblk m c 2 t (ix2 p x)
def bD (c : Dev nD) (t : Fin cfg0.N) (p : Fin 704) (q : Fin 1024) : EReal := iblk m c 3 t (ix2 p q)

theorem idx (t : Fin cfg0.N) : (win0_0.index t (0 : Fin 2) = t.val % 6 ∧ win0_0.index t (1 : Fin 2) = 0)
    ∧ (win0_1.index t (0 : Fin 2) = t.val % 6 ∧ win0_1.index t (1 : Fin 2) = t.val / 6)
    ∧ (win0_2.index t (0 : Fin 2) = t.val % 6 ∧ win0_2.index t (1 : Fin 2) = t.val / 6)
    ∧ (win0_3.index t (0 : Fin 2) = t.val % 6 ∧ win0_3.index t (1 : Fin 2) = 0) :=
  (by decide +kernel : ∀ t : Fin grid0.N, (win0_0.index t (0 : Fin 2) = t.val % 6 ∧ win0_0.index t (1 : Fin 2) = 0)
    ∧ (win0_1.index t (0 : Fin 2) = t.val % 6 ∧ win0_1.index t (1 : Fin 2) = t.val / 6)
    ∧ (win0_2.index t (0 : Fin 2) = t.val % 6 ∧ win0_2.index t (1 : Fin 2) = t.val / 6)
    ∧ (win0_3.index t (0 : Fin 2) = t.val % 6 ∧ win0_3.index t (1 : Fin 2) = 0)) t

theorem iblk0 (c : Dev nD) (t : Fin cfg0.N) (p : Fin 704) (q : Fin 1024) : bS m c t p q = aS m c (row t p) q := by
  refine congrArg (V m c (Pipeline.arrRef spec0 0)) (funext fun a => Fin.ext ?_)
  obtain ⟨⟨e0, e1⟩, -⟩ := idx t
  match a with
  | ⟨0, _⟩ => show win0_0.index t (0 : Fin 2) * 704 + 1 * p.val = 704 * (t.val % 6) + p.val; omega
  | ⟨1, _⟩ => show win0_0.index t (1 : Fin 2) * 1024 + 1 * q.val = q.val; omega

theorem iblk1 (c : Dev nD) (t : Fin cfg0.N) (p : Fin 704) (x : Fin 1024) : bH m c t p x = aH m c (row t p) (unit t x) := by
  refine congrArg (V m c (Pipeline.arrRef spec0 1)) (funext fun a => Fin.ext ?_)
  obtain ⟨-, ⟨e0, e1⟩, -⟩ := idx t
  match a with
  | ⟨0, _⟩ => show win0_1.index t (0 : Fin 2) * 704 + 1 * p.val = 704 * (t.val % 6) + p.val; omega
  | ⟨1, _⟩ => show win0_1.index t (1 : Fin 2) * 1024 + 1 * x.val = 1024 * (t.val / 6) + x.val; omega

theorem iblk2 (c : Dev nD) (t : Fin cfg0.N) (p : Fin 704) (x : Fin 1024) : bE m c t p x = aE m c (row t p) (unit t x) := by
  refine congrArg (V m c (Pipeline.arrRef spec0 2)) (funext fun a => Fin.ext ?_)
  obtain ⟨-, -, ⟨e0, e1⟩, -⟩ := idx t
  match a with
  | ⟨0, _⟩ => show win0_2.index t (0 : Fin 2) * 704 + 1 * p.val = 704 * (t.val % 6) + p.val; omega
  | ⟨1, _⟩ => show win0_2.index t (1 : Fin 2) * 1024 + 1 * x.val = 1024 * (t.val / 6) + x.val; omega

theorem iblk3 (c : Dev nD) (t : Fin cfg0.N) (p : Fin 704) (q : Fin 1024) : bD m c t p q = aD m c (row t p) q := by
  refine congrArg (V m c (Pipeline.arrRef spec0 3)) (funext fun a => Fin.ext ?_)
  obtain ⟨-, -, -, ⟨e0, e1⟩⟩ := idx t
  match a with
  | ⟨0, _⟩ => show win0_3.index t (0 : Fin 2) * 704 + 1 * p.val = 704 * (t.val % 6) + p.val; omega
  | ⟨1, _⟩ => show win0_3.index t (1 : Fin 2) * 1024 + 1 * q.val = q.val; omega

/-! ## A buffer of two slices, stored one slice after the other -/

section
variable {a b : ℕ}

theorem emb_hi (inb) (q : Fin a) (x : Fin b) :
    (Rect.unit (s := (⟨3, ![2, a, b]⟩ : Shape)) ![1, 0, 0] ![1, a, b] inb).emb (ix3 0 q x) = ix3 (1 : Fin 2) q x := by
  funext k; apply Fin.ext
  match k with
  | ⟨0, _⟩ => rfl
  | ⟨1, _⟩ => show 0 + 1 * q.val = q.val; omega
  | ⟨2, _⟩ => show 0 + 1 * x.val = x.val; omega

theorem emb_lo (inb) (q : Fin a) (x : Fin b) :
    (Rect.unit (s := (⟨3, ![2, a, b]⟩ : Shape)) ![0, 0, 0] ![1, a, b] inb).emb (ix3 0 q x) = ix3 (0 : Fin 2) q x := by
  funext k; apply Fin.ext
  match k with
  | ⟨0, _⟩ => rfl
  | ⟨1, _⟩ => show 0 + 1 * q.val = q.val; omega
  | ⟨2, _⟩ => show 0 + 1 * x.val = x.val; omega

theorem canon_hi (inb) (w : (⟨3, ![1, a, b]⟩ : Shape).Idx → EReal) (L : List (View.Piece (Elt Ideal) (⟨3, ![2, a, b]⟩ : Shape) .f32)) (q : Fin a) (x : Fin b) :
    View.canon ((⟨Rect.unit (s := (⟨3, ![2, a, b]⟩ : Shape)) ![1, 0, 0] ![1, a, b] inb, w⟩ : View.Piece (Elt Ideal) _ .f32) :: L) (ix3 1 q x) = w (ix3 0 q x) := by
  rw [← emb_hi inb q x]; exact View.canon_cons_emb (Val := Elt Ideal) (e := .f32) (Rect.unit (s := (⟨3, ![2, a, b]⟩ : Shape)) ![1, 0, 0] ![1, a, b] inb) w L _

theorem canon_lo (inb inb') (w w' : (⟨3, ![1, a, b]⟩ : Shape).Idx → EReal) (L : List (View.Piece (Elt Ideal) (⟨3, ![2, a, b]⟩ : Shape) .f32)) (q : Fin a) (x : Fin b) :
    View.canon ((⟨Rect.unit (s := (⟨3, ![2, a, b]⟩ : Shape)) ![1, 0, 0] ![1, a, b] inb', w'⟩ : View.Piece (Elt Ideal) _ .f32)
      :: (⟨Rect.unit (s := (⟨3, ![2, a, b]⟩ : Shape)) ![0, 0, 0] ![1, a, b] inb, w⟩ : View.Piece (Elt Ideal) _ .f32) :: L) (ix3 0 q x) = w (ix3 0 q x) := by
  rw [View.canon_cons_of_not_mem]
  · rw [← emb_lo inb q x]; exact View.canon_cons_emb (Val := Elt Ideal) (e := .f32) (Rect.unit (s := (⟨3, ![2, a, b]⟩ : Shape)) ![0, 0, 0] ![1, a, b] inb) w L _
  · intro h
    have := ((Rect.mem_set_unit (s := (⟨3, ![2, a, b]⟩ : Shape)) (off := ![1, 0, 0]) (size := ![1, a, b]) (inb := inb')).mp h (0 : Fin 3)).1
    exact absurd this (by show ¬ 1 ≤ 0; omega)
end

/-! ## What a point adds to the two slices of each sum -/

/-- Hidden unit `x` of slice `s` of a block. -/
def hid (s : Fin 2) (x : Fin 512) : Fin 1024 := ⟨512 * s.val + x.val, by omega⟩

def add1 (c : Dev nD) (t : Fin cfg0.N) (s : Fin 2) (q : Fin 1024) (x : Fin 512) : EReal :=
  ∑ p, bS m c t p q * bE m c t p (hid s x)
def add2 (c : Dev nD) (t : Fin cfg0.N) (s : Fin 2) (x : Fin 512) (q : Fin 1024) : EReal :=
  ∑ p, (max (bH m c t p (hid s x)) 0 * max (bH m c t p (hid s x)) 0) * bD m c t p q

theorem hid_lo (x : Fin 512) : (⟨x.val, by omega⟩ : Fin 1024) = hid 0 x := Fin.ext (show x.val = 512 * 0 + x.val by omega)
theorem hid_hi (x : Fin 512) : (⟨512 + x.val, by omega⟩ : Fin 1024) = hid 1 x := Fin.ext (show 512 + x.val = 512 * 1 + x.val by omega)

/-- What the point before `t` left. -/
abbrev prev (c : Dev nD) (t : Fin cfg0.N) := outsAt0 m c (t.val - 1) (Nat.lt_of_le_of_lt (Nat.sub_le ..) t.isLt)

theorem acc1_A (c : Dev nD) (t : Fin cfg0.N) (h0 : t.val % 6 = 0) (h1 : ¬t.val % 6 = 5) (q : Fin 1024) (x : Fin 512) :
    (outsAt0 m c t.val t.isLt).2.2.1 (ix3 0 q x) = 0 + add1 m c t 0 q x
      ∧ (outsAt0 m c t.val t.isLt).2.2.1 (ix3 1 q x) = 0 + add1 m c t 1 q x := by
  rw [outsAt0_A m c t h0 h1]
  dsimp only
  unfold sout0_A_0
  rw [View.read_writes_eq_canon _ _ _ (fun y => scover0_A_0 (y := y) ..)]
  unfold kernelRun0_A; dsimp only
  sl_unfold_words
  dsimp only
  simp only [View.readAt_eq_ld, View.ld_unit_zero (S := S704x1024) hz, shapeCast_self, (hs0_0 t).read_unread, (hs0_1 t).read_unread,
    (hs0_2 t).read_unread, (hs0_3 t).read_unread, (Memref.isWhole_whole _).read_unread]
  simp (decide := true) only [↓View.readCov_skip, View.readCov_fill]
  unfold add1
  rw [← hid_lo x, ← hid_hi x]
  constructor
  · refine (canon_lo ..).trans ?_
    unfold_payloads
    pointwise
    rfl
  · refine (canon_hi ..).trans ?_
    unfold_payloads
    pointwise
    rfl

theorem acc1_B (c : Dev nD) (t : Fin cfg0.N) (h0 : ¬t.val % 6 = 0) (h1 : ¬t.val % 6 = 5) (q : Fin 1024) (x : Fin 512) :
    (outsAt0 m c t.val t.isLt).2.2.1 (ix3 0 q x) = (prev m c t).2.2.1 (ix3 0 q x) + add1 m c t 0 q x
      ∧ (outsAt0 m c t.val t.isLt).2.2.1 (ix3 1 q x) = (prev m c t).2.2.1 (ix3 1 q x) + add1 m c t 1 q x := by
  rw [outsAt0_B m c t h0 h1]
  dsimp only
  unfold sout0_B_0
  rw [View.read_writes_eq_canon _ _ _ (fun y => scover0_B_0 (y := y) ..)]
  unfold kernelRun0_B; dsimp only
  sl_unfold_words
  dsimp only
  simp only [View.readAt_eq_ld, View.ld_unit_zero (S := S704x1024) hz, shapeCast_self, (hs0_0 t).read_unread, (hs0_1 t).read_unread,
    (hs0_2 t).read_unread, (hs0_3 t).read_unread, (Memref.isWhole_whole _).read_unread]
  unfold add1
  rw [← hid_lo x, ← hid_hi x]
  constructor
  · refine (canon_lo ..).trans ?_
    unfold_payloads
    pointwise
    rfl
  · refine (canon_hi ..).trans ?_
    unfold_payloads
    pointwise
    rfl

theorem acc1_C (c : Dev nD) (t : Fin cfg0.N) (h0 : ¬t.val % 6 = 0) (h1 : t.val % 6 = 5) (q : Fin 1024) (x : Fin 512) :
    (outsAt0 m c t.val t.isLt).2.2.1 (ix3 0 q x) = (prev m c t).2.2.1 (ix3 0 q x) + add1 m c t 0 q x
      ∧ (outsAt0 m c t.val t.isLt).2.2.1 (ix3 1 q x) = (prev m c t).2.2.1 (ix3 1 q x) + add1 m c t 1 q x := by
  rw [outsAt0_C m c t h0 h1]
  dsimp only
  unfold sout0_C_0
  rw [View.read_writes_eq_canon _ _ _ (fun y => scover0_C_0 (y := y) ..)]
  unfold kernelRun0_C; dsimp only
  sl_unfold_words
  dsimp only
  simp only [View.readAt_eq_ld, View.ld_unit_zero (S := S704x1024) hz, shapeCast_self, (hs0_0 t).read_unread, (hs0_1 t).read_unread,
    (hs0_2 t).read_unread, (hs0_3 t).read_unread, (Memref.isWhole_whole _).read_unread]
  unfold add1
  rw [← hid_lo x, ← hid_hi x]
  constructor
  · refine (canon_lo ..).trans ?_
    unfold_payloads
    pointwise
    rfl
  · refine (canon_hi ..).trans ?_
    unfold_payloads
    pointwise
    rfl

theorem acc2_A (c : Dev nD) (t : Fin cfg0.N) (h0 : t.val % 6 = 0) (h1 : ¬t.val % 6 = 5) (x : Fin 512) (q : Fin 1024) :
    (outsAt0 m c t.val t.isLt).2.2.2 (ix3 0 x q) = 0 + add2 m c t 0 x q
      ∧ (outsAt0 m c t.val t.isLt).2.2.2 (ix3 1 x q) = 0 + add2 m c t 1 x q := by
  rw [outsAt0_A m c t h0 h1]
  dsimp only
  unfold sout0_A_1
  rw [View.read_writes_eq_canon _ _ _ (fun y => scover0_A_1 (y := y) ..)]
  unfold kernelRun0_A; dsimp only
  sl_unfold_words
  dsimp only
  simp only [View.readAt_eq_ld, View.ld_unit_zero (S := S704x1024) hz, shapeCast_self, (hs0_0 t).read_unread, (hs0_1 t).read_unread,
    (hs0_2 t).read_unread, (hs0_3 t).read_unread, (Memref.isWhole_whole _).read_unread]
  simp (decide := true) only [↓View.readCov_skip, View.readCov_fill]
  unfold add2
  rw [← hid_lo x, ← hid_hi x]
  constructor
  · refine (canon_lo ..).trans ?_
    unfold_payloads
    pointwise
    rfl
  · refine (canon_hi ..).trans ?_
    unfold_payloads
    pointwise
    rfl

theorem acc2_B (c : Dev nD) (t : Fin cfg0.N) (h0 : ¬t.val % 6 = 0) (h1 : ¬t.val % 6 = 5) (x : Fin 512) (q : Fin 1024) :
    (outsAt0 m c t.val t.isLt).2.2.2 (ix3 0 x q) = (prev m c t).2.2.2 (ix3 0 x q) + add2 m c t 0 x q
      ∧ (outsAt0 m c t.val t.isLt).2.2.2 (ix3 1 x q) = (prev m c t).2.2.2 (ix3 1 x q) + add2 m c t 1 x q := by
  rw [outsAt0_B m c t h0 h1]
  dsimp only
  unfold sout0_B_1
  rw [View.read_writes_eq_canon _ _ _ (fun y => scover0_B_1 (y := y) ..)]
  unfold kernelRun0_B; dsimp only
  sl_unfold_words
  dsimp only
  simp only [View.readAt_eq_ld, View.ld_unit_zero (S := S704x1024) hz, shapeCast_self, (hs0_0 t).read_unread, (hs0_1 t).read_unread,
    (hs0_2 t).read_unread, (hs0_3 t).read_unread, (Memref.isWhole_whole _).read_unread]
  unfold add2
  rw [← hid_lo x, ← hid_hi x]
  constructor
  · refine (canon_lo ..).trans ?_
    unfold_payloads
    pointwise
    rfl
  · refine (canon_hi ..).trans ?_
    unfold_payloads
    pointwise
    rfl

theorem acc2_C (c : Dev nD) (t : Fin cfg0.N) (h0 : ¬t.val % 6 = 0) (h1 : t.val % 6 = 5) (x : Fin 512) (q : Fin 1024) :
    (outsAt0 m c t.val t.isLt).2.2.2 (ix3 0 x q) = (prev m c t).2.2.2 (ix3 0 x q) + add2 m c t 0 x q
      ∧ (outsAt0 m c t.val t.isLt).2.2.2 (ix3 1 x q) = (prev m c t).2.2.2 (ix3 1 x q) + add2 m c t 1 x q := by
  rw [outsAt0_C m c t h0 h1]
  dsimp only
  unfold sout0_C_1
  rw [View.read_writes_eq_canon _ _ _ (fun y => scover0_C_1 (y := y) ..)]
  unfold kernelRun0_C; dsimp only
  sl_unfold_words
  dsimp only
  simp only [View.readAt_eq_ld, View.ld_unit_zero (S := S704x1024) hz, shapeCast_self, (hs0_0 t).read_unread, (hs0_1 t).read_unread,
    (hs0_2 t).read_unread, (hs0_3 t).read_unread, (Memref.isWhole_whole _).read_unread]
  unfold add2
  rw [← hid_lo x, ← hid_hi x]
  constructor
  · refine (canon_lo ..).trans ?_
    unfold_payloads
    pointwise
    rfl
  · refine (canon_hi ..).trans ?_
    unfold_payloads
    pointwise
    rfl

theorem copy1 (X : Vec Ideal S2x1024x512 .f32) (inb) :
    (k0_pay3 (F := Ideal) (View.ld X (Rect.unit ![0, 0, 0] S2x1024x512.size inb)) : S2x1024x512.Idx → EReal) = X := by
  rw [View.ld_unit_zero (S := S2x1024x512) hz3]; rfl

theorem copy2 (X : Vec Ideal S2x512x1024 .f32) (inb) :
    (k0_pay4 (F := Ideal) (View.ld X (Rect.unit ![0, 0, 0] S2x512x1024.size inb)) : S2x512x1024.Idx → EReal) = X := by
  rw [View.ld_unit_zero (S := S2x512x1024) hz3]; rfl

/-- The last point of a run copies the two sums out. -/
theorem out_C (c : Dev nD) (t : Fin cfg0.N) (h0 : ¬t.val % 6 = 0) (h1 : t.val % 6 = 5) :
    ((outsAt0 m c t.val t.isLt).1 : S2x1024x512.Idx → EReal) = (outsAt0 m c t.val t.isLt).2.2.1
      ∧ ((outsAt0 m c t.val t.isLt).2.1 : S2x512x1024.Idx → EReal) = (outsAt0 m c t.val t.isLt).2.2.2 := by
  rw [outsAt0_C m c t h0 h1]
  dsimp only
  unfold out0_C_4 out0_C_5 sout0_C_0 sout0_C_1
  rw [View.read_writes_eq_canon _ _ _ (fun y => cover0_C_4 (y := y) ..), View.read_writes_eq_canon _ _ _ (fun y => cover0_C_5 (y := y) ..),
    View.read_writes_eq_canon _ _ _ (fun y => scover0_C_0 (y := y) ..), View.read_writes_eq_canon _ _ _ (fun y => scover0_C_1 (y := y) ..)]
  unfold kernelRun0_C; dsimp only
  sl_unfold_words
  dsimp only
  rw [View.canon_unit_zero hz3, View.canon_unit_zero hz3, View.readCov_eq_canon', View.readCov_eq_canon']
  exact ⟨copy1 _ _, copy2 _ _⟩

end Cert.Kernel2Ideal.StepB
-- ==== Proof.ValueB.lean ====
module

public import proofs.«01_k».proof.Proof.StepB

/-! The two results of the kernel of the weights' gradient, as functions of the arrays it is launched on. -/

@[expose] public section
noncomputable section
namespace Cert.Kernel2Ideal.StepB
open Cert.Kernel2Ideal Cert.Kernel2Ideal.Gen Idealize.ShloMosaic Idealize.ShloMosaic.TcCoe Idealize.SL.Sem Cert.Spec

variable (m : (ℓ : Loc nD τ sig) → Buf (Elt Ideal) ℓ)

/-- What row `r` adds to the gradient of the first weights at (`q`, `k`) … -/
def g1 (c : Dev nD) (q : Fin 1024) (k : Fin 4096) (r : Fin 4224) : EReal := aS m c r q * aE m c r k
/-- … and to that of the second at (`k`, `q`). -/
def g2 (c : Dev nD) (k : Fin 4096) (q : Fin 1024) (r : Fin 4224) : EReal := (max (aH m c r k) 0 * max (aH m c r k) 0) * aD m c r q

theorem add1_eq (c : Dev nD) (t : Fin cfg0.N) (s : Fin 2) (q : Fin 1024) (x : Fin 512) :
    add1 m c t s q x = rows (g1 m c q (unit t (hid s x))) (t.val % 6) := by
  rw [rows, dif_pos (by omega)]
  exact Finset.sum_congr rfl fun p _ => by rw [iblk0, iblk2]; rfl

theorem add2_eq (c : Dev nD) (t : Fin cfg0.N) (s : Fin 2) (x : Fin 512) (q : Fin 1024) :
    add2 m c t s x q = rows (g2 m c (unit t (hid s x)) q) (t.val % 6) := by
  rw [rows, dif_pos (by omega)]
  exact Finset.sum_congr rfl fun p _ => by rw [iblk1, iblk3]; rfl

/-- One of the two sums at slice `s`. -/
theorem both {P : Fin 2 → Prop} (h : P 0 ∧ P 1) : ∀ s, P s
  | ⟨0, _⟩ => h.1
  | ⟨1, _⟩ => h.2

/-- The sums after each point: the blocks of rows seen so far. -/
theorem acc_eq (c : Dev nD) : ∀ (n : ℕ) (hn : n < cfg0.N) (s : Fin 2),
    (∀ (q : Fin 1024) (x : Fin 512), (outsAt0 m c n hn).2.2.1 (ix3 s q x) = ∑ i ∈ Finset.range (n % 6 + 1), rows (g1 m c q (unit ⟨n, hn⟩ (hid s x))) i)
    ∧ ∀ (x : Fin 512) (q : Fin 1024), (outsAt0 m c n hn).2.2.2 (ix3 s x q) = ∑ i ∈ Finset.range (n % 6 + 1), rows (g2 m c (unit ⟨n, hn⟩ (hid s x)) q) i := by
  have first : ∀ (n : ℕ) (hn : n < cfg0.N), n % 6 = 0 → ∀ s : Fin 2,
    (∀ (q : Fin 1024) (x : Fin 512), (outsAt0 m c n hn).2.2.1 (ix3 s q x) = ∑ i ∈ Finset.range (n % 6 + 1), rows (g1 m c q (unit ⟨n, hn⟩ (hid s x))) i)
    ∧ ∀ (x : Fin 512) (q : Fin 1024), (outsAt0 m c n hn).2.2.2 (ix3 s x q) = ∑ i ∈ Finset.range (n % 6 + 1), rows (g2 m c (unit ⟨n, hn⟩ (hid s x)) q) i := by
    intro n hn h0 s
    have h1 : ¬ n % 6 = 5 := by omega
    constructor
    · intro q x
      refine (both (P := fun s => (outsAt0 m c n hn).2.2.1 (ix3 s q x) = 0 + add1 m c ⟨n, hn⟩ s q x) (acc1_A m c ⟨n, hn⟩ h0 h1 q x) s).trans ?_
      rw [add1_eq]; dsimp only; rw [h0, Finset.sum_range_one, zero_add]
    · intro x q
      refine (both (P := fun s => (outsAt0 m c n hn).2.2.2 (ix3 s x q) = 0 + add2 m c ⟨n, hn⟩ s x q) (acc2_A m c ⟨n, hn⟩ h0 h1 x q) s).trans ?_
      rw [add2_eq]; dsimp only; rw [h0, Finset.sum_range_one, zero_add]
  intro n
  induction n with
  | zero => intro hn s; exact first 0 hn rfl s
  | succ n ih =>
    intro hn s
    by_cases h0 : (n + 1) % 6 = 0
    · exact first (n + 1) hn h0 s
    obtain ⟨i1, i2⟩ := ih (Nat.lt_of_succ_lt hn) s
    have hu : ∀ y, unit ⟨n, Nat.lt_of_succ_lt hn⟩ y = unit ⟨n + 1, hn⟩ y := fun y =>
      Fin.ext (show 1024 * (n / 6) + y.val = 1024 * ((n + 1) / 6) + y.val by omega)
    have hm : (n + 1) % 6 = n % 6 + 1 := by omega
    constructor
    · intro q x
      have e : (outsAt0 m c (n + 1) hn).2.2.1 (ix3 s q x) = (outsAt0 m c n (Nat.lt_of_succ_lt hn)).2.2.1 (ix3 s q x) + add1 m c ⟨n + 1, hn⟩ s q x := by
        refine both (P := fun s => (outsAt0 m c (n + 1) hn).2.2.1 (ix3 s q x) = (outsAt0 m c n (Nat.lt_of_succ_lt hn)).2.2.1 (ix3 s q x) + add1 m c ⟨n + 1, hn⟩ s q x) ?_ s
        by_cases h1 : (n + 1) % 6 = 5
        · exact acc1_C m c ⟨n + 1, hn⟩ h0 h1 q x
        · exact acc1_B m c ⟨n + 1, hn⟩ h0 h1 q x
      rw [e, i1, add1_eq, hu, Finset.sum_range_succ _ ((n + 1) % 6)]
      dsimp only
      rw [hm]
    · intro x q
      have e : (outsAt0 m c (n + 1) hn).2.2.2 (ix3 s x q) = (outsAt0 m c n (Nat.lt_of_succ_lt hn)).2.2.2 (ix3 s x q) + add2 m c ⟨n + 1, hn⟩ s x q := by
        refine both (P := fun s => (outsAt0 m c (n + 1) hn).2.2.2 (ix3 s x q) = (outsAt0 m c n (Nat.lt_of_succ_lt hn)).2.2.2 (ix3 s x q) + add2 m c ⟨n + 1, hn⟩ s x q) ?_ s
        by_cases h1 : (n + 1) % 6 = 5
        · exact acc2_C m c ⟨n + 1, hn⟩ h0 h1 x q
        · exact acc2_B m c ⟨n + 1, hn⟩ h0 h1 x q
      rw [e, i2, add2_eq, hu, Finset.sum_range_succ _ ((n + 1) % 6)]
      dsimp only
      rw [hm]

/-! ## The results -/

/-- Hidden unit `x` of slice `w` of eight. -/
def hid8 (w : Fin 8) (x : Fin 512) : Fin 4096 := ⟨512 * w.val + x.val, by omega⟩

theorem G4_apply (c : Dev nD) (w : Fin 8) (q : Fin 1024) (x : Fin 512) :
    (Value.G4 m c : S8x1024x512.Idx → EReal) (ix3 w q x) = ∑ r, g1 m c q (hid8 w x) r := by
  have hN : cfg0.N = 24 := N_0
  have hp' : Value.pt4Of (ix3 w q x) = 6 * (w.val / 2) + 5 := by
    show 6 * (1 * (w.val / 2 - 0) + 1 * (q.val / 1024 - 0) + 1 * (x.val / 512 - 0)) + 5 = _; omega
  have hp : Value.pt4Of (ix3 w q x) < cfg0.N := by omega
  have hl : Value.loc4Of (ix3 w q x) = ix3 ⟨w.val % 2, by omega⟩ q x := by
    funext a; apply Fin.ext
    match a with
    | ⟨0, _⟩ => rfl
    | ⟨1, _⟩ => show q.val % 1024 = q.val; omega
    | ⟨2, _⟩ => show x.val % 512 = x.val; omega
  have hu : unit ⟨_, hp⟩ (hid ⟨w.val % 2, by omega⟩ x) = hid8 w x :=
    Fin.ext (show 1024 * (Value.pt4Of (ix3 w q x) / 6) + (512 * (w.val % 2) + x.val) = 512 * w.val + x.val by omega)
  show Value.G4 m c (ix3 w q x) = _
  unfold Value.G4
  rw [dif_pos hp, hl, ← Value.outsAt0_sweep m c _ hp]
  refine (congrFun (out_C m c ⟨_, hp⟩ (by dsimp only; omega) (by dsimp only; omega)).1 _).trans ?_
  refine ((acc_eq m c _ hp _).1 q x).trans ?_
  rw [hu, show Value.pt4Of (ix3 w q x) % 6 + 1 = 6 by omega]
  exact sum_rows _

theorem G5_apply (c : Dev nD) (w : Fin 8) (x : Fin 512) (q : Fin 1024) :
    (Value.G5 m c : S8x512x1024.Idx → EReal) (ix3 w x q) = ∑ r, g2 m c (hid8 w x) q r := by
  have hN : cfg0.N = 24 := N_0
  have hp' : Value.pt5Of (ix3 w x q) = 6 * (w.val / 2) + 5 := by
    show 6 * (1 * (w.val / 2 - 0) + 1 * (x.val / 512 - 0) + 1 * (q.val / 1024 - 0)) + 5 = _; omega
  have hp : Value.pt5Of (ix3 w x q) < cfg0.N := by omega
  have hl : Value.loc5Of (ix3 w x q) = ix3 ⟨w.val % 2, by omega⟩ x q := by
    funext a; apply Fin.ext
    match a with
    | ⟨0, _⟩ => rfl
    | ⟨1, _⟩ => show x.val % 512 = x.val; omega
    | ⟨2, _⟩ => show q.val % 1024 = q.val; omega
  have hu : unit ⟨_, hp⟩ (hid ⟨w.val % 2, by omega⟩ x) = hid8 w x :=
    Fin.ext (show 1024 * (Value.pt5Of (ix3 w x q) / 6) + (512 * (w.val % 2) + x.val) = 512 * w.val + x.val by omega)
  show Value.G5 m c (ix3 w x q) = _
  unfold Value.G5
  rw [dif_pos hp, hl, ← Value.outsAt0_sweep m c _ hp]
  refine (congrFun (out_C m c ⟨_, hp⟩ (by dsimp only; omega) (by dsimp only; omega)).2 _).trans ?_
  refine ((acc_eq m c _ hp _).2 x q).trans ?_
  rw [hu, show Value.pt5Of (ix3 w x q) % 6 + 1 = 6 by omega]
  exact sum_rows _

end Cert.Kernel2Ideal.StepB
-- ==== Proof.ClaimB.lean ====
module

public import proofs.«01_k».proof.Proof.ValueB
public import proofs.«01_k».proof.Proof.Gen.Reference2Ideal.Read
public import proofs.«01_k».proof.Defs
public import Idealize.ShloMosaic.Lib.StableHlo.ReadAt

/-! The weights' gradient of the kernel is the reference's. -/

@[expose] public section
noncomputable section

namespace Cert.Kernel2Ideal.StepB
open Cert.Kernel2Ideal Cert.Kernel2Ideal.Gen Idealize.ShloMosaic Idealize.ShloMosaic.TcCoe Idealize.SL.Sem Cert.Spec

variable (m : (ℓ : Loc nD τ sig) → Buf (Elt Ideal) ℓ)

/-! ## The arrays the kernel is launched on -/

abbrev A0 (c : Dev nD) : S4224x1024.Idx → EReal := m ((c.tc : Thread nD τ).loc main_arg0)
abbrev A1 (c : Dev nD) : S1024x4096.Idx → EReal := m ((c.tc : Thread nD τ).loc main_arg1)
abbrev A2 (c : Dev nD) : S4096x1024.Idx → EReal := m ((c.tc : Thread nD τ).loc main_arg2)
abbrev A3 (c : Dev nD) : S4224x1024.Idx → EReal := m ((c.tc : Thread nD τ).loc main_arg3)

theorem aS_eq (c : Dev nD) (r : Fin 4224) (q : Fin 1024) : aS m c r q = A0 m c (ix2 r q) := by
  unfold aS V
  after_reads_at

theorem aD_eq (c : Dev nD) (r : Fin 4224) (q : Fin 1024) : aD m c r q = A3 m c (ix2 r q) := by
  unfold aD V
  after_reads_at

theorem aH_eq (c : Dev nD) (r : Fin 4224) (k : Fin 4096) : aH m c r k = ∑ q : Fin 1024, A0 m c (ix2 r q) * A1 m c (ix2 q k) := by
  unfold aH V
  after_reads_at

theorem aE_eq (c : Dev nD) (r : Fin 4224) (k : Fin 4096) : aE m c r k
    = dhid (fun r q => A3 m c (ix2 r q)) (fun r k => ∑ q : Fin 1024, A0 m c (ix2 r q) * A1 m c (ix2 q k)) (fun k q => A2 m c (ix2 k q)) r k := by
  unfold aE V
  after_reads_at
  rfl

end Cert.Kernel2Ideal.StepB

namespace Cert.Reference2Ideal.RefB
open Cert.Reference2Ideal Cert.Reference2Ideal.Gen Cert.Reference2Ideal.Read Idealize.ShloMosaic Idealize.ShloMosaic.TcCoe Idealize.ShloMosaic.StableHlo Cert.Spec

variable (x0 : (⟨S4224x1024, .f32⟩ : BufTy).Contents (Elt Ideal)) (x1 : (⟨S1024x4096, .f32⟩ : BufTy).Contents (Elt Ideal))
  (x2 : (⟨S4096x1024, .f32⟩ : BufTy).Contents (Elt Ideal)) (x3 : (⟨S4224x1024, .f32⟩ : BufTy).Contents (Elt Ideal))

/-! ## The reference's values at an index -/

/-- The hidden units before `relu`. -/
abbrev H (r : Fin 4224) (k : Fin 4096) : EReal := ∑ q : Fin 1024, x0 (ix2 r q) * x1 (ix2 q k)

theorem v0_eq (r : Fin 4224) (k : Fin 4096) : val_main_v0 (F := Ideal) x0 x1 (ix2 r k) = H x0 x1 r k := by
  unfold val_main_v0
  pointwise

theorem v5_eq (r : Fin 4224) (k : Fin 4096) : val_main_v5 (F := Ideal) x0 x1 (ix2 r k) = max (H x0 x1 r k) 0 * max (H x0 x1 r k) 0 := by
  unfold val_main_v5 val_main_v1 val_main_call0_v0 val_main_call0_cst
  pointwise
  rw [v0_eq]

theorem v14_eq (r : Fin 4224) (k : Fin 4096) : val_main_v14 (F := Ideal) x0 x1 x2 x3 (ix2 r k)
    = dhid (fun r q => x3 (ix2 r q)) (H x0 x1) (fun k q => x2 (ix2 k q)) r k := by
  unfold val_main_v14 val_main_v13 val_main_v12 val_main_v11 val_main_v7 val_main_v6 val_main_v3 val_main_v2 val_main_v1 val_main_call0_v0 val_main_call0_cst
    val_main_cst val_main_cst_1 val_main_cst_2
  pointwise
  simp only [v0_eq]
  unfold dhid
  split_ifs with h
  · rfl
  · rw [max_eq_right (not_lt.1 h), mul_zero, mul_zero]

theorem v19_eq (w : Fin 8) (q : Fin 1024) (x : Fin 512) : val_main_v19 (F := Ideal) x0 x1 x2 x3 (ix3 w q x)
    = ∑ r, dhid (fun r q => x3 (ix2 r q)) (H x0 x1) (fun k q => x2 (ix2 k q)) r ⟨512 * w.val + x.val, by omega⟩ * x0 (ix2 r q) := by
  unfold val_main_v19 val_main_v18 val_main_v17 val_main_v16 val_main_v15
  pointwise
  simp only [v14_eq]
  rw [show (⟨w.val * 512 + x.val, by omega⟩ : Fin 4096) = ⟨512 * w.val + x.val, by omega⟩ from Fin.ext (by dsimp only; omega)]

theorem v21_eq (w : Fin 8) (x : Fin 512) (q : Fin 1024) : val_main_v21 (F := Ideal) x0 x1 x3 (ix3 w x q)
    = ∑ r, x3 (ix2 r q) * (max (H x0 x1 r ⟨512 * w.val + x.val, by omega⟩) 0 * max (H x0 x1 r ⟨512 * w.val + x.val, by omega⟩) 0) := by
  unfold val_main_v21 val_main_v20 val_main_v10 val_main_v9
  pointwise
  simp only [v5_eq]
  rw [show (⟨w.val * 512 + x.val, by omega⟩ : Fin 4096) = ⟨512 * w.val + x.val, by omega⟩ from Fin.ext (by dsimp only; omega)]

end Cert.Reference2Ideal.RefB

namespace Cert.ClaimB
open Cert Cert.Kernel2Ideal Cert.Kernel2Ideal.Gen Cert.Kernel2Ideal.StepB Idealize.ShloMosaic Idealize.ShloMosaic.TcCoe Idealize.SL.Sem Cert.Spec

variable (m : (ℓ : Loc nD τ sig) → Buf (Elt Ideal) ℓ) (c : Dev nD)

theorem out0 : Reference2Ideal.Read.val_main_v19 (F := Ideal) (A0 m c) (A1 m c) (A2 m c) (A3 m c) = Value.G4 m c := by
  funext i
  obtain ⟨w, q, x, rfl⟩ : ∃ w q x, i = ix3 w q x := ⟨_, _, _, ValueIdx.eq_ix3 i⟩
  rw [Reference2Ideal.RefB.v19_eq]
  refine Eq.trans ?_ (G4_apply m c w q x).symm
  refine Finset.sum_congr rfl fun r _ => ?_
  unfold g1
  rw [aS_eq, aE_eq, mul_comm]
  rfl

theorem out1 : Reference2Ideal.Read.val_main_v21 (F := Ideal) (A0 m c) (A1 m c) (A3 m c) = Value.G5 m c := by
  funext i
  obtain ⟨w, x, q, rfl⟩ : ∃ w x q, i = ix3 w x q := ⟨_, _, _, ValueIdx.eq_ix3 i⟩
  rw [Reference2Ideal.RefB.v21_eq]
  refine Eq.trans ?_ (G5_apply m c w x q).symm
  refine Finset.sum_congr rfl fun r _ => ?_
  unfold g2
  rw [aH_eq, aD_eq, mul_comm]
  rfl

theorem algebraic : Cert.algebraic_Kernel2Ideal_Reference2Ideal := by
  intro m g m' g' _ hargs
  refine ⟨fun c => Value.G4 m c, fun c => Value.G5 m c, ?_, ?_⟩
  · refine (θ_run _ _ _).mono ?_ (Value.run m g)
    exact fun r h c => h c
  · refine (θ_run _ _ _).mono ?_ (Reference2Ideal.Value.run m' g')
    intro r h c
    obtain ⟨e0, e1, hk⟩ := h c
    obtain ⟨a0, a1, a2, a3⟩ := hargs c
    refine ⟨e0.trans ?_, e1.trans ?_, hk⟩
    · rw [Reference2Ideal.Read.val_main_v19_eq, a0, a1, a2, a3]; exact out0 m c
    · rw [Reference2Ideal.Read.val_main_v21_eq, a0, a1, a3]; exact out1 m c

end Cert.ClaimB
-- ==== Proof.Bands.lean ====
module

public import Idealize.ShloMosaic.Lib.Pipeline.ReadBack
public import Idealize.ShloMosaic.Lib.Pointwise

/-! A buffer stored in bands of rows, read at an index. -/

@[expose] public section
noncomputable section
namespace Cert.Spec
open Idealize.ShloMosaic

variable {a b : ℕ}

theorem emb_band {o n : ℕ} (inb) (x : Fin n) (q : Fin b) (h : o + x.val < a) :
    (Rect.unit (s := (⟨2, ![a, b]⟩ : Shape)) ![o, 0] ![n, b] inb).emb (ix2 x q) = ix2 (⟨o + x.val, h⟩ : Fin a) q := by
  funext k; apply Fin.ext
  match k with
  | ⟨0, _⟩ => show o + 1 * x.val = o + x.val; omega
  | ⟨1, _⟩ => show 0 + 1 * q.val = q.val; omega

/-- In the band stored last the buffer holds what was stored … -/
theorem canon_band {o n : ℕ} (inb) (w : (⟨2, ![n, b]⟩ : Shape).Idx → EReal) (L : List (View.Piece (Elt Ideal) (⟨2, ![a, b]⟩ : Shape) .f32))
    (x : Fin n) (q : Fin b) (r : Fin a) (h : r.val = o + x.val) :
    View.canon ((⟨Rect.unit (s := (⟨2, ![a, b]⟩ : Shape)) ![o, 0] ![n, b] inb, w⟩ : View.Piece (Elt Ideal) _ .f32) :: L) (ix2 r q) = w (ix2 x q) := by
  have e : r = ⟨o + x.val, h ▸ r.isLt⟩ := Fin.ext h
  rw [e, ← emb_band inb x q (h ▸ r.isLt)]
  exact View.canon_cons_emb (Val := Elt Ideal) (e := .f32) (Rect.unit (s := (⟨2, ![a, b]⟩ : Shape)) ![o, 0] ![n, b] inb) w L _

/-- … and off it what it held before. -/
theorem canon_off {o n : ℕ} (inb) (w : (⟨2, ![n, b]⟩ : Shape).Idx → EReal) (L : List (View.Piece (Elt Ideal) (⟨2, ![a, b]⟩ : Shape) .f32))
    (r : Fin a) (q : Fin b) (h : r.val < o ∨ o + n ≤ r.val) :
    View.canon ((⟨Rect.unit (s := (⟨2, ![a, b]⟩ : Shape)) ![o, 0] ![n, b] inb, w⟩ : View.Piece (Elt Ideal) _ .f32) :: L) (ix2 r q) = View.canon L (ix2 r q) := by
  rw [View.canon_cons_of_not_mem]
  intro hm
  have := (Rect.mem_set_unit (s := (⟨2, ![a, b]⟩ : Shape)) (off := ![o, 0]) (size := ![n, b]) (inb := inb)).mp hm (0 : Fin 2)
  have h1 : o ≤ r.val := this.1
  have h2 : r.val < o + n := this.2
  omega

end Cert.Spec
-- ==== Proof.StepC.lean ====
module

public import proofs.«01_k».proof.Proof.Gen.Kernel3Ideal.Value
public import proofs.«01_k».proof.Proof.Spec
public import proofs.«01_k».proof.Proof.Bands

/-! What the kernel of the output projection's gradient leaves after each grid point, and its results. -/

@[expose] public section
noncomputable section
namespace Cert.Kernel3Ideal.StepC
open Cert.Kernel3Ideal Cert.Kernel3Ideal.Gen Idealize.ShloMosaic Idealize.ShloMosaic.TcCoe Idealize.SL.Sem Cert.Spec

variable (m : (ℓ : Loc nD τ sig) → Buf (Elt Ideal) ℓ)

theorem hz : (![0, 0] : Fin 2 → Nat) = fun _ => 0 := by decide

/-! ## The arrays the windows are cut from, and the blocks -/

def aD (c : Dev nD) (r : Fin 4224) (q : Fin 1024) : EReal := V m c (Pipeline.arrRef spec0 0) (ix2 r q)
def aC (c : Dev nD) (r : Fin 4224) (k : Fin 512) : EReal := V m c (Pipeline.arrRef spec0 1) (ix2 r k)
def aG (c : Dev nD) (r : Fin 4224) (k : Fin 512) : EReal := V m c (Pipeline.arrRef spec0 2) (ix2 r k)
def aW (c : Dev nD) (k q : Fin 1024) : EReal := V m c (Pipeline.arrRef spec0 3) (ix2 k q)

theorem lt6 (t : Fin cfg0.N) : t.val < 6 := lt_of_lt_of_eq t.isLt N_0

/-- Row `p` of point `t`'s block of rows. -/
def row (t : Fin cfg0.N) (p : Fin 704) : Fin 4224 := ⟨704 * t.val + p.val, by have := lt6 t; omega⟩

def bD (c : Dev nD) (t : Fin cfg0.N) (p : Fin 704) (q : Fin 1024) : EReal := iblk m c 0 t (ix2 p q)
def bC (c : Dev nD) (t : Fin cfg0.N) (p : Fin 704) (k : Fin 512) : EReal := iblk m c 1 t (ix2 p k)
def bG (c : Dev nD) (t : Fin cfg0.N) (p : Fin 704) (k : Fin 512) : EReal := iblk m c 2 t (ix2 p k)
def bW (c : Dev nD) (t : Fin cfg0.N) (k q : Fin 1024) : EReal := iblk m c 3 t (ix2 k q)

theorem idx (t : Fin cfg0.N) : (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0) :=
  (by decide +kernel : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)) t

theorem iblk0 (c : Dev nD) (t : Fin cfg0.N) (p : Fin 704) (q : Fin 1024) : bD m c t p q = aD m c (row t p) q := by
  refine congrArg (V m c (Pipeline.arrRef spec0 0)) (funext fun a => Fin.ext ?_)
  obtain ⟨⟨e0, e1⟩, -⟩ := idx t
  match a with
  | ⟨0, _⟩ => show win0_0.index t (0 : Fin 2) * 704 + 1 * p.val = 704 * t.val + p.val; omega
  | ⟨1, _⟩ => show win0_0.index t (1 : Fin 2) * 1024 + 1 * q.val = q.val; omega

theorem iblk1 (c : Dev nD) (t : Fin cfg0.N) (p : Fin 704) (k : Fin 512) : bC m c t p k = aC m c (row t p) k := by
  refine congrArg (V m c (Pipeline.arrRef spec0 1)) (funext fun a => Fin.ext ?_)
  obtain ⟨-, ⟨e0, e1⟩, -⟩ := idx t
  match a with
  | ⟨0, _⟩ => show win0_1.index t (0 : Fin 2) * 704 + 1 * p.val = 704 * t.val + p.val; omega
  | ⟨1, _⟩ => show win0_1.index t (1 : Fin 2) * 512 + 1 * k.val = k.val; omega

theorem iblk2 (c : Dev nD) (t : Fin cfg0.N) (p : Fin 704) (k : Fin 512) : bG m c t p k = aG m c (row t p) k := by
  refine congrArg (V m c (Pipeline.arrRef spec0 2)) (funext fun a => Fin.ext ?_)
  obtain ⟨-, -, ⟨e0, e1⟩, -⟩ := idx t
  match a with
  | ⟨0, _⟩ => show win0_2.index t (0 : Fin 2) * 704 + 1 * p.val = 704 * t.val + p.val; omega
  | ⟨1, _⟩ => show win0_2.index t (1 : Fin 2) * 512 + 1 * k.val = k.val; omega

theorem iblk3 (c : Dev nD) (t : Fin cfg0.N) (k q : Fin 1024) : bW m c t k q = aW m c k q := by
  refine congrArg (V m c (Pipeline.arrRef spec0 3)) (funext fun a => Fin.ext ?_)
  obtain ⟨-, -, -, e0, e1⟩ := idx t
  match a with
  | ⟨0, _⟩ => show win0_3.index t (0 : Fin 2) * 1024 + 1 * k.val = k.val; omega
  | ⟨1, _⟩ => show win0_3.index t (1 : Fin 2) * 1024 + 1 * q.val = q.val; omega

/-! ## The gradient at the projection's input -/

theorem dmi_A (c : Dev nD) (t : Fin cfg0.N) (h0 : t.val % 6 = 0) (h1 : ¬t.val % 6 = 5) (p : Fin 704) (k : Fin 1024) :
    (outsAt0 m c t.val t.isLt).1 (ix2 p k) = ∑ q, bD m c t p q * bW m c t k q := by
  rw [outsAt0_A m c t h0 h1]
  dsimp only
  unfold out0_A_4
  rw [View.read_writes_eq_canon _ _ _ (fun y => cover0_A_4 (y := y) ..)]
  unfold kernelRun0_A; dsimp only
  rw [View.canon_unit_zero hz]
  sl_unfold_words
  simp only [View.readAt_eq_ld, View.ld_unit_zero (S := S704x1024) hz, View.ld_unit_zero (S := S1024x1024) hz, shapeCast_self, (hs0_0 t).read_unread,
    (hs0_3 t).read_unread]
  unfold_payloads
  pointwise
  rfl

theorem dmi_B (c : Dev nD) (t : Fin cfg0.N) (h0 : ¬t.val % 6 = 0) (h1 : ¬t.val % 6 = 5) (p : Fin 704) (k : Fin 1024) :
    (outsAt0 m c t.val t.isLt).1 (ix2 p k) = ∑ q, bD m c t p q * bW m c t k q := by
  rw [outsAt0_B m c t h0 h1]
  dsimp only
  unfold out0_B_4
  rw [View.read_writes_eq_canon _ _ _ (fun y => cover0_B_4 (y := y) ..)]
  unfold kernelRun0_B; dsimp only
  rw [View.canon_unit_zero hz]
  sl_unfold_words
  simp only [View.readAt_eq_ld, View.ld_unit_zero (S := S704x1024) hz, View.ld_unit_zero (S := S1024x1024) hz, shapeCast_self, (hs0_0 t).read_unread,
    (hs0_3 t).read_unread]
  unfold_payloads
  pointwise
  rfl

theorem dmi_C (c : Dev nD) (t : Fin cfg0.N) (h0 : ¬t.val % 6 = 0) (h1 : t.val % 6 = 5) (p : Fin 704) (k : Fin 1024) :
    (outsAt0 m c t.val t.isLt).1 (ix2 p k) = ∑ q, bD m c t p q * bW m c t k q := by
  rw [outsAt0_C m c t h0 h1]
  dsimp only
  unfold out0_C_4
  rw [View.read_writes_eq_canon _ _ _ (fun y => cover0_C_4 (y := y) ..)]
  unfold kernelRun0_C; dsimp only
  rw [View.canon_unit_zero hz]
  sl_unfold_words
  simp only [View.readAt_eq_ld, View.ld_unit_zero (S := S704x1024) hz, View.ld_unit_zero (S := S1024x1024) hz, shapeCast_self, (hs0_0 t).read_unread,
    (hs0_3 t).read_unread]
  unfold_payloads
  pointwise
  rfl

theorem dmi (c : Dev nD) (t : Fin cfg0.N) (p : Fin 704) (k : Fin 1024) :
    (outsAt0 m c t.val t.isLt).1 (ix2 p k) = ∑ q, bD m c t p q * bW m c t k q := by
  by_cases h0 : t.val % 6 = 0
  · exact dmi_A m c t h0 (by omega) p k
  · by_cases h1 : t.val % 6 = 5
    · exact dmi_C m c t h0 h1 p k
    · exact dmi_B m c t h0 h1 p k

/-! ## The carried sum, in two bands of rows -/

/-- What the point before `t` left. -/
abbrev prev (c : Dev nD) (t : Fin cfg0.N) := outsAt0 m c (t.val - 1) (Nat.lt_of_le_of_lt (Nat.sub_le ..) t.isLt)

abbrev lo (k : Fin 512) : Fin 1024 := ⟨k.val, by omega⟩
abbrev hi (k : Fin 512) : Fin 1024 := ⟨512 + k.val, by omega⟩

theorem acc_A (c : Dev nD) (t : Fin cfg0.N) (h0 : t.val % 6 = 0) (h1 : ¬t.val % 6 = 5) (k : Fin 512) (q : Fin 1024) :
    (outsAt0 m c t.val t.isLt).2.2 (ix2 (lo k) q) = 0 + ∑ p, bC m c t p k * bD m c t p q
      ∧ (outsAt0 m c t.val t.isLt).2.2 (ix2 (hi k) q) = 0 + ∑ p, bG m c t p k * bD m c t p q := by
  rw [outsAt0_A m c t h0 h1]
  dsimp only
  unfold sout0_A_0
  rw [View.read_writes_eq_canon _ _ _ (fun y => scover0_A_0 (y := y) ..)]
  unfold kernelRun0_A; dsimp only
  sl_unfold_words
  dsimp only
  simp only [View.readAt_eq_ld, View.ld_unit_zero (S := S704x1024) hz, View.ld_unit_zero (S := S704x512) hz, shapeCast_self, (hs0_0 t).read_unread,
    (hs0_1 t).read_unread, (hs0_2 t).read_unread, (Memref.isWhole_whole _).read_unread]
  simp (decide := true) only [↓View.readCov_skip, View.readCov_fill]
  constructor
  · refine (canon_off _ _ _ _ _ (by dsimp only; omega)).trans ((canon_band _ _ _ k q _ (by dsimp only; omega)).trans ?_)
    unfold_payloads
    pointwise
    rfl
  · refine (canon_band _ _ _ k q _ (by dsimp only)).trans ?_
    unfold_payloads
    pointwise
    rfl

theorem acc_B (c : Dev nD) (t : Fin cfg0.N) (h0 : ¬t.val % 6 = 0) (h1 : ¬t.val % 6 = 5) (k : Fin 512) (q : Fin 1024) :
    (outsAt0 m c t.val t.isLt).2.2 (ix2 (lo k) q) = (prev m c t).2.2 (ix2 (lo k) q) + ∑ p, bC m c t p k * bD m c t p q
      ∧ (outsAt0 m c t.val t.isLt).2.2 (ix2 (hi k) q) = (prev m c t).2.2 (ix2 (hi k) q) + ∑ p, bG m c t p k * bD m c t p q := by
  rw [outsAt0_B m c t h0 h1]
  dsimp only
  unfold sout0_B_0
  rw [View.read_writes_eq_canon _ _ _ (fun y => scover0_B_0 (y := y) ..)]
  unfold kernelRun0_B; dsimp only
  sl_unfold_words
  dsimp only
  simp only [View.readAt_eq_ld, View.ld_unit_zero (S := S704x1024) hz, View.ld_unit_zero (S := S704x512) hz, shapeCast_self, (hs0_0 t).read_unread,
    (hs0_1 t).read_unread, (hs0_2 t).read_unread, (Memref.isWhole_whole _).read_unread]
  constructor
  · refine (canon_off _ _ _ _ _ (by dsimp only; omega)).trans ((canon_band _ _ _ k q _ (by dsimp only; omega)).trans ?_)
    unfold_payloads
    pointwise
    rfl
  · refine (canon_band _ _ _ k q _ (by dsimp only)).trans ?_
    unfold_payloads
    pointwise
    rfl

theorem acc_C (c : Dev nD) (t : Fin cfg0.N) (h0 : ¬t.val % 6 = 0) (h1 : t.val % 6 = 5) (k : Fin 512) (q : Fin 1024) :
    (outsAt0 m c t.val t.isLt).2.2 (ix2 (lo k) q) = (prev m c t).2.2 (ix2 (lo k) q) + ∑ p, bC m c t p k * bD m c t p q
      ∧ (outsAt0 m c t.val t.isLt).2.2 (ix2 (hi k) q) = (prev m c t).2.2 (ix2 (hi k) q) + ∑ p, bG m c t p k * bD m c t p q := by
  rw [outsAt0_C m c t h0 h1]
  dsimp only
  unfold sout0_C_0
  rw [View.read_writes_eq_canon _ _ _ (fun y => scover0_C_0 (y := y) ..)]
  unfold kernelRun0_C; dsimp only
  sl_unfold_words
  dsimp only
  simp only [View.readAt_eq_ld, View.ld_unit_zero (S := S704x1024) hz, View.ld_unit_zero (S := S704x512) hz, shapeCast_self, (hs0_0 t).read_unread,
    (hs0_1 t).read_unread, (hs0_2 t).read_unread, (Memref.isWhole_whole _).read_unread]
  constructor
  · refine (canon_off _ _ _ _ _ (by dsimp only; omega)).trans ((canon_band _ _ _ k q _ (by dsimp only; omega)).trans ?_)
    unfold_payloads
    pointwise
    rfl
  · refine (canon_band _ _ _ k q _ (by dsimp only)).trans ?_
    unfold_payloads
    pointwise
    rfl

theorem copy (X : Vec Ideal S1024x1024 .f32) (inb) :
    (k0_pay6 (F := Ideal) (View.ld X (Rect.unit ![0, 0] S1024x1024.size inb)) : S1024x1024.Idx → EReal) = X := by
  rw [View.ld_unit_zero (S := S1024x1024) hz]; rfl

/-- The last point copies the sum out. -/
theorem out_C (c : Dev nD) (t : Fin cfg0.N) (h0 : ¬t.val % 6 = 0) (h1 : t.val % 6 = 5) :
    ((outsAt0 m c t.val t.isLt).2.1 : S1024x1024.Idx → EReal) = (outsAt0 m c t.val t.isLt).2.2 := by
  rw [outsAt0_C m c t h0 h1]
  dsimp only
  unfold out0_C_5 sout0_C_0
  rw [View.read_writes_eq_canon _ _ _ (fun y => cover0_C_5 (y := y) ..), View.read_writes_eq_canon _ _ _ (fun y => scover0_C_0 (y := y) ..)]
  unfold kernelRun0_C; dsimp only
  sl_unfold_words
  dsimp only
  rw [View.canon_unit_zero hz, View.readCov_eq_canon']
  exact copy _ _

/-! ## The results -/

/-- The projection's input: the first half of its columns, then the second. -/
def inp (c : Dev nD) (r : Fin 4224) (k : Fin 1024) : EReal :=
  if h : k.val < 512 then aC m c r ⟨k.val, h⟩ else aG m c r ⟨k.val - 512, by omega⟩

/-- What row `r` adds to the gradient of the weight. -/
abbrev gRow (c : Dev nD) (k q : Fin 1024) (r : Fin 4224) : EReal := inp m c r k * aD m c r q

theorem step (c : Dev nD) (t : Fin cfg0.N) (z : Fin 1024 → EReal) (q : Fin 1024)
    (h : ∀ k : Fin 512, (outsAt0 m c t.val t.isLt).2.2 (ix2 (lo k) q) = z (lo k) + ∑ p, bC m c t p k * bD m c t p q
      ∧ (outsAt0 m c t.val t.isLt).2.2 (ix2 (hi k) q) = z (hi k) + ∑ p, bG m c t p k * bD m c t p q) (k : Fin 1024) :
    (outsAt0 m c t.val t.isLt).2.2 (ix2 k q) = z k + rows (gRow m c k q) t.val := by
  rw [rows, dif_pos (lt6 t)]
  by_cases hk : k.val < 512
  · refine ((h ⟨k.val, hk⟩).1).trans (congrArg (z k + ·) (Finset.sum_congr rfl fun p _ => ?_))
    rw [iblk0, iblk1]; unfold gRow inp; rw [dif_pos hk]; rfl
  · obtain ⟨k', rfl⟩ : ∃ k' : Fin 512, k = hi k' := ⟨⟨k.val - 512, by omega⟩, Fin.ext (by dsimp only; omega)⟩
    refine ((h k').2).trans (congrArg (z (hi k') + ·) (Finset.sum_congr rfl fun p _ => ?_))
    rw [iblk0, iblk2]; unfold gRow inp; rw [dif_neg hk]
    rw [show (⟨(hi k').val - 512, by dsimp only; omega⟩ : Fin 512) = k' from Fin.ext (by dsimp only; omega)]; rfl

theorem acc_eq (c : Dev nD) (q : Fin 1024) : ∀ (n : ℕ) (hn : n < cfg0.N) (k : Fin 1024),
    (outsAt0 m c n hn).2.2 (ix2 k q) = ∑ i ∈ Finset.range (n + 1), rows (gRow m c k q) i := by
  intro n
  induction n with
  | zero =>
    intro hn k
    refine (step m c ⟨0, hn⟩ (fun _ => 0) q (fun k => acc_A m c ⟨0, hn⟩ rfl (show ¬ 0 % 6 = 5 by decide) k q) k).trans ?_
    rw [zero_add, Finset.sum_range_one]
  | succ n ih =>
    intro hn k
    have h6 := lt6 ⟨n + 1, hn⟩
    dsimp only at h6
    rw [Finset.sum_range_succ, ← ih (Nat.lt_of_succ_lt hn) k]
    by_cases h1 : (n + 1) % 6 = 5
    · exact step m c ⟨n + 1, hn⟩ (fun k => (outsAt0 m c n (Nat.lt_of_succ_lt hn)).2.2 (ix2 k q)) q
        (fun k => acc_C m c ⟨n + 1, hn⟩ (by dsimp only; omega) h1 k q) k
    · exact step m c ⟨n + 1, hn⟩ (fun k => (outsAt0 m c n (Nat.lt_of_succ_lt hn)).2.2 (ix2 k q)) q
        (fun k => acc_B m c ⟨n + 1, hn⟩ (by dsimp only; omega) h1 k q) k

theorem G4_apply (c : Dev nD) (r : Fin 4224) (k : Fin 1024) :
    (Value.G4 m c : S4224x1024.Idx → EReal) (ix2 r k) = ∑ q, aD m c r q * aW m c k q := by
  have hN : cfg0.N = 6 := N_0
  have hp' : Value.pt4Of (ix2 r k) = r.val / 704 := by show 1 * (r.val / 704 - 0) + 1 * (k.val / 1024 - 0) = _; omega
  have hp : Value.pt4Of (ix2 r k) < cfg0.N := by omega
  have hl : Value.loc4Of (ix2 r k) = ix2 ⟨r.val % 704, by omega⟩ k := by
    funext a; apply Fin.ext
    match a with
    | ⟨0, _⟩ => rfl
    | ⟨1, _⟩ => show k.val % 1024 = k.val; omega
  have hr : row ⟨_, hp⟩ ⟨r.val % 704, by omega⟩ = r :=
    Fin.ext (show 704 * Value.pt4Of (ix2 r k) + r.val % 704 = r.val by omega)
  show Value.G4 m c (ix2 r k) = _
  unfold Value.G4
  rw [dif_pos hp, hl, ← Value.outsAt0_sweep m c _ hp]
  refine (dmi m c ⟨_, hp⟩ _ k).trans ?_
  simp only [iblk0, iblk3, hr]

theorem G5_apply (c : Dev nD) (k q : Fin 1024) :
    (Value.G5 m c : S1024x1024.Idx → EReal) (ix2 k q) = ∑ r, gRow m c k q r := by
  have hN : cfg0.N = 6 := N_0
  have hp' : Value.pt5Of (ix2 k q) = 5 := by show 6 * (1 * (k.val / 1024 - 0) + 1 * (q.val / 1024 - 0)) + 5 = _; omega
  have hp : Value.pt5Of (ix2 k q) < cfg0.N := by omega
  have hl : Value.loc5Of (ix2 k q) = ix2 k q := by
    funext a; apply Fin.ext
    match a with
    | ⟨0, _⟩ => show k.val % 1024 = k.val; omega
    | ⟨1, _⟩ => show q.val % 1024 = q.val; omega
  show Value.G5 m c (ix2 k q) = _
  unfold Value.G5
  rw [dif_pos hp, hl, ← Value.outsAt0_sweep m c _ hp]
  refine (congrFun (out_C m c ⟨_, hp⟩ (by dsimp only; omega) (by dsimp only; omega)) _).trans ?_
  refine (acc_eq m c q _ hp k).trans ?_
  rw [hp']
  exact sum_rows _

end Cert.Kernel3Ideal.StepC
-- ==== Proof.ClaimC.lean ====
module

public import proofs.«01_k».proof.Proof.StepC
public import proofs.«01_k».proof.Proof.Gen.Reference3Ideal.Read
public import proofs.«01_k».proof.Defs
public import Idealize.ShloMosaic.Lib.StableHlo.ReadAt

/-! The output projection's gradient of the kernel is the reference's. -/

@[expose] public section
noncomputable section

namespace Cert.Kernel3Ideal.StepC
open Cert.Kernel3Ideal Cert.Kernel3Ideal.Gen Idealize.ShloMosaic Idealize.ShloMosaic.TcCoe Idealize.SL.Sem Cert.Spec

variable (m : (ℓ : Loc nD τ sig) → Buf (Elt Ideal) ℓ)

/-! ## The arrays the kernel is launched on -/

abbrev A0 (c : Dev nD) : S4224x512.Idx → EReal := m ((c.tc : Thread nD τ).loc main_arg0)
abbrev A1 (c : Dev nD) : S4224x512.Idx → EReal := m ((c.tc : Thread nD τ).loc main_arg1)
abbrev A2 (c : Dev nD) : S1024x1024.Idx → EReal := m ((c.tc : Thread nD τ).loc main_arg2)
abbrev A3 (c : Dev nD) : S4224x1024.Idx → EReal := m ((c.tc : Thread nD τ).loc main_arg3)

theorem aC_eq (c : Dev nD) (r : Fin 4224) (k : Fin 512) : aC m c r k = A0 m c (ix2 r k) := by
  unfold aC V
  after_reads_at

theorem aG_eq (c : Dev nD) (r : Fin 4224) (k : Fin 512) : aG m c r k = A1 m c (ix2 r k) := by
  unfold aG V
  after_reads_at

theorem aW_eq (c : Dev nD) (k q : Fin 1024) : aW m c k q = A2 m c (ix2 k q) := by
  unfold aW V
  after_reads_at

theorem aD_eq (c : Dev nD) (r : Fin 4224) (q : Fin 1024) : aD m c r q = A3 m c (ix2 r q) := by
  unfold aD V
  after_reads_at

end Cert.Kernel3Ideal.StepC

namespace Cert.Reference3Ideal.RefC
open Cert.Reference3Ideal Cert.Reference3Ideal.Gen Cert.Reference3Ideal.Read Idealize.ShloMosaic Idealize.ShloMosaic.TcCoe Idealize.ShloMosaic.StableHlo Cert.Spec

variable (x0 x1 : (⟨S4224x512, .f32⟩ : BufTy).Contents (Elt Ideal))
  (x2 : (⟨S1024x1024, .f32⟩ : BufTy).Contents (Elt Ideal)) (x3 : (⟨S4224x1024, .f32⟩ : BufTy).Contents (Elt Ideal))

/-! ## The reference's values at an index -/

theorem v0_eq (r : Fin 4224) (k : Fin 1024) : val_main_v0 (F := Ideal) x0 x1 (ix2 r k)
    = (if h : k.val < 512 then x0 (ix2 r ⟨k.val, h⟩) else x1 (ix2 r ⟨k.val - 512, by omega⟩) : EReal) := by
  unfold val_main_v0
  pointwise

theorem v7_eq (r : Fin 4224) (k : Fin 1024) : val_main_v7 (F := Ideal) x2 x3 (ix2 r k) = ∑ q, x3 (ix2 r q) * x2 (ix2 k q) := by
  unfold val_main_v7 val_main_v6 val_main_v5 val_main_v4
  pointwise
  by_cases h : k.val < 512
  · rw [dif_pos h]
  · rw [dif_neg h]
    refine Finset.sum_congr rfl fun x _ => congrArg (x3 (ix2 r x) * ·) (congrArg (fun k => x2 (ix2 k x)) (Fin.ext ?_))
    show 512 + (k.val - 512) = k.val
    omega

theorem v8_eq (k q : Fin 1024) : val_main_v8 (F := Ideal) x0 x1 x3 (ix2 k q)
    = ∑ r, x3 (ix2 r q) * (if h : k.val < 512 then x0 (ix2 r ⟨k.val, h⟩) else x1 (ix2 r ⟨k.val - 512, by omega⟩) : EReal) := by
  unfold val_main_v8 val_main_v3 val_main_v2
  pointwise
  simp only [v0_eq]

end Cert.Reference3Ideal.RefC

namespace Cert.ClaimC
open Cert Cert.Kernel3Ideal Cert.Kernel3Ideal.Gen Cert.Kernel3Ideal.StepC Idealize.ShloMosaic Idealize.ShloMosaic.TcCoe Idealize.SL.Sem Cert.Spec

variable (m : (ℓ : Loc nD τ sig) → Buf (Elt Ideal) ℓ) (c : Dev nD)

theorem out0 : Reference3Ideal.Read.val_main_v7 (F := Ideal) (A2 m c) (A3 m c) = Value.G4 m c := by
  funext i
  obtain ⟨r, k, rfl⟩ : ∃ r k, i = ix2 r k := ⟨_, _, ValueIdx.eq_ix2 i⟩
  rw [Reference3Ideal.RefC.v7_eq]
  refine Eq.trans ?_ (G4_apply m c r k).symm
  exact Finset.sum_congr rfl fun q _ => by rw [aD_eq, aW_eq]

theorem out1 : Reference3Ideal.Read.val_main_v8 (F := Ideal) (A0 m c) (A1 m c) (A3 m c) = Value.G5 m c := by
  funext i
  obtain ⟨k, q, rfl⟩ : ∃ k q, i = ix2 k q := ⟨_, _, ValueIdx.eq_ix2 i⟩
  rw [Reference3Ideal.RefC.v8_eq]
  refine Eq.trans ?_ (G5_apply m c k q).symm
  refine Finset.sum_congr rfl fun r _ => ?_
  unfold gRow inp
  simp only [aD_eq, aC_eq, aG_eq]
  exact mul_comm _ _

theorem algebraic : Cert.algebraic_Kernel3Ideal_Reference3Ideal := by
  intro m g m' g' _ hargs
  refine ⟨fun c => Value.G4 m c, fun c => Value.G5 m c, ?_, ?_⟩
  · refine (θ_run _ _ _).mono ?_ (Value.run m g)
    exact fun r h c => h c
  · refine (θ_run _ _ _).mono ?_ (Reference3Ideal.Value.run m' g')
    intro r h c
    obtain ⟨e0, e1, hk⟩ := h c
    obtain ⟨a0, a1, a2, a3⟩ := hargs c
    refine ⟨e0.trans ?_, e1.trans ?_, hk⟩
    · rw [Reference3Ideal.Read.val_main_v7_eq, a2, a3]; exact out0 m c
    · rw [Reference3Ideal.Read.val_main_v8_eq, a0, a1, a3]; exact out1 m c

end Cert.ClaimC
-- ==== Proof.StepD.lean ====
module

public import proofs.«01_k».proof.Proof.Gen.Kernel4Ideal.Value
public import proofs.«01_k».proof.Proof.Spec
public import proofs.«01_k».proof.Proof.Bands

/-! What the kernel of the input projection's weight leaves after each grid point, and its result. -/

@[expose] public section
noncomputable section
namespace Cert.Kernel4Ideal.StepD
open Cert.Kernel4Ideal Cert.Kernel4Ideal.Gen Idealize.ShloMosaic Idealize.ShloMosaic.TcCoe Idealize.SL.Sem Cert.Spec

variable (m : (ℓ : Loc nD τ sig) → Buf (Elt Ideal) ℓ)

theorem hz : (![0, 0] : Fin 2 → Nat) = fun _ => 0 := by decide

/-! ## The arrays the windows are cut from, and the blocks -/

def aS (c : Dev nD) (r : Fin 4224) (q : Fin 1024) : EReal := V m c (Pipeline.arrRef spec0 0) (ix2 r q)
def aU1 (c : Dev nD) (r : Fin 4224) (k : Fin 1024) : EReal := V m c (Pipeline.arrRef spec0 1) (ix2 r k)
def aU2 (c : Dev nD) (r : Fin 4224) (k : Fin 512) : EReal := V m c (Pipeline.arrRef spec0 2) (ix2 r k)
def aU3 (c : Dev nD) (r : Fin 4224) (k : Fin 512) : EReal := V m c (Pipeline.arrRef spec0 3) (ix2 r k)
def aU4 (c : Dev nD) (r : Fin 4224) (k : Fin 512) : EReal := V m c (Pipeline.arrRef spec0 4) (ix2 r k)
def aU5 (c : Dev nD) (r : Fin 4224) (k : Fin 128) : EReal := V m c (Pipeline.arrRef spec0 5) (ix2 r k)

theorem lt6 (t : Fin cfg0.N) : t.val < 6 := lt_of_lt_of_eq t.isLt N_0

/-- Row `p` of point `t`'s block of rows. -/
def row (t : Fin cfg0.N) (p : Fin 704) : Fin 4224 := ⟨704 * t.val + p.val, by have := lt6 t; omega⟩

def bS (c : Dev nD) (t : Fin cfg0.N) (p : Fin 704) (q : Fin 1024) : EReal := iblk m c 0 t (ix2 p q)
def bU1 (c : Dev nD) (t : Fin cfg0.N) (p : Fin 704) (k : Fin 1024) : EReal := iblk m c 1 t (ix2 p k)
def bU2 (c : Dev nD) (t : Fin cfg0.N) (p : Fin 704) (k : Fin 512) : EReal := iblk m c 2 t (ix2 p k)
def bU3 (c : Dev nD) (t : Fin cfg0.N) (p : Fin 704) (k : Fin 512) : EReal := iblk m c 3 t (ix2 p k)
def bU4 (c : Dev nD) (t : Fin cfg0.N) (p : Fin 704) (k : Fin 512) : EReal := iblk m c 4 t (ix2 p k)
def bU5 (c : Dev nD) (t : Fin cfg0.N) (p : Fin 704) (k : Fin 128) : EReal := iblk m c 5 t (ix2 p k)

theorem idx (t : Fin cfg0.N) : (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)) t

theorem iblk0 (c : Dev nD) (t : Fin cfg0.N) (p : Fin 704) (k : Fin 1024) : bS m c t p k = aS m c (row t p) k := by
  refine congrArg (V m c (Pipeline.arrRef spec0 0)) (funext fun a => Fin.ext ?_)
  obtain ⟨⟨e0, e1⟩, -⟩ := idx t
  match a with
  | ⟨0, _⟩ => show win0_0.index t (0 : Fin 2) * 704 + 1 * p.val = 704 * t.val + p.val; omega
  | ⟨1, _⟩ => show win0_0.index t (1 : Fin 2) * 1024 + 1 * k.val = k.val; omega

theorem iblk1 (c : Dev nD) (t : Fin cfg0.N) (p : Fin 704) (k : Fin 1024) : bU1 m c t p k = aU1 m c (row t p) k := by
  refine congrArg (V m c (Pipeline.arrRef spec0 1)) (funext fun a => Fin.ext ?_)
  obtain ⟨-, ⟨e0, e1⟩, -⟩ := idx t
  match a with
  | ⟨0, _⟩ => show win0_1.index t (0 : Fin 2) * 704 + 1 * p.val = 704 * t.val + p.val; omega
  | ⟨1, _⟩ => show win0_1.index t (1 : Fin 2) * 1024 + 1 * k.val = k.val; omega

theorem iblk2 (c : Dev nD) (t : Fin cfg0.N) (p : Fin 704) (k : Fin 512) : bU2 m c t p k = aU2 m c (row t p) k := by
  refine congrArg (V m c (Pipeline.arrRef spec0 2)) (funext fun a => Fin.ext ?_)
  obtain ⟨-, -, ⟨e0, e1⟩, -⟩ := idx t
  match a with
  | ⟨0, _⟩ => show win0_2.index t (0 : Fin 2) * 704 + 1 * p.val = 704 * t.val + p.val; omega
  | ⟨1, _⟩ => show win0_2.index t (1 : Fin 2) * 512 + 1 * k.val = k.val; omega

theorem iblk3 (c : Dev nD) (t : Fin cfg0.N) (p : Fin 704) (k : Fin 512) : bU3 m c t p k = aU3 m c (row t p) k := by
  refine congrArg (V m c (Pipeline.arrRef spec0 3)) (funext fun a => Fin.ext ?_)
  obtain ⟨-, -, -, ⟨e0, e1⟩, -⟩ := idx t
  match a with
  | ⟨0, _⟩ => show win0_3.index t (0 : Fin 2) * 704 + 1 * p.val = 704 * t.val + p.val; omega
  | ⟨1, _⟩ => show win0_3.index t (1 : Fin 2) * 512 + 1 * k.val = k.val; omega

theorem iblk4 (c : Dev nD) (t : Fin cfg0.N) (p : Fin 704) (k : Fin 512) : bU4 m c t p k = aU4 m c (row t p) k := by
  refine congrArg (V m c (Pipeline.arrRef spec0 4)) (funext fun a => Fin.ext ?_)
  obtain ⟨-, -, -, -, ⟨e0, e1⟩, -⟩ := idx t
  match a with
  | ⟨0, _⟩ => show win0_4.index t (0 : Fin 2) * 704 + 1 * p.val = 704 * t.val + p.val; omega
  | ⟨1, _⟩ => show win0_4.index t (1 : Fin 2) * 512 + 1 * k.val = k.val; omega

theorem iblk5 (c : Dev nD) (t : Fin cfg0.N) (p : Fin 704) (k : Fin 128) : bU5 m c t p k = aU5 m c (row t p) k := by
  refine congrArg (V m c (Pipeline.arrRef spec0 5)) (funext fun a => Fin.ext ?_)
  obtain ⟨-, -, -, -, -, e0, e1⟩ := idx t
  match a with
  | ⟨0, _⟩ => show win0_5.index t (0 : Fin 2) * 704 + 1 * p.val = 704 * t.val + p.val; omega
  | ⟨1, _⟩ => show win0_5.index t (1 : Fin 2) * 128 + 1 * k.val = k.val; omega

/-! ## The carried sum, in five bands of rows -/

/-- What the point before `t` left. -/
abbrev prev (c : Dev nD) (t : Fin cfg0.N) := outsAt0 m c (t.val - 1) (Nat.lt_of_le_of_lt (Nat.sub_le ..) t.isLt)

/-- The sum after a point, from what it was before it, band by band. -/
structure Bands (c : Dev nD) (t : Fin cfg0.N) (z : Fin 2688 → EReal) (q : Fin 1024) (v : Fin 2688 → EReal) : Prop where
  u1 : ∀ k : Fin 1024, v ⟨k.val, by omega⟩ = z ⟨k.val, by omega⟩ + ∑ p, bU1 m c t p k * bS m c t p q
  u2 : ∀ k : Fin 512, v ⟨1024 + k.val, by omega⟩ = z ⟨1024 + k.val, by omega⟩ + ∑ p, bU2 m c t p k * bS m c t p q
  u3 : ∀ k : Fin 512, v ⟨1536 + k.val, by omega⟩ = z ⟨1536 + k.val, by omega⟩ + ∑ p, bU3 m c t p k * bS m c t p q
  u4 : ∀ k : Fin 512, v ⟨2048 + k.val, by omega⟩ = z ⟨2048 + k.val, by omega⟩ + ∑ p, bU4 m c t p k * bS m c t p q
  u5 : ∀ k : Fin 128, v ⟨2560 + k.val, by omega⟩ = z ⟨2560 + k.val, by omega⟩ + ∑ p, bU5 m c t p k * bS m c t p q

theorem acc_A (c : Dev nD) (t : Fin cfg0.N) (h0 : t.val % 6 = 0) (h1 : ¬t.val % 6 = 5) (q : Fin 1024) :
    Bands m c t (fun _ => 0) q (fun k => (outsAt0 m c t.val t.isLt).2 (ix2 k q)) := by
  rw [outsAt0_A m c t h0 h1]
  dsimp only
  unfold sout0_A_0
  rw [View.read_writes_eq_canon _ _ _ (fun y => scover0_A_0 (y := y) ..)]
  unfold kernelRun0_A; dsimp only
  sl_unfold_words
  dsimp only
  simp only [View.readAt_eq_ld, View.ld_unit_zero (S := S704x1024) hz, View.ld_unit_zero (S := S704x512) hz, View.ld_unit_zero (S := S704x128) hz,
    shapeCast_self, (hs0_0 t).read_unread, (hs0_1 t).read_unread, (hs0_2 t).read_unread, (hs0_3 t).read_unread, (hs0_4 t).read_unread,
    (hs0_5 t).read_unread, (Memref.isWhole_whole _).read_unread]
  simp (decide := true) only [↓View.readCov_skip, View.readCov_fill]
  constructor <;> intro k
  · refine ((canon_off _ _ _ _ _ (by dsimp only; omega)).trans ((canon_off _ _ _ _ _ (by dsimp only; omega)).trans ((canon_off _ _ _ _ _ (by dsimp only; omega)).trans ((canon_off _ _ _ _ _ (by dsimp only; omega)).trans (canon_band _ _ _ k q _ (by dsimp only; omega)))))).trans ?_
    unfold_payloads
    pointwise
    rfl
  · refine ((canon_off _ _ _ _ _ (by dsimp only; omega)).trans ((canon_off _ _ _ _ _ (by dsimp only; omega)).trans ((canon_off _ _ _ _ _ (by dsimp only; omega)).trans (canon_band _ _ _ k q _ (by dsimp only))))).trans ?_
    unfold_payloads
    pointwise
    rfl
  · refine ((canon_off _ _ _ _ _ (by dsimp only; omega)).trans ((canon_off _ _ _ _ _ (by dsimp only; omega)).trans (canon_band _ _ _ k q _ (by dsimp only)))).trans ?_
    unfold_payloads
    pointwise
    rfl
  · refine ((canon_off _ _ _ _ _ (by dsimp only; omega)).trans (canon_band _ _ _ k q _ (by dsimp only))).trans ?_
    unfold_payloads
    pointwise
    rfl
  · refine (canon_band _ _ _ k q _ (by dsimp only)).trans ?_
    unfold_payloads
    pointwise
    rfl

theorem acc_B (c : Dev nD) (t : Fin cfg0.N) (h0 : ¬t.val % 6 = 0) (h1 : ¬t.val % 6 = 5) (q : Fin 1024) :
    Bands m c t (fun k => (prev m c t).2 (ix2 k q)) q (fun k => (outsAt0 m c t.val t.isLt).2 (ix2 k q)) := by
  rw [outsAt0_B m c t h0 h1]
  dsimp only
  unfold sout0_B_0
  rw [View.read_writes_eq_canon _ _ _ (fun y => scover0_B_0 (y := y) ..)]
  unfold kernelRun0_B; dsimp only
  sl_unfold_words
  dsimp only
  simp only [View.readAt_eq_ld, View.ld_unit_zero (S := S704x1024) hz, View.ld_unit_zero (S := S704x512) hz, View.ld_unit_zero (S := S704x128) hz,
    shapeCast_self, (hs0_0 t).read_unread, (hs0_1 t).read_unread, (hs0_2 t).read_unread, (hs0_3 t).read_unread, (hs0_4 t).read_unread,
    (hs0_5 t).read_unread, (Memref.isWhole_whole _).read_unread]
  constructor <;> intro k
  · refine ((canon_off _ _ _ _ _ (by dsimp only; omega)).trans ((canon_off _ _ _ _ _ (by dsimp only; omega)).trans ((canon_off _ _ _ _ _ (by dsimp only; omega)).trans ((canon_off _ _ _ _ _ (by dsimp only; omega)).trans (canon_band _ _ _ k q _ (by dsimp only; omega)))))).trans ?_
    unfold_payloads
    pointwise
    rfl
  · refine ((canon_off _ _ _ _ _ (by dsimp only; omega)).trans ((canon_off _ _ _ _ _ (by dsimp only; omega)).trans ((canon_off _ _ _ _ _ (by dsimp only; omega)).trans (canon_band _ _ _ k q _ (by dsimp only))))).trans ?_
    unfold_payloads
    pointwise
    rfl
  · refine ((canon_off _ _ _ _ _ (by dsimp only; omega)).trans ((canon_off _ _ _ _ _ (by dsimp only; omega)).trans (canon_band _ _ _ k q _ (by dsimp only)))).trans ?_
    unfold_payloads
    pointwise
    rfl
  · refine ((canon_off _ _ _ _ _ (by dsimp only; omega)).trans (canon_band _ _ _ k q _ (by dsimp only))).trans ?_
    unfold_payloads
    pointwise
    rfl
  · refine (canon_band _ _ _ k q _ (by dsimp only)).trans ?_
    unfold_payloads
    pointwise
    rfl

theorem acc_C (c : Dev nD) (t : Fin cfg0.N) (h0 : ¬t.val % 6 = 0) (h1 : t.val % 6 = 5) (q : Fin 1024) :
    Bands m c t (fun k => (prev m c t).2 (ix2 k q)) q (fun k => (outsAt0 m c t.val t.isLt).2 (ix2 k q)) := by
  rw [outsAt0_C m c t h0 h1]
  dsimp only
  unfold sout0_C_0
  rw [View.read_writes_eq_canon _ _ _ (fun y => scover0_C_0 (y := y) ..)]
  unfold kernelRun0_C; dsimp only
  sl_unfold_words
  dsimp only
  simp only [View.readAt_eq_ld, View.ld_unit_zero (S := S704x1024) hz, View.ld_unit_zero (S := S704x512) hz, View.ld_unit_zero (S := S704x128) hz,
    shapeCast_self, (hs0_0 t).read_unread, (hs0_1 t).read_unread, (hs0_2 t).read_unread, (hs0_3 t).read_unread, (hs0_4 t).read_unread,
    (hs0_5 t).read_unread, (Memref.isWhole_whole _).read_unread]
  constructor <;> intro k
  · refine ((canon_off _ _ _ _ _ (by dsimp only; omega)).trans ((canon_off _ _ _ _ _ (by dsimp only; omega)).trans ((canon_off _ _ _ _ _ (by dsimp only; omega)).trans ((canon_off _ _ _ _ _ (by dsimp only; omega)).trans (canon_band _ _ _ k q _ (by dsimp only; omega)))))).trans ?_
    unfold_payloads
    pointwise
    rfl
  · refine ((canon_off _ _ _ _ _ (by dsimp only; omega)).trans ((canon_off _ _ _ _ _ (by dsimp only; omega)).trans ((canon_off _ _ _ _ _ (by dsimp only; omega)).trans (canon_band _ _ _ k q _ (by dsimp only))))).trans ?_
    unfold_payloads
    pointwise
    rfl
  · refine ((canon_off _ _ _ _ _ (by dsimp only; omega)).trans ((canon_off _ _ _ _ _ (by dsimp only; omega)).trans (canon_band _ _ _ k q _ (by dsimp only)))).trans ?_
    unfold_payloads
    pointwise
    rfl
  · refine ((canon_off _ _ _ _ _ (by dsimp only; omega)).trans (canon_band _ _ _ k q _ (by dsimp only))).trans ?_
    unfold_payloads
    pointwise
    rfl
  · refine (canon_band _ _ _ k q _ (by dsimp only)).trans ?_
    unfold_payloads
    pointwise
    rfl

theorem copy (X : Vec Ideal S2688x1024 .f32) (inb) :
    (k0_pay4 (F := Ideal) (View.ld X (Rect.unit ![0, 0] S2688x1024.size inb)) : S2688x1024.Idx → EReal) = X := by
  rw [View.ld_unit_zero (S := S2688x1024) hz]; rfl

/-- The last point copies the sum out. -/
theorem out_C (c : Dev nD) (t : Fin cfg0.N) (h0 : ¬t.val % 6 = 0) (h1 : t.val % 6 = 5) :
    ((outsAt0 m c t.val t.isLt).1 : S2688x1024.Idx → EReal) = (outsAt0 m c t.val t.isLt).2 := by
  rw [outsAt0_C m c t h0 h1]
  dsimp only
  unfold out0_C_6 sout0_C_0
  rw [View.read_writes_eq_canon _ _ _ (fun y => cover0_C_6 (y := y) ..), View.read_writes_eq_canon _ _ _ (fun y => scover0_C_0 (y := y) ..)]
  unfold kernelRun0_C; dsimp only
  sl_unfold_words
  dsimp only
  rw [View.canon_unit_zero hz, View.readCov_eq_canon']
  exact copy _ _

/-! ## The result -/

/-- The five gradients side by side. -/
def cat (c : Dev nD) (r : Fin 4224) (k : Fin 2688) : EReal :=
  if h : k.val < 1024 then aU1 m c r ⟨k.val, h⟩
  else if h : k.val < 1536 then aU2 m c r ⟨k.val - 1024, by omega⟩
  else if h : k.val < 2048 then aU3 m c r ⟨k.val - 1536, by omega⟩
  else if h : k.val < 2560 then aU4 m c r ⟨k.val - 2048, by omega⟩
  else aU5 m c r ⟨k.val - 2560, by omega⟩

/-- What row `r` adds to the gradient of the weight. -/
abbrev gRow (c : Dev nD) (k : Fin 2688) (q : Fin 1024) (r : Fin 4224) : EReal := cat m c r k * aS m c r q

theorem step {c : Dev nD} {t : Fin cfg0.N} {z : Fin 2688 → EReal} {q : Fin 1024} {v : Fin 2688 → EReal} (h : Bands m c t z q v) (k : Fin 2688) :
    v k = z k + rows (gRow m c k q) t.val := by
  rw [rows, dif_pos (lt6 t)]
  by_cases h1 : k.val < 1024
  · refine (h.u1 ⟨k.val, h1⟩).trans (congrArg (z k + ·) (Finset.sum_congr rfl fun p _ => ?_))
    rw [iblk0, iblk1]; unfold gRow cat; rw [dif_pos h1]
    rfl
  by_cases h2 : k.val < 1536
  · obtain ⟨k', hk⟩ : ∃ k' : Fin 512, 1024 + k'.val = k.val := ⟨⟨k.val - 1024, by omega⟩, by dsimp only; omega⟩
    have e := h.u2 k'
    simp only [hk] at e
    refine e.trans (congrArg (z k + ·) (Finset.sum_congr rfl fun p _ => ?_))
    rw [iblk0, iblk2]; unfold gRow cat; rw [dif_neg h1, dif_pos h2]
    rw [show (⟨k.val - 1024, by omega⟩ : Fin 512) = k' from Fin.ext (by dsimp only; omega)]; rfl
  by_cases h3 : k.val < 2048
  · obtain ⟨k', hk⟩ : ∃ k' : Fin 512, 1536 + k'.val = k.val := ⟨⟨k.val - 1536, by omega⟩, by dsimp only; omega⟩
    have e := h.u3 k'
    simp only [hk] at e
    refine e.trans (congrArg (z k + ·) (Finset.sum_congr rfl fun p _ => ?_))
    rw [iblk0, iblk3]; unfold gRow cat; rw [dif_neg h1, dif_neg h2, dif_pos h3]
    rw [show (⟨k.val - 1536, by omega⟩ : Fin 512) = k' from Fin.ext (by dsimp only; omega)]; rfl
  by_cases h4 : k.val < 2560
  · obtain ⟨k', hk⟩ : ∃ k' : Fin 512, 2048 + k'.val = k.val := ⟨⟨k.val - 2048, by omega⟩, by dsimp only; omega⟩
    have e := h.u4 k'
    simp only [hk] at e
    refine e.trans (congrArg (z k + ·) (Finset.sum_congr rfl fun p _ => ?_))
    rw [iblk0, iblk4]; unfold gRow cat; rw [dif_neg h1, dif_neg h2, dif_neg h3, dif_pos h4]
    rw [show (⟨k.val - 2048, by omega⟩ : Fin 512) = k' from Fin.ext (by dsimp only; omega)]; rfl
  obtain ⟨k', hk⟩ : ∃ k' : Fin 128, 2560 + k'.val = k.val := ⟨⟨k.val - 2560, by omega⟩, by dsimp only; omega⟩
  have e := h.u5 k'
  simp only [hk] at e
  refine e.trans (congrArg (z k + ·) (Finset.sum_congr rfl fun p _ => ?_))
  rw [iblk0, iblk5]; unfold gRow cat; rw [dif_neg h1, dif_neg h2, dif_neg h3, dif_neg h4]
  rw [show (⟨k.val - 2560, by omega⟩ : Fin 128) = k' from Fin.ext (by dsimp only; omega)]; rfl

theorem acc_eq (c : Dev nD) (q : Fin 1024) : ∀ (n : ℕ) (hn : n < cfg0.N) (k : Fin 2688),
    (outsAt0 m c n hn).2 (ix2 k q) = ∑ i ∈ Finset.range (n + 1), rows (gRow m c k q) i := by
  intro n
  induction n with
  | zero =>
    intro hn k
    refine (step m (acc_A m c ⟨0, hn⟩ rfl (show ¬ 0 % 6 = 5 by decide) q) k).trans ?_
    rw [zero_add, Finset.sum_range_one]
  | succ n ih =>
    intro hn k
    have h6 := lt6 ⟨n + 1, hn⟩
    dsimp only at h6
    rw [Finset.sum_range_succ, ← ih (Nat.lt_of_succ_lt hn) k]
    by_cases h1 : (n + 1) % 6 = 5
    · exact step m (acc_C m c ⟨n + 1, hn⟩ (by dsimp only; omega) h1 q) k
    · exact step m (acc_B m c ⟨n + 1, hn⟩ (by dsimp only; omega) h1 q) k

theorem G6_apply (c : Dev nD) (k : Fin 2688) (q : Fin 1024) :
    (Value.G6 m c : S2688x1024.Idx → EReal) (ix2 k q) = ∑ r, gRow m c k q r := by
  have hN : cfg0.N = 6 := N_0
  have hp' : Value.pt6Of (ix2 k q) = 5 := by show 6 * (1 * (k.val / 2688 - 0) + 1 * (q.val / 1024 - 0)) + 5 = _; omega
  have hp : Value.pt6Of (ix2 k q) < cfg0.N := by omega
  have hl : Value.loc6Of (ix2 k q) = ix2 k q := by
    funext a; apply Fin.ext
    match a with
    | ⟨0, _⟩ => show k.val % 2688 = k.val; omega
    | ⟨1, _⟩ => show q.val % 1024 = q.val; omega
  show Value.G6 m c (ix2 k q) = _
  unfold Value.G6
  rw [dif_pos hp, hl, ← Value.outsAt0_sweep m c _ hp]
  refine (congrFun (out_C m c ⟨_, hp⟩ (by dsimp only; omega) (by dsimp only; omega)) _).trans ?_
  refine (acc_eq m c q _ hp k).trans ?_
  rw [hp']
  exact sum_rows _

end Cert.Kernel4Ideal.StepD
-- ==== Proof.ClaimD.lean ====
module

public import proofs.«01_k».proof.Proof.StepD
public import proofs.«01_k».proof.Proof.Gen.Reference4Ideal.Read
public import proofs.«01_k».proof.Defs
public import Idealize.ShloMosaic.Lib.StableHlo.ReadAt

/-! The gradient of the input projection's weight of the kernel is the reference's. -/

@[expose] public section
noncomputable section

namespace Cert.Kernel4Ideal.StepD
open Cert.Kernel4Ideal Cert.Kernel4Ideal.Gen Idealize.ShloMosaic Idealize.ShloMosaic.TcCoe Idealize.SL.Sem Cert.Spec

variable (m : (ℓ : Loc nD τ sig) → Buf (Elt Ideal) ℓ)

/-! ## The arrays the kernel is launched on -/

abbrev A0 (c : Dev nD) : S4224x1024.Idx → EReal := m ((c.tc : Thread nD τ).loc main_arg0)
abbrev A1 (c : Dev nD) : S4224x1024.Idx → EReal := m ((c.tc : Thread nD τ).loc main_arg1)
abbrev A2 (c : Dev nD) : S4224x512.Idx → EReal := m ((c.tc : Thread nD τ).loc main_arg2)
abbrev A3 (c : Dev nD) : S4224x512.Idx → EReal := m ((c.tc : Thread nD τ).loc main_arg3)
abbrev A4 (c : Dev nD) : S4224x512.Idx → EReal := m ((c.tc : Thread nD τ).loc main_arg4)
abbrev A5 (c : Dev nD) : S4224x128.Idx → EReal := m ((c.tc : Thread nD τ).loc main_arg5)

theorem aS_eq (c : Dev nD) (r : Fin 4224) (k : Fin 1024) : aS m c r k = A0 m c (ix2 r k) := by
  unfold aS V
  after_reads_at

theorem aU1_eq (c : Dev nD) (r : Fin 4224) (k : Fin 1024) : aU1 m c r k = A1 m c (ix2 r k) := by
  unfold aU1 V
  after_reads_at

theorem aU2_eq (c : Dev nD) (r : Fin 4224) (k : Fin 512) : aU2 m c r k = A2 m c (ix2 r k) := by
  unfold aU2 V
  after_reads_at

theorem aU3_eq (c : Dev nD) (r : Fin 4224) (k : Fin 512) : aU3 m c r k = A3 m c (ix2 r k) := by
  unfold aU3 V
  after_reads_at

theorem aU4_eq (c : Dev nD) (r : Fin 4224) (k : Fin 512) : aU4 m c r k = A4 m c (ix2 r k) := by
  unfold aU4 V
  after_reads_at

theorem aU5_eq (c : Dev nD) (r : Fin 4224) (k : Fin 128) : aU5 m c r k = A5 m c (ix2 r k) := by
  unfold aU5 V
  after_reads_at

end Cert.Kernel4Ideal.StepD

namespace Cert.Reference4Ideal.RefD
open Cert.Reference4Ideal Cert.Reference4Ideal.Gen Cert.Reference4Ideal.Read Idealize.ShloMosaic Idealize.ShloMosaic.TcCoe Idealize.ShloMosaic.StableHlo Cert.Spec

variable (x0 x1 : (⟨S4224x1024, .f32⟩ : BufTy).Contents (Elt Ideal)) (x2 x3 x4 : (⟨S4224x512, .f32⟩ : BufTy).Contents (Elt Ideal))
  (x5 : (⟨S4224x128, .f32⟩ : BufTy).Contents (Elt Ideal))

/-! ## The reference's values at an index -/

theorem nested (f₁ : Fin 1024 → EReal) (f₂ f₃ f₄ : Fin 512 → EReal) (f₅ : Fin 128 → EReal) (k : Fin 2688) :
    (if h : k.val < 1024 then f₁ ⟨k.val, h⟩ else if h : k.val - 1024 < 512 then f₂ ⟨k.val - 1024, h⟩
      else if h : k.val - 1024 - 512 < 512 then f₃ ⟨k.val - 1024 - 512, h⟩
      else if h : k.val - 1024 - 512 - 512 < 512 then f₄ ⟨k.val - 1024 - 512 - 512, h⟩
      else f₅ ⟨k.val - 1024 - 512 - 512 - 512, by omega⟩)
    = if h : k.val < 1024 then f₁ ⟨k.val, h⟩ else if h : k.val < 1536 then f₂ ⟨k.val - 1024, by omega⟩
      else if h : k.val < 2048 then f₃ ⟨k.val - 1536, by omega⟩ else if h : k.val < 2560 then f₄ ⟨k.val - 2048, by omega⟩
      else f₅ ⟨k.val - 2560, by omega⟩ := by
  simp only [Nat.sub_sub, Nat.reduceAdd]
  by_cases h1 : k.val < 1024
  · rw [dif_pos h1, dif_pos h1]
  rw [dif_neg h1, dif_neg h1]
  by_cases h2 : k.val < 1536
  · rw [dif_pos h2, dif_pos (show k.val - 1024 < 512 by omega)]
  rw [dif_neg h2, dif_neg (show ¬ k.val - 1024 < 512 by omega)]
  by_cases h3 : k.val < 2048
  · rw [dif_pos h3, dif_pos (show k.val - 1536 < 512 by omega)]
  rw [dif_neg h3, dif_neg (show ¬ k.val - 1536 < 512 by omega)]
  by_cases h4 : k.val < 2560
  · rw [dif_pos h4, dif_pos (show k.val - 2048 < 512 by omega)]
  rw [dif_neg h4, dif_neg (show ¬ k.val - 2048 < 512 by omega)]

theorem v0_eq (r : Fin 4224) (k : Fin 2688) : val_main_v0 (F := Ideal) x1 x2 x3 x4 x5 (ix2 r k)
    = (if h : k.val < 1024 then x1 (ix2 r ⟨k.val, h⟩)
  else if h : k.val < 1536 then x2 (ix2 r ⟨k.val - 1024, by omega⟩)
  else if h : k.val < 2048 then x3 (ix2 r ⟨k.val - 1536, by omega⟩)
  else if h : k.val < 2560 then x4 (ix2 r ⟨k.val - 2048, by omega⟩)
  else x5 (ix2 r ⟨k.val - 2560, by omega⟩) : EReal) := by
  unfold val_main_v0
  pointwise
  exact nested (fun a => x1 (ix2 r a)) (fun a => x2 (ix2 r a)) (fun a => x3 (ix2 r a)) (fun a => x4 (ix2 r a)) (fun a => x5 (ix2 r a)) k

theorem v6_eq (k : Fin 2688) (q : Fin 1024) : val_main_v6 (F := Ideal) x0 x1 x2 x3 x4 x5 (ix2 k q)
    = ∑ r, (val_main_v0 (F := Ideal) x1 x2 x3 x4 x5 (ix2 r k) : EReal) * x0 (ix2 r q) := by
  unfold val_main_v6 val_main_v5 val_main_v4 val_main_v3
  pointwise

end Cert.Reference4Ideal.RefD

namespace Cert.ClaimD
open Cert Cert.Kernel4Ideal Cert.Kernel4Ideal.Gen Cert.Kernel4Ideal.StepD Idealize.ShloMosaic Idealize.ShloMosaic.TcCoe Idealize.SL.Sem Cert.Spec

variable (m : (ℓ : Loc nD τ sig) → Buf (Elt Ideal) ℓ) (c : Dev nD)

theorem out0 : Reference4Ideal.Read.val_main_v6 (F := Ideal) (A0 m c) (A1 m c) (A2 m c) (A3 m c) (A4 m c) (A5 m c) = Value.G6 m c := by
  funext i
  obtain ⟨k, q, rfl⟩ : ∃ k q, i = ix2 k q := ⟨_, _, ValueIdx.eq_ix2 i⟩
  rw [Reference4Ideal.RefD.v6_eq]
  refine Eq.trans ?_ (G6_apply m c k q).symm
  refine Finset.sum_congr rfl fun r _ => ?_
  rw [Reference4Ideal.RefD.v0_eq]
  unfold gRow cat
  simp only [aS_eq, aU1_eq, aU2_eq, aU3_eq, aU4_eq, aU5_eq]

theorem algebraic : Cert.algebraic_Kernel4Ideal_Reference4Ideal := by
  intro m g m' g' _ hargs
  refine ⟨fun c => Value.G6 m c, ?_, ?_⟩
  · refine (θ_run _ _ _).mono ?_ (Value.run m g)
    exact fun r h c => h c
  · refine (θ_run _ _ _).mono ?_ (Reference4Ideal.Value.run m' g')
    intro r h c
    obtain ⟨e0, hk⟩ := h c
    obtain ⟨a0, a1, a2, a3, a4, a5⟩ := hargs c
    refine ⟨e0.trans ?_, hk⟩
    rw [Reference4Ideal.Read.val_main_v6_eq, a0, a1, a2, a3, a4, a5]; exact out0 m c

end Cert.ClaimD
-- ==== Proof.StepG.lean ====
module

public import proofs.«01_k».proof.Proof.Gen.Kernel5Ideal.Value
public import proofs.«01_k».proof.Proof.Spec

/-! What the kernel of the input projection's gradient leaves after each grid point, and its results. -/

@[expose] public section
noncomputable section
namespace Cert.Kernel5Ideal.StepG
open Cert.Kernel5Ideal Cert.Kernel5Ideal.Gen Idealize.ShloMosaic Idealize.ShloMosaic.TcCoe Idealize.SL.Sem Cert.Spec

variable (m : (ℓ : Loc nD τ sig) → Buf (Elt Ideal) ℓ)

theorem hz : (![0, 0] : Fin 2 → Nat) = fun _ => 0 := by decide

/-! ## The arrays the windows are cut from, and the blocks -/

def aD (c : Dev nD) (r : Fin 4224) (k : Fin 1024) : EReal := V m c (Pipeline.arrRef spec0 0) (ix2 r k)
def aU1 (c : Dev nD) (r : Fin 4224) (k : Fin 1024) : EReal := V m c (Pipeline.arrRef spec0 1) (ix2 r k)
def aU2 (c : Dev nD) (r : Fin 4224) (k : Fin 512) : EReal := V m c (Pipeline.arrRef spec0 2) (ix2 r k)
def aU3 (c : Dev nD) (r : Fin 4224) (k : Fin 512) : EReal := V m c (Pipeline.arrRef spec0 3) (ix2 r k)
def aU4 (c : Dev nD) (r : Fin 4224) (k : Fin 512) : EReal := V m c (Pipeline.arrRef spec0 4) (ix2 r k)
def aU5 (c : Dev nD) (r : Fin 4224) (k : Fin 128) : EReal := V m c (Pipeline.arrRef spec0 5) (ix2 r k)
def aX (c : Dev nD) (r : Fin 4096) (k : Fin 1024) : EReal := V m c (Pipeline.arrRef spec0 6) (ix2 r k)
def aG (c : Dev nD) (r : Fin 1) (k : Fin 1024) : EReal := V m c (Pipeline.arrRef spec0 7) (ix2 r k)
def aW (c : Dev nD) (r : Fin 2688) (k : Fin 1024) : EReal := V m c (Pipeline.arrRef spec0 8) (ix2 r k)

theorem lt8 (t : Fin cfg0.N) : t.val < 8 := lt_of_lt_of_eq t.isLt N_0

/-- Row `p` of point `t`'s block of the sequences … -/
def row (t : Fin cfg0.N) (p : Fin 512) : Fin 4096 := ⟨512 * t.val + p.val, by have := lt8 t; omega⟩
/-- … and a row of the sequences among the rows with the 64 of the front before each. -/
def pos (i : Fin 4096) : Fin 4224 := ⟨2112 * (i.val / 2048) + (64 + i.val % 2048), by omega⟩

def bD (c : Dev nD) (t : Fin cfg0.N) (r : Fin 512) (k : Fin 1024) : EReal := iblk m c 0 t (ix2 r k)
def bU1 (c : Dev nD) (t : Fin cfg0.N) (r : Fin 512) (k : Fin 1024) : EReal := iblk m c 1 t (ix2 r k)
def bU2 (c : Dev nD) (t : Fin cfg0.N) (r : Fin 512) (k : Fin 512) : EReal := iblk m c 2 t (ix2 r k)
def bU3 (c : Dev nD) (t : Fin cfg0.N) (r : Fin 512) (k : Fin 512) : EReal := iblk m c 3 t (ix2 r k)
def bU4 (c : Dev nD) (t : Fin cfg0.N) (r : Fin 512) (k : Fin 512) : EReal := iblk m c 4 t (ix2 r k)
def bU5 (c : Dev nD) (t : Fin cfg0.N) (r : Fin 512) (k : Fin 128) : EReal := iblk m c 5 t (ix2 r k)
def bX (c : Dev nD) (t : Fin cfg0.N) (r : Fin 512) (k : Fin 1024) : EReal := iblk m c 6 t (ix2 r k)
def bG (c : Dev nD) (t : Fin cfg0.N) (r : Fin 1) (k : Fin 1024) : EReal := iblk m c 7 t (ix2 r k)
def bW (c : Dev nD) (t : Fin cfg0.N) (r : Fin 2688) (k : Fin 1024) : EReal := iblk m c 8 t (ix2 r k)

theorem idx (t : Fin cfg0.N) : (win0_0.index t (0 : Fin 2) = 2112 * (t.val / 4) + (64 + 512 * (t.val % 4)) ∧ win0_0.index t (1 : Fin 2) = 0)
    ∧ (win0_1.index t (0 : Fin 2) = 2112 * (t.val / 4) + (64 + 512 * (t.val % 4)) ∧ win0_1.index t (1 : Fin 2) = 0)
    ∧ (win0_2.index t (0 : Fin 2) = 2112 * (t.val / 4) + (64 + 512 * (t.val % 4)) ∧ win0_2.index t (1 : Fin 2) = 0)
    ∧ (win0_3.index t (0 : Fin 2) = 2112 * (t.val / 4) + (64 + 512 * (t.val % 4)) ∧ win0_3.index t (1 : Fin 2) = 0)
    ∧ (win0_4.index t (0 : Fin 2) = 2112 * (t.val / 4) + (64 + 512 * (t.val % 4)) ∧ win0_4.index t (1 : Fin 2) = 0)
    ∧ (win0_5.index t (0 : Fin 2) = 2112 * (t.val / 4) + (64 + 512 * (t.val % 4)) ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, (win0_0.index t (0 : Fin 2) = 2112 * (t.val / 4) + (64 + 512 * (t.val % 4)) ∧ win0_0.index t (1 : Fin 2) = 0)
    ∧ (win0_1.index t (0 : Fin 2) = 2112 * (t.val / 4) + (64 + 512 * (t.val % 4)) ∧ win0_1.index t (1 : Fin 2) = 0)
    ∧ (win0_2.index t (0 : Fin 2) = 2112 * (t.val / 4) + (64 + 512 * (t.val % 4)) ∧ win0_2.index t (1 : Fin 2) = 0)
    ∧ (win0_3.index t (0 : Fin 2) = 2112 * (t.val / 4) + (64 + 512 * (t.val % 4)) ∧ win0_3.index t (1 : Fin 2) = 0)
    ∧ (win0_4.index t (0 : Fin 2) = 2112 * (t.val / 4) + (64 + 512 * (t.val % 4)) ∧ win0_4.index t (1 : Fin 2) = 0)
    ∧ (win0_5.index t (0 : Fin 2) = 2112 * (t.val / 4) + (64 + 512 * (t.val % 4)) ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)) t

theorem iblk0 (c : Dev nD) (t : Fin cfg0.N) (r : Fin 512) (k : Fin 1024) : bD m c t r k = aD m c (pos (row t r)) k := by
  refine congrArg (V m c (Pipeline.arrRef spec0 0)) (funext fun a => Fin.ext ?_)
  obtain ⟨⟨e0, e1⟩, -⟩ := idx t
  match a with
  | ⟨0, _⟩ => show win0_0.index t (0 : Fin 2) + 1 * r.val = 2112 * ((512 * t.val + r.val) / 2048) + (64 + (512 * t.val + r.val) % 2048); omega
  | ⟨1, _⟩ => show win0_0.index t (1 : Fin 2) + 1 * k.val = k.val; omega

theorem iblk1 (c : Dev nD) (t : Fin cfg0.N) (r : Fin 512) (k : Fin 1024) : bU1 m c t r k = aU1 m c (pos (row t r)) k := by
  refine congrArg (V m c (Pipeline.arrRef spec0 1)) (funext fun a => Fin.ext ?_)
  obtain ⟨-, ⟨e0, e1⟩, -⟩ := idx t
  match a with
  | ⟨0, _⟩ => show win0_1.index t (0 : Fin 2) + 1 * r.val = 2112 * ((512 * t.val + r.val) / 2048) + (64 + (512 * t.val + r.val) % 2048); omega
  | ⟨1, _⟩ => show win0_1.index t (1 : Fin 2) + 1 * k.val = k.val; omega

theorem iblk2 (c : Dev nD) (t : Fin cfg0.N) (r : Fin 512) (k : Fin 512) : bU2 m c t r k = aU2 m c (pos (row t r)) k := by
  refine congrArg (V m c (Pipeline.arrRef spec0 2)) (funext fun a => Fin.ext ?_)
  obtain ⟨-, -, ⟨e0, e1⟩, -⟩ := idx t
  match a with
  | ⟨0, _⟩ => show win0_2.index t (0 : Fin 2) + 1 * r.val = 2112 * ((512 * t.val + r.val) / 2048) + (64 + (512 * t.val + r.val) % 2048); omega
  | ⟨1, _⟩ => show win0_2.index t (1 : Fin 2) + 1 * k.val = k.val; omega

theorem iblk3 (c : Dev nD) (t : Fin cfg0.N) (r : Fin 512) (k : Fin 512) : bU3 m c t r k = aU3 m c (pos (row t r)) k := by
  refine congrArg (V m c (Pipeline.arrRef spec0 3)) (funext fun a => Fin.ext ?_)
  obtain ⟨-, -, -, ⟨e0, e1⟩, -⟩ := idx t
  match a with
  | ⟨0, _⟩ => show win0_3.index t (0 : Fin 2) + 1 * r.val = 2112 * ((512 * t.val + r.val) / 2048) + (64 + (512 * t.val + r.val) % 2048); omega
  | ⟨1, _⟩ => show win0_3.index t (1 : Fin 2) + 1 * k.val = k.val; omega

theorem iblk4 (c : Dev nD) (t : Fin cfg0.N) (r : Fin 512) (k : Fin 512) : bU4 m c t r k = aU4 m c (pos (row t r)) k := by
  refine congrArg (V m c (Pipeline.arrRef spec0 4)) (funext fun a => Fin.ext ?_)
  obtain ⟨-, -, -, -, ⟨e0, e1⟩, -⟩ := idx t
  match a with
  | ⟨0, _⟩ => show win0_4.index t (0 : Fin 2) + 1 * r.val = 2112 * ((512 * t.val + r.val) / 2048) + (64 + (512 * t.val + r.val) % 2048); omega
  | ⟨1, _⟩ => show win0_4.index t (1 : Fin 2) + 1 * k.val = k.val; omega

theorem iblk5 (c : Dev nD) (t : Fin cfg0.N) (r : Fin 512) (k : Fin 128) : bU5 m c t r k = aU5 m c (pos (row t r)) k := by
  refine congrArg (V m c (Pipeline.arrRef spec0 5)) (funext fun a => Fin.ext ?_)
  obtain ⟨-, -, -, -, -, ⟨e0, e1⟩, -⟩ := idx t
  match a with
  | ⟨0, _⟩ => show win0_5.index t (0 : Fin 2) + 1 * r.val = 2112 * ((512 * t.val + r.val) / 2048) + (64 + (512 * t.val + r.val) % 2048); omega
  | ⟨1, _⟩ => show win0_5.index t (1 : Fin 2) + 1 * k.val = k.val; omega

theorem iblk6 (c : Dev nD) (t : Fin cfg0.N) (r : Fin 512) (k : Fin 1024) : bX m c t r k = aX m c (row t r) k := by
  refine congrArg (V m c (Pipeline.arrRef spec0 6)) (funext fun a => Fin.ext ?_)
  obtain ⟨-, -, -, -, -, -, ⟨e0, e1⟩, -⟩ := idx t
  match a with
  | ⟨0, _⟩ => show win0_6.index t (0 : Fin 2) * 512 + 1 * r.val = 512 * t.val + r.val; omega
  | ⟨1, _⟩ => show win0_6.index t (1 : Fin 2) * 1024 + 1 * k.val = k.val; omega

theorem iblk7 (c : Dev nD) (t : Fin cfg0.N) (r : Fin 1) (k : Fin 1024) : bG m c t r k = aG m c r k := by
  refine congrArg (V m c (Pipeline.arrRef spec0 7)) (funext fun a => Fin.ext ?_)
  obtain ⟨-, -, -, -, -, -, -, ⟨e0, e1⟩, -⟩ := idx t
  match a with
  | ⟨0, _⟩ => show win0_7.index t (0 : Fin 2) * 1 + 1 * r.val = r.val; omega
  | ⟨1, _⟩ => show win0_7.index t (1 : Fin 2) * 1024 + 1 * k.val = k.val; omega

theorem iblk8 (c : Dev nD) (t : Fin cfg0.N) (r : Fin 2688) (k : Fin 1024) : bW m c t r k = aW m c r k := by
  refine congrArg (V m c (Pipeline.arrRef spec0 8)) (funext fun a => Fin.ext ?_)
  obtain ⟨-, -, -, -, -, -, -, -, ⟨e0, e1⟩, -⟩ := idx t
  match a with
  | ⟨0, _⟩ => show win0_8.index t (0 : Fin 2) * 2688 + 1 * r.val = r.val; omega
  | ⟨1, _⟩ => show win0_8.index t (1 : Fin 2) * 1024 + 1 * k.val = k.val; omega

/-! ## A point's outputs -/

/-- The gradient at the norm, row `p` of the block. -/
def ds (c : Dev nD) (t : Fin cfg0.N) (p : Fin 512) (q : Fin 1024) : EReal :=
  alpha * bD m c t p q + ∑ k : Fin 1024, bU1 m c t p k * bW m c t ⟨k.val, by omega⟩ q + ∑ k : Fin 512, bU2 m c t p k * bW m c t ⟨1024 + k.val, by omega⟩ q
    + ∑ k : Fin 512, bU3 m c t p k * bW m c t ⟨1536 + k.val, by omega⟩ q + ∑ k : Fin 512, bU4 m c t p k * bW m c t ⟨2048 + k.val, by omega⟩ q
    + ∑ k : Fin 128, bU5 m c t p k * bW m c t ⟨2560 + k.val, by omega⟩ q

/-- What the point before left. -/
abbrev prev (c : Dev nD) (t : Fin cfg0.N) := outsAt0 m c (t.val - 1) (Nat.lt_of_le_of_lt (Nat.sub_le _ _) t.isLt)

theorem dx_A (c : Dev nD) (t : Fin cfg0.N) (h0 : t.val % 8 = 0) (p : Fin 512) (q : Fin 1024) : (outsAt0 m c t.val t.isLt).1 (ix2 p q) = lnBwd (fun k => ds m c t p k * bG m c t 0 k) (fun k => bX m c t p k) q := by
  rw [outsAt0_A m c t h0]
  dsimp only
  unfold out0_A_9
  rw [View.read_writes_eq_canon _ _ _ (fun y => cover0_A_9 (y := y) ..)]
  unfold kernelRun0_A; dsimp only
  sl_unfold_words
  dsimp only
  rw [View.canon_unit_zero hz]
  simp only [View.readAt_eq_ld, View.canon_cons_unit_zero (S := S1x1024) hz, View.readCov_unit_zero (S := S1x1024) _ hz, View.ld_unit_zero (S := S512x1024) hz,
    View.ld_unit_zero (S := S512x512) hz, View.ld_unit_zero (S := S512x128) hz, View.ld_unit_zero (S := S1x1024) hz, shapeCast_self,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, (hs0_11 t).read_unread, (Memref.isWhole_whole _).read_unread]
  unfold_payloads
  pointwise
  rfl

theorem dg_A (c : Dev nD) (t : Fin cfg0.N) (h0 : t.val % 8 = 0) (q : Fin 1024) : (outsAt0 m c t.val t.isLt).2.1 (ix2 0 q) = ∑ p, ds m c t p q * xhat (fun k => bX m c t p k) q := by
  rw [outsAt0_A m c t h0]
  dsimp only
  unfold out0_A_10
  rw [View.read_writes_eq_canon _ _ _ (fun y => cover0_A_10 (y := y) ..)]
  unfold kernelRun0_A; dsimp only
  sl_unfold_words
  dsimp only
  simp only [View.readAt_eq_ld, View.canon_cons_unit_zero (S := S1x1024) hz, View.readCov_unit_zero (S := S1x1024) _ hz, View.ld_unit_zero (S := S512x1024) hz,
    View.ld_unit_zero (S := S512x512) hz, View.ld_unit_zero (S := S512x128) hz, View.ld_unit_zero (S := S1x1024) hz, shapeCast_self,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, (hs0_11 t).read_unread, (Memref.isWhole_whole _).read_unread]
  unfold_payloads
  pointwise
  rfl

theorem db_A (c : Dev nD) (t : Fin cfg0.N) (h0 : t.val % 8 = 0) (q : Fin 1024) : (outsAt0 m c t.val t.isLt).2.2 (ix2 0 q) = ∑ p, ds m c t p q := by
  rw [outsAt0_A m c t h0]
  dsimp only
  unfold out0_A_11
  rw [View.read_writes_eq_canon _ _ _ (fun y => cover0_A_11 (y := y) ..)]
  unfold kernelRun0_A; dsimp only
  sl_unfold_words
  dsimp only
  simp only [View.readAt_eq_ld, View.canon_cons_unit_zero (S := S1x1024) hz, View.readCov_unit_zero (S := S1x1024) _ hz, View.ld_unit_zero (S := S512x1024) hz,
    View.ld_unit_zero (S := S512x512) hz, View.ld_unit_zero (S := S512x128) hz, View.ld_unit_zero (S := S1x1024) hz, shapeCast_self,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, (hs0_11 t).read_unread, (Memref.isWhole_whole _).read_unread]
  unfold_payloads
  pointwise
  rfl

theorem dx_B (c : Dev nD) (t : Fin cfg0.N) (h0 : ¬t.val % 8 = 0) (p : Fin 512) (q : Fin 1024) : (outsAt0 m c t.val t.isLt).1 (ix2 p q) = lnBwd (fun k => ds m c t p k * bG m c t 0 k) (fun k => bX m c t p k) q := by
  rw [outsAt0_B m c t h0]
  dsimp only
  unfold out0_B_9
  rw [View.read_writes_eq_canon _ _ _ (fun y => cover0_B_9 (y := y) ..)]
  unfold kernelRun0_B; dsimp only
  sl_unfold_words
  dsimp only
  rw [View.canon_unit_zero hz]
  simp only [View.readAt_eq_ld, View.canon_cons_unit_zero (S := S1x1024) hz, View.readCov_unit_zero (S := S1x1024) _ hz, View.ld_unit_zero (S := S512x1024) hz,
    View.ld_unit_zero (S := S512x512) hz, View.ld_unit_zero (S := S512x128) hz, View.ld_unit_zero (S := S1x1024) hz, shapeCast_self,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, (hs0_11 t).read_unread, (Memref.isWhole_whole _).read_unread]
  unfold_payloads
  pointwise
  rfl

theorem dg_B (c : Dev nD) (t : Fin cfg0.N) (h0 : ¬t.val % 8 = 0) (q : Fin 1024) : (outsAt0 m c t.val t.isLt).2.1 (ix2 0 q) = (prev m c t).2.1 (ix2 0 q) + ∑ p, ds m c t p q * xhat (fun k => bX m c t p k) q := by
  rw [outsAt0_B m c t h0]
  dsimp only
  unfold out0_B_10
  rw [View.read_writes_eq_canon _ _ _ (fun y => cover0_B_10 (y := y) ..)]
  unfold kernelRun0_B; dsimp only
  sl_unfold_words
  dsimp only
  simp only [View.readAt_eq_ld, View.canon_cons_unit_zero (S := S1x1024) hz, View.readCov_unit_zero (S := S1x1024) _ hz, View.ld_unit_zero (S := S512x1024) hz,
    View.ld_unit_zero (S := S512x512) hz, View.ld_unit_zero (S := S512x128) hz, View.ld_unit_zero (S := S1x1024) hz, shapeCast_self,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, (hs0_11 t).read_unread, (Memref.isWhole_whole _).read_unread]
  unfold_payloads
  pointwise
  rfl

theorem db_B (c : Dev nD) (t : Fin cfg0.N) (h0 : ¬t.val % 8 = 0) (q : Fin 1024) : (outsAt0 m c t.val t.isLt).2.2 (ix2 0 q) = (prev m c t).2.2 (ix2 0 q) + ∑ p, ds m c t p q := by
  rw [outsAt0_B m c t h0]
  dsimp only
  unfold out0_B_11
  rw [View.read_writes_eq_canon _ _ _ (fun y => cover0_B_11 (y := y) ..)]
  unfold kernelRun0_B; dsimp only
  sl_unfold_words
  dsimp only
  simp only [View.readAt_eq_ld, View.canon_cons_unit_zero (S := S1x1024) hz, View.readCov_unit_zero (S := S1x1024) _ hz, View.ld_unit_zero (S := S512x1024) hz,
    View.ld_unit_zero (S := S512x512) hz, View.ld_unit_zero (S := S512x128) hz, View.ld_unit_zero (S := S1x1024) hz, shapeCast_self,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, (hs0_11 t).read_unread, (Memref.isWhole_whole _).read_unread]
  unfold_payloads
  pointwise
  rfl

/-! ## From the arrays -/

/-- The gradient at the norm, from the arrays. -/
def dsA (c : Dev nD) (i : Fin 4096) (q : Fin 1024) : EReal :=
  alpha * aD m c (pos i) q + ∑ k : Fin 1024, aU1 m c (pos i) k * aW m c ⟨k.val, by omega⟩ q + ∑ k : Fin 512, aU2 m c (pos i) k * aW m c ⟨1024 + k.val, by omega⟩ q
    + ∑ k : Fin 512, aU3 m c (pos i) k * aW m c ⟨1536 + k.val, by omega⟩ q + ∑ k : Fin 512, aU4 m c (pos i) k * aW m c ⟨2048 + k.val, by omega⟩ q
    + ∑ k : Fin 128, aU5 m c (pos i) k * aW m c ⟨2560 + k.val, by omega⟩ q

theorem ds_eq (c : Dev nD) (t : Fin cfg0.N) (p : Fin 512) (q : Fin 1024) : ds m c t p q = dsA m c (row t p) q := by
  unfold ds dsA
  simp only [iblk0, iblk1, iblk2, iblk3, iblk4, iblk5, iblk8]

theorem bX_eq (c : Dev nD) (t : Fin cfg0.N) (p : Fin 512) : bX m c t p = aX m c (row t p) := funext fun k => iblk6 m c t p k

/-- What a sequence's row adds to the scale's gradient. -/
abbrev gTerm (c : Dev nD) (q : Fin 1024) (i : Fin 4096) : EReal := dsA m c i q * xhat (aX m c i) q

/-- The sum over the rows of the first `n + 1` points. -/
def upTo (n : Nat) (h : n < cfg0.N) (f : Fin 4096 → EReal) : EReal :=
  ∑ s : Fin (n + 1), ∑ p, f (row ⟨s.val, Nat.lt_of_lt_of_le s.isLt h⟩ p)

theorem dg_upTo (c : Dev nD) (q : Fin 1024) : ∀ (n : Nat) (h : n < cfg0.N), (outsAt0 m c n h).2.1 (ix2 0 q) = upTo n h (gTerm m c q)
  | 0, h => by
    refine (dg_A m c ⟨0, h⟩ rfl q).trans ?_
    unfold upTo
    rw [Fin.sum_univ_one]
    exact Finset.sum_congr rfl fun p _ => by rw [ds_eq, bX_eq]; rfl
  | n + 1, h => by
    have h0 : ¬ (n + 1) % 8 = 0 := by have : n + 1 < 8 := lt_of_lt_of_eq h N_0; omega
    refine (dg_B m c ⟨n + 1, h⟩ h0 q).trans ?_
    unfold upTo
    rw [Fin.sum_univ_castSucc (n := n + 1)]
    refine congrArg₂ (· + ·) (dg_upTo c q n (Nat.lt_of_succ_lt h)) (Finset.sum_congr rfl fun p _ => by rw [ds_eq, bX_eq]; rfl)

theorem db_upTo (c : Dev nD) (q : Fin 1024) : ∀ (n : Nat) (h : n < cfg0.N), (outsAt0 m c n h).2.2 (ix2 0 q) = upTo n h (fun i => dsA m c i q)
  | 0, h => by
    refine (db_A m c ⟨0, h⟩ rfl q).trans ?_
    unfold upTo
    rw [Fin.sum_univ_one]
    exact Finset.sum_congr rfl fun p _ => by rw [ds_eq]; rfl
  | n + 1, h => by
    have h0 : ¬ (n + 1) % 8 = 0 := by have : n + 1 < 8 := lt_of_lt_of_eq h N_0; omega
    refine (db_B m c ⟨n + 1, h⟩ h0 q).trans ?_
    unfold upTo
    rw [Fin.sum_univ_castSucc (n := n + 1)]
    refine congrArg₂ (· + ·) (db_upTo c q n (Nat.lt_of_succ_lt h)) (Finset.sum_congr rfl fun p _ => by rw [ds_eq]; rfl)

theorem lt7 : 7 < cfg0.N := lt_of_lt_of_eq (by decide) N_0.symm

theorem upTo_last (f : Fin 4096 → EReal) : upTo 7 lt7 f = ∑ i, f i := by
  rw [← sum_blocks (n := 8) (b := 512) rfl f]
  rfl

/-! ## The results -/

def X (c : Dev nD) : S4096x1024.Idx → EReal := (dats m 0 c).arrAt 9 cfg0.N
def DG (c : Dev nD) : S1x1024.Idx → EReal := (dats m 0 c).arrAt 10 cfg0.N
def DB (c : Dev nD) : S1x1024.Idx → EReal := (dats m 0 c).arrAt 11 cfg0.N

def pt (r : Fin 4096) : Fin cfg0.N := ⟨r.val / 512, lt_of_lt_of_eq (show r.val / 512 < 8 by omega) N_0.symm⟩
def loc (r : Fin 4096) : Fin 512 := ⟨r.val % 512, by omega⟩
theorem row_pt (r : Fin 4096) : row (pt r) (loc r) = r := Fin.ext (show 512 * (r.val / 512) + r.val % 512 = r.val by omega)

theorem dx_at (c : Dev nD) (t : Fin cfg0.N) (p : Fin 512) (q : Fin 1024) : (outsAt0 m c t.val t.isLt).1 (ix2 p q)
    = lnBwd (fun k => dsA m c (row t p) k * aG m c 0 k) (aX m c (row t p)) q := by
  have e : (outsAt0 m c t.val t.isLt).1 (ix2 p q) = lnBwd (fun k => ds m c t p k * bG m c t 0 k) (fun k => bX m c t p k) q := by
    by_cases h : t.val % 8 = 0
    · exact dx_A m c t h p q
    · exact dx_B m c t h p q
  rw [e]
  simp only [ds_eq, iblk7, iblk6]

theorem cut9 (t : Fin cfg0.N) (X : Vec Ideal S512x1024 .f32) (p : Fin 512) (q : Fin 1024) :
    (_root_.cast (congrArg (Elt Ideal) ((cfg0.win 9).blk t).view.elt_eq.symm) ((cfg0.win 9).cut (grid0.coords t) X (ix2 p q)) : EReal) = X (ix2 p q) := rfl

theorem X_apply (c : Dev nD) (r : Fin 4096) (q : Fin 1024) : X m c (ix2 r q) = lnBwd (fun k => dsA m c r k * aG m c 0 k) (aX m c r) q := by
  have e := (dats m 0 c).arrAt_emb_eq_flushed 9 Value.disjoint9 (pt r) (flush0_9 _) (ix2 (loc r) q)
  have hi : ((cfg0.win 9).blk (pt r)).view.emb (ix2 (loc r) q) = ix2 r q := by
    obtain ⟨-, -, -, -, -, -, -, -, -, e0, e1⟩ := idx (pt r)
    refine funext fun a => Fin.ext ?_
    match a with
    | ⟨0, _⟩ => show win0_9.index (pt r) (0 : Fin 2) * 512 + 1 * (r.val % 512) = r.val; rw [e0]; dsimp only [pt]; omega
    | ⟨1, _⟩ => show win0_9.index (pt r) (1 : Fin 2) * 1024 + 1 * q.val = q.val; omega
  rw [hi, Value.flushed9] at e
  refine e.trans (Eq.trans (b := lnBwd (fun k => dsA m c (row (pt r) (loc r)) k * aG m c 0 k) (aX m c (row (pt r) (loc r))) q) ?_ (by rw [row_pt]))
  exact (cut9 (pt r) _ (loc r) q).trans (dx_at m c (pt r) (loc r) q)

theorem only10 : ∀ t t' : Fin cfg0.N, (cfg0.win 10).flush t = true → (cfg0.win 10).flush t' = true → t ≠ t' →
    Disjoint ((cfg0.win 10).blk t).view.set ((cfg0.win 10).blk t').view.set := fun t t' h h' hne =>
  (hne (Fin.ext (by have := (flush0_10 t).1 h; have := (flush0_10 t').1 h'; have := lt8 t; have := lt8 t'; omega))).elim

theorem cut10 (t : Fin cfg0.N) (X : Vec Ideal S1x1024 .f32) (q : Fin 1024) :
    (_root_.cast (congrArg (Elt Ideal) ((cfg0.win 10).blk t).view.elt_eq.symm) ((cfg0.win 10).cut (grid0.coords t) X (ix2 0 q)) : EReal) = X (ix2 0 q) := rfl

theorem idx10 (t : Fin cfg0.N) : win0_10.index t (0 : Fin 2) = 0 ∧ win0_10.index t (1 : Fin 2) = 0 :=
  (by decide +kernel : ∀ t : Fin grid0.N, win0_10.index t (0 : Fin 2) = 0 ∧ win0_10.index t (1 : Fin 2) = 0) t

theorem DG_apply (c : Dev nD) (q : Fin 1024) : DG m c (ix2 0 q) = ∑ i, dsA m c i q * xhat (aX m c i) q := by
  have e := (dats m 0 c).arrAt_emb_eq_flushed 10 only10 ⟨7, lt7⟩ ((flush0_10 _).2 rfl) (ix2 0 q)
  have hi : ((cfg0.win 10).blk ⟨7, lt7⟩).view.emb (ix2 0 q) = ix2 0 q := by
    obtain ⟨e0, e1⟩ := idx10 ⟨7, lt7⟩
    refine funext fun a => Fin.ext ?_
    match a with
    | ⟨0, _⟩ => show win0_10.index ⟨7, lt7⟩ (0 : Fin 2) * 1 + 1 * 0 = 0; omega
    | ⟨1, _⟩ => show win0_10.index ⟨7, lt7⟩ (1 : Fin 2) * 1024 + 1 * q.val = q.val; omega
  rw [hi, Value.flushed10] at e
  refine e.trans ((cut10 _ _ q).trans ((dg_upTo m c q 7 lt7).trans (upTo_last _)))

theorem only11 : ∀ t t' : Fin cfg0.N, (cfg0.win 11).flush t = true → (cfg0.win 11).flush t' = true → t ≠ t' →
    Disjoint ((cfg0.win 11).blk t).view.set ((cfg0.win 11).blk t').view.set := fun t t' h h' hne =>
  (hne (Fin.ext (by have := (flush0_11 t).1 h; have := (flush0_11 t').1 h'; have := lt8 t; have := lt8 t'; omega))).elim

theorem cut11 (t : Fin cfg0.N) (X : Vec Ideal S1x1024 .f32) (q : Fin 1024) :
    (_root_.cast (congrArg (Elt Ideal) ((cfg0.win 11).blk t).view.elt_eq.symm) ((cfg0.win 11).cut (grid0.coords t) X (ix2 0 q)) : EReal) = X (ix2 0 q) := rfl

theorem idx11 (t : Fin cfg0.N) : win0_11.index t (0 : Fin 2) = 0 ∧ win0_11.index t (1 : Fin 2) = 0 :=
  (by decide +kernel : ∀ t : Fin grid0.N, win0_11.index t (0 : Fin 2) = 0 ∧ win0_11.index t (1 : Fin 2) = 0) t

theorem DB_apply (c : Dev nD) (q : Fin 1024) : DB m c (ix2 0 q) = ∑ i, dsA m c i q := by
  have e := (dats m 0 c).arrAt_emb_eq_flushed 11 only11 ⟨7, lt7⟩ ((flush0_11 _).2 rfl) (ix2 0 q)
  have hi : ((cfg0.win 11).blk ⟨7, lt7⟩).view.emb (ix2 0 q) = ix2 0 q := by
    obtain ⟨e0, e1⟩ := idx11 ⟨7, lt7⟩
    refine funext fun a => Fin.ext ?_
    match a with
    | ⟨0, _⟩ => show win0_11.index ⟨7, lt7⟩ (0 : Fin 2) * 1 + 1 * 0 = 0; omega
    | ⟨1, _⟩ => show win0_11.index ⟨7, lt7⟩ (1 : Fin 2) * 1024 + 1 * q.val = q.val; omega
  rw [hi, Value.flushed11] at e
  refine e.trans ((cut11 _ _ q).trans ((db_upTo m c q 7 lt7).trans (upTo_last _)))

end Cert.Kernel5Ideal.StepG
-- ==== Proof.RefG.lean ====
module

public import proofs.«01_k».proof.Proof.Gen.Reference5Ideal.Read
public import proofs.«01_k».proof.Proof.Ln

/-! The values of the input projection's gradient, as the reference computes them, at an index. -/

@[expose] public section
noncomputable section
namespace Cert.Reference5Ideal.RefG
open Cert.Reference5Ideal Cert.Reference5Ideal.Gen Cert.Reference5Ideal.Read Idealize.ShloMosaic Idealize.ShloMosaic.TcCoe Idealize.ShloMosaic.StableHlo Cert.Spec

variable (x0 : (⟨S4096x1024, .f32⟩ : BufTy).Contents (Elt Ideal)) (x1 : (⟨S1x1024, .f32⟩ : BufTy).Contents (Elt Ideal))
  (x3 : (⟨S1024x2688, .f32⟩ : BufTy).Contents (Elt Ideal)) (x4 x5 : (⟨S4224x1024, .f32⟩ : BufTy).Contents (Elt Ideal))
  (x6 x7 x8 : (⟨S4224x512, .f32⟩ : BufTy).Contents (Elt Ideal)) (x9 : (⟨S4224x128, .f32⟩ : BufTy).Contents (Elt Ideal))

/-- Row `r` of the sequences. -/
abbrev P (r : Fin 4096) (k : Fin 1024) : EReal := x0 (ix2 r k)

theorem v14_eq (r : Fin 4096) (q : Fin 1024) : val_main_v14 (F := Ideal) x0 (ix2 r q) = cen (P x0 r) q := by
  unfold val_main_v14 val_main_v13 val_main_v3 val_main_v2 val_main_v1 val_main_v0 val_main_cst val_main_cst_0
  pointwise
  rfl

theorem v5_eq (r : Fin 4096) (q : Fin 1024) : val_main_v5 (F := Ideal) x0 (ix2 r q) = cen (P x0 r) q := v14_eq x0 r q

theorem v17_eq (r : Fin 4096) : val_main_v17 (F := Ideal) x0 (ix2 r 0) = rstd (P x0 r) := by
  unfold val_main_v17 val_main_v16 val_main_v15 val_main_v12 val_main_v11 val_main_v10 val_main_v9 val_main_v6 val_main_cst_4 val_main_cst_3 val_main_cst_2
  pointwise
  simp only [v5_eq]
  rfl

theorem v22_eq (r : Fin 4096) (q : Fin 1024) : val_main_v22 (F := Ideal) x0 (ix2 r q) = xhat (P x0 r) q := by
  unfold val_main_v22 val_main_v21
  pointwise
  rw [v14_eq, v17_eq]
  rfl

/-- Column `k` of the gradient at the projection's output, its five parts side by side. -/
def cat (r : Fin 4224) (k : Fin 2688) : EReal :=
  if h : k.val < 1024 then x5 (ix2 r ⟨k.val, h⟩) else if h : k.val - 1024 < 512 then x6 (ix2 r ⟨k.val - 1024, h⟩)
  else if h : k.val - 1024 - 512 < 512 then x7 (ix2 r ⟨k.val - 1024 - 512, h⟩)
  else if h : k.val - 1024 - 512 - 512 < 512 then x8 (ix2 r ⟨k.val - 1024 - 512 - 512, h⟩)
  else x9 (ix2 r ⟨k.val - 1024 - 512 - 512 - 512, by omega⟩)

/-- A sum over its columns is the five parts' sums. -/
theorem sum_cat (r : Fin 4224) (w : Fin 2688 → EReal) : ∑ k, cat x5 x6 x7 x8 x9 r k * w k
    = ∑ k : Fin 1024, x5 (ix2 r k) * w ⟨k.val, by omega⟩ + ∑ k : Fin 512, x6 (ix2 r k) * w ⟨1024 + k.val, by omega⟩
      + ∑ k : Fin 512, x7 (ix2 r k) * w ⟨1536 + k.val, by omega⟩ + ∑ k : Fin 512, x8 (ix2 r k) * w ⟨2048 + k.val, by omega⟩
      + ∑ k : Fin 128, x9 (ix2 r k) * w ⟨2560 + k.val, by omega⟩ := by
  refine (Fin.sum_univ_add (a := 2560) (b := 128) _).trans (congrArg₂ (· + ·) ?_ ?_)
  · refine (Fin.sum_univ_add (a := 2048) (b := 512) _).trans (congrArg₂ (· + ·) ?_ ?_)
    · refine (Fin.sum_univ_add (a := 1536) (b := 512) _).trans (congrArg₂ (· + ·) ?_ ?_)
      · refine (Fin.sum_univ_add (a := 1024) (b := 512) _).trans (congrArg₂ (· + ·) ?_ ?_)
        · exact Finset.sum_congr rfl fun k _ => congrArg (· * _) (dif_pos k.isLt)
        · refine Finset.sum_congr rfl fun k _ => congrArg (· * _) ?_
          refine (dif_neg (show ¬ 1024 + k.val < 1024 by omega)).trans ((dif_pos (show 1024 + k.val - 1024 < 512 by omega)).trans ?_)
          exact congrArg (fun a => x6 (ix2 r a)) (Fin.ext (show 1024 + k.val - 1024 = k.val by omega))
      · refine Finset.sum_congr rfl fun k _ => congrArg (· * _) ?_
        refine (dif_neg (show ¬ 1536 + k.val < 1024 by omega)).trans ((dif_neg (show ¬ 1536 + k.val - 1024 < 512 by omega)).trans
          ((dif_pos (show 1536 + k.val - 1024 - 512 < 512 by omega)).trans ?_))
        exact congrArg (fun a => x7 (ix2 r a)) (Fin.ext (show 1536 + k.val - 1024 - 512 = k.val by omega))
    · refine Finset.sum_congr rfl fun k _ => congrArg (· * _) ?_
      refine (dif_neg (show ¬ 2048 + k.val < 1024 by omega)).trans ((dif_neg (show ¬ 2048 + k.val - 1024 < 512 by omega)).trans
        ((dif_neg (show ¬ 2048 + k.val - 1024 - 512 < 512 by omega)).trans ((dif_pos (show 2048 + k.val - 1024 - 512 - 512 < 512 by omega)).trans ?_)))
      exact congrArg (fun a => x8 (ix2 r a)) (Fin.ext (show 2048 + k.val - 1024 - 512 - 512 = k.val by omega))
  · refine Finset.sum_congr rfl fun k _ => congrArg (· * _) ?_
    refine (dif_neg (show ¬ 2560 + k.val < 1024 by omega)).trans ((dif_neg (show ¬ 2560 + k.val - 1024 < 512 by omega)).trans
      ((dif_neg (show ¬ 2560 + k.val - 1024 - 512 < 512 by omega)).trans ((dif_neg (show ¬ 2560 + k.val - 1024 - 512 - 512 < 512 by omega)).trans ?_)))
    exact congrArg (fun a => x9 (ix2 r a)) (Fin.ext (show 2560 + k.val - 1024 - 512 - 512 - 512 = k.val by omega))

theorem v35_eq (r : Fin 4224) (k : Fin 2688) : val_main_v35 (F := Ideal) x5 x6 x7 x8 x9 (ix2 r k) = cat x5 x6 x7 x8 x9 r k := by
  unfold val_main_v35
  pointwise
  rfl

/-- The gradient at the norm, a row of all the rows. -/
abbrev dS (r : Fin 4224) (q : Fin 1024) : EReal := ∑ k, cat x5 x6 x7 x8 x9 r k * x3 (ix2 q k) + alpha * x4 (ix2 r q)

theorem v39_eq (r : Fin 4224) (q : Fin 1024) : val_main_v39 (F := Ideal) x3 x4 x5 x6 x7 x8 x9 (ix2 r q) = dS x3 x4 x5 x6 x7 x8 x9 r q := by
  unfold val_main_v39 val_main_v38 val_main_v37 val_main_v36 val_main_cst_9
  pointwise
  simp only [v35_eq]

/-- A row of the sequences among the rows with the 64 of the front before each. -/
def pos (i : Fin 4096) : Fin 4224 := ⟨2112 * (i.val / 2048) + (64 + i.val % 2048), by omega⟩

theorem v43_eq (r : Fin 4096) (q : Fin 1024) : val_main_v43 (F := Ideal) x3 x4 x5 x6 x7 x8 x9 (ix2 r q) = dS x3 x4 x5 x6 x7 x8 x9 (pos r) q := by
  unfold val_main_v43 val_main_v42 val_main_v40
  pointwise
  refine (v39_eq x3 x4 x5 x6 x7 x8 x9 _ q).trans (congrArg (fun a => dS x3 x4 x5 x6 x7 x8 x9 a q) (Fin.ext ?_))
  show r.val / 2048 * 2112 + (64 + r.val % 2048) = 2112 * (r.val / 2048) + (64 + r.val % 2048)
  omega

theorem v45_eq (q : Fin 1024) : val_main_v45 (F := Ideal) x3 x4 x5 x6 x7 x8 x9 (ix2 0 q) = ∑ r, dS x3 x4 x5 x6 x7 x8 x9 (pos r) q := by
  unfold val_main_v45 val_main_v44 val_main_cst_10
  pointwise
  simp only [v43_eq]

theorem v48_eq (q : Fin 1024) : val_main_v48 (F := Ideal) x0 x3 x4 x5 x6 x7 x8 x9 (ix2 0 q) = ∑ r, xhat (P x0 r) q * dS x3 x4 x5 x6 x7 x8 x9 (pos r) q := by
  unfold val_main_v48 val_main_v47 val_main_v46 val_main_cst_11
  pointwise
  simp only [v43_eq, v22_eq]

theorem v50_eq (r : Fin 4096) (q : Fin 1024) : val_main_v50 (F := Ideal) x1 x3 x4 x5 x6 x7 x8 x9 (ix2 r q) = dS x3 x4 x5 x6 x7 x8 x9 (pos r) q * x1 (ix2 0 q) := by
  unfold val_main_v50 val_main_v49
  pointwise
  rw [v43_eq]

theorem v55_eq (r : Fin 4096) (q : Fin 1024) : val_main_v55 (F := Ideal) x0 x1 x3 x4 x5 x6 x7 x8 x9 (ix2 r q) = dS x3 x4 x5 x6 x7 x8 x9 (pos r) q * x1 (ix2 0 q) * rstd (P x0 r) := by
  unfold val_main_v55 val_main_v54
  pointwise
  rw [v50_eq, v17_eq]

theorem v64_eq (r : Fin 4096) (q : Fin 1024) : val_main_v64 (F := Ideal) x0 x1 x3 x4 x5 x6 x7 x8 x9 (ix2 r q)
    = viaVar (fun k => dS x3 x4 x5 x6 x7 x8 x9 (pos r) k * x1 (ix2 0 k)) (P x0 r) q := by
  unfold val_main_v64 val_main_v63 val_main_v62 val_main_v61 val_main_v60 val_main_v56 val_main_v53 val_main_v52 val_main_v51 val_main_v20 val_main_v19 val_main_v18 val_main_v16 val_main_v15 val_main_v12 val_main_v11 val_main_v10 val_main_v9 val_main_v6 val_main_v8 val_main_v7 val_main_cst_15 val_main_cst_14 val_main_cst_12 val_main_cst_5 val_main_cst_1 val_main_cst_4 val_main_cst_3 val_main_cst_2
  pointwise
  rw [Fin.sum_univ_one]
  simp only [v50_eq, v5_eq, v14_eq, v17_eq]
  rfl

theorem v74_eq (r : Fin 4096) (q : Fin 1024) : val_main_v74 (F := Ideal) x0 x1 x3 x4 x5 x6 x7 x8 x9 (ix2 r q)
    = lnVjp (fun k => dS x3 x4 x5 x6 x7 x8 x9 (pos r) k * x1 (ix2 0 k)) (P x0 r) q := by
  unfold val_main_v74 val_main_v73 val_main_v72 val_main_v71 val_main_v70 val_main_v69 val_main_v68 val_main_v67 val_main_v66 val_main_v65 val_main_v59 val_main_v58 val_main_v57 val_main_cst_18 val_main_cst_17 val_main_cst_16 val_main_cst_13
  pointwise
  rw [Fin.sum_univ_one]
  simp only [v55_eq, v64_eq]
  rfl

end Cert.Reference5Ideal.RefG
-- ==== Proof.ClaimG.lean ====
module

public import proofs.«01_k».proof.Defs
public import proofs.«01_k».proof.Proof.StepG
public import proofs.«01_k».proof.Proof.RefG
public import proofs.«01_k».proof.Proof.Finite
public import proofs.«01_k».proof.Proof.Gen.Pre_finite5
public import Idealize.ShloMosaic.Lib.StableHlo.ReadAt

/-! The kernel of the input projection's gradient computes what the reference computes. -/

@[expose] public section
noncomputable section

namespace Cert.Pre_finite5
open Idealize.ShloMosaic Cert.Spec Cert.Pre_finite5.Gen

variable (x0 : FVec Ideal S4096x1024 .f32) (x1 x2 : FVec Ideal S1x1024 .f32) (x3 : FVec Ideal S1024x2688 .f32) (x4 x5 : FVec Ideal S4224x1024 .f32)
  (x6 x7 x8 : FVec Ideal S4224x512 .f32) (x9 : FVec Ideal S4224x128 .f32)

/-- Under the precondition every argument's entries are real. -/
theorem real_args (h : ∀ i, fn (F := Ideal) x0 x1 x2 x3 x4 x5 x6 x7 x8 x9 i = 1#1) :
    (∀ i, IsReal (x0 i)) ∧ (∀ i, IsReal (x1 i)) ∧ (∀ i, IsReal (x3 i)) ∧ (∀ i, IsReal (x4 i)) ∧ (∀ i, IsReal (x5 i)) ∧ (∀ i, IsReal (x6 i))
      ∧ (∀ i, IsReal (x7 i)) ∧ (∀ i, IsReal (x8 i)) ∧ (∀ i, IsReal (x9 i)) := by
  have h := h ix0
  unfold fn fn_part1 fn_part2 at h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h0, h1⟩ := IntOp.andi_eq_one.1 h
  exact ⟨real_of_all _ _ (fun _ => rfl) _ _ _ _ h0, real_of_all _ _ (fun _ => rfl) _ _ _ _ h1, real_of_all _ _ (fun _ => rfl) _ _ _ _ h3,
    real_of_all _ _ (fun _ => rfl) _ _ _ _ h4, real_of_all _ _ (fun _ => rfl) _ _ _ _ h5, real_of_all _ _ (fun _ => rfl) _ _ _ _ h6,
    real_of_all _ _ (fun _ => rfl) _ _ _ _ h7, real_of_all _ _ (fun _ => rfl) _ _ _ _ h8, real_of_all _ _ (fun _ => rfl) _ _ _ _ h9⟩

end Cert.Pre_finite5

namespace Cert.ClaimG
open Cert Cert.Kernel5Ideal Cert.Kernel5Ideal.Gen Cert.Kernel5Ideal.StepG Idealize.ShloMosaic Idealize.ShloMosaic.TcCoe Idealize.SL.Sem Cert.Spec

variable (m : (ℓ : Loc nD τ sig) → Buf (Elt Ideal) ℓ) (c : Dev nD)

abbrev A0 : (⟨S4096x1024, .f32⟩ : BufTy).Contents (Elt Ideal) := m ((c.tc : Thread nD τ).loc main_arg0)
abbrev A1 : (⟨S1x1024, .f32⟩ : BufTy).Contents (Elt Ideal) := m ((c.tc : Thread nD τ).loc main_arg1)
abbrev A3 : (⟨S1024x2688, .f32⟩ : BufTy).Contents (Elt Ideal) := m ((c.tc : Thread nD τ).loc main_arg3)
abbrev A4 : (⟨S4224x1024, .f32⟩ : BufTy).Contents (Elt Ideal) := m ((c.tc : Thread nD τ).loc main_arg4)
abbrev A5 : (⟨S4224x1024, .f32⟩ : BufTy).Contents (Elt Ideal) := m ((c.tc : Thread nD τ).loc main_arg5)
abbrev A6 : (⟨S4224x512, .f32⟩ : BufTy).Contents (Elt Ideal) := m ((c.tc : Thread nD τ).loc main_arg6)
abbrev A7 : (⟨S4224x512, .f32⟩ : BufTy).Contents (Elt Ideal) := m ((c.tc : Thread nD τ).loc main_arg7)
abbrev A8 : (⟨S4224x512, .f32⟩ : BufTy).Contents (Elt Ideal) := m ((c.tc : Thread nD τ).loc main_arg8)
abbrev A9 : (⟨S4224x128, .f32⟩ : BufTy).Contents (Elt Ideal) := m ((c.tc : Thread nD τ).loc main_arg9)

/-! ## The arrays the kernel is launched on -/

theorem aX_eq (r k) : aX m c r k = A0 m c (ix2 r k) := by unfold aX V; after_reads_at
theorem aG_eq (k) : aG m c 0 k = A1 m c (ix2 0 k) := by unfold aG V; after_reads_at
theorem aW_eq (k q) : aW m c k q = A3 m c (ix2 q k) := by unfold aW V; after_reads_at
theorem aD_eq (r k) : aD m c r k = A4 m c (ix2 r k) := by unfold aD V; after_reads_at
theorem aU1_eq (r k) : aU1 m c r k = A5 m c (ix2 r k) := by unfold aU1 V; after_reads_at
theorem aU2_eq (r k) : aU2 m c r k = A6 m c (ix2 r k) := by unfold aU2 V; after_reads_at
theorem aU3_eq (r k) : aU3 m c r k = A7 m c (ix2 r k) := by unfold aU3 V; after_reads_at
theorem aU4_eq (r k) : aU4 m c r k = A8 m c (ix2 r k) := by unfold aU4 V; after_reads_at
theorem aU5_eq (r k) : aU5 m c r k = A9 m c (ix2 r k) := by unfold aU5 V; after_reads_at

/-- The gradient at the norm, of the arguments. -/
abbrev R (i : Fin 4096) (q : Fin 1024) : EReal :=
  Reference5Ideal.RefG.dS (A3 m c) (A4 m c) (A5 m c) (A6 m c) (A7 m c) (A8 m c) (A9 m c) (Reference5Ideal.RefG.pos i) q

theorem dsA_eq (i : Fin 4096) (q : Fin 1024) : dsA m c i q = R m c i q := by
  show _ = Reference5Ideal.RefG.dS _ _ _ _ _ _ _ _ _
  unfold Reference5Ideal.RefG.dS
  rw [Reference5Ideal.RefG.sum_cat _ _ _ _ _ _ (fun k => A3 m c (ix2 q k)), add_comm]
  unfold dsA
  simp only [aD_eq, aU1_eq, aU2_eq, aU3_eq, aU4_eq, aU5_eq, aW_eq, add_assoc]
  rfl

theorem R_real (h3 : ∀ i, IsReal (A3 m c i)) (h4 : ∀ i, IsReal (A4 m c i)) (h5 : ∀ i, IsReal (A5 m c i)) (h6 : ∀ i, IsReal (A6 m c i))
    (h7 : ∀ i, IsReal (A7 m c i)) (h8 : ∀ i, IsReal (A8 m c i)) (h9 : ∀ i, IsReal (A9 m c i)) (i : Fin 4096) (q : Fin 1024) : IsReal (R m c i q) := by
  refine (IsReal.sum fun k => IsReal.mul ?_ (h3 _)).add (alpha_real.mul (h4 _))
  unfold Reference5Ideal.RefG.cat
  split_ifs <;> first | exact h5 _ | exact h6 _ | exact h7 _ | exact h8 _ | exact h9 _

theorem out0 (h0 : ∀ i, IsReal (A0 m c i)) (h1 : ∀ i, IsReal (A1 m c i)) (hR : ∀ i q, IsReal (R m c i q)) :
    Reference5Ideal.Read.val_main_v74 (F := Ideal) (A0 m c) (A1 m c) (A3 m c) (A4 m c) (A5 m c) (A6 m c) (A7 m c) (A8 m c) (A9 m c) = X m c := by
  funext i
  obtain ⟨r, q, rfl⟩ : ∃ r q, i = ix2 r q := ⟨_, _, ValueIdx.eq_ix2 i⟩
  rw [Reference5Ideal.RefG.v74_eq]
  refine Eq.trans ?_ (X_apply m c r q).symm
  have hP : aX m c r = Reference5Ideal.RefG.P (A0 m c) r := funext fun k => aX_eq m c r k
  simp only [dsA_eq, aG_eq, hP]
  exact (lnBwd_eq (fun k => (hR r k).mul (h1 _)) (fun k => h0 _) q).symm

theorem out1 : Reference5Ideal.Read.val_main_v48 (F := Ideal) (A0 m c) (A3 m c) (A4 m c) (A5 m c) (A6 m c) (A7 m c) (A8 m c) (A9 m c) = DG m c := by
  funext i
  obtain ⟨r, q, rfl⟩ : ∃ r q, i = ix2 r q := ⟨_, _, ValueIdx.eq_ix2 i⟩
  obtain rfl := Subsingleton.elim r 0
  rw [Reference5Ideal.RefG.v48_eq]
  refine Eq.trans ?_ (DG_apply m c q).symm
  refine Finset.sum_congr rfl fun r _ => ?_
  have hP : aX m c r = Reference5Ideal.RefG.P (A0 m c) r := funext fun k => aX_eq m c r k
  rw [dsA_eq, hP, mul_comm]

theorem out2 : Reference5Ideal.Read.val_main_v45 (F := Ideal) (A3 m c) (A4 m c) (A5 m c) (A6 m c) (A7 m c) (A8 m c) (A9 m c) = DB m c := by
  funext i
  obtain ⟨r, q, rfl⟩ : ∃ r q, i = ix2 r q := ⟨_, _, ValueIdx.eq_ix2 i⟩
  obtain rfl := Subsingleton.elim r 0
  rw [Reference5Ideal.RefG.v45_eq]
  refine Eq.trans ?_ (DB_apply m c q).symm
  exact Finset.sum_congr rfl fun r _ => (dsA_eq m c r q).symm

theorem algebraic : Cert.algebraic_Kernel5Ideal_Reference5Ideal_pre_finite5 := by
  intro m g m' g' hpre hargs
  refine ⟨fun c => X m c, fun c => DG m c, fun c => DB m c, ?_, ?_⟩
  · refine (θ_run _ _ _).mono ?_ (Value.run_blocks m g)
    exact fun r h c => h c
  · refine (θ_run _ _ _).mono ?_ (Reference5Ideal.Value.run m' g')
    intro r h c
    obtain ⟨e0, e1, e2, hk⟩ := h c
    obtain ⟨a0, a1, -, a3, a4, a5, a6, a7, a8, a9⟩ := hargs c
    obtain ⟨h0, h1, h3, h4, h5, h6, h7, h8, h9⟩ := Pre_finite5.real_args _ _ _ _ _ _ _ _ _ _ (fun i => congrFun (hpre c) i)
    refine ⟨e0.trans ?_, e1.trans ?_, e2.trans ?_, hk⟩
    · rw [Reference5Ideal.Read.val_main_v74_eq, a0, a1, a3, a4, a5, a6, a7, a8, a9]; exact out0 m c h0 h1 (R_real m c h3 h4 h5 h6 h7 h8 h9)
    · rw [a0, a3, a4, a5, a6, a7, a8, a9]; exact (Reference5Ideal.Read.val_main_v48_eq ..).trans (out1 m c)
    · rw [a3, a4, a5, a6, a7, a8, a9]; exact (Reference5Ideal.Read.val_main_v45_eq ..).trans (out2 m c)

end Cert.ClaimG
-- ==== Proof.PayH.lean ====
module

public import proofs.«01_k».proof.Proof.Gen.Kernel6Ideal.Value
public import proofs.«01_k».proof.Proof.Spec

/-! What the payloads of the kernel of the MLP and the loss compute, over any operands. -/

@[expose] public section
noncomputable section
namespace Cert.Kernel6Ideal.PayH
open Cert.Kernel6Ideal Cert.Kernel6Ideal.Gen Idealize.ShloMosaic Idealize.ShloMosaic.TcCoe Idealize.SL.Sem Cert.Spec

abbrev half : EReal := Ideal.ofBits FTy.f32 0x3F000000#32
abbrev inv : EReal := Ideal.ofBits FTy.f32 0x3A800000#32

/-! ## The hidden layer: a product with a slice of 512 columns, and what the slice adds -/

section
variable (X : FVec Ideal S176x1024 .bf16) (U U0 U1 U2 U3 U4 U5 U6 U7 : FVec Ideal S1x1024x512 .bf16)
  (V0 V1 V2 V3 V4 V5 V6 V7 : FVec Ideal S512x1024 .bf16)

def hid (a : Fin 176) (x : Fin 512) : EReal := ∑ k : Fin 1024, X (ix2 a k) * U (ix3 0 k x)
def out (V : FVec Ideal S512x1024 .bf16) (a : Fin 176) (q : Fin 1024) : EReal :=
  ∑ x : Fin 512, max (hid X U a x) 0 * max (hid X U a x) 0 * V (ix2 x q)

/-- All eight slices, in the order the kernel adds them. -/
def outs (a : Fin 176) (q : Fin 1024) : EReal := out X U0 V0 a q + out X U1 V1 a q + out X U2 V2 a q + out X U3 V3 a q
  + out X U4 V4 a q + out X U5 V5 a q + out X U6 V6 a q + out X U7 V7 a q

/-- The kernel's sum for its first 176 rows. -/
abbrev acc0 : FVec Ideal S176x1024 .f32 :=
  k0_pay28 (k0_pay8 X) (k0_pay22 (k0_pay8 X) U6) (k0_pay24 (k0_pay8 X) (k0_pay15 (k0_pay8 X) U3) (k0_pay17 (k0_pay8 X) (k0_pay10 X U1) (k0_pay12 X U0 V0) U2 V1 V2) (k0_pay18 (k0_pay8 X) U4) (FloatOps.ofBits FTy.f32 0#32) V3 U5 V4 V5) U7 V6 V7
/-- And for the rest. -/
abbrev acc1 : FVec Ideal S176x1024 .f32 :=
  k0_pay50 (k0_pay29 X) (k0_pay42 (k0_pay29 X) U5) (k0_pay44 (k0_pay29 X) (k0_pay35 (k0_pay30 X U0) (k0_pay31 X U1) V0 V1) (k0_pay36 (k0_pay29 X) U3) (k0_pay38 (k0_pay29 X) U2) (k0_pay39 V2) (constant S176x1024 FTy.f32 0#32) U4 V3 V4) (k0_pay45 (k0_pay29 X) U6) V5 U7 V6 V7

theorem h0_0 (a : Fin 176) (x : Fin 512) : (k0_pay11 (F := Ideal) X U (ix2 a x) : EReal) = hid X U a x := by
  unfold_payloads; pointwise; rfl
theorem h0_1 (a : Fin 176) (x : Fin 512) : (k0_pay14 (F := Ideal) (k0_pay10 X U) (ix2 a x) : EReal) = hid X U a x := by
  unfold_payloads; pointwise; rfl
theorem h0_2 (a : Fin 176) (x : Fin 512) : (k0_pay16 (F := Ideal) (k0_pay8 X) U (ix2 a x) : EReal) = hid X U a x := by
  unfold_payloads; pointwise; rfl
theorem h0_3 (a : Fin 176) (x : Fin 512) : (k0_pay19 (F := Ideal) (k0_pay8 X) U (ix2 a x) : EReal) = hid X U a x := by
  unfold_payloads; pointwise; rfl
theorem h0_4 (a : Fin 176) (x : Fin 512) : (k0_pay21 (F := Ideal) (k0_pay18 (k0_pay8 X) U) (ix2 a x) : EReal) = hid X U a x := by
  unfold_payloads; pointwise; rfl
theorem h0_5 (a : Fin 176) (x : Fin 512) : (k0_pay23 (F := Ideal) (k0_pay8 X) U (ix2 a x) : EReal) = hid X U a x := by
  unfold_payloads; pointwise; rfl
theorem h0_6 (a : Fin 176) (x : Fin 512) : (k0_pay26 (F := Ideal) (k0_pay22 (k0_pay8 X) U) (ix2 a x) : EReal) = hid X U a x := by
  unfold_payloads; pointwise; rfl
theorem h0_7 (a : Fin 176) (x : Fin 512) : (k0_pay27 (F := Ideal) (k0_pay8 X) U (ix2 a x) : EReal) = hid X U a x := by
  unfold_payloads; pointwise; rfl
theorem h1_0 (a : Fin 176) (x : Fin 512) : (k0_pay32 (F := Ideal) X U (ix2 a x) : EReal) = hid X U a x := by
  unfold_payloads; pointwise; rfl
theorem h1_1 (a : Fin 176) (x : Fin 512) : (k0_pay34 (F := Ideal) (k0_pay31 X U) (ix2 a x) : EReal) = hid X U a x := by
  unfold_payloads; pointwise; rfl
theorem h1_2 (a : Fin 176) (x : Fin 512) : (k0_pay37 (F := Ideal) (k0_pay29 X) U (ix2 a x) : EReal) = hid X U a x := by
  unfold_payloads; pointwise; rfl
theorem h1_3 (a : Fin 176) (x : Fin 512) : (k0_pay41 (F := Ideal) (k0_pay36 (k0_pay29 X) U) (ix2 a x) : EReal) = hid X U a x := by
  unfold_payloads; pointwise; rfl
theorem h1_4 (a : Fin 176) (x : Fin 512) : (k0_pay43 (F := Ideal) (k0_pay29 X) U (ix2 a x) : EReal) = hid X U a x := by
  unfold_payloads; pointwise; rfl
theorem h1_5 (a : Fin 176) (x : Fin 512) : (k0_pay46 (F := Ideal) (k0_pay29 X) U (ix2 a x) : EReal) = hid X U a x := by
  unfold_payloads; pointwise; rfl
theorem h1_6 (a : Fin 176) (x : Fin 512) : (k0_pay48 (F := Ideal) (k0_pay45 (k0_pay29 X) U) (ix2 a x) : EReal) = hid X U a x := by
  unfold_payloads; pointwise; rfl
theorem h1_7 (a : Fin 176) (x : Fin 512) : (k0_pay49 (F := Ideal) (k0_pay29 X) U (ix2 a x) : EReal) = hid X U a x := by
  unfold_payloads; pointwise; rfl

theorem acc0_at (a : Fin 176) (q : Fin 1024) :
    (acc0 X U0 U1 U2 U3 U4 U5 U6 U7 V0 V1 V2 V3 V4 V5 V6 V7 (ix2 a q) : EReal) = outs X U0 U1 U2 U3 U4 U5 U6 U7 V0 V1 V2 V3 V4 V5 V6 V7 a q := by
  unfold acc0; unfold_payloads; pointwise; rfl
theorem acc1_at (a : Fin 176) (q : Fin 1024) :
    (acc1 X U0 U1 U2 U3 U4 U5 U6 U7 V0 V1 V2 V3 V4 V5 V6 V7 (ix2 a q) : EReal) = outs X U0 U1 U2 U3 U4 U5 U6 U7 V0 V1 V2 V3 V4 V5 V6 V7 a q := by
  unfold acc1; unfold_payloads; pointwise; rfl
end

/-! ## The norm, the error, the loss and their gradients, over any sum `A` of the slices -/

section
variable (M : IVec S352x1 1) (T : FVec Ideal S352x1024 .f32) (A x : FVec Ideal S176x1024 .f32) (g b : FVec Ideal S1x1024 .f32)

/-- The two bands of rows of a block. -/
def lo (a : Fin 176) : Fin 352 := ⟨a.val, by omega⟩
def hi (a : Fin 176) : Fin 352 := ⟨176 + a.val, by omega⟩
/-- A row before the norm. -/
def pre (a : Fin 176) (k : Fin 1024) : EReal := alpha * x (ix2 a k) + A (ix2 a k)
/-- The error of row `a` of the band: zero where the mask is not set. -/
def err (e : Fin 176 → Fin 352) (a : Fin 176) (q : Fin 1024) : EReal :=
  if M (ix2 (e a) 0) = 1#1 then xhat (pre A x a) q * g (ix2 0 q) + b (ix2 0 q) - T (ix2 (e a) q) else 0

theorem cen0 (a : Fin 176) (q : Fin 1024) : (k0_pay52 A x k0_pay51 (ix2 a q) : EReal) = cen (pre A x a) q := by
  unfold k0_pay52 k0_pay51; pointwise; rfl
theorem rstd0 (a : Fin 176) : (k0_pay53 A x k0_pay51 (ix2 a 0) : EReal) = rstd (pre A x a) := by
  unfold k0_pay53; pointwise; simp only [cen0]; rfl
theorem xhat0 (a : Fin 176) (q : Fin 1024) : (k0_pay54 A x k0_pay51 (ix2 a q) : EReal) = xhat (pre A x a) q := by
  unfold k0_pay54; pointwise; rw [cen0, rstd0]; rfl
theorem err0 (a : Fin 176) (q : Fin 1024) : (k0_pay55 M T A x k0_pay51 g b (ix2 a q) : EReal) = err M T A x g b lo a q := by
  unfold k0_pay55; pointwise; rw [xhat0]; rfl

theorem cen1 (a : Fin 176) (q : Fin 1024) : (k0_pay64 A x (ix2 a q) : EReal) = cen (pre A x a) q := by
  unfold k0_pay64; pointwise; rfl
theorem rstd1 (a : Fin 176) : (k0_pay65 A x (ix2 a 0) : EReal) = rstd (pre A x a) := by
  unfold k0_pay65; pointwise; simp only [cen1]; rfl
theorem xhat1 (a : Fin 176) (q : Fin 1024) : (k0_pay66 A x (ix2 a q) : EReal) = xhat (pre A x a) q := by
  unfold k0_pay66; pointwise; rw [cen1, rstd1]; rfl
theorem err1 (a : Fin 176) (q : Fin 1024) : (k0_pay67 M T A x g b (ix2 a q) : EReal) = err M T A x g b hi a q := by
  unfold k0_pay67; pointwise; rw [xhat1]; rfl

/-- The gradient along the error, at the norm's input. -/
theorem dx0 (a : Fin 176) (q : Fin 1024) :
    (k0_pay62 (k0_pay53 A x k0_pay51) (k0_pay54 A x k0_pay51) (k0_pay55 M T A x k0_pay51 g b) g (ix2 a q) : EReal)
      = lnBwd (fun k => err M T A x g b lo a k * inv * g (ix2 0 k)) (pre A x a) q := by
  unfold k0_pay62 k0_pay59; pointwise; simp only [err0, xhat0, rstd0]; rfl
theorem dx1 (a : Fin 176) (q : Fin 1024) :
    (k0_pay1 (k0_pay65 A x) (k0_pay66 A x) (k0_pay74 (k0_pay67 M T A x g b) g) (k0_pay75 (k0_pay67 M T A x g b) g)
        (k0_pay76 (k0_pay66 A x) (k0_pay67 M T A x g b) g) (ix2 a q) : EReal)
      = lnBwd (fun k => err M T A x g b hi a k * inv * g (ix2 0 k)) (pre A x a) q := by
  unfold k0_pay1 k0_pay76 k0_pay75 k0_pay74 k0_pay71; pointwise; simp only [err1, xhat1, rstd1]; rfl

/-- What a band adds to the loss. -/
def loss (e : Fin 176 → Fin 352) : EReal :=
  half * ∑ a : Fin 176, Ideal.div (∑ k, err M T A x g b e a k * err M T A x g b e a k) width
theorem loss0 (l : FVec Ideal S8x128 .f32) (i : Fin 8) (j : Fin 128) :
    (k0_pay58 (k0_pay56 l) (k0_pay57 M T A x k0_pay51 g b) (ix2 i j) : EReal) = l (ix2 i j) + loss M T A x g b lo := by
  unfold k0_pay58 k0_pay57 k0_pay56; pointwise; simp only [err0, Fin.sum_univ_one]; rfl
theorem loss1 (l : FVec Ideal S8x128 .f32) (i : Fin 8) (j : Fin 128) :
    (k0_pay70 (k0_pay68 l) (k0_pay69 M T A x g b) (ix2 i j) : EReal) = l (ix2 i j) + loss M T A x g b hi := by
  unfold k0_pay70 k0_pay69 k0_pay68; pointwise; simp only [err1, Fin.sum_univ_one]; rfl

/-- What a band adds to the gradients of the norm's scale and shift. -/
theorem dg0 (d : FVec Ideal S1x1024 .f32) (q : Fin 1024) :
    (k0_pay60 (k0_pay54 A x k0_pay51) (k0_pay55 M T A x k0_pay51 g b) d (ix2 0 q) : EReal)
      = d (ix2 0 q) + ∑ a : Fin 176, err M T A x g b lo a q * inv * xhat (pre A x a) q := by
  unfold k0_pay60 k0_pay59; pointwise; simp only [err0, xhat0]
theorem dg1 (d : FVec Ideal S1x1024 .f32) (q : Fin 1024) :
    (k0_pay72 (k0_pay66 A x) (k0_pay67 M T A x g b) d (ix2 0 q) : EReal)
      = d (ix2 0 q) + ∑ a : Fin 176, err M T A x g b hi a q * inv * xhat (pre A x a) q := by
  unfold k0_pay72 k0_pay71; pointwise; simp only [err1, xhat1]
theorem db0 (d : FVec Ideal S1x1024 .f32) (q : Fin 1024) :
    (k0_pay61 (k0_pay55 M T A x k0_pay51 g b) d (ix2 0 q) : EReal) = d (ix2 0 q) + ∑ a : Fin 176, err M T A x g b lo a q * inv := by
  unfold k0_pay61 k0_pay59; pointwise; simp only [err0]
theorem db1 (d : FVec Ideal S1x1024 .f32) (q : Fin 1024) :
    (k0_pay73 (k0_pay67 M T A x g b) d (ix2 0 q) : EReal) = d (ix2 0 q) + ∑ a : Fin 176, err M T A x g b hi a q * inv := by
  unfold k0_pay73 k0_pay71; pointwise; simp only [err1]
end

/-! ## The mask and the targets of a grid point -/

theorem mask_at (t : Fin grid0.N) (p : Fin 352) : k0_pay6 (grid0.coords t) (ix2 p 0) = 1#1 ↔ 64 ≤ 352 * (t.val % 6) + p.val :=
  (by decide +kernel : ∀ (t : Fin grid0.N) (p : Fin 352), k0_pay6 (grid0.coords t) (ix2 p 0) = 1#1 ↔ 64 ≤ 352 * (t.val % 6) + p.val) t p
theorem first_at (t : Fin grid0.N) : Scalar.cmpi .eq (BitVec.ofNat 32 (grid0.coords t 0).val) 0#32 = 1#1 ↔ t.val = 0 :=
  (by decide +kernel : ∀ t : Fin grid0.N, Scalar.cmpi .eq (BitVec.ofNat 32 (grid0.coords t 0).val) 0#32 = 1#1 ↔ t.val = 0) t

theorem tgt_at (t : Fin grid0.N) (v : FVec Ideal S352x1024 .f32) (p : Fin 352) (q : Fin 1024) :
    (k0_pay7 (F := Ideal) (grid0.coords t) v (ix2 p q) : EReal) = v (ix2 (if t.val = 0 then ⟨(p.val + 352 - 64) % 352, by omega⟩ else p) q) := by
  have h := first_at t
  unfold k0_pay7
  by_cases h0 : t.val = 0
  · rw [if_pos h0, show Scalar.cmpi .eq (BitVec.ofNat 32 (grid0.coords t 0).val) 0#32 = 1#1 from h.2 h0]
    refine congrArg v (funext fun a => Fin.ext ?_)
    match a with
    | ⟨0, _⟩ => rfl
    | ⟨1, _⟩ => rfl
  · rw [if_neg h0]
    have e : ¬ Scalar.cmpi .eq (BitVec.ofNat 32 (grid0.coords t 0).val) 0#32 = 1#1 := fun e => h0 (h.1 e)
    dsimp only
    unfold Scalar.select
    exact congrFun (if_neg e) _

end Cert.Kernel6Ideal.PayH
-- ==== Proof.StepH.lean ====
module

public import proofs.«01_k».proof.Proof.Gen.Kernel6Ideal.Value
public import proofs.«01_k».proof.Proof.Spec
public import proofs.«01_k».proof.Proof.PayH
public import Idealize.ShloMosaic.Lib.Pipeline.ReadBack

/-! What the kernel of the MLP and the loss leaves after each grid point, and its results. -/

@[expose] public section
noncomputable section
namespace Cert.Kernel6Ideal.StepH
open Cert.Kernel6Ideal Cert.Kernel6Ideal.Gen Idealize.ShloMosaic Idealize.ShloMosaic.TcCoe Idealize.SL.Sem Cert.Spec Cert.Kernel6Ideal.PayH

variable (m : (ℓ : Loc nD τ sig) → Buf (Elt Ideal) ℓ)

theorem hz : (![0, 0] : Fin 2 → Nat) = fun _ => 0 := by decide
theorem hz' : ∀ a : Fin 2, (![0, 0] : Fin 2 → Nat) a = 0 := by decide

/-! ## The arrays the windows are cut from, and the blocks -/

def aS (c : Dev nD) (r : Fin 4224) (k : Fin 1024) : EReal := V m c (Pipeline.arrRef spec0 0) (ix2 r k)
def aX (c : Dev nD) (r : Fin 4224) (k : Fin 1024) : EReal := V m c (Pipeline.arrRef spec0 1) (ix2 r k)
def aW1 (c : Dev nD) (s : Fin 8) (q : Fin 1024) (x : Fin 512) : EReal := V m c (Pipeline.arrRef spec0 2) (ix3 s q x)
def aW2 (c : Dev nD) (r : Fin 4096) (k : Fin 1024) : EReal := V m c (Pipeline.arrRef spec0 3) (ix2 r k)
def aG (c : Dev nD) (r : Fin 1) (k : Fin 1024) : EReal := V m c (Pipeline.arrRef spec0 4) (ix2 r k)
def aB (c : Dev nD) (r : Fin 1) (k : Fin 1024) : EReal := V m c (Pipeline.arrRef spec0 5) (ix2 r k)
def aT (c : Dev nD) (r : Fin 4096) (k : Fin 1024) : EReal := V m c (Pipeline.arrRef spec0 6) (ix2 r k)

theorem lt12 (t : Fin cfg0.N) : t.val < 12 := lt_of_lt_of_eq t.isLt N_0

/-- Row `p` of point `t`'s block. -/
def row (t : Fin cfg0.N) (p : Fin 352) : Fin 4224 := ⟨352 * t.val + p.val, by have := lt12 t; omega⟩
/-- The first row of its targets. -/
abbrev tOff (t : ℕ) : ℕ := 352 * t - 64 * (t / 6 + 1)

def bS (c : Dev nD) (t : Fin cfg0.N) (r : Fin 352) (k : Fin 1024) : EReal := iblk m c 0 t (ix2 r k)
def bX (c : Dev nD) (t : Fin cfg0.N) (r : Fin 352) (k : Fin 1024) : EReal := iblk m c 1 t (ix2 r k)
def bW1 (c : Dev nD) (t : Fin cfg0.N) (s : Fin 8) (q : Fin 1024) (x : Fin 512) : EReal := iblk m c 2 t (ix3 s q x)
def bW2 (c : Dev nD) (t : Fin cfg0.N) (r : Fin 4096) (k : Fin 1024) : EReal := iblk m c 3 t (ix2 r k)
def bG (c : Dev nD) (t : Fin cfg0.N) (r : Fin 1) (k : Fin 1024) : EReal := iblk m c 4 t (ix2 r k)
def bB (c : Dev nD) (t : Fin cfg0.N) (r : Fin 1) (k : Fin 1024) : EReal := iblk m c 5 t (ix2 r k)
def bT (c : Dev nD) (t : Fin cfg0.N) (r : Fin 352) (k : Fin 1024) : EReal := iblk m c 6 t (ix2 r k)

theorem idx (t : Fin cfg0.N) : (win0_0.index t (0 : Fin 2) = t.val ∧ win0_0.index t (1 : Fin 2) = 0)
    ∧ (win0_1.index t (0 : Fin 2) = t.val ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = tOff t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = tOff t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)) t

theorem iblk0 (c : Dev nD) (t : Fin cfg0.N) (r : Fin 352) (k : Fin 1024) : bS m c t r k = aS m c (row t r) k := by
  refine congrArg (V m c (Pipeline.arrRef spec0 0)) (funext fun a => Fin.ext ?_)
  obtain ⟨⟨e0, e1⟩, -⟩ := idx t
  match a with
  | ⟨0, _⟩ => show win0_0.index t (0 : Fin 2) * 352 + 1 * r.val = 352 * t.val + r.val; omega
  | ⟨1, _⟩ => show win0_0.index t (1 : Fin 2) * 1024 + 1 * k.val = k.val; omega

theorem iblk1 (c : Dev nD) (t : Fin cfg0.N) (r : Fin 352) (k : Fin 1024) : bX m c t r k = aX m c (row t r) k := by
  refine congrArg (V m c (Pipeline.arrRef spec0 1)) (funext fun a => Fin.ext ?_)
  obtain ⟨-, ⟨e0, e1⟩, -⟩ := idx t
  match a with
  | ⟨0, _⟩ => show win0_1.index t (0 : Fin 2) * 352 + 1 * r.val = 352 * t.val + r.val; omega
  | ⟨1, _⟩ => show win0_1.index t (1 : Fin 2) * 1024 + 1 * k.val = k.val; omega

theorem iblk2 (c : Dev nD) (t : Fin cfg0.N) (s : Fin 8) (q : Fin 1024) (x : Fin 512) : bW1 m c t s q x = aW1 m c s q x := by
  refine congrArg (V m c (Pipeline.arrRef spec0 2)) (funext fun a => Fin.ext ?_)
  obtain ⟨-, -, ⟨e0, e1, e2⟩, -⟩ := idx t
  match a with
  | ⟨0, _⟩ => show win0_2.index t (0 : Fin 3) * 8 + 1 * s.val = s.val; omega
  | ⟨1, _⟩ => show win0_2.index t (1 : Fin 3) * 1024 + 1 * q.val = q.val; omega
  | ⟨2, _⟩ => show win0_2.index t (2 : Fin 3) * 512 + 1 * x.val = x.val; omega

theorem iblk3 (c : Dev nD) (t : Fin cfg0.N) (r : Fin 4096) (k : Fin 1024) : bW2 m c t r k = aW2 m c r k := by
  refine congrArg (V m c (Pipeline.arrRef spec0 3)) (funext fun a => Fin.ext ?_)
  obtain ⟨-, -, -, ⟨e0, e1⟩, -⟩ := idx t
  match a with
  | ⟨0, _⟩ => show win0_3.index t (0 : Fin 2) * 4096 + 1 * r.val = r.val; omega
  | ⟨1, _⟩ => show win0_3.index t (1 : Fin 2) * 1024 + 1 * k.val = k.val; omega

theorem iblk4 (c : Dev nD) (t : Fin cfg0.N) (r : Fin 1) (k : Fin 1024) : bG m c t r k = aG m c r k := by
  refine congrArg (V m c (Pipeline.arrRef spec0 4)) (funext fun a => Fin.ext ?_)
  obtain ⟨-, -, -, -, ⟨e0, e1⟩, -⟩ := idx t
  match a with
  | ⟨0, _⟩ => show win0_4.index t (0 : Fin 2) * 1 + 1 * r.val = r.val; omega
  | ⟨1, _⟩ => show win0_4.index t (1 : Fin 2) * 1024 + 1 * k.val = k.val; omega

theorem iblk5 (c : Dev nD) (t : Fin cfg0.N) (r : Fin 1) (k : Fin 1024) : bB m c t r k = aB m c r k := by
  refine congrArg (V m c (Pipeline.arrRef spec0 5)) (funext fun a => Fin.ext ?_)
  obtain ⟨-, -, -, -, -, ⟨e0, e1⟩, -⟩ := idx t
  match a with
  | ⟨0, _⟩ => show win0_5.index t (0 : Fin 2) * 1 + 1 * r.val = r.val; omega
  | ⟨1, _⟩ => show win0_5.index t (1 : Fin 2) * 1024 + 1 * k.val = k.val; omega

theorem iblk6 (c : Dev nD) (t : Fin cfg0.N) (r : Fin 352) (k : Fin 1024) : bT m c t r k = aT m c ⟨tOff t.val + r.val, by have := lt12 t; dsimp only [tOff]; omega⟩ k := by
  refine congrArg (V m c (Pipeline.arrRef spec0 6)) (funext fun a => Fin.ext ?_)
  obtain ⟨-, -, -, -, -, -, ⟨e0, e1⟩, -⟩ := idx t
  match a with
  | ⟨0, _⟩ => show win0_6.index t (0 : Fin 2) + 1 * r.val = tOff t.val + r.val; omega
  | ⟨1, _⟩ => show win0_6.index t (1 : Fin 2) + 1 * k.val = k.val; omega

/-! ## What the layer computes on a row -/

section
variable (s x : Fin 1024 → EReal) (w1 : Fin 8 → Fin 1024 → Fin 512 → EReal) (w2 : Fin 4096 → Fin 1024 → EReal)

/-- A hidden unit: its column lies in the slice of 512 its number names. -/
def unit (k : Fin 4096) : EReal := ∑ i, x i * w1 ⟨k.val / 512, by omega⟩ i ⟨k.val % 512, by omega⟩
/-- The row before the last norm: the residual's and the hidden layer's. -/
def preR (q : Fin 1024) : EReal := alpha * s q + ∑ k, max (unit x w1 k) 0 * max (unit x w1 k) 0 * w2 k q
end

def hb (c : Dev nD) (t : Fin cfg0.N) (p : Fin 352) (k : Fin 4096) : EReal := unit (bX m c t p) (bW1 m c t) k
def pb (c : Dev nD) (t : Fin cfg0.N) (p : Fin 352) : Fin 1024 → EReal := preR (bS m c t p) (bX m c t p) (bW1 m c t) (bW2 m c t)
/-- The error of row `p` of point `t`. -/
def eb (c : Dev nD) (t : Fin cfg0.N) (p : Fin 352) (q : Fin 1024) : EReal :=
  if k0_pay6 (grid0.coords t) (ix2 p 0) = 1#1 then xhat (pb m c t p) q * bG m c t 0 q + bB m c t 0 q - k0_pay7 (F := Ideal) (grid0.coords t) (iblk m c 6 t) (ix2 p q) else 0

/-! ## The loads -/

theorem ldX_lo (c : Dev nD) (t : Fin cfg0.N) (a : Fin 176) (k : Fin 1024) : (View.ld (iblk m c 1 t) (Rect.unit ![0, 0] ![176, 1024] inb_S352x1024_S176x1024_0_0)) (ix2 a k) = bX m c t (lo a) k := by
  refine congrArg (iblk m c 1 t) (funext fun i => Fin.ext ?_)
  match i with
  | ⟨0, _⟩ => show 0 + 1 * a.val = (lo a).val; dsimp only [lo]; omega
  | ⟨1, _⟩ => show 0 + 1 * k.val = k.val; omega
theorem ldS_lo (c : Dev nD) (t : Fin cfg0.N) (a : Fin 176) (k : Fin 1024) : (View.ld (iblk m c 0 t) (Rect.unit ![0, 0] ![176, 1024] inb_S352x1024_S176x1024_0_0)) (ix2 a k) = bS m c t (lo a) k := by
  refine congrArg (iblk m c 0 t) (funext fun i => Fin.ext ?_)
  match i with
  | ⟨0, _⟩ => show 0 + 1 * a.val = (lo a).val; dsimp only [lo]; omega
  | ⟨1, _⟩ => show 0 + 1 * k.val = k.val; omega
theorem ldX_hi (c : Dev nD) (t : Fin cfg0.N) (a : Fin 176) (k : Fin 1024) : (View.ld (iblk m c 1 t) (Rect.unit ![176, 0] ![176, 1024] inb_S352x1024_S176x1024_176_0)) (ix2 a k) = bX m c t (hi a) k := by
  refine congrArg (iblk m c 1 t) (funext fun i => Fin.ext ?_)
  match i with
  | ⟨0, _⟩ => show 176 + 1 * a.val = (hi a).val; dsimp only [hi]; omega
  | ⟨1, _⟩ => show 0 + 1 * k.val = k.val; omega
theorem ldS_hi (c : Dev nD) (t : Fin cfg0.N) (a : Fin 176) (k : Fin 1024) : (View.ld (iblk m c 0 t) (Rect.unit ![176, 0] ![176, 1024] inb_S352x1024_S176x1024_176_0)) (ix2 a k) = bS m c t (hi a) k := by
  refine congrArg (iblk m c 0 t) (funext fun i => Fin.ext ?_)
  match i with
  | ⟨0, _⟩ => show 176 + 1 * a.val = (hi a).val; dsimp only [hi]; omega
  | ⟨1, _⟩ => show 0 + 1 * k.val = k.val; omega

/-- The `s`-th slice of the first weight, and of the second. -/
theorem ldU (c : Dev nD) (t : Fin cfg0.N) (s : ℕ) (hs : s < 8) (inb) (k : Fin 1024) (x : Fin 512) :
    View.ld (iblk m c 2 t) (Rect.unit (s := S8x1024x512) ![s, 0, 0] ![1, 1024, 512] inb) (ix3 0 k x) = bW1 m c t ⟨s, hs⟩ k x := by
  refine congrArg (iblk m c 2 t) (funext fun i => Fin.ext ?_)
  match i with
  | ⟨0, _⟩ => show s + 1 * 0 = s; omega
  | ⟨1, _⟩ => show 0 + 1 * k.val = k.val; omega
  | ⟨2, _⟩ => show 0 + 1 * x.val = x.val; omega
theorem ldV (c : Dev nD) (t : Fin cfg0.N) (s : ℕ) (hs : s < 8) (inb) (x : Fin 512) (q : Fin 1024) :
    View.ld (iblk m c 3 t) (Rect.unit (s := S4096x1024) ![512 * s, 0] ![512, 1024] inb) (ix2 x q) = bW2 m c t ⟨512 * s + x.val, by omega⟩ q := by
  refine congrArg (iblk m c 3 t) (funext fun i => Fin.ext ?_)
  match i with
  | ⟨0, _⟩ => show 512 * s + 1 * x.val = 512 * s + x.val; omega
  | ⟨1, _⟩ => show 0 + 1 * q.val = q.val; omega

theorem hid_eq (c : Dev nD) (t : Fin cfg0.N) {X : FVec Ideal S176x1024 .bf16} {e : Fin 176 → Fin 352} (hX : ∀ a k, X (ix2 a k) = bX m c t (e a) k)
    (s : ℕ) (hs : s < 8) (inb) (a : Fin 176) (x : Fin 512) :
    hid X (View.ld (iblk m c 2 t) (Rect.unit (s := S8x1024x512) ![s, 0, 0] ![1, 1024, 512] inb)) a x = hb m c t (e a) ⟨512 * s + x.val, by omega⟩ := by
  unfold hid hb unit
  refine Finset.sum_congr rfl fun k _ => ?_
  rw [hX, ldU m c t s hs]
  exact congrArg (bX m c t (e a) k * ·) (congrArg₂ (bW1 m c t · k ·) (Fin.ext (show s = (512 * s + x.val) / 512 by omega)) (Fin.ext (show x.val = (512 * s + x.val) % 512 by omega)))

theorem out_eq (c : Dev nD) (t : Fin cfg0.N) {X : FVec Ideal S176x1024 .bf16} {e : Fin 176 → Fin 352} (hX : ∀ a k, X (ix2 a k) = bX m c t (e a) k)
    (s : ℕ) (hs : s < 8) (i1 i2) (a : Fin 176) (q : Fin 1024) :
    out X (View.ld (iblk m c 2 t) (Rect.unit (s := S8x1024x512) ![s, 0, 0] ![1, 1024, 512] i1))
        (View.ld (iblk m c 3 t) (Rect.unit (s := S4096x1024) ![512 * s, 0] ![512, 1024] i2)) a q
      = ∑ x : Fin 512, max (hb m c t (e a) ⟨512 * s + x.val, by omega⟩) 0 * max (hb m c t (e a) ⟨512 * s + x.val, by omega⟩) 0
          * bW2 m c t ⟨512 * s + x.val, by omega⟩ q := by
  unfold out
  refine Finset.sum_congr rfl fun x _ => ?_
  rw [hid_eq m c t hX s hs, ldV m c t s hs]

theorem outs_eq (c : Dev nD) (t : Fin cfg0.N) {X : FVec Ideal S176x1024 .bf16} {e : Fin 176 → Fin 352} (hX : ∀ a k, X (ix2 a k) = bX m c t (e a) k)
    (a : Fin 176) (q : Fin 1024) :
    outs X (View.ld (iblk m c 2 t) (Rect.unit ![0, 0, 0] ![1, 1024, 512] inb_S8x1024x512_S1x1024x512_0_0_0)) (View.ld (iblk m c 2 t) (Rect.unit ![1, 0, 0] ![1, 1024, 512] inb_S8x1024x512_S1x1024x512_1_0_0)) (View.ld (iblk m c 2 t) (Rect.unit ![2, 0, 0] ![1, 1024, 512] inb_S8x1024x512_S1x1024x512_2_0_0)) (View.ld (iblk m c 2 t) (Rect.unit ![3, 0, 0] ![1, 1024, 512] inb_S8x1024x512_S1x1024x512_3_0_0)) (View.ld (iblk m c 2 t) (Rect.unit ![4, 0, 0] ![1, 1024, 512] inb_S8x1024x512_S1x1024x512_4_0_0)) (View.ld (iblk m c 2 t) (Rect.unit ![5, 0, 0] ![1, 1024, 512] inb_S8x1024x512_S1x1024x512_5_0_0)) (View.ld (iblk m c 2 t) (Rect.unit ![6, 0, 0] ![1, 1024, 512] inb_S8x1024x512_S1x1024x512_6_0_0)) (View.ld (iblk m c 2 t) (Rect.unit ![7, 0, 0] ![1, 1024, 512] inb_S8x1024x512_S1x1024x512_7_0_0))
        (View.ld (iblk m c 3 t) (Rect.unit ![0, 0] ![512, 1024] inb_S4096x1024_S512x1024_0_0)) (View.ld (iblk m c 3 t) (Rect.unit ![512, 0] ![512, 1024] inb_S4096x1024_S512x1024_512_0)) (View.ld (iblk m c 3 t) (Rect.unit ![1024, 0] ![512, 1024] inb_S4096x1024_S512x1024_1024_0)) (View.ld (iblk m c 3 t) (Rect.unit ![1536, 0] ![512, 1024] inb_S4096x1024_S512x1024_1536_0)) (View.ld (iblk m c 3 t) (Rect.unit ![2048, 0] ![512, 1024] inb_S4096x1024_S512x1024_2048_0)) (View.ld (iblk m c 3 t) (Rect.unit ![2560, 0] ![512, 1024] inb_S4096x1024_S512x1024_2560_0)) (View.ld (iblk m c 3 t) (Rect.unit ![3072, 0] ![512, 1024] inb_S4096x1024_S512x1024_3072_0)) (View.ld (iblk m c 3 t) (Rect.unit ![3584, 0] ![512, 1024] inb_S4096x1024_S512x1024_3584_0)) a q
      = ∑ k, max (hb m c t (e a) k) 0 * max (hb m c t (e a) k) 0 * bW2 m c t k q := by
  rw [← sum_blocks (n := 8) (b := 512) rfl (fun k => max (hb m c t (e a) k) 0 * max (hb m c t (e a) k) 0 * bW2 m c t k q), Fin.sum_univ_eight]
  unfold outs
  rw [out_eq m c t hX 0 (by norm_num), out_eq m c t hX 1 (by norm_num), out_eq m c t hX 2 (by norm_num), out_eq m c t hX 3 (by norm_num), out_eq m c t hX 4 (by norm_num), out_eq m c t hX 5 (by norm_num), out_eq m c t hX 6 (by norm_num), out_eq m c t hX 7 (by norm_num)]
  rfl

abbrev S0 (c : Dev nD) (t : Fin cfg0.N) : FVec Ideal S176x1024 .f32 := (View.ld (iblk m c 0 t) (Rect.unit ![0, 0] ![176, 1024] inb_S352x1024_S176x1024_0_0))
abbrev A0 (c : Dev nD) (t : Fin cfg0.N) : FVec Ideal S176x1024 .f32 := acc0 (View.ld (iblk m c 1 t) (Rect.unit ![0, 0] ![176, 1024] inb_S352x1024_S176x1024_0_0)) (View.ld (iblk m c 2 t) (Rect.unit ![0, 0, 0] ![1, 1024, 512] inb_S8x1024x512_S1x1024x512_0_0_0)) (View.ld (iblk m c 2 t) (Rect.unit ![1, 0, 0] ![1, 1024, 512] inb_S8x1024x512_S1x1024x512_1_0_0)) (View.ld (iblk m c 2 t) (Rect.unit ![2, 0, 0] ![1, 1024, 512] inb_S8x1024x512_S1x1024x512_2_0_0)) (View.ld (iblk m c 2 t) (Rect.unit ![3, 0, 0] ![1, 1024, 512] inb_S8x1024x512_S1x1024x512_3_0_0)) (View.ld (iblk m c 2 t) (Rect.unit ![4, 0, 0] ![1, 1024, 512] inb_S8x1024x512_S1x1024x512_4_0_0)) (View.ld (iblk m c 2 t) (Rect.unit ![5, 0, 0] ![1, 1024, 512] inb_S8x1024x512_S1x1024x512_5_0_0)) (View.ld (iblk m c 2 t) (Rect.unit ![6, 0, 0] ![1, 1024, 512] inb_S8x1024x512_S1x1024x512_6_0_0)) (View.ld (iblk m c 2 t) (Rect.unit ![7, 0, 0] ![1, 1024, 512] inb_S8x1024x512_S1x1024x512_7_0_0))
    (View.ld (iblk m c 3 t) (Rect.unit ![0, 0] ![512, 1024] inb_S4096x1024_S512x1024_0_0)) (View.ld (iblk m c 3 t) (Rect.unit ![512, 0] ![512, 1024] inb_S4096x1024_S512x1024_512_0)) (View.ld (iblk m c 3 t) (Rect.unit ![1024, 0] ![512, 1024] inb_S4096x1024_S512x1024_1024_0)) (View.ld (iblk m c 3 t) (Rect.unit ![1536, 0] ![512, 1024] inb_S4096x1024_S512x1024_1536_0)) (View.ld (iblk m c 3 t) (Rect.unit ![2048, 0] ![512, 1024] inb_S4096x1024_S512x1024_2048_0)) (View.ld (iblk m c 3 t) (Rect.unit ![2560, 0] ![512, 1024] inb_S4096x1024_S512x1024_2560_0)) (View.ld (iblk m c 3 t) (Rect.unit ![3072, 0] ![512, 1024] inb_S4096x1024_S512x1024_3072_0)) (View.ld (iblk m c 3 t) (Rect.unit ![3584, 0] ![512, 1024] inb_S4096x1024_S512x1024_3584_0))
theorem pre_lo (c : Dev nD) (t : Fin cfg0.N) (a : Fin 176) : pre (A0 m c t) (S0 m c t) a = pb m c t (lo a) := by
  funext k
  unfold pre pb preR
  unfold A0 S0
  rw [acc0_at, outs_eq m c t (ldX_lo m c t), ldS_lo]
  rfl
theorem err_lo (c : Dev nD) (t : Fin cfg0.N) (a : Fin 176) :
    err (k0_pay6 (grid0.coords t)) (k0_pay7 (grid0.coords t) (iblk m c 6 t)) (A0 m c t) (S0 m c t) (iblk m c 4 t) (iblk m c 5 t) lo a = eb m c t (lo a) := by
  funext k
  unfold err eb
  rw [pre_lo]
  rfl

abbrev S1 (c : Dev nD) (t : Fin cfg0.N) : FVec Ideal S176x1024 .f32 := (View.ld (iblk m c 0 t) (Rect.unit ![176, 0] ![176, 1024] inb_S352x1024_S176x1024_176_0))
abbrev A1 (c : Dev nD) (t : Fin cfg0.N) : FVec Ideal S176x1024 .f32 := acc1 (View.ld (iblk m c 1 t) (Rect.unit ![176, 0] ![176, 1024] inb_S352x1024_S176x1024_176_0)) (View.ld (iblk m c 2 t) (Rect.unit ![0, 0, 0] ![1, 1024, 512] inb_S8x1024x512_S1x1024x512_0_0_0)) (View.ld (iblk m c 2 t) (Rect.unit ![1, 0, 0] ![1, 1024, 512] inb_S8x1024x512_S1x1024x512_1_0_0)) (View.ld (iblk m c 2 t) (Rect.unit ![2, 0, 0] ![1, 1024, 512] inb_S8x1024x512_S1x1024x512_2_0_0)) (View.ld (iblk m c 2 t) (Rect.unit ![3, 0, 0] ![1, 1024, 512] inb_S8x1024x512_S1x1024x512_3_0_0)) (View.ld (iblk m c 2 t) (Rect.unit ![4, 0, 0] ![1, 1024, 512] inb_S8x1024x512_S1x1024x512_4_0_0)) (View.ld (iblk m c 2 t) (Rect.unit ![5, 0, 0] ![1, 1024, 512] inb_S8x1024x512_S1x1024x512_5_0_0)) (View.ld (iblk m c 2 t) (Rect.unit ![6, 0, 0] ![1, 1024, 512] inb_S8x1024x512_S1x1024x512_6_0_0)) (View.ld (iblk m c 2 t) (Rect.unit ![7, 0, 0] ![1, 1024, 512] inb_S8x1024x512_S1x1024x512_7_0_0))
    (View.ld (iblk m c 3 t) (Rect.unit ![0, 0] ![512, 1024] inb_S4096x1024_S512x1024_0_0)) (View.ld (iblk m c 3 t) (Rect.unit ![512, 0] ![512, 1024] inb_S4096x1024_S512x1024_512_0)) (View.ld (iblk m c 3 t) (Rect.unit ![1024, 0] ![512, 1024] inb_S4096x1024_S512x1024_1024_0)) (View.ld (iblk m c 3 t) (Rect.unit ![1536, 0] ![512, 1024] inb_S4096x1024_S512x1024_1536_0)) (View.ld (iblk m c 3 t) (Rect.unit ![2048, 0] ![512, 1024] inb_S4096x1024_S512x1024_2048_0)) (View.ld (iblk m c 3 t) (Rect.unit ![2560, 0] ![512, 1024] inb_S4096x1024_S512x1024_2560_0)) (View.ld (iblk m c 3 t) (Rect.unit ![3072, 0] ![512, 1024] inb_S4096x1024_S512x1024_3072_0)) (View.ld (iblk m c 3 t) (Rect.unit ![3584, 0] ![512, 1024] inb_S4096x1024_S512x1024_3584_0))
theorem pre_hi (c : Dev nD) (t : Fin cfg0.N) (a : Fin 176) : pre (A1 m c t) (S1 m c t) a = pb m c t (hi a) := by
  funext k
  unfold pre pb preR
  unfold A1 S1
  rw [acc1_at, outs_eq m c t (ldX_hi m c t), ldS_hi]
  rfl
theorem err_hi (c : Dev nD) (t : Fin cfg0.N) (a : Fin 176) :
    err (k0_pay6 (grid0.coords t)) (k0_pay7 (grid0.coords t) (iblk m c 6 t)) (A1 m c t) (S1 m c t) (iblk m c 4 t) (iblk m c 5 t) hi a = eb m c t (hi a) := by
  funext k
  unfold err eb
  rw [pre_hi]
  rfl

theorem of_tile {a b n k o s : ℕ} (f : Fin a → Fin b → EReal) (inb) (w : (⟨2, ![n, k]⟩ : Shape).Idx → EReal) (ho : o + n ≤ a) (hs : s + k ≤ b)
    (h : ∀ (x : Fin n) (y : Fin k), w (ix2 x y) = f ⟨o + x.val, by omega⟩ ⟨s + y.val, by omega⟩) (z : (⟨2, ![n, k]⟩ : Shape).Idx) :
    w z = (fun i : (⟨2, ![a, b]⟩ : Shape).Idx => f (i 0) (i 1)) ((Rect.unit (s := (⟨2, ![a, b]⟩ : Shape)) ![o, s] ![n, k] inb).emb z) := by
  obtain ⟨x, y, rfl⟩ : ∃ (x : Fin n) (y : Fin k), z = ix2 x y := ⟨z 0, z 1, funext fun i => match i with | ⟨0, _⟩ => rfl | ⟨1, _⟩ => rfl⟩
  refine (h x y).trans (congrArg₂ f (Fin.ext ?_) (Fin.ext ?_))
  · show o + x.val = o + 1 * x.val; omega
  · show s + y.val = s + 1 * y.val; omega

theorem z_mk {n : ℕ} (x : Fin n) (h) : (⟨0 + x.val, h⟩ : Fin n) = x := Fin.ext (Nat.zero_add _)
theorem of_pieces {S : Shape} {e : EltTy} (G : S.Idx → Elt Ideal e) (L : List (View.Piece (Elt Ideal) S e)) (h : View.PiecesOf G L) (y : S.Idx)
    (hc : ∃ p ∈ L, y ∈ p.1.set) : View.canon L y = G y := View.canon_apply_of_pieces G L h.mem y hc

theorem hi_mk (a : Fin 176) (h) : (⟨176 + a.val, h⟩ : Fin 352) = hi a := rfl
theorem lo_mk (a : Fin 176) (h) : (⟨0 + a.val, h⟩ : Fin 352) = lo a := Fin.ext (Nat.zero_add _)

/-! ## What each output holds after a point -/

theorem tr0 (v : FVec Ideal S176x1024 .f32) (i : S176x1024.Idx) : (k0_pay63 v i : EReal) = v i := rfl
theorem tr1 (u : FVec Ideal S176x1 .f32) (v w : FVec Ideal S176x1024 .f32) (y z : FVec Ideal S176x1 .f32) (i : S176x1024.Idx) :
    (k0_pay2 u v w y z i : EReal) = k0_pay1 u v w y z i := rfl

theorem o7_A (c : Dev nD) (t : Fin cfg0.N) (h0 : t.val % 12 = 0) (p : Fin 352) (k : Fin 4096) : ((outsAt0 m c t.val t.isLt).1 (ix2 p k) : EReal) = hb m c t p k := by
  rw [outsAt0_A m c t h0]
  dsimp only
  unfold out0_A_7
  rw [View.read_writes_eq_canon _ _ _ (fun y => cover0_A_7 (y := y) ..)]
  refine of_pieces (e := .bf16) (fun i : S352x4096.Idx => hb m c t (i 0) (i 1)) _ ?_ (ix2 p k) ?_
  swap
  · exact cover0_A_7 (y := ix2 p k) ..
  unfold kernelRun0_A; dsimp only
  sl_unfold_words
  simp only [View.readCov_fill (s := S1x1024) _ _ _ _ _ hz', View.readCov_fill (s := S8x128) _ _ _ _ _ hz', View.readAt_eq_ld, View.canon_cons_unit_zero (S := S1x1024) hz, View.canon_cons_unit_zero (S := S8x128) hz,
    View.ld_unit_zero (S := S352x1024) hz, View.ld_unit_zero (S := S1x1024) hz, View.ld_unit_zero (S := S8x128) hz, shapeCast_self,
    (hs0_0 t).read_unread, (hs0_1 t).read_unread, (hs0_2 t).read_unread, (hs0_3 t).read_unread, (hs0_4 t).read_unread, (hs0_5 t).read_unread, (hs0_6 t).read_unread, (hs0_10 t).read_unread, (hs0_11 t).read_unread, (hs0_12 t).read_unread, (Memref.isWhole_whole _).read_unread]
  refine ⟨of_tile _ inb_S352x4096_S176x512_176_3584 _ (by norm_num) (by norm_num) fun a x => (h1_7 _ _ a x).trans (hid_eq m c t (ldX_hi m c t) 7 (by norm_num) _ a x), of_tile _ inb_S352x4096_S176x512_176_3072 _ (by norm_num) (by norm_num) fun a x => (h1_6 _ _ a x).trans (hid_eq m c t (ldX_hi m c t) 6 (by norm_num) _ a x), of_tile _ inb_S352x4096_S176x512_176_2560 _ (by norm_num) (by norm_num) fun a x => (h1_5 _ _ a x).trans (hid_eq m c t (ldX_hi m c t) 5 (by norm_num) _ a x), of_tile _ inb_S352x4096_S176x512_176_2048 _ (by norm_num) (by norm_num) fun a x => (h1_4 _ _ a x).trans (hid_eq m c t (ldX_hi m c t) 4 (by norm_num) _ a x), of_tile _ inb_S352x4096_S176x512_176_1536 _ (by norm_num) (by norm_num) fun a x => (h1_3 _ _ a x).trans (hid_eq m c t (ldX_hi m c t) 3 (by norm_num) _ a x), of_tile _ inb_S352x4096_S176x512_176_1024 _ (by norm_num) (by norm_num) fun a x => (h1_2 _ _ a x).trans (hid_eq m c t (ldX_hi m c t) 2 (by norm_num) _ a x), of_tile _ inb_S352x4096_S176x512_176_512 _ (by norm_num) (by norm_num) fun a x => (h1_1 _ _ a x).trans (hid_eq m c t (ldX_hi m c t) 1 (by norm_num) _ a x), of_tile _ inb_S352x4096_S176x512_176_0 _ (by norm_num) (by norm_num) fun a x => (h1_0 _ _ a x).trans (hid_eq m c t (ldX_hi m c t) 0 (by norm_num) _ a x),
    of_tile _ inb_S352x4096_S176x512_0_3584 _ (by norm_num) (by norm_num) fun a x => (h0_7 _ _ a x).trans ((hid_eq m c t (ldX_lo m c t) 7 (by norm_num) _ a x).trans (by rw [lo_mk])), of_tile _ inb_S352x4096_S176x512_0_3072 _ (by norm_num) (by norm_num) fun a x => (h0_6 _ _ a x).trans ((hid_eq m c t (ldX_lo m c t) 6 (by norm_num) _ a x).trans (by rw [lo_mk])), of_tile _ inb_S352x4096_S176x512_0_2560 _ (by norm_num) (by norm_num) fun a x => (h0_5 _ _ a x).trans ((hid_eq m c t (ldX_lo m c t) 5 (by norm_num) _ a x).trans (by rw [lo_mk])), of_tile _ inb_S352x4096_S176x512_0_2048 _ (by norm_num) (by norm_num) fun a x => (h0_4 _ _ a x).trans ((hid_eq m c t (ldX_lo m c t) 4 (by norm_num) _ a x).trans (by rw [lo_mk])), of_tile _ inb_S352x4096_S176x512_0_1536 _ (by norm_num) (by norm_num) fun a x => (h0_3 _ _ a x).trans ((hid_eq m c t (ldX_lo m c t) 3 (by norm_num) _ a x).trans (by rw [lo_mk])), of_tile _ inb_S352x4096_S176x512_0_1024 _ (by norm_num) (by norm_num) fun a x => (h0_2 _ _ a x).trans ((hid_eq m c t (ldX_lo m c t) 2 (by norm_num) _ a x).trans (by rw [lo_mk])), of_tile _ inb_S352x4096_S176x512_0_512 _ (by norm_num) (by norm_num) fun a x => (h0_1 _ _ a x).trans ((hid_eq m c t (ldX_lo m c t) 1 (by norm_num) _ a x).trans (by rw [lo_mk])), of_tile _ inb_S352x4096_S176x512_0_0 _ (by norm_num) (by norm_num) fun a x => (h0_0 _ _ a x).trans ((hid_eq m c t (ldX_lo m c t) 0 (by norm_num) _ a x).trans (by rw [lo_mk])), trivial⟩

theorem o8_A (c : Dev nD) (t : Fin cfg0.N) (h0 : t.val % 12 = 0) (p : Fin 352) (q : Fin 1024) : ((outsAt0 m c t.val t.isLt).2.1 (ix2 p q) : EReal) = lnBwd (fun k => eb m c t p k * inv * bG m c t 0 k) (pb m c t p) q := by
  rw [outsAt0_A m c t h0]
  dsimp only
  unfold out0_A_8
  rw [View.read_writes_eq_canon _ _ _ (fun y => cover0_A_8 (y := y) ..)]
  refine of_pieces (e := .f32) (fun i : S352x1024.Idx => lnBwd (fun k => eb m c t (i 0) k * inv * bG m c t 0 k) (pb m c t (i 0)) (i 1)) _ ?_ (ix2 p q) ?_
  swap
  · exact cover0_A_8 (y := ix2 p q) ..
  unfold kernelRun0_A; dsimp only
  sl_unfold_words
  simp only [View.readCov_fill (s := S1x1024) _ _ _ _ _ hz', View.readCov_fill (s := S8x128) _ _ _ _ _ hz', View.readAt_eq_ld, View.canon_cons_unit_zero (S := S1x1024) hz, View.canon_cons_unit_zero (S := S8x128) hz,
    View.ld_unit_zero (S := S352x1024) hz, View.ld_unit_zero (S := S1x1024) hz, View.ld_unit_zero (S := S8x128) hz, shapeCast_self,
    (hs0_0 t).read_unread, (hs0_1 t).read_unread, (hs0_2 t).read_unread, (hs0_3 t).read_unread, (hs0_4 t).read_unread, (hs0_5 t).read_unread, (hs0_6 t).read_unread, (hs0_10 t).read_unread, (hs0_11 t).read_unread, (hs0_12 t).read_unread, (Memref.isWhole_whole _).read_unread]
  refine ⟨of_tile (fun p q => lnBwd (fun k => eb m c t p k * inv * bG m c t 0 k) (pb m c t p) q) inb_S352x1024_S176x1024_176_0 _ (by norm_num) (by norm_num) fun a x => (dx1 _ _ (A1 m c t) (S1 m c t) _ _ a x).trans ?_,
    of_tile (fun p q => lnBwd (fun k => eb m c t p k * inv * bG m c t 0 k) (pb m c t p) q) inb_S352x1024_S176x1024_0_0 _ (by norm_num) (by norm_num) fun a x => (dx0 _ _ (A0 m c t) (S0 m c t) _ _ a x).trans ?_, trivial⟩
  · rw [err_hi, pre_hi, hi_mk, z_mk]
    exact congrArg (lnBwd · _ _) rfl
  · rw [err_lo, pre_lo, lo_mk, z_mk]
    exact congrArg (lnBwd · _ _) rfl

theorem o9_A (c : Dev nD) (t : Fin cfg0.N) (h0 : t.val % 12 = 0) (p : Fin 352) (q : Fin 1024) : ((outsAt0 m c t.val t.isLt).2.2.1 (ix2 p q) : EReal) = lnBwd (fun k => eb m c t p k * inv * bG m c t 0 k) (pb m c t p) q := by
  rw [outsAt0_A m c t h0]
  dsimp only
  unfold out0_A_9
  rw [View.read_writes_eq_canon _ _ _ (fun y => cover0_A_9 (y := y) ..)]
  refine of_pieces (e := .bf16) (fun i : S352x1024.Idx => lnBwd (fun k => eb m c t (i 0) k * inv * bG m c t 0 k) (pb m c t (i 0)) (i 1)) _ ?_ (ix2 p q) ?_
  swap
  · exact cover0_A_9 (y := ix2 p q) ..
  unfold kernelRun0_A; dsimp only
  sl_unfold_words
  simp only [View.readCov_fill (s := S1x1024) _ _ _ _ _ hz', View.readCov_fill (s := S8x128) _ _ _ _ _ hz', View.readAt_eq_ld, View.canon_cons_unit_zero (S := S1x1024) hz, View.canon_cons_unit_zero (S := S8x128) hz,
    View.ld_unit_zero (S := S352x1024) hz, View.ld_unit_zero (S := S1x1024) hz, View.ld_unit_zero (S := S8x128) hz, shapeCast_self,
    (hs0_0 t).read_unread, (hs0_1 t).read_unread, (hs0_2 t).read_unread, (hs0_3 t).read_unread, (hs0_4 t).read_unread, (hs0_5 t).read_unread, (hs0_6 t).read_unread, (hs0_10 t).read_unread, (hs0_11 t).read_unread, (hs0_12 t).read_unread, (Memref.isWhole_whole _).read_unread]
  refine ⟨of_tile (fun p q => lnBwd (fun k => eb m c t p k * inv * bG m c t 0 k) (pb m c t p) q) inb_S352x1024_S176x1024_176_0 _ (by norm_num) (by norm_num) fun a x => (tr1 ..).trans ((dx1 _ _ (A1 m c t) (S1 m c t) _ _ a x).trans ?_),
    of_tile (fun p q => lnBwd (fun k => eb m c t p k * inv * bG m c t 0 k) (pb m c t p) q) inb_S352x1024_S176x1024_0_0 _ (by norm_num) (by norm_num) fun a x => (tr0 ..).trans ((dx0 _ _ (A0 m c t) (S0 m c t) _ _ a x).trans ?_), trivial⟩
  · rw [err_hi, pre_hi, hi_mk, z_mk]
    exact congrArg (lnBwd · _ _) rfl
  · rw [err_lo, pre_lo, lo_mk, z_mk]
    exact congrArg (lnBwd · _ _) rfl

theorem o7_B (c : Dev nD) (t : Fin cfg0.N) (h0 : ¬t.val % 12 = 0) (p : Fin 352) (k : Fin 4096) : ((outsAt0 m c t.val t.isLt).1 (ix2 p k) : EReal) = hb m c t p k := by
  rw [outsAt0_B m c t h0]
  dsimp only
  unfold out0_B_7
  rw [View.read_writes_eq_canon _ _ _ (fun y => cover0_B_7 (y := y) ..)]
  refine of_pieces (e := .bf16) (fun i : S352x4096.Idx => hb m c t (i 0) (i 1)) _ ?_ (ix2 p k) ?_
  swap
  · exact cover0_B_7 (y := ix2 p k) ..
  unfold kernelRun0_B; dsimp only
  sl_unfold_words
  simp only [View.readCov_fill (s := S1x1024) _ _ _ _ _ hz', View.readCov_fill (s := S8x128) _ _ _ _ _ hz', View.readAt_eq_ld, View.canon_cons_unit_zero (S := S1x1024) hz, View.canon_cons_unit_zero (S := S8x128) hz,
    View.ld_unit_zero (S := S352x1024) hz, View.ld_unit_zero (S := S1x1024) hz, View.ld_unit_zero (S := S8x128) hz, shapeCast_self,
    (hs0_0 t).read_unread, (hs0_1 t).read_unread, (hs0_2 t).read_unread, (hs0_3 t).read_unread, (hs0_4 t).read_unread, (hs0_5 t).read_unread, (hs0_6 t).read_unread, (hs0_10 t).read_unread, (hs0_11 t).read_unread, (hs0_12 t).read_unread, (Memref.isWhole_whole _).read_unread]
  refine ⟨of_tile _ inb_S352x4096_S176x512_176_3584 _ (by norm_num) (by norm_num) fun a x => (h1_7 _ _ a x).trans (hid_eq m c t (ldX_hi m c t) 7 (by norm_num) _ a x), of_tile _ inb_S352x4096_S176x512_176_3072 _ (by norm_num) (by norm_num) fun a x => (h1_6 _ _ a x).trans (hid_eq m c t (ldX_hi m c t) 6 (by norm_num) _ a x), of_tile _ inb_S352x4096_S176x512_176_2560 _ (by norm_num) (by norm_num) fun a x => (h1_5 _ _ a x).trans (hid_eq m c t (ldX_hi m c t) 5 (by norm_num) _ a x), of_tile _ inb_S352x4096_S176x512_176_2048 _ (by norm_num) (by norm_num) fun a x => (h1_4 _ _ a x).trans (hid_eq m c t (ldX_hi m c t) 4 (by norm_num) _ a x), of_tile _ inb_S352x4096_S176x512_176_1536 _ (by norm_num) (by norm_num) fun a x => (h1_3 _ _ a x).trans (hid_eq m c t (ldX_hi m c t) 3 (by norm_num) _ a x), of_tile _ inb_S352x4096_S176x512_176_1024 _ (by norm_num) (by norm_num) fun a x => (h1_2 _ _ a x).trans (hid_eq m c t (ldX_hi m c t) 2 (by norm_num) _ a x), of_tile _ inb_S352x4096_S176x512_176_512 _ (by norm_num) (by norm_num) fun a x => (h1_1 _ _ a x).trans (hid_eq m c t (ldX_hi m c t) 1 (by norm_num) _ a x), of_tile _ inb_S352x4096_S176x512_176_0 _ (by norm_num) (by norm_num) fun a x => (h1_0 _ _ a x).trans (hid_eq m c t (ldX_hi m c t) 0 (by norm_num) _ a x),
    of_tile _ inb_S352x4096_S176x512_0_3584 _ (by norm_num) (by norm_num) fun a x => (h0_7 _ _ a x).trans ((hid_eq m c t (ldX_lo m c t) 7 (by norm_num) _ a x).trans (by rw [lo_mk])), of_tile _ inb_S352x4096_S176x512_0_3072 _ (by norm_num) (by norm_num) fun a x => (h0_6 _ _ a x).trans ((hid_eq m c t (ldX_lo m c t) 6 (by norm_num) _ a x).trans (by rw [lo_mk])), of_tile _ inb_S352x4096_S176x512_0_2560 _ (by norm_num) (by norm_num) fun a x => (h0_5 _ _ a x).trans ((hid_eq m c t (ldX_lo m c t) 5 (by norm_num) _ a x).trans (by rw [lo_mk])), of_tile _ inb_S352x4096_S176x512_0_2048 _ (by norm_num) (by norm_num) fun a x => (h0_4 _ _ a x).trans ((hid_eq m c t (ldX_lo m c t) 4 (by norm_num) _ a x).trans (by rw [lo_mk])), of_tile _ inb_S352x4096_S176x512_0_1536 _ (by norm_num) (by norm_num) fun a x => (h0_3 _ _ a x).trans ((hid_eq m c t (ldX_lo m c t) 3 (by norm_num) _ a x).trans (by rw [lo_mk])), of_tile _ inb_S352x4096_S176x512_0_1024 _ (by norm_num) (by norm_num) fun a x => (h0_2 _ _ a x).trans ((hid_eq m c t (ldX_lo m c t) 2 (by norm_num) _ a x).trans (by rw [lo_mk])), of_tile _ inb_S352x4096_S176x512_0_512 _ (by norm_num) (by norm_num) fun a x => (h0_1 _ _ a x).trans ((hid_eq m c t (ldX_lo m c t) 1 (by norm_num) _ a x).trans (by rw [lo_mk])), of_tile _ inb_S352x4096_S176x512_0_0 _ (by norm_num) (by norm_num) fun a x => (h0_0 _ _ a x).trans ((hid_eq m c t (ldX_lo m c t) 0 (by norm_num) _ a x).trans (by rw [lo_mk])), trivial⟩

theorem o8_B (c : Dev nD) (t : Fin cfg0.N) (h0 : ¬t.val % 12 = 0) (p : Fin 352) (q : Fin 1024) : ((outsAt0 m c t.val t.isLt).2.1 (ix2 p q) : EReal) = lnBwd (fun k => eb m c t p k * inv * bG m c t 0 k) (pb m c t p) q := by
  rw [outsAt0_B m c t h0]
  dsimp only
  unfold out0_B_8
  rw [View.read_writes_eq_canon _ _ _ (fun y => cover0_B_8 (y := y) ..)]
  refine of_pieces (e := .f32) (fun i : S352x1024.Idx => lnBwd (fun k => eb m c t (i 0) k * inv * bG m c t 0 k) (pb m c t (i 0)) (i 1)) _ ?_ (ix2 p q) ?_
  swap
  · exact cover0_B_8 (y := ix2 p q) ..
  unfold kernelRun0_B; dsimp only
  sl_unfold_words
  simp only [View.readCov_fill (s := S1x1024) _ _ _ _ _ hz', View.readCov_fill (s := S8x128) _ _ _ _ _ hz', View.readAt_eq_ld, View.canon_cons_unit_zero (S := S1x1024) hz, View.canon_cons_unit_zero (S := S8x128) hz,
    View.ld_unit_zero (S := S352x1024) hz, View.ld_unit_zero (S := S1x1024) hz, View.ld_unit_zero (S := S8x128) hz, shapeCast_self,
    (hs0_0 t).read_unread, (hs0_1 t).read_unread, (hs0_2 t).read_unread, (hs0_3 t).read_unread, (hs0_4 t).read_unread, (hs0_5 t).read_unread, (hs0_6 t).read_unread, (hs0_10 t).read_unread, (hs0_11 t).read_unread, (hs0_12 t).read_unread, (Memref.isWhole_whole _).read_unread]
  refine ⟨of_tile (fun p q => lnBwd (fun k => eb m c t p k * inv * bG m c t 0 k) (pb m c t p) q) inb_S352x1024_S176x1024_176_0 _ (by norm_num) (by norm_num) fun a x => (dx1 _ _ (A1 m c t) (S1 m c t) _ _ a x).trans ?_,
    of_tile (fun p q => lnBwd (fun k => eb m c t p k * inv * bG m c t 0 k) (pb m c t p) q) inb_S352x1024_S176x1024_0_0 _ (by norm_num) (by norm_num) fun a x => (dx0 _ _ (A0 m c t) (S0 m c t) _ _ a x).trans ?_, trivial⟩
  · rw [err_hi, pre_hi, hi_mk, z_mk]
    exact congrArg (lnBwd · _ _) rfl
  · rw [err_lo, pre_lo, lo_mk, z_mk]
    exact congrArg (lnBwd · _ _) rfl

theorem o9_B (c : Dev nD) (t : Fin cfg0.N) (h0 : ¬t.val % 12 = 0) (p : Fin 352) (q : Fin 1024) : ((outsAt0 m c t.val t.isLt).2.2.1 (ix2 p q) : EReal) = lnBwd (fun k => eb m c t p k * inv * bG m c t 0 k) (pb m c t p) q := by
  rw [outsAt0_B m c t h0]
  dsimp only
  unfold out0_B_9
  rw [View.read_writes_eq_canon _ _ _ (fun y => cover0_B_9 (y := y) ..)]
  refine of_pieces (e := .bf16) (fun i : S352x1024.Idx => lnBwd (fun k => eb m c t (i 0) k * inv * bG m c t 0 k) (pb m c t (i 0)) (i 1)) _ ?_ (ix2 p q) ?_
  swap
  · exact cover0_B_9 (y := ix2 p q) ..
  unfold kernelRun0_B; dsimp only
  sl_unfold_words
  simp only [View.readCov_fill (s := S1x1024) _ _ _ _ _ hz', View.readCov_fill (s := S8x128) _ _ _ _ _ hz', View.readAt_eq_ld, View.canon_cons_unit_zero (S := S1x1024) hz, View.canon_cons_unit_zero (S := S8x128) hz,
    View.ld_unit_zero (S := S352x1024) hz, View.ld_unit_zero (S := S1x1024) hz, View.ld_unit_zero (S := S8x128) hz, shapeCast_self,
    (hs0_0 t).read_unread, (hs0_1 t).read_unread, (hs0_2 t).read_unread, (hs0_3 t).read_unread, (hs0_4 t).read_unread, (hs0_5 t).read_unread, (hs0_6 t).read_unread, (hs0_10 t).read_unread, (hs0_11 t).read_unread, (hs0_12 t).read_unread, (Memref.isWhole_whole _).read_unread]
  refine ⟨of_tile (fun p q => lnBwd (fun k => eb m c t p k * inv * bG m c t 0 k) (pb m c t p) q) inb_S352x1024_S176x1024_176_0 _ (by norm_num) (by norm_num) fun a x => (tr1 ..).trans ((dx1 _ _ (A1 m c t) (S1 m c t) _ _ a x).trans ?_),
    of_tile (fun p q => lnBwd (fun k => eb m c t p k * inv * bG m c t 0 k) (pb m c t p) q) inb_S352x1024_S176x1024_0_0 _ (by norm_num) (by norm_num) fun a x => (tr0 ..).trans ((dx0 _ _ (A0 m c t) (S0 m c t) _ _ a x).trans ?_), trivial⟩
  · rw [err_hi, pre_hi, hi_mk, z_mk]
    exact congrArg (lnBwd · _ _) rfl
  · rw [err_lo, pre_lo, lo_mk, z_mk]
    exact congrArg (lnBwd · _ _) rfl

/-! ## The sums that run over the points -/

/-- What row `p` adds to the loss. -/
def lb (c : Dev nD) (t : Fin cfg0.N) (p : Fin 352) : EReal := Ideal.div (∑ k, eb m c t p k * eb m c t p k) width

theorem sum_bands (f : Fin 352 → EReal) : ∑ p, f p = ∑ a : Fin 176, f (lo a) + ∑ a : Fin 176, f (hi a) :=
  Fin.sum_univ_add (a := 176) (b := 176) f

theorem zero_l (i : S8x128.Idx) : (k0_pay3 (F := Ideal) i : EReal) = 0 := by unfold k0_pay3; pointwise
theorem zero_dg (i : S1x1024.Idx) : (k0_pay4 (F := Ideal) i : EReal) = 0 := by unfold k0_pay4; pointwise
theorem zero_db (i : S1x1024.Idx) : (k0_pay5 (F := Ideal) i : EReal) = 0 := by unfold k0_pay5; pointwise
theorem half_eq : half = ((1 / 2 : ℝ) : EReal) := by simp [half, Ideal.ofBits, Ideal.ieee, -EReal.coe_mul]; norm_num
theorem half_add (x y : EReal) : half * x + half * y = half * (x + y) := by
  rw [half_eq]
  exact (EReal.left_distrib_of_nonneg_of_ne_top (by exact_mod_cast (by norm_num : (0 : ℝ) ≤ 1 / 2)) (EReal.coe_ne_top _) x y).symm

theorem o10_A (c : Dev nD) (t : Fin cfg0.N) (h0 : t.val % 12 = 0) (i : Fin 8) (j : Fin 128) : ((outsAt0 m c t.val t.isLt).2.2.2.1 (ix2 i j) : EReal) = half * ∑ p, lb m c t p := by
  rw [outsAt0_A m c t h0]
  dsimp only
  unfold out0_A_10
  rw [View.read_writes_eq_canon _ _ _ (fun y => cover0_A_10 (y := y) ..)]
  unfold kernelRun0_A; dsimp only
  sl_unfold_words
  simp only [View.readCov_fill (s := S1x1024) _ _ _ _ _ hz', View.readCov_fill (s := S8x128) _ _ _ _ _ hz', View.readAt_eq_ld, View.canon_cons_unit_zero (S := S1x1024) hz, View.canon_cons_unit_zero (S := S8x128) hz,
    View.ld_unit_zero (S := S352x1024) hz, View.ld_unit_zero (S := S1x1024) hz, View.ld_unit_zero (S := S8x128) hz, shapeCast_self,
    (hs0_0 t).read_unread, (hs0_1 t).read_unread, (hs0_2 t).read_unread, (hs0_3 t).read_unread, (hs0_4 t).read_unread, (hs0_5 t).read_unread, (hs0_6 t).read_unread, (hs0_10 t).read_unread, (hs0_11 t).read_unread, (hs0_12 t).read_unread, (Memref.isWhole_whole _).read_unread]
  refine (loss1 _ _ (A1 m c t) (S1 m c t) _ _ _ i j).trans ((congrArg (· + _) (loss0 _ _ (A0 m c t) (S0 m c t) _ _ _ i j)).trans ?_)
  unfold loss
  simp only [err_hi, err_lo]
  rw [sum_bands, ← half_add, zero_l, zero_add]
  exact rfl

theorem o11_A (c : Dev nD) (t : Fin cfg0.N) (h0 : t.val % 12 = 0) (q : Fin 1024)  : ((outsAt0 m c t.val t.isLt).2.2.2.2.1 (ix2 0 q) : EReal) = ∑ p, eb m c t p q * inv * xhat (pb m c t p) q := by
  rw [outsAt0_A m c t h0]
  dsimp only
  unfold out0_A_11
  rw [View.read_writes_eq_canon _ _ _ (fun y => cover0_A_11 (y := y) ..)]
  unfold kernelRun0_A; dsimp only
  sl_unfold_words
  simp only [View.readCov_fill (s := S1x1024) _ _ _ _ _ hz', View.readCov_fill (s := S8x128) _ _ _ _ _ hz', View.readAt_eq_ld, View.canon_cons_unit_zero (S := S1x1024) hz, View.canon_cons_unit_zero (S := S8x128) hz,
    View.ld_unit_zero (S := S352x1024) hz, View.ld_unit_zero (S := S1x1024) hz, View.ld_unit_zero (S := S8x128) hz, shapeCast_self,
    (hs0_0 t).read_unread, (hs0_1 t).read_unread, (hs0_2 t).read_unread, (hs0_3 t).read_unread, (hs0_4 t).read_unread, (hs0_5 t).read_unread, (hs0_6 t).read_unread, (hs0_10 t).read_unread, (hs0_11 t).read_unread, (hs0_12 t).read_unread, (Memref.isWhole_whole _).read_unread]
  refine (dg1 _ _ (A1 m c t) (S1 m c t) _ _ _ q).trans ((congrArg (· + _) (dg0 _ _ (A0 m c t) (S0 m c t) _ _ _ q)).trans ?_)
  simp only [err_hi, err_lo, pre_hi, pre_lo]
  rw [sum_bands, zero_dg, zero_add]

theorem o12_A (c : Dev nD) (t : Fin cfg0.N) (h0 : t.val % 12 = 0) (q : Fin 1024)  : ((outsAt0 m c t.val t.isLt).2.2.2.2.2 (ix2 0 q) : EReal) = ∑ p, eb m c t p q * inv := by
  rw [outsAt0_A m c t h0]
  dsimp only
  unfold out0_A_12
  rw [View.read_writes_eq_canon _ _ _ (fun y => cover0_A_12 (y := y) ..)]
  unfold kernelRun0_A; dsimp only
  sl_unfold_words
  simp only [View.readCov_fill (s := S1x1024) _ _ _ _ _ hz', View.readCov_fill (s := S8x128) _ _ _ _ _ hz', View.readAt_eq_ld, View.canon_cons_unit_zero (S := S1x1024) hz, View.canon_cons_unit_zero (S := S8x128) hz,
    View.ld_unit_zero (S := S352x1024) hz, View.ld_unit_zero (S := S1x1024) hz, View.ld_unit_zero (S := S8x128) hz, shapeCast_self,
    (hs0_0 t).read_unread, (hs0_1 t).read_unread, (hs0_2 t).read_unread, (hs0_3 t).read_unread, (hs0_4 t).read_unread, (hs0_5 t).read_unread, (hs0_6 t).read_unread, (hs0_10 t).read_unread, (hs0_11 t).read_unread, (hs0_12 t).read_unread, (Memref.isWhole_whole _).read_unread]
  refine (db1 _ _ (A1 m c t) (S1 m c t) _ _ _ q).trans ((congrArg (· + _) (db0 _ _ (A0 m c t) (S0 m c t) _ _ _ q)).trans ?_)
  simp only [err_hi, err_lo]
  rw [sum_bands, zero_db, zero_add]

theorem o10_B (c : Dev nD) (t : Fin cfg0.N) (h0 : ¬t.val % 12 = 0) (i : Fin 8) (j : Fin 128) : ((outsAt0 m c t.val t.isLt).2.2.2.1 (ix2 i j) : EReal) = (outsAt0 m c (t.val - 1) (Nat.lt_of_le_of_lt (Nat.sub_le _ _) t.isLt)).2.2.2.1 (ix2 i j) + half * ∑ p, lb m c t p := by
  rw [outsAt0_B m c t h0]
  dsimp only
  unfold out0_B_10
  rw [View.read_writes_eq_canon _ _ _ (fun y => cover0_B_10 (y := y) ..)]
  unfold kernelRun0_B; dsimp only
  sl_unfold_words
  simp only [View.readCov_fill (s := S1x1024) _ _ _ _ _ hz', View.readCov_fill (s := S8x128) _ _ _ _ _ hz', View.readAt_eq_ld, View.canon_cons_unit_zero (S := S1x1024) hz, View.canon_cons_unit_zero (S := S8x128) hz,
    View.ld_unit_zero (S := S352x1024) hz, View.ld_unit_zero (S := S1x1024) hz, View.ld_unit_zero (S := S8x128) hz, shapeCast_self,
    (hs0_0 t).read_unread, (hs0_1 t).read_unread, (hs0_2 t).read_unread, (hs0_3 t).read_unread, (hs0_4 t).read_unread, (hs0_5 t).read_unread, (hs0_6 t).read_unread, (hs0_10 t).read_unread, (hs0_11 t).read_unread, (hs0_12 t).read_unread, (Memref.isWhole_whole _).read_unread]
  refine (loss1 _ _ (A1 m c t) (S1 m c t) _ _ _ i j).trans ((congrArg (· + _) (loss0 _ _ (A0 m c t) (S0 m c t) _ _ _ i j)).trans ?_)
  unfold loss
  simp only [err_hi, err_lo]
  rw [sum_bands, ← half_add]
  exact add_assoc _ _ _

theorem o11_B (c : Dev nD) (t : Fin cfg0.N) (h0 : ¬t.val % 12 = 0) (q : Fin 1024)  : ((outsAt0 m c t.val t.isLt).2.2.2.2.1 (ix2 0 q) : EReal) = (outsAt0 m c (t.val - 1) (Nat.lt_of_le_of_lt (Nat.sub_le _ _) t.isLt)).2.2.2.2.1 (ix2 0 q) + ∑ p, eb m c t p q * inv * xhat (pb m c t p) q := by
  rw [outsAt0_B m c t h0]
  dsimp only
  unfold out0_B_11
  rw [View.read_writes_eq_canon _ _ _ (fun y => cover0_B_11 (y := y) ..)]
  unfold kernelRun0_B; dsimp only
  sl_unfold_words
  simp only [View.readCov_fill (s := S1x1024) _ _ _ _ _ hz', View.readCov_fill (s := S8x128) _ _ _ _ _ hz', View.readAt_eq_ld, View.canon_cons_unit_zero (S := S1x1024) hz, View.canon_cons_unit_zero (S := S8x128) hz,
    View.ld_unit_zero (S := S352x1024) hz, View.ld_unit_zero (S := S1x1024) hz, View.ld_unit_zero (S := S8x128) hz, shapeCast_self,
    (hs0_0 t).read_unread, (hs0_1 t).read_unread, (hs0_2 t).read_unread, (hs0_3 t).read_unread, (hs0_4 t).read_unread, (hs0_5 t).read_unread, (hs0_6 t).read_unread, (hs0_10 t).read_unread, (hs0_11 t).read_unread, (hs0_12 t).read_unread, (Memref.isWhole_whole _).read_unread]
  refine (dg1 _ _ (A1 m c t) (S1 m c t) _ _ _ q).trans ((congrArg (· + _) (dg0 _ _ (A0 m c t) (S0 m c t) _ _ _ q)).trans ?_)
  simp only [err_hi, err_lo, pre_hi, pre_lo]
  rw [sum_bands]
  exact add_assoc _ _ _

theorem o12_B (c : Dev nD) (t : Fin cfg0.N) (h0 : ¬t.val % 12 = 0) (q : Fin 1024)  : ((outsAt0 m c t.val t.isLt).2.2.2.2.2 (ix2 0 q) : EReal) = (outsAt0 m c (t.val - 1) (Nat.lt_of_le_of_lt (Nat.sub_le _ _) t.isLt)).2.2.2.2.2 (ix2 0 q) + ∑ p, eb m c t p q * inv := by
  rw [outsAt0_B m c t h0]
  dsimp only
  unfold out0_B_12
  rw [View.read_writes_eq_canon _ _ _ (fun y => cover0_B_12 (y := y) ..)]
  unfold kernelRun0_B; dsimp only
  sl_unfold_words
  simp only [View.readCov_fill (s := S1x1024) _ _ _ _ _ hz', View.readCov_fill (s := S8x128) _ _ _ _ _ hz', View.readAt_eq_ld, View.canon_cons_unit_zero (S := S1x1024) hz, View.canon_cons_unit_zero (S := S8x128) hz,
    View.ld_unit_zero (S := S352x1024) hz, View.ld_unit_zero (S := S1x1024) hz, View.ld_unit_zero (S := S8x128) hz, shapeCast_self,
    (hs0_0 t).read_unread, (hs0_1 t).read_unread, (hs0_2 t).read_unread, (hs0_3 t).read_unread, (hs0_4 t).read_unread, (hs0_5 t).read_unread, (hs0_6 t).read_unread, (hs0_10 t).read_unread, (hs0_11 t).read_unread, (hs0_12 t).read_unread, (Memref.isWhole_whole _).read_unread]
  refine (db1 _ _ (A1 m c t) (S1 m c t) _ _ _ q).trans ((congrArg (· + _) (db0 _ _ (A0 m c t) (S0 m c t) _ _ _ q)).trans ?_)
  simp only [err_hi, err_lo]
  rw [sum_bands]
  exact add_assoc _ _ _

/-! ## From the arrays -/

def preA (c : Dev nD) (r : Fin 4224) : Fin 1024 → EReal := preR (aS m c r) (aX m c r) (aW1 m c) (aW2 m c)
/-- The error of a row: a sequence's 64 front rows have none, and the other rows are compared with the targets in order. -/
def errA (c : Dev nD) (r : Fin 4224) (q : Fin 1024) : EReal :=
  if h : 64 ≤ r.val % 2112 then xhat (preA m c r) q * aG m c 0 q + aB m c 0 q - aT m c ⟨r.val - 64 * (r.val / 2112 + 1), by omega⟩ q else 0

theorem bX_eq (c : Dev nD) (t : Fin cfg0.N) (p : Fin 352) : bX m c t p = aX m c (row t p) := funext fun k => iblk1 m c t p k
theorem bS_eq (c : Dev nD) (t : Fin cfg0.N) (p : Fin 352) : bS m c t p = aS m c (row t p) := funext fun k => iblk0 m c t p k
theorem bW1_eq (c : Dev nD) (t : Fin cfg0.N) : bW1 m c t = aW1 m c := funext fun s => funext fun q => funext fun x => iblk2 m c t s q x
theorem bW2_eq (c : Dev nD) (t : Fin cfg0.N) : bW2 m c t = aW2 m c := funext fun r => funext fun k => iblk3 m c t r k
theorem pb_eq (c : Dev nD) (t : Fin cfg0.N) (p : Fin 352) : pb m c t p = preA m c (row t p) := by
  unfold pb preA
  rw [bX_eq, bS_eq, bW1_eq, bW2_eq]

theorem eb_eq (c : Dev nD) (t : Fin cfg0.N) (p : Fin 352) (q : Fin 1024) : eb m c t p q = errA m c (row t p) q := by
  have hm := mask_at t p
  have ht := lt12 t
  have hr : (row t p).val = 352 * t.val + p.val := rfl
  unfold eb errA
  rw [pb_eq, iblk4, iblk5, tgt_at]
  by_cases h : 64 ≤ 352 * (t.val % 6) + p.val
  · rw [if_pos (hm.2 h), dif_pos (by omega)]
    refine congrArg (xhat (preA m c (row t p)) q * aG m c 0 q + aB m c 0 q - ·) ((iblk6 m c t _ q).trans (congrArg (aT m c · q) (Fin.ext ?_)))
    dsimp only [tOff]
    split_ifs with h0
    · dsimp only; omega
    · omega
  · rw [if_neg (fun e => h (hm.1 e)), dif_neg (by omega)]

/-- The sum over the rows of the first `n + 1` points. -/
def upTo (n : Nat) (h : n < cfg0.N) (f : Fin 4224 → EReal) : EReal :=
  ∑ s : Fin (n + 1), ∑ p, f (row ⟨s.val, Nat.lt_of_lt_of_le s.isLt h⟩ p)

abbrev lTerm (c : Dev nD) (r : Fin 4224) : EReal := Ideal.div (∑ k, errA m c r k * errA m c r k) width
abbrev gTerm (c : Dev nD) (q : Fin 1024) (r : Fin 4224) : EReal := errA m c r q * inv * xhat (preA m c r) q
abbrev bTerm (c : Dev nD) (q : Fin 1024) (r : Fin 4224) : EReal := errA m c r q * inv

theorem lb_eq (c : Dev nD) (t : Fin cfg0.N) (p : Fin 352) : lb m c t p = lTerm m c (row t p) := by
  unfold lb lTerm
  simp only [eb_eq]

theorem loss_upTo (c : Dev nD) (i : Fin 8) (j : Fin 128) : ∀ (n : Nat) (h : n < cfg0.N),
    (outsAt0 m c n h).2.2.2.1 (ix2 i j) = half * upTo n h (lTerm m c)
  | 0, h => by
    refine (o10_A m c ⟨0, h⟩ rfl i j).trans (congrArg (half * ·) ?_)
    unfold upTo
    rw [Fin.sum_univ_one]
    exact Finset.sum_congr rfl fun p _ => by rw [lb_eq]; rfl
  | n + 1, h => by
    have h0 : ¬ (n + 1) % 12 = 0 := by have : n + 1 < 12 := lt_of_lt_of_eq h N_0; omega
    refine (o10_B m c ⟨n + 1, h⟩ h0 i j).trans ((congrArg (· + _) (loss_upTo c i j n (Nat.lt_of_succ_lt h))).trans ((half_add _ _).trans (congrArg (half * ·) ?_)))
    unfold upTo
    rw [Fin.sum_univ_castSucc (n := n + 1)]
    exact congrArg₂ (· + ·) rfl (Finset.sum_congr rfl fun p _ => by rw [lb_eq]; rfl)

theorem dg_upTo (c : Dev nD) (q : Fin 1024) : ∀ (n : Nat) (h : n < cfg0.N), (outsAt0 m c n h).2.2.2.2.1 (ix2 0 q) = upTo n h (gTerm m c q)
  | 0, h => by
    refine (o11_A m c ⟨0, h⟩ rfl q).trans ?_
    unfold upTo
    rw [Fin.sum_univ_one]
    exact Finset.sum_congr rfl fun p _ => by rw [eb_eq, pb_eq]; rfl
  | n + 1, h => by
    have h0 : ¬ (n + 1) % 12 = 0 := by have : n + 1 < 12 := lt_of_lt_of_eq h N_0; omega
    refine (o11_B m c ⟨n + 1, h⟩ h0 q).trans ?_
    unfold upTo
    rw [Fin.sum_univ_castSucc (n := n + 1)]
    exact congrArg₂ (· + ·) (dg_upTo c q n (Nat.lt_of_succ_lt h)) (Finset.sum_congr rfl fun p _ => by rw [eb_eq, pb_eq]; rfl)

theorem db_upTo (c : Dev nD) (q : Fin 1024) : ∀ (n : Nat) (h : n < cfg0.N), (outsAt0 m c n h).2.2.2.2.2 (ix2 0 q) = upTo n h (bTerm m c q)
  | 0, h => by
    refine (o12_A m c ⟨0, h⟩ rfl q).trans ?_
    unfold upTo
    rw [Fin.sum_univ_one]
    exact Finset.sum_congr rfl fun p _ => by rw [eb_eq]; rfl
  | n + 1, h => by
    have h0 : ¬ (n + 1) % 12 = 0 := by have : n + 1 < 12 := lt_of_lt_of_eq h N_0; omega
    refine (o12_B m c ⟨n + 1, h⟩ h0 q).trans ?_
    unfold upTo
    rw [Fin.sum_univ_castSucc (n := n + 1)]
    exact congrArg₂ (· + ·) (db_upTo c q n (Nat.lt_of_succ_lt h)) (Finset.sum_congr rfl fun p _ => by rw [eb_eq]; rfl)

theorem lt11 : 11 < cfg0.N := lt_of_lt_of_eq (by decide) N_0.symm

theorem upTo_last (f : Fin 4224 → EReal) : upTo 11 lt11 f = ∑ i, f i := by
  rw [← sum_blocks (n := 12) (b := 352) rfl f]
  rfl

/-! ## The results -/

def HM (c : Dev nD) : S4224x4096.Idx → EReal := (dats m 0 c).arrAt 7 cfg0.N
def DP (c : Dev nD) : S4224x1024.Idx → EReal := (dats m 0 c).arrAt 8 cfg0.N
def DP' (c : Dev nD) : S4224x1024.Idx → EReal := (dats m 0 c).arrAt 9 cfg0.N
def LS (c : Dev nD) : S8x128.Idx → EReal := (dats m 0 c).arrAt 10 cfg0.N
def DG (c : Dev nD) : S1x1024.Idx → EReal := (dats m 0 c).arrAt 11 cfg0.N
def DB (c : Dev nD) : S1x1024.Idx → EReal := (dats m 0 c).arrAt 12 cfg0.N

def pt (r : Fin 4224) : Fin cfg0.N := ⟨r.val / 352, lt_of_lt_of_eq (show r.val / 352 < 12 by omega) N_0.symm⟩
def loc (r : Fin 4224) : Fin 352 := ⟨r.val % 352, by omega⟩
theorem row_pt (r : Fin 4224) : row (pt r) (loc r) = r := Fin.ext (show 352 * (r.val / 352) + r.val % 352 = r.val by omega)

theorem hm_at (c : Dev nD) (t : Fin cfg0.N) (p : Fin 352) (k : Fin 4096) :
    (outsAt0 m c t.val t.isLt).1 (ix2 p k) = unit (aX m c (row t p)) (aW1 m c) k := by
  have e : (outsAt0 m c t.val t.isLt).1 (ix2 p k) = hb m c t p k := by
    by_cases h : t.val % 12 = 0
    · exact o7_A m c t h p k
    · exact o7_B m c t h p k
  rw [e]
  unfold hb
  rw [bX_eq, bW1_eq]

abbrev dpA (c : Dev nD) (r : Fin 4224) (q : Fin 1024) : EReal := lnBwd (fun k => errA m c r k * inv * aG m c 0 k) (preA m c r) q

theorem dp_at (c : Dev nD) (t : Fin cfg0.N) (p : Fin 352) (q : Fin 1024) : (outsAt0 m c t.val t.isLt).2.1 (ix2 p q) = dpA m c (row t p) q := by
  have e : (outsAt0 m c t.val t.isLt).2.1 (ix2 p q) = lnBwd (fun k => eb m c t p k * inv * bG m c t 0 k) (pb m c t p) q := by
    by_cases h : t.val % 12 = 0
    · exact o8_A m c t h p q
    · exact o8_B m c t h p q
  rw [e]
  simp only [eb_eq, iblk4, pb_eq]

theorem dp'_at (c : Dev nD) (t : Fin cfg0.N) (p : Fin 352) (q : Fin 1024) : (outsAt0 m c t.val t.isLt).2.2.1 (ix2 p q) = dpA m c (row t p) q := by
  have e : (outsAt0 m c t.val t.isLt).2.2.1 (ix2 p q) = lnBwd (fun k => eb m c t p k * inv * bG m c t 0 k) (pb m c t p) q := by
    by_cases h : t.val % 12 = 0
    · exact o9_A m c t h p q
    · exact o9_B m c t h p q
  rw [e]
  simp only [eb_eq, iblk4, pb_eq]

theorem cut7 (t : Fin cfg0.N) (X : Vec Ideal S352x4096 .bf16) (p : Fin 352) (q : Fin 4096) :
    (_root_.cast (congrArg (Elt Ideal) ((cfg0.win 7).blk t).view.elt_eq.symm) ((cfg0.win 7).cut (grid0.coords t) X (ix2 p q)) : EReal) = X (ix2 p q) := rfl

theorem HM_apply (c : Dev nD) (r : Fin 4224) (q : Fin 4096) : HM m c (ix2 r q) = unit (aX m c r) (aW1 m c) q := by
  have e := (dats m 0 c).arrAt_emb_eq_flushed 7 Value.disjoint7 (pt r) (flush0_7 _) (ix2 (loc r) q)
  have hi : ((cfg0.win 7).blk (pt r)).view.emb (ix2 (loc r) q) = ix2 r q := by
    obtain ⟨-, -, -, -, -, -, -, ⟨e0, e1⟩, -⟩ := idx (pt r)
    refine funext fun a => Fin.ext ?_
    match a with
    | ⟨0, _⟩ => show win0_7.index (pt r) (0 : Fin 2) * 352 + 1 * (r.val % 352) = r.val; rw [e0]; dsimp only [pt]; omega
    | ⟨1, _⟩ => show win0_7.index (pt r) (1 : Fin 2) * 4096 + 1 * q.val = q.val; omega
  rw [hi, Value.flushed7] at e
  refine e.trans (Eq.trans (b := unit (aX m c (row (pt r) (loc r))) (aW1 m c) q) ?_ (by rw [row_pt]))
  exact (cut7 (pt r) _ (loc r) q).trans (hm_at m c (pt r) (loc r) q)

theorem cut8 (t : Fin cfg0.N) (X : Vec Ideal S352x1024 .f32) (p : Fin 352) (q : Fin 1024) :
    (_root_.cast (congrArg (Elt Ideal) ((cfg0.win 8).blk t).view.elt_eq.symm) ((cfg0.win 8).cut (grid0.coords t) X (ix2 p q)) : EReal) = X (ix2 p q) := rfl

theorem DP_apply (c : Dev nD) (r : Fin 4224) (q : Fin 1024) : DP m c (ix2 r q) = dpA m c r q := by
  have e := (dats m 0 c).arrAt_emb_eq_flushed 8 Value.disjoint8 (pt r) (flush0_8 _) (ix2 (loc r) q)
  have hi : ((cfg0.win 8).blk (pt r)).view.emb (ix2 (loc r) q) = ix2 r q := by
    obtain ⟨-, -, -, -, -, -, -, -, ⟨e0, e1⟩, -⟩ := idx (pt r)
    refine funext fun a => Fin.ext ?_
    match a with
    | ⟨0, _⟩ => show win0_8.index (pt r) (0 : Fin 2) * 352 + 1 * (r.val % 352) = r.val; rw [e0]; dsimp only [pt]; omega
    | ⟨1, _⟩ => show win0_8.index (pt r) (1 : Fin 2) * 1024 + 1 * q.val = q.val; omega
  rw [hi, Value.flushed8] at e
  refine e.trans (Eq.trans (b := dpA m c (row (pt r) (loc r)) q) ?_ (by rw [row_pt]))
  exact (cut8 (pt r) _ (loc r) q).trans (dp_at m c (pt r) (loc r) q)

theorem cut9 (t : Fin cfg0.N) (X : Vec Ideal S352x1024 .bf16) (p : Fin 352) (q : Fin 1024) :
    (_root_.cast (congrArg (Elt Ideal) ((cfg0.win 9).blk t).view.elt_eq.symm) ((cfg0.win 9).cut (grid0.coords t) X (ix2 p q)) : EReal) = X (ix2 p q) := rfl

theorem DP'_apply (c : Dev nD) (r : Fin 4224) (q : Fin 1024) : DP' m c (ix2 r q) = dpA m c r q := by
  have e := (dats m 0 c).arrAt_emb_eq_flushed 9 Value.disjoint9 (pt r) (flush0_9 _) (ix2 (loc r) q)
  have hi : ((cfg0.win 9).blk (pt r)).view.emb (ix2 (loc r) q) = ix2 r q := by
    obtain ⟨-, -, -, -, -, -, -, -, -, e0, e1⟩ := idx (pt r)
    refine funext fun a => Fin.ext ?_
    match a with
    | ⟨0, _⟩ => show win0_9.index (pt r) (0 : Fin 2) * 352 + 1 * (r.val % 352) = r.val; rw [e0]; dsimp only [pt]; omega
    | ⟨1, _⟩ => show win0_9.index (pt r) (1 : Fin 2) * 1024 + 1 * q.val = q.val; omega
  rw [hi, Value.flushed9] at e
  refine e.trans (Eq.trans (b := dpA m c (row (pt r) (loc r)) q) ?_ (by rw [row_pt]))
  exact (cut9 (pt r) _ (loc r) q).trans (dp'_at m c (pt r) (loc r) q)

theorem only10 : ∀ t t' : Fin cfg0.N, (cfg0.win 10).flush t = true → (cfg0.win 10).flush t' = true → t ≠ t' →
    Disjoint ((cfg0.win 10).blk t).view.set ((cfg0.win 10).blk t').view.set := fun t t' h h' hne =>
  (hne (Fin.ext (by have := (flush0_10 t).1 h; have := (flush0_10 t').1 h'; have := lt12 t; have := lt12 t'; omega))).elim

theorem cut10 (t : Fin cfg0.N) (X : Vec Ideal S8x128 .f32) (a : Fin 8) (b : Fin 128) :
    (_root_.cast (congrArg (Elt Ideal) ((cfg0.win 10).blk t).view.elt_eq.symm) ((cfg0.win 10).cut (grid0.coords t) X (ix2 a b)) : EReal) = X (ix2 a b) := rfl

theorem idx10 (t : Fin cfg0.N) : win0_10.index t (0 : Fin 2) = 0 ∧ win0_10.index t (1 : Fin 2) = 0 :=
  (by decide +kernel : ∀ t : Fin grid0.N, win0_10.index t (0 : Fin 2) = 0 ∧ win0_10.index t (1 : Fin 2) = 0) t

theorem LS_apply (c : Dev nD) (i : Fin 8) (j : Fin 128) : LS m c (ix2 i j) = half * ∑ r, lTerm m c r := by
  have e := (dats m 0 c).arrAt_emb_eq_flushed 10 only10 ⟨11, lt11⟩ ((flush0_10 _).2 rfl) (ix2 i j)
  have hi : ((cfg0.win 10).blk ⟨11, lt11⟩).view.emb (ix2 i j) = ix2 i j := by
    obtain ⟨e0, e1⟩ := idx10 ⟨11, lt11⟩
    refine funext fun a => Fin.ext ?_
    match a with
    | ⟨0, _⟩ => show win0_10.index ⟨11, lt11⟩ (0 : Fin 2) * 8 + 1 * i.val = i.val; omega
    | ⟨1, _⟩ => show win0_10.index ⟨11, lt11⟩ (1 : Fin 2) * 128 + 1 * j.val = j.val; omega
  rw [hi, Value.flushed10] at e
  exact e.trans ((cut10 _ _ i j).trans ((loss_upTo m c i j 11 lt11).trans (congrArg (half * ·) (upTo_last _))))

theorem only11 : ∀ t t' : Fin cfg0.N, (cfg0.win 11).flush t = true → (cfg0.win 11).flush t' = true → t ≠ t' →
    Disjoint ((cfg0.win 11).blk t).view.set ((cfg0.win 11).blk t').view.set := fun t t' h h' hne =>
  (hne (Fin.ext (by have := (flush0_11 t).1 h; have := (flush0_11 t').1 h'; have := lt12 t; have := lt12 t'; omega))).elim

theorem cut11 (t : Fin cfg0.N) (X : Vec Ideal S1x1024 .f32) (a : Fin 1) (b : Fin 1024) :
    (_root_.cast (congrArg (Elt Ideal) ((cfg0.win 11).blk t).view.elt_eq.symm) ((cfg0.win 11).cut (grid0.coords t) X (ix2 a b)) : EReal) = X (ix2 a b) := rfl

theorem idx11 (t : Fin cfg0.N) : win0_11.index t (0 : Fin 2) = 0 ∧ win0_11.index t (1 : Fin 2) = 0 :=
  (by decide +kernel : ∀ t : Fin grid0.N, win0_11.index t (0 : Fin 2) = 0 ∧ win0_11.index t (1 : Fin 2) = 0) t

theorem DG_apply (c : Dev nD) (q : Fin 1024) : DG m c (ix2 0 q) = ∑ r, gTerm m c q r := by
  have e := (dats m 0 c).arrAt_emb_eq_flushed 11 only11 ⟨11, lt11⟩ ((flush0_11 _).2 rfl) (ix2 0 q)
  have hi : ((cfg0.win 11).blk ⟨11, lt11⟩).view.emb (ix2 0 q) = ix2 0 q := by
    obtain ⟨e0, e1⟩ := idx11 ⟨11, lt11⟩
    refine funext fun a => Fin.ext ?_
    match a with
    | ⟨0, _⟩ => show win0_11.index ⟨11, lt11⟩ (0 : Fin 2) * 1 + 1 * 0 = 0; omega
    | ⟨1, _⟩ => show win0_11.index ⟨11, lt11⟩ (1 : Fin 2) * 1024 + 1 * q.val = q.val; omega
  rw [hi, Value.flushed11] at e
  exact e.trans ((cut11 _ _ 0 q).trans ((dg_upTo m c q 11 lt11).trans (upTo_last _)))

theorem only12 : ∀ t t' : Fin cfg0.N, (cfg0.win 12).flush t = true → (cfg0.win 12).flush t' = true → t ≠ t' →
    Disjoint ((cfg0.win 12).blk t).view.set ((cfg0.win 12).blk t').view.set := fun t t' h h' hne =>
  (hne (Fin.ext (by have := (flush0_12 t).1 h; have := (flush0_12 t').1 h'; have := lt12 t; have := lt12 t'; omega))).elim

theorem cut12 (t : Fin cfg0.N) (X : Vec Ideal S1x1024 .f32) (a : Fin 1) (b : Fin 1024) :
    (_root_.cast (congrArg (Elt Ideal) ((cfg0.win 12).blk t).view.elt_eq.symm) ((cfg0.win 12).cut (grid0.coords t) X (ix2 a b)) : EReal) = X (ix2 a b) := rfl

theorem idx12 (t : Fin cfg0.N) : win0_12.index t (0 : Fin 2) = 0 ∧ win0_12.index t (1 : Fin 2) = 0 :=
  (by decide +kernel : ∀ t : Fin grid0.N, win0_12.index t (0 : Fin 2) = 0 ∧ win0_12.index t (1 : Fin 2) = 0) t

theorem DB_apply (c : Dev nD) (q : Fin 1024) : DB m c (ix2 0 q) = ∑ r, bTerm m c q r := by
  have e := (dats m 0 c).arrAt_emb_eq_flushed 12 only12 ⟨11, lt11⟩ ((flush0_12 _).2 rfl) (ix2 0 q)
  have hi : ((cfg0.win 12).blk ⟨11, lt11⟩).view.emb (ix2 0 q) = ix2 0 q := by
    obtain ⟨e0, e1⟩ := idx12 ⟨11, lt11⟩
    refine funext fun a => Fin.ext ?_
    match a with
    | ⟨0, _⟩ => show win0_12.index ⟨11, lt11⟩ (0 : Fin 2) * 1 + 1 * 0 = 0; omega
    | ⟨1, _⟩ => show win0_12.index ⟨11, lt11⟩ (1 : Fin 2) * 1024 + 1 * q.val = q.val; omega
  rw [hi, Value.flushed12] at e
  exact e.trans ((cut12 _ _ 0 q).trans ((db_upTo m c q 11 lt11).trans (upTo_last _)))

end Cert.Kernel6Ideal.StepH
-- ==== Proof.RefH.lean ====
module

public import proofs.«01_k».proof.Proof.Gen.Reference6Ideal.Read
public import proofs.«01_k».proof.Proof.Ln

/-! The values of the MLP's forward pass with the loss head and its gradient, as the reference computes them, at an index. -/

@[expose] public section
noncomputable section
namespace Cert.Reference6Ideal.RefH
open Cert.Reference6Ideal Cert.Reference6Ideal.Gen Cert.Reference6Ideal.Read Idealize.ShloMosaic Idealize.ShloMosaic.TcCoe Idealize.ShloMosaic.StableHlo Cert.Spec

variable (x0 : (⟨S4224x1024, .f32⟩ : BufTy).Contents (Elt Ideal)) (x1 : (⟨S1024x4096, .f32⟩ : BufTy).Contents (Elt Ideal))
  (x2 : (⟨S4096x1024, .f32⟩ : BufTy).Contents (Elt Ideal)) (x3 x4 : (⟨S1x1024, .f32⟩ : BufTy).Contents (Elt Ideal))
  (x5 : (⟨S4096x1024, .f32⟩ : BufTy).Contents (Elt Ideal))

/-- The hidden layer's entry before its nonlinearity. -/
abbrev U (r : Fin 4224) (k : Fin 4096) : EReal := ∑ x, x0 (ix2 r x) * x1 (ix2 x k)
/-- Row `r` of the layer's output before the norm. -/
abbrev P (r : Fin 4224) (q : Fin 1024) : EReal := alpha * x0 (ix2 r q) + ∑ k, max (U x0 x1 r k) 0 * max (U x0 x1 r k) 0 * x2 (ix2 k q)
/-- The norm of that row. -/
abbrev Y (r : Fin 4224) (q : Fin 1024) : EReal := xhat (P x0 x1 x2 r) q * x3 (ix2 0 q) + x4 (ix2 0 q)
/-- The error of a row of a sequence behind its 64 front rows. -/
def E (b : Fin 2) (t : Fin 2048) (q : Fin 1024) : EReal :=
  Y x0 x1 x2 x3 x4 ⟨2112 * b.val + (64 + t.val), by omega⟩ q - x5 (ix2 ⟨2048 * b.val + t.val, by omega⟩ q)

theorem v0_eq (r : Fin 4224) (k : Fin 4096) : val_main_v0 (F := Ideal) x0 x1 (ix2 r k) = U x0 x1 r k := by
  unfold val_main_v0
  pointwise

theorem v85_eq (r : Fin 4224) (k : Fin 4096) : val_main_v85 (F := Ideal) x0 x1 (ix2 r k) = U x0 x1 r k := by
  unfold val_main_v85
  pointwise
  rw [v0_eq]

theorem v6_eq (r : Fin 4224) (q : Fin 1024) : val_main_v6 (F := Ideal) x0 x1 x2 (ix2 r q) = P x0 x1 x2 r q := by
  unfold val_main_v6 val_main_v5 val_main_v4 val_main_v3 val_main_call0_v0 val_main_call0_cst val_main_v2 val_main_v1 val_main_cst
  pointwise
  simp only [v0_eq]

theorem v21_eq (r : Fin 4224) (q : Fin 1024) : val_main_v21 (F := Ideal) x0 x1 x2 (ix2 r q) = cen (P x0 x1 x2 r) q := by
  unfold val_main_v21 val_main_v20 val_main_v10 val_main_v9 val_main_v8 val_main_v7 val_main_cst_0 val_main_cst_1
  pointwise
  simp only [v6_eq]
  rfl

theorem v12_eq (r : Fin 4224) (q : Fin 1024) : val_main_v12 (F := Ideal) x0 x1 x2 (ix2 r q) = cen (P x0 x1 x2 r) q := v21_eq x0 x1 x2 r q

theorem v24_eq (r : Fin 4224) : val_main_v24 (F := Ideal) x0 x1 x2 (ix2 r 0) = rstd (P x0 x1 x2 r) := by
  unfold val_main_v24 val_main_v23 val_main_v22 val_main_v19 val_main_v18 val_main_v17 val_main_v16 val_main_v13 val_main_cst_3 val_main_cst_4 val_main_cst_5
  pointwise
  simp only [v12_eq]
  rfl

theorem v29_eq (r : Fin 4224) (q : Fin 1024) : val_main_v29 (F := Ideal) x0 x1 x2 (ix2 r q) = xhat (P x0 x1 x2 r) q := by
  unfold val_main_v29 val_main_v28
  pointwise
  rw [v21_eq, v24_eq]
  rfl

theorem v33_eq (r : Fin 4224) (q : Fin 1024) : val_main_v33 (F := Ideal) x0 x1 x2 x3 x4 (ix2 r q) = Y x0 x1 x2 x3 x4 r q := by
  unfold val_main_v33 val_main_v32 val_main_v31 val_main_v30
  pointwise
  rw [v29_eq]

theorem v37_eq (b : Fin 2) (t : Fin 2048) (q : Fin 1024) : val_main_v37 (F := Ideal) x0 x1 x2 x3 x4 x5 (ix3 b t q) = E x0 x1 x2 x3 x4 x5 b t q := by
  unfold val_main_v37 val_main_v36 val_main_v35 val_main_v34 E
  pointwise
  refine congrArg₂ (· - ·) ((v33_eq x0 x1 x2 x3 x4 _ q).trans (congrArg (Y x0 x1 x2 x3 x4 · q) (Fin.ext ?_))) (congrArg (fun a => x5 (ix2 a q)) (Fin.ext ?_))
  · show b.val * 2112 + (64 + t.val) = 2112 * b.val + (64 + t.val)
    omega
  · show b.val * 2048 + t.val = 2048 * b.val + t.val
    omega

theorem v43_eq (b : Fin 2) (t : Fin 2048) : val_main_v43 (F := Ideal) x0 x1 x2 x3 x4 x5 (ix2 b t)
    = Ideal.div (∑ k, E x0 x1 x2 x3 x4 x5 b t k * E x0 x1 x2 x3 x4 x5 b t k) width := by
  unfold val_main_v43 val_main_v42 val_main_v41 val_main_v38 val_main_cst_9 val_main_cst_8
  pointwise
  simp only [v37_eq]

theorem v87_eq (i : Fin 8) (j : Fin 128) : val_main_v87 (F := Ideal) x0 x1 x2 x3 x4 x5 (ix2 i j)
    = Ideal.ofBits FTy.f32 0x3F000000#32 * ∑ b, ∑ t, Ideal.div (∑ k, E x0 x1 x2 x3 x4 x5 b t k * E x0 x1 x2 x3 x4 x5 b t k) width := by
  unfold val_main_v87 val_main_v45 val_main_v44 val_main_cst_10 val_main_cst_11
  pointwise
  simp only [v43_eq]

theorem v51_eq (b : Fin 2) (t : Fin 2048) (q : Fin 1024) : val_main_v51 (F := Ideal) x0 x1 x2 x3 x4 x5 (ix3 b t q)
    = Ideal.div (Ideal.ofBits FTy.f32 0x3F000000#32 * Ideal.ofBits FTy.f32 0x3F800000#32) width * (two * E x0 x1 x2 x3 x4 x5 b t q) := by
  unfold val_main_v51 val_main_v50 val_main_v49 val_main_v48 val_main_v47 val_main_v46 val_main_v40 val_main_v39 val_main_cst_14 val_main_cst_13 val_main_cst_12 val_main_cst_7
  pointwise
  simp only [v37_eq]

/-- A row's error: none for the 64 rows at the front of a sequence. -/
def M (r : Fin 4224) (q : Fin 1024) : EReal :=
  if h : 64 ≤ r.val % 2112 then Y x0 x1 x2 x3 x4 r q - x5 (ix2 ⟨r.val - 64 * (r.val / 2112 + 1), by omega⟩ q) else 0

theorem E_eq (b : Fin 2) (t : Fin 2048) (q : Fin 1024) : E x0 x1 x2 x3 x4 x5 b t q = M x0 x1 x2 x3 x4 x5 ⟨2112 * b.val + (64 + t.val), by omega⟩ q := by
  unfold E M
  rw [dif_pos (show 64 ≤ (2112 * b.val + (64 + t.val)) % 2112 by omega)]
  refine congrArg (_ - ·) (congrArg (fun a => x5 (ix2 a q)) (Fin.ext ?_))
  show 2048 * b.val + t.val = 2112 * b.val + (64 + t.val) - 64 * ((2112 * b.val + (64 + t.val)) / 2112 + 1)
  omega

abbrev inv : EReal := Ideal.ofBits FTy.f32 0x3A800000#32

/-- Half of twice the error over the width. -/
theorem scale_eq (e : EReal) : Ideal.div (Ideal.ofBits FTy.f32 0x3F000000#32 * Ideal.ofBits FTy.f32 0x3F800000#32) width * (two * e) = e * inv := by
  have h : Ideal.ofBits FTy.f32 0x3F000000#32 = ((1/2 : ℝ) : EReal) := by simp [Ideal.ofBits, Ideal.ieee, -EReal.coe_mul]; norm_num
  have o : Ideal.ofBits FTy.f32 0x3F800000#32 = ((1 : ℝ) : EReal) := by simp [Ideal.ofBits, Ideal.ieee, -EReal.coe_mul]; norm_num
  have i : inv = ((1/1024 : ℝ) : EReal) := by simp [inv, Ideal.ofBits, Ideal.ieee, -EReal.coe_mul]; norm_num
  rw [h, o, i, ← EReal.coe_mul, div_width, two_eq, ← mul_assoc, ← EReal.coe_mul, mul_comm]
  congr 2
  norm_num

theorem v53_eq (r : Fin 4224) (q : Fin 1024) : val_main_v53 (F := Ideal) x0 x1 x2 x3 x4 x5 (ix2 r q) = M x0 x1 x2 x3 x4 x5 r q * inv := by
  unfold val_main_v53 val_main_v52 val_main_cst_15
  pointwise
  by_cases h : 64 ≤ r.val % 2112
  · rw [dif_pos ⟨by omega, h, by omega⟩, v51_eq, scale_eq, E_eq]
    refine congrArg (fun a => M x0 x1 x2 x3 x4 x5 a q * inv) (Fin.ext ?_)
    show 2112 * (r.val / 2112) + (64 + (r.val % 2112 - 64)) = r.val
    omega
  · rw [dif_neg (fun e => h e.2.1)]
    unfold M
    rw [dif_neg h, zero_mul]

theorem v55_eq (q : Fin 1024) : val_main_v55 (F := Ideal) x0 x1 x2 x3 x4 x5 (ix2 0 q) = ∑ r, M x0 x1 x2 x3 x4 x5 r q * inv := by
  unfold val_main_v55 val_main_v54 val_main_cst_16
  pointwise
  simp only [v53_eq]

theorem v58_eq (q : Fin 1024) : val_main_v58 (F := Ideal) x0 x1 x2 x3 x4 x5 (ix2 0 q) = ∑ r, xhat (P x0 x1 x2 r) q * (M x0 x1 x2 x3 x4 x5 r q * inv) := by
  unfold val_main_v58 val_main_v57 val_main_v56 val_main_cst_17
  pointwise
  simp only [v53_eq, v29_eq]

theorem v60_eq (r : Fin 4224) (q : Fin 1024) : val_main_v60 (F := Ideal) x0 x1 x2 x3 x4 x5 (ix2 r q) = M x0 x1 x2 x3 x4 x5 r q * inv * x3 (ix2 0 q) := by
  unfold val_main_v60 val_main_v59
  pointwise
  rw [v53_eq]

theorem v65_eq (r : Fin 4224) (q : Fin 1024) : val_main_v65 (F := Ideal) x0 x1 x2 x3 x4 x5 (ix2 r q) = M x0 x1 x2 x3 x4 x5 r q * inv * x3 (ix2 0 q) * rstd (P x0 x1 x2 r) := by
  unfold val_main_v65 val_main_v64
  pointwise
  rw [v60_eq, v24_eq]

theorem v74_eq (r : Fin 4224) (q : Fin 1024) : val_main_v74 (F := Ideal) x0 x1 x2 x3 x4 x5 (ix2 r q)
    = viaVar (fun k => M x0 x1 x2 x3 x4 x5 r k * inv * x3 (ix2 0 k)) (P x0 x1 x2 r) q := by
  unfold val_main_v74 val_main_v73 val_main_v72 val_main_v71 val_main_v70 val_main_v66 val_main_v63 val_main_v62 val_main_v61 val_main_v27 val_main_v26 val_main_v25 val_main_v23 val_main_v22 val_main_v19 val_main_v18 val_main_v17 val_main_v16 val_main_v13 val_main_v15 val_main_v14 val_main_cst_21 val_main_cst_20 val_main_cst_18 val_main_cst_6 val_main_cst_5 val_main_cst_4 val_main_cst_3 val_main_cst_2
  pointwise
  rw [Fin.sum_univ_one]
  simp only [v60_eq, v12_eq, v21_eq, v24_eq]
  rfl

theorem v84_eq (r : Fin 4224) (q : Fin 1024) : val_main_v84 (F := Ideal) x0 x1 x2 x3 x4 x5 (ix2 r q)
    = lnVjp (fun k => M x0 x1 x2 x3 x4 x5 r k * inv * x3 (ix2 0 k)) (P x0 x1 x2 r) q := by
  unfold val_main_v84 val_main_v83 val_main_v82 val_main_v81 val_main_v80 val_main_v79 val_main_v78 val_main_v77 val_main_v76 val_main_v75 val_main_v69 val_main_v68 val_main_v67 val_main_cst_24 val_main_cst_23 val_main_cst_22 val_main_cst_19
  pointwise
  rw [Fin.sum_univ_one]
  simp only [v65_eq, v74_eq]
  rfl

theorem v86_eq (r : Fin 4224) (q : Fin 1024) : val_main_v86 (F := Ideal) x0 x1 x2 x3 x4 x5 (ix2 r q)
    = lnVjp (fun k => M x0 x1 x2 x3 x4 x5 r k * inv * x3 (ix2 0 k)) (P x0 x1 x2 r) q := by
  unfold val_main_v86
  pointwise
  exact v84_eq x0 x1 x2 x3 x4 x5 r q

/-- The sum over the rows of the sequences is the sum over all the rows. -/
theorem sum_rows_eq : ∑ b, ∑ t, Ideal.div (∑ k, E x0 x1 x2 x3 x4 x5 b t k * E x0 x1 x2 x3 x4 x5 b t k) width
    = ∑ r, Ideal.div (∑ k, M x0 x1 x2 x3 x4 x5 r k * M x0 x1 x2 x3 x4 x5 r k) width := by
  rw [← sum_blocks (n := 2) (b := 2112) rfl]
  refine Finset.sum_congr rfl fun b _ => ?_
  refine Eq.trans ?_ ((Fin.sum_univ_add (a := 64) (b := 2048) _).trans (Eq.trans (congrArg (· + _) (Finset.sum_eq_zero ?_)) (zero_add _))).symm
  · refine Finset.sum_congr rfl fun t _ => ?_
    simp only [E_eq]
    rfl
  · intro t _
    refine (congrArg (Ideal.div · width) (Finset.sum_eq_zero fun k _ => ?_)).trans (div_width 0 |>.trans (by norm_num))
    refine mul_eq_zero.2 (Or.inl (dif_neg ?_))
    show ¬ 64 ≤ (2112 * b.val + t.val) % 2112
    omega

end Cert.Reference6Ideal.RefH
-- ==== Proof.ClaimH.lean ====
module

public import proofs.«01_k».proof.Defs
public import proofs.«01_k».proof.Proof.StepH
public import proofs.«01_k».proof.Proof.RefH
public import proofs.«01_k».proof.Proof.Finite
public import proofs.«01_k».proof.Proof.Gen.Pre_finite6
public import Idealize.ShloMosaic.Lib.StableHlo.ReadAt

/-! The kernel of the MLP's forward pass with the loss head computes what the reference computes. -/

@[expose] public section
noncomputable section

namespace Cert.Pre_finite6
open Idealize.ShloMosaic Cert.Spec Cert.Pre_finite6.Gen

variable (x0 : FVec Ideal S4224x1024 .f32) (x1 : FVec Ideal S1024x4096 .f32) (x2 : FVec Ideal S4096x1024 .f32) (x3 x4 : FVec Ideal S1x1024 .f32)
  (x5 : FVec Ideal S4096x1024 .f32)

/-- Under the precondition every argument's entries are real. -/
theorem real_args (h : ∀ i, fn (F := Ideal) x0 x1 x2 x3 x4 x5 i = 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) := by
  have h := h ix0
  unfold fn fn_part1 at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all _ _ (fun _ => rfl) _ _ _ _ h0, real_of_all _ _ (fun _ => rfl) _ _ _ _ h1, real_of_all _ _ (fun _ => rfl) _ _ _ _ h2,
    real_of_all _ _ (fun _ => rfl) _ _ _ _ h3, real_of_all _ _ (fun _ => rfl) _ _ _ _ h4, real_of_all _ _ (fun _ => rfl) _ _ _ _ h5⟩

end Cert.Pre_finite6

namespace Cert.ClaimH
open Cert Cert.Kernel6Ideal Cert.Kernel6Ideal.Gen Cert.Kernel6Ideal.StepH Idealize.ShloMosaic Idealize.ShloMosaic.TcCoe Idealize.SL.Sem Cert.Spec

variable (m : (ℓ : Loc nD τ sig) → Buf (Elt Ideal) ℓ) (c : Dev nD)

abbrev A0 : (⟨S4224x1024, .f32⟩ : BufTy).Contents (Elt Ideal) := m ((c.tc : Thread nD τ).loc main_arg0)
abbrev A1 : (⟨S1024x4096, .f32⟩ : BufTy).Contents (Elt Ideal) := m ((c.tc : Thread nD τ).loc main_arg1)
abbrev A2 : (⟨S4096x1024, .f32⟩ : BufTy).Contents (Elt Ideal) := m ((c.tc : Thread nD τ).loc main_arg2)
abbrev A3 : (⟨S1x1024, .f32⟩ : BufTy).Contents (Elt Ideal) := m ((c.tc : Thread nD τ).loc main_arg3)
abbrev A4 : (⟨S1x1024, .f32⟩ : BufTy).Contents (Elt Ideal) := m ((c.tc : Thread nD τ).loc main_arg4)
abbrev A5 : (⟨S4096x1024, .f32⟩ : BufTy).Contents (Elt Ideal) := m ((c.tc : Thread nD τ).loc main_arg5)

/-! ## The arrays the kernel is launched on -/

theorem aS_eq (r k) : aS m c r k = A0 m c (ix2 r k) := by unfold aS V; after_reads_at
theorem aX_eq (r k) : aX m c r k = A0 m c (ix2 r k) := by unfold aX V; after_reads_at
theorem aW1_eq (s : Fin 8) (q : Fin 1024) (x : Fin 512) : aW1 m c s q x = A1 m c (ix2 q ⟨512 * s.val + x.val, by omega⟩) := by
  unfold aW1 V
  after_reads_at
  exact congrArg (fun k => m (c, Proc.tc.devRef main_arg1) (ix2 q k)) (Fin.ext (show s.val * 512 + x.val = 512 * s.val + x.val by omega))
theorem aW2_eq (r k) : aW2 m c r k = A2 m c (ix2 r k) := by unfold aW2 V; after_reads_at
theorem aG_eq (k) : aG m c 0 k = A3 m c (ix2 0 k) := by unfold aG V; after_reads_at
theorem aB_eq (k) : aB m c 0 k = A4 m c (ix2 0 k) := by unfold aB V; after_reads_at
theorem aT_eq (r k) : aT m c r k = A5 m c (ix2 r k) := by unfold aT V; after_reads_at

theorem unit_eq (r : Fin 4224) (k : Fin 4096) : StepH.unit (aX m c r) (aW1 m c) k = Reference6Ideal.RefH.U (A0 m c) (A1 m c) r k := by
  unfold StepH.unit
  refine Finset.sum_congr rfl fun x _ => ?_
  rw [aX_eq, aW1_eq]
  exact congrArg (fun a => A0 m c (ix2 r x) * A1 m c (ix2 x a)) (Fin.ext (show 512 * (k.val / 512) + k.val % 512 = k.val by omega))

theorem preA_eq (r : Fin 4224) : preA m c r = Reference6Ideal.RefH.P (A0 m c) (A1 m c) (A2 m c) r := by
  funext q
  unfold preA preR
  simp only [unit_eq, aS_eq, aW2_eq]

/-- A row's error, of the arguments. -/
abbrev Z (r : Fin 4224) (q : Fin 1024) : EReal := Reference6Ideal.RefH.M (A0 m c) (A1 m c) (A2 m c) (A3 m c) (A4 m c) (A5 m c) r q

theorem errA_eq (r : Fin 4224) (q : Fin 1024) : errA m c r q = Z m c r q := by
  unfold errA Z Reference6Ideal.RefH.M
  simp only [preA_eq, aG_eq, aB_eq, aT_eq]

theorem inv_real : IsReal Reference6Ideal.RefH.inv := by
  unfold Reference6Ideal.RefH.inv IsReal
  simp [Ideal.ofBits, Ideal.ieee, -EReal.coe_mul]

section
variable (h0 : ∀ i, IsReal (A0 m c i)) (h1 : ∀ i, IsReal (A1 m c i)) (h2 : ∀ i, IsReal (A2 m c i))
  (h3 : ∀ i, IsReal (A3 m c i)) (h4 : ∀ i, IsReal (A4 m c i)) (h5 : ∀ i, IsReal (A5 m c i))
include h0 h1 h2

theorem P_real (r : Fin 4224) (q : Fin 1024) : IsReal (Reference6Ideal.RefH.P (A0 m c) (A1 m c) (A2 m c) r q) := by
  have hU : ∀ k, IsReal (max (Reference6Ideal.RefH.U (A0 m c) (A1 m c) r k) 0) := fun k =>
    (IsReal.sum fun x => (h0 _).mul (h1 _)).maxOf IsReal.zero
  exact (alpha_real.mul (h0 _)).add (IsReal.sum fun k => ((hU k).mul (hU k)).mul (h2 _))

include h3 h4 h5

theorem Z_real (r : Fin 4224) (q : Fin 1024) : IsReal (Z m c r q) := by
  unfold Z Reference6Ideal.RefH.M
  split_ifs
  · obtain ⟨a, ha⟩ := ((xhat_real (P_real m c h0 h1 h2 r) q).mul (h3 (ix2 0 q))).add (h4 (ix2 0 q))
    obtain ⟨b, hb⟩ := h5 (ix2 ⟨r.val - 64 * (r.val / 2112 + 1), by omega⟩ q)
    exact ⟨a - b, (congrArg₂ (· - ·) ha hb).trans (EReal.coe_sub a b).symm⟩
  · exact IsReal.zero

theorem grad_eq (r : Fin 4224) (q : Fin 1024) : dpA m c r q
    = lnVjp (fun k => Z m c r k * Reference6Ideal.RefH.inv * A3 m c (ix2 0 k)) (Reference6Ideal.RefH.P (A0 m c) (A1 m c) (A2 m c) r) q := by
  unfold dpA
  simp only [errA_eq, aG_eq, preA_eq]
  exact lnBwd_eq (fun k => ((Z_real m c h0 h1 h2 h3 h4 h5 r k).mul inv_real).mul (h3 _)) (P_real m c h0 h1 h2 r) q

theorem out1 : Reference6Ideal.Read.val_main_v84 (F := Ideal) (A0 m c) (A1 m c) (A2 m c) (A3 m c) (A4 m c) (A5 m c) = DP m c := by
  funext i
  obtain ⟨r, q, rfl⟩ : ∃ r q, i = ix2 r q := ⟨_, _, ValueIdx.eq_ix2 i⟩
  rw [Reference6Ideal.RefH.v84_eq]
  exact ((DP_apply m c r q).trans (grad_eq m c h0 h1 h2 h3 h4 h5 r q)).symm

theorem out2 : Reference6Ideal.Read.val_main_v86 (F := Ideal) (A0 m c) (A1 m c) (A2 m c) (A3 m c) (A4 m c) (A5 m c) = DP' m c := by
  funext i
  obtain ⟨r, q, rfl⟩ : ∃ r q, i = ix2 r q := ⟨_, _, ValueIdx.eq_ix2 i⟩
  rw [Reference6Ideal.RefH.v86_eq]
  exact ((DP'_apply m c r q).trans (grad_eq m c h0 h1 h2 h3 h4 h5 r q)).symm
end

theorem out0 : Reference6Ideal.Read.val_main_v85 (F := Ideal) (A0 m c) (A1 m c) = HM m c := by
  funext i
  obtain ⟨r, k, rfl⟩ : ∃ r k, i = ix2 r k := ⟨_, _, ValueIdx.eq_ix2 i⟩
  rw [Reference6Ideal.RefH.v85_eq]
  exact ((HM_apply m c r k).trans (unit_eq m c r k)).symm

theorem out3 : Reference6Ideal.Read.val_main_v87 (F := Ideal) (A0 m c) (A1 m c) (A2 m c) (A3 m c) (A4 m c) (A5 m c) = LS m c := by
  funext i
  obtain ⟨r, q, rfl⟩ : ∃ r q, i = ix2 r q := ⟨_, _, ValueIdx.eq_ix2 i⟩
  rw [Reference6Ideal.RefH.v87_eq, Reference6Ideal.RefH.sum_rows_eq]
  refine Eq.trans ?_ (LS_apply m c r q).symm
  simp only [lTerm, errA_eq]

theorem out4 : Reference6Ideal.Read.val_main_v58 (F := Ideal) (A0 m c) (A1 m c) (A2 m c) (A3 m c) (A4 m c) (A5 m c) = DG m c := by
  funext i
  obtain ⟨r, q, rfl⟩ : ∃ r q, i = ix2 r q := ⟨_, _, ValueIdx.eq_ix2 i⟩
  obtain rfl := Subsingleton.elim r 0
  rw [Reference6Ideal.RefH.v58_eq]
  refine Eq.trans ?_ (DG_apply m c q).symm
  refine Finset.sum_congr rfl fun r _ => ?_
  rw [gTerm, errA_eq, preA_eq, mul_comm]

theorem out5 : Reference6Ideal.Read.val_main_v55 (F := Ideal) (A0 m c) (A1 m c) (A2 m c) (A3 m c) (A4 m c) (A5 m c) = DB m c := by
  funext i
  obtain ⟨r, q, rfl⟩ : ∃ r q, i = ix2 r q := ⟨_, _, ValueIdx.eq_ix2 i⟩
  obtain rfl := Subsingleton.elim r 0
  rw [Reference6Ideal.RefH.v55_eq]
  refine Eq.trans ?_ (DB_apply m c q).symm
  refine Finset.sum_congr rfl fun r _ => ?_
  rw [bTerm, errA_eq]

theorem algebraic : Cert.algebraic_Kernel6Ideal_Reference6Ideal_pre_finite6 := by
  intro m g m' g' hpre hargs
  refine ⟨fun c => HM m c, fun c => DP m c, fun c => DP' m c, fun c => LS m c, fun c => DG m c, fun c => DB m c, ?_, ?_⟩
  · refine (θ_run _ _ _).mono ?_ (Value.run_blocks m g)
    exact fun r h c => h c
  · refine (θ_run _ _ _).mono ?_ (Reference6Ideal.Value.run m' g')
    intro r h c
    obtain ⟨e0, e1, e2, e3, e4, e5, hk⟩ := h c
    obtain ⟨a0, a1, a2, a3, a4, a5⟩ := hargs c
    obtain ⟨h0, h1, h2, h3, h4, h5⟩ := Pre_finite6.real_args _ _ _ _ _ _ (fun i => congrFun (hpre c) i)
    refine ⟨e0.trans ?_, e1.trans ?_, e2.trans ?_, e3.trans ?_, e4.trans ?_, e5.trans ?_, hk⟩
    · rw [a0, a1]; exact (Reference6Ideal.Read.val_main_v85_eq ..).trans (out0 m c)
    · rw [Reference6Ideal.Read.val_main_v84_eq, a0, a1, a2, a3, a4, a5]; exact out1 m c h0 h1 h2 h3 h4 h5
    · rw [Reference6Ideal.Read.val_main_v86_eq, a0, a1, a2, a3, a4, a5]; exact out2 m c h0 h1 h2 h3 h4 h5
    · rw [Reference6Ideal.Read.val_main_v87_eq, a0, a1, a2, a3, a4, a5]; exact out3 m c
    · rw [Reference6Ideal.Read.val_main_v58_eq, a0, a1, a2, a3, a4, a5]; exact out4 m c
    · rw [Reference6Ideal.Read.val_main_v55_eq, a0, a1, a2, a3, a4, a5]; exact out5 m c

end Cert.ClaimH
-- ==== Proof.StepE.lean ====
module

public import proofs.«01_k».proof.Proof.Gen.Kernel7Ideal.Value
public import proofs.«01_k».proof.Proof.Gen.Reference7Ideal.Read
public import proofs.«01_k».proof.Defs
public import proofs.«01_k».proof.Proof.Spec
public import Idealize.ShloMosaic.Lib.StableHlo.ReadAt

/-! The input projection: what the kernel leaves after each grid point, its result, and the reference's. -/

@[expose] public section
noncomputable section
namespace Cert.Kernel7Ideal.StepE
open Cert.Kernel7Ideal Cert.Kernel7Ideal.Gen Idealize.ShloMosaic Idealize.ShloMosaic.TcCoe Idealize.SL.Sem Cert.Spec

variable (m : (ℓ : Loc nD τ sig) → Buf (Elt Ideal) ℓ)

theorem hz : (![0, 0] : Fin 2 → Nat) = fun _ => 0 := by decide

/-! ## The arrays the windows are cut from, and the blocks -/

def aS (c : Dev nD) (r : Fin 4224) (q : Fin 1024) : EReal := V m c (Pipeline.arrRef spec0 0) (ix2 r q)
def aW (c : Dev nD) (k : Fin 2688) (q : Fin 1024) : EReal := V m c (Pipeline.arrRef spec0 1) (ix2 k q)

theorem lt6 (t : Fin cfg0.N) : t.val < 6 := lt_of_lt_of_eq t.isLt N_0

/-- Row `p` of point `t`'s block of rows. -/
def row (t : Fin cfg0.N) (p : Fin 704) : Fin 4224 := ⟨704 * t.val + p.val, by have := lt6 t; omega⟩

def bS (c : Dev nD) (t : Fin cfg0.N) (p : Fin 704) (q : Fin 1024) : EReal := iblk m c 0 t (ix2 p q)
def bW (c : Dev nD) (t : Fin cfg0.N) (k : Fin 2688) (q : Fin 1024) : EReal := iblk m c 1 t (ix2 k q)

theorem idx (t : Fin cfg0.N) : (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)) t

theorem iblk0 (c : Dev nD) (t : Fin cfg0.N) (p : Fin 704) (k : Fin 1024) : bS m c t p k = aS m c (row t p) k := by
  refine congrArg (V m c (Pipeline.arrRef spec0 0)) (funext fun a => Fin.ext ?_)
  obtain ⟨⟨e0, e1⟩, -⟩ := idx t
  match a with
  | ⟨0, _⟩ => show win0_0.index t (0 : Fin 2) * 704 + 1 * p.val = 704 * t.val + p.val; omega
  | ⟨1, _⟩ => show win0_0.index t (1 : Fin 2) * 1024 + 1 * k.val = k.val; omega

theorem iblk1 (c : Dev nD) (t : Fin cfg0.N) (k : Fin 2688) (q : Fin 1024) : bW m c t k q = aW m c k q := by
  refine congrArg (V m c (Pipeline.arrRef spec0 1)) (funext fun a => Fin.ext ?_)
  obtain ⟨-, ⟨e0, e1⟩, -⟩ := idx t
  match a with
  | ⟨0, _⟩ => show win0_1.index t (0 : Fin 2) * 2688 + 1 * k.val = k.val; omega
  | ⟨1, _⟩ => show win0_1.index t (1 : Fin 2) * 1024 + 1 * q.val = q.val; omega

/-! ## A point's output, and the result -/

theorem out_at (c : Dev nD) (t : Fin cfg0.N) (p : Fin 704) (k : Fin 2688) :
    (out0_2 (iblk m c 0 t) (iblk m c 1 t) (ix2 p k) : EReal) = ∑ q, bS m c t p q * bW m c t k q := by
  unfold out0_2
  rw [View.canon_unit_zero hz]
  simp only [View.ld_unit_zero (S := S704x1024) hz, View.ld_unit_zero (S := S2688x1024) hz]
  unfold_payloads
  pointwise
  rfl

/-- The kernel's result. -/
def G (c : Dev nD) : S4224x2688.Idx → EReal := (dats m 0 c).arrAt 2 cfg0.N

theorem G_apply (c : Dev nD) (r : Fin 4224) (k : Fin 2688) : G m c (ix2 r k) = ∑ q, aS m c r q * aW m c k q := by
  have hN : cfg0.N = 6 := N_0
  have ht : r.val / 704 < cfg0.N := by omega
  have e := (dats m 0 c).arrAt_emb_eq_flushed 2 Value.disjoint2 ⟨r.val / 704, ht⟩ (flush0_2 _) (ix2 ⟨r.val % 704, by omega⟩ k)
  have hi : ((cfg0.win 2).blk ⟨r.val / 704, ht⟩).view.emb (ix2 ⟨r.val % 704, by omega⟩ k) = ix2 r k := by
    obtain ⟨-, -, e0, e1⟩ := idx ⟨r.val / 704, ht⟩
    refine funext fun a => Fin.ext ?_
    match a with
    | ⟨0, _⟩ => show win0_2.index ⟨r.val / 704, ht⟩ (0 : Fin 2) * 704 + 1 * (r.val % 704) = r.val; rw [e0]; dsimp only; omega
    | ⟨1, _⟩ => show win0_2.index ⟨r.val / 704, ht⟩ (1 : Fin 2) * 2688 + 1 * k.val = k.val; omega
  rw [hi, Value.flushed2] at e
  refine e.trans ((out_at m c ⟨r.val / 704, ht⟩ ⟨r.val % 704, by omega⟩ k).trans ?_)
  simp only [iblk0, iblk1]
  rw [show row ⟨r.val / 704, ht⟩ ⟨r.val % 704, by omega⟩ = r from Fin.ext (show 704 * (r.val / 704) + r.val % 704 = r.val by omega)]

/-! ## The arrays the kernel is launched on -/

abbrev A0 (c : Dev nD) : S4224x1024.Idx → EReal := m ((c.tc : Thread nD τ).loc main_arg0)
abbrev A1 (c : Dev nD) : S1024x2688.Idx → EReal := m ((c.tc : Thread nD τ).loc main_arg1)

theorem aS_eq (c : Dev nD) (r : Fin 4224) (q : Fin 1024) : aS m c r q = A0 m c (ix2 r q) := by
  unfold aS V
  after_reads_at

theorem aW_eq (c : Dev nD) (k : Fin 2688) (q : Fin 1024) : aW m c k q = A1 m c (ix2 q k) := by
  unfold aW V
  after_reads_at

end Cert.Kernel7Ideal.StepE

namespace Cert.ClaimE
open Cert Cert.Kernel7Ideal Cert.Kernel7Ideal.Gen Cert.Kernel7Ideal.StepE Idealize.ShloMosaic Idealize.ShloMosaic.TcCoe Idealize.SL.Sem Cert.Spec

variable (m : (ℓ : Loc nD τ sig) → Buf (Elt Ideal) ℓ) (c : Dev nD)

theorem out0 : Reference7Ideal.Read.val_main_v0 (F := Ideal) (A0 m c) (A1 m c) = G m c := by
  funext i
  obtain ⟨r, k, rfl⟩ : ∃ r k, i = ix2 r k := ⟨_, _, ValueIdx.eq_ix2 i⟩
  refine Eq.trans ?_ (G_apply m c r k).symm
  simp only [aS_eq, aW_eq]
  unfold Reference7Ideal.Read.val_main_v0
  pointwise

theorem algebraic : Cert.algebraic_Kernel7Ideal_Reference7Ideal := by
  intro m g m' g' _ hargs
  refine ⟨fun c => G m c, ?_, ?_⟩
  · refine (θ_run _ _ _).mono ?_ (Value.run_blocks m g)
    exact fun r h c => h c
  · refine (θ_run _ _ _).mono ?_ (Reference7Ideal.Value.run m' g')
    intro r h c
    obtain ⟨e0, hk⟩ := h c
    obtain ⟨a0, a1⟩ := hargs c
    refine ⟨e0.trans ?_, hk⟩
    rw [Reference7Ideal.Read.val_main_v0_eq, a0, a1]; exact out0 m c

end Cert.ClaimE
-- ==== Proof.StepF.lean ====
module

public import proofs.«01_k».proof.Proof.Gen.Kernel8Ideal.Value
public import proofs.«01_k».proof.Proof.Spec
public import proofs.«01_k».proof.Proof.Bands

/-! The output projection forward: what the kernel leaves after each grid point, and its results. -/

@[expose] public section
noncomputable section
namespace Cert.Kernel8Ideal.StepF
open Cert.Kernel8Ideal Cert.Kernel8Ideal.Gen Idealize.ShloMosaic Idealize.ShloMosaic.TcCoe Idealize.SL.Sem Cert.Spec

variable (m : (ℓ : Loc nD τ sig) → Buf (Elt Ideal) ℓ)

theorem hz : (![0, 0] : Fin 2 → Nat) = fun _ => 0 := by decide

/-! ## The arrays the windows are cut from, and the blocks -/

def aX (c : Dev nD) (r : Fin 4224) (k : Fin 1024) : EReal := V m c (Pipeline.arrRef spec0 0) (ix2 r k)
def aC (c : Dev nD) (r : Fin 4224) (k : Fin 512) : EReal := V m c (Pipeline.arrRef spec0 1) (ix2 r k)
def aO (c : Dev nD) (r : Fin 4224) (k : Fin 512) : EReal := V m c (Pipeline.arrRef spec0 2) (ix2 r k)
def aW (c : Dev nD) (r : Fin 1024) (k : Fin 1024) : EReal := V m c (Pipeline.arrRef spec0 3) (ix2 r k)
def aG (c : Dev nD) (r : Fin 1) (k : Fin 1024) : EReal := V m c (Pipeline.arrRef spec0 4) (ix2 r k)
def aB (c : Dev nD) (r : Fin 1) (k : Fin 1024) : EReal := V m c (Pipeline.arrRef spec0 5) (ix2 r k)

theorem lt6 (t : Fin cfg0.N) : t.val < 6 := lt_of_lt_of_eq t.isLt N_0

/-- Row `p` of point `t`'s block of rows. -/
def row (t : Fin cfg0.N) (p : Fin 704) : Fin 4224 := ⟨704 * t.val + p.val, by have := lt6 t; omega⟩

def bX (c : Dev nD) (t : Fin cfg0.N) (r : Fin 704) (k : Fin 1024) : EReal := iblk m c 0 t (ix2 r k)
def bC (c : Dev nD) (t : Fin cfg0.N) (r : Fin 704) (k : Fin 512) : EReal := iblk m c 1 t (ix2 r k)
def bO (c : Dev nD) (t : Fin cfg0.N) (r : Fin 704) (k : Fin 512) : EReal := iblk m c 2 t (ix2 r k)
def bW (c : Dev nD) (t : Fin cfg0.N) (r : Fin 1024) (k : Fin 1024) : EReal := iblk m c 3 t (ix2 r k)
def bG (c : Dev nD) (t : Fin cfg0.N) (r : Fin 1) (k : Fin 1024) : EReal := iblk m c 4 t (ix2 r k)
def bB (c : Dev nD) (t : Fin cfg0.N) (r : Fin 1) (k : Fin 1024) : EReal := iblk m c 5 t (ix2 r k)

theorem idx (t : Fin cfg0.N) : (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)) t

theorem iblk0 (c : Dev nD) (t : Fin cfg0.N) (r : Fin 704) (k : Fin 1024) : bX m c t r k = aX m c (row t r) k := by
  refine congrArg (V m c (Pipeline.arrRef spec0 0)) (funext fun a => Fin.ext ?_)
  obtain ⟨⟨e0, e1⟩, -⟩ := idx t
  match a with
  | ⟨0, _⟩ => show win0_0.index t (0 : Fin 2) * 704 + 1 * r.val = 704 * t.val + r.val; omega
  | ⟨1, _⟩ => show win0_0.index t (1 : Fin 2) * 1024 + 1 * k.val = k.val; omega

theorem iblk1 (c : Dev nD) (t : Fin cfg0.N) (r : Fin 704) (k : Fin 512) : bC m c t r k = aC m c (row t r) k := by
  refine congrArg (V m c (Pipeline.arrRef spec0 1)) (funext fun a => Fin.ext ?_)
  obtain ⟨-, ⟨e0, e1⟩, -⟩ := idx t
  match a with
  | ⟨0, _⟩ => show win0_1.index t (0 : Fin 2) * 704 + 1 * r.val = 704 * t.val + r.val; omega
  | ⟨1, _⟩ => show win0_1.index t (1 : Fin 2) * 512 + 1 * k.val = k.val; omega

theorem iblk2 (c : Dev nD) (t : Fin cfg0.N) (r : Fin 704) (k : Fin 512) : bO m c t r k = aO m c (row t r) k := by
  refine congrArg (V m c (Pipeline.arrRef spec0 2)) (funext fun a => Fin.ext ?_)
  obtain ⟨-, -, ⟨e0, e1⟩, -⟩ := idx t
  match a with
  | ⟨0, _⟩ => show win0_2.index t (0 : Fin 2) * 704 + 1 * r.val = 704 * t.val + r.val; omega
  | ⟨1, _⟩ => show win0_2.index t (1 : Fin 2) * 512 + 1 * k.val = k.val; omega

theorem iblk3 (c : Dev nD) (t : Fin cfg0.N) (r : Fin 1024) (k : Fin 1024) : bW m c t r k = aW m c r k := by
  refine congrArg (V m c (Pipeline.arrRef spec0 3)) (funext fun a => Fin.ext ?_)
  obtain ⟨-, -, -, ⟨e0, e1⟩, -⟩ := idx t
  match a with
  | ⟨0, _⟩ => show win0_3.index t (0 : Fin 2) * 1024 + 1 * r.val = r.val; omega
  | ⟨1, _⟩ => show win0_3.index t (1 : Fin 2) * 1024 + 1 * k.val = k.val; omega

theorem iblk4 (c : Dev nD) (t : Fin cfg0.N) (r : Fin 1) (k : Fin 1024) : bG m c t r k = aG m c r k := by
  refine congrArg (V m c (Pipeline.arrRef spec0 4)) (funext fun a => Fin.ext ?_)
  obtain ⟨-, -, -, -, ⟨e0, e1⟩, -⟩ := idx t
  match a with
  | ⟨0, _⟩ => show win0_4.index t (0 : Fin 2) * 1 + 1 * r.val = r.val; omega
  | ⟨1, _⟩ => show win0_4.index t (1 : Fin 2) * 1024 + 1 * k.val = k.val; omega

theorem iblk5 (c : Dev nD) (t : Fin cfg0.N) (r : Fin 1) (k : Fin 1024) : bB m c t r k = aB m c r k := by
  refine congrArg (V m c (Pipeline.arrRef spec0 5)) (funext fun a => Fin.ext ?_)
  obtain ⟨-, -, -, -, -, ⟨e0, e1⟩, -⟩ := idx t
  match a with
  | ⟨0, _⟩ => show win0_5.index t (0 : Fin 2) * 1 + 1 * r.val = r.val; omega
  | ⟨1, _⟩ => show win0_5.index t (1 : Fin 2) * 1024 + 1 * k.val = k.val; omega

/-! ## A point's outputs -/

/-- The residual stream of row `p` of the block after the projection … -/
def pb (c : Dev nD) (t : Fin cfg0.N) (p : Fin 704) (q : Fin 1024) : EReal :=
  alpha * bX m c t p q + (∑ j : Fin 512, bC m c t p j * bW m c t ⟨j.val, by omega⟩ q + ∑ j : Fin 512, bO m c t p j * bW m c t ⟨512 + j.val, by omega⟩ q)
/-- … and its norm. -/
def sb (c : Dev nD) (t : Fin cfg0.N) (p : Fin 704) (q : Fin 1024) : EReal := xhat (pb m c t p) q * bG m c t 0 q + bB m c t 0 q

/-- The payload of a band of the norm, from that of the stream. -/
theorem norm_at (v w : S176x1024.Idx → EReal) (g b : S1x1024.Idx → EReal) (a : Fin 176) (q : Fin 1024) :
    (k0_pay2 (F := Ideal) v w g b (ix2 a q) : EReal) = xhat (fun k => k0_pay1 (F := Ideal) v w (ix2 a k)) q * g (ix2 0 q) + b (ix2 0 q) := by
  unfold k0_pay2
  pointwise
  rfl

theorem p_0 (c : Dev nD) (t : Fin cfg0.N) (a : Fin 176) (q : Fin 1024) :
    (k0_pay10 (k0_pay20 (iblk m c 0 t) (iblk m c 1 t) (iblk m c 2 t) (iblk m c 3 t) (iblk m c 4 t) (iblk m c 5 t)) (View.ld (iblk m c 0 t) r0_6) (ix2 a q) : EReal) = pb m c t ⟨a.val, by omega⟩ q := by
  unfold k0_pay20
  unfold_payloads
  pointwise
  rfl

theorem p_176 (c : Dev nD) (t : Fin cfg0.N) (a : Fin 176) (q : Fin 1024) :
    (k0_pay14 (k0_pay21 (iblk m c 0 t) (iblk m c 1 t) (iblk m c 2 t) (iblk m c 3 t) (iblk m c 4 t) (iblk m c 5 t)) (View.ld (iblk m c 0 t) r0_8) (ix2 a q) : EReal) = pb m c t ⟨176 + a.val, by omega⟩ q := by
  unfold k0_pay21
  unfold_payloads
  pointwise
  rfl

theorem p_352 (c : Dev nD) (t : Fin cfg0.N) (a : Fin 176) (q : Fin 1024) :
    (k0_pay17 (k0_pay22 (iblk m c 0 t) (iblk m c 1 t) (iblk m c 2 t) (iblk m c 3 t) (iblk m c 4 t) (iblk m c 5 t)) (View.ld (iblk m c 0 t) r0_9) (ix2 a q) : EReal) = pb m c t ⟨352 + a.val, by omega⟩ q := by
  unfold k0_pay22
  unfold_payloads
  pointwise
  rfl

theorem p_528 (c : Dev nD) (t : Fin cfg0.N) (a : Fin 176) (q : Fin 1024) :
    (k0_pay1 (k0_pay23 (iblk m c 0 t) (iblk m c 1 t) (iblk m c 2 t) (iblk m c 3 t) (iblk m c 4 t) (iblk m c 5 t)) (View.ld (iblk m c 0 t) r0_10) (ix2 a q) : EReal) = pb m c t ⟨528 + a.val, by omega⟩ q := by
  unfold k0_pay23
  unfold_payloads
  pointwise
  rfl

theorem s_0 (c : Dev nD) (t : Fin cfg0.N) (a : Fin 176) (q : Fin 1024) :
    (k0_pay12 (k0_pay24 (iblk m c 0 t) (iblk m c 1 t) (iblk m c 2 t) (iblk m c 3 t) (iblk m c 4 t) (iblk m c 5 t)) (View.ld (iblk m c 4 t) r0_7) (View.ld (iblk m c 5 t) r0_7) (ix2 a q) : EReal) = sb m c t ⟨a.val, by omega⟩ q := by
  refine (norm_at (k0_pay20 (iblk m c 0 t) (iblk m c 1 t) (iblk m c 2 t) (iblk m c 3 t) (iblk m c 4 t) (iblk m c 5 t)) (View.ld (iblk m c 0 t) r0_6) (View.ld (iblk m c 4 t) r0_7) (View.ld (iblk m c 5 t) r0_7) a q).trans ?_
  rw [View.ld_unit_zero (S := S1x1024) hz, View.ld_unit_zero (S := S1x1024) hz]
  have e : (fun k => (k0_pay1 (F := Ideal) (k0_pay20 (iblk m c 0 t) (iblk m c 1 t) (iblk m c 2 t) (iblk m c 3 t) (iblk m c 4 t) (iblk m c 5 t)) (View.ld (iblk m c 0 t) r0_6) (ix2 a k) : EReal)) = pb m c t ⟨a.val, by omega⟩ :=
    funext fun k => p_0 m c t a k
  rw [e]; rfl

theorem s_176 (c : Dev nD) (t : Fin cfg0.N) (a : Fin 176) (q : Fin 1024) :
    (k0_pay25 (iblk m c 0 t) (iblk m c 1 t) (iblk m c 2 t) (iblk m c 3 t) (iblk m c 4 t) (iblk m c 5 t) (ix2 a q) : EReal) = sb m c t ⟨176 + a.val, by omega⟩ q := by
  refine (norm_at (k0_pay21 (iblk m c 0 t) (iblk m c 1 t) (iblk m c 2 t) (iblk m c 3 t) (iblk m c 4 t) (iblk m c 5 t)) (View.ld (iblk m c 0 t) r0_8) (View.ld (iblk m c 4 t) r0_7) (View.ld (iblk m c 5 t) r0_7) a q).trans ?_
  rw [View.ld_unit_zero (S := S1x1024) hz, View.ld_unit_zero (S := S1x1024) hz]
  have e : (fun k => (k0_pay1 (F := Ideal) (k0_pay21 (iblk m c 0 t) (iblk m c 1 t) (iblk m c 2 t) (iblk m c 3 t) (iblk m c 4 t) (iblk m c 5 t)) (View.ld (iblk m c 0 t) r0_8) (ix2 a k) : EReal)) = pb m c t ⟨176 + a.val, by omega⟩ :=
    funext fun k => p_176 m c t a k
  rw [e]; rfl

theorem s_352 (c : Dev nD) (t : Fin cfg0.N) (a : Fin 176) (q : Fin 1024) :
    (k0_pay18 (k0_pay22 (iblk m c 0 t) (iblk m c 1 t) (iblk m c 2 t) (iblk m c 3 t) (iblk m c 4 t) (iblk m c 5 t)) (View.ld (iblk m c 0 t) r0_9) (View.ld (iblk m c 4 t) r0_7) (View.ld (iblk m c 5 t) r0_7) (ix2 a q) : EReal) = sb m c t ⟨352 + a.val, by omega⟩ q := by
  refine (norm_at (k0_pay22 (iblk m c 0 t) (iblk m c 1 t) (iblk m c 2 t) (iblk m c 3 t) (iblk m c 4 t) (iblk m c 5 t)) (View.ld (iblk m c 0 t) r0_9) (View.ld (iblk m c 4 t) r0_7) (View.ld (iblk m c 5 t) r0_7) a q).trans ?_
  rw [View.ld_unit_zero (S := S1x1024) hz, View.ld_unit_zero (S := S1x1024) hz]
  have e : (fun k => (k0_pay1 (F := Ideal) (k0_pay22 (iblk m c 0 t) (iblk m c 1 t) (iblk m c 2 t) (iblk m c 3 t) (iblk m c 4 t) (iblk m c 5 t)) (View.ld (iblk m c 0 t) r0_9) (ix2 a k) : EReal)) = pb m c t ⟨352 + a.val, by omega⟩ :=
    funext fun k => p_352 m c t a k
  rw [e]; rfl

theorem s_528 (c : Dev nD) (t : Fin cfg0.N) (a : Fin 176) (q : Fin 1024) :
    (k0_pay2 (k0_pay23 (iblk m c 0 t) (iblk m c 1 t) (iblk m c 2 t) (iblk m c 3 t) (iblk m c 4 t) (iblk m c 5 t)) (View.ld (iblk m c 0 t) r0_10) (View.ld (iblk m c 4 t) r0_7) (View.ld (iblk m c 5 t) r0_7) (ix2 a q) : EReal) = sb m c t ⟨528 + a.val, by omega⟩ q := by
  refine (norm_at (k0_pay23 (iblk m c 0 t) (iblk m c 1 t) (iblk m c 2 t) (iblk m c 3 t) (iblk m c 4 t) (iblk m c 5 t)) (View.ld (iblk m c 0 t) r0_10) (View.ld (iblk m c 4 t) r0_7) (View.ld (iblk m c 5 t) r0_7) a q).trans ?_
  rw [View.ld_unit_zero (S := S1x1024) hz, View.ld_unit_zero (S := S1x1024) hz]
  have e : (fun k => (k0_pay1 (F := Ideal) (k0_pay23 (iblk m c 0 t) (iblk m c 1 t) (iblk m c 2 t) (iblk m c 3 t) (iblk m c 4 t) (iblk m c 5 t)) (View.ld (iblk m c 0 t) r0_10) (ix2 a k) : EReal)) = pb m c t ⟨528 + a.val, by omega⟩ :=
    funext fun k => p_528 m c t a k
  rw [e]; rfl

theorem out6_at (c : Dev nD) (t : Fin cfg0.N) (p : Fin 704) (q : Fin 1024) : (out0_6 (iblk m c 0 t) (iblk m c 1 t) (iblk m c 2 t) (iblk m c 3 t) (iblk m c 4 t) (iblk m c 5 t) (ix2 p q) : EReal) = pb m c t p q := by
  unfold out0_6
  by_cases h1 : p.val < 176
  · refine (canon_off (n := 176) _ _ _ p q (by omega)).trans ((canon_off (n := 176) _ _ _ p q (by omega)).trans ((canon_off (n := 176) _ _ _ p q (by omega)).trans ?_))
    exact (canon_band (o := 0) _ _ _ ⟨p.val, h1⟩ q p (by dsimp only; omega)).trans (p_0 m c t ⟨p.val, h1⟩ q)
  by_cases h2 : p.val < 352
  · refine (canon_off (n := 176) _ _ _ p q (by omega)).trans ((canon_off (n := 176) _ _ _ p q (by omega)).trans ?_)
    refine (canon_band (o := 176) _ _ _ ⟨p.val - 176, by omega⟩ q p (by dsimp only; omega)).trans ((p_176 m c t ⟨p.val - 176, by omega⟩ q).trans ?_)
    exact congrArg (pb m c t · q) (Fin.ext (by dsimp only; omega))
  by_cases h3 : p.val < 528
  · refine (canon_off (n := 176) _ _ _ p q (by omega)).trans ?_
    refine (canon_band (o := 352) _ _ _ ⟨p.val - 352, by omega⟩ q p (by dsimp only; omega)).trans ((p_352 m c t ⟨p.val - 352, by omega⟩ q).trans ?_)
    exact congrArg (pb m c t · q) (Fin.ext (by dsimp only; omega))
  refine (canon_band (o := 528) _ _ _ ⟨p.val - 528, by omega⟩ q p (by dsimp only; omega)).trans ((p_528 m c t ⟨p.val - 528, by omega⟩ q).trans ?_)
  exact congrArg (pb m c t · q) (Fin.ext (by dsimp only; omega))

theorem out7_at (c : Dev nD) (t : Fin cfg0.N) (p : Fin 704) (q : Fin 1024) : (out0_7 (iblk m c 0 t) (iblk m c 1 t) (iblk m c 2 t) (iblk m c 3 t) (iblk m c 4 t) (iblk m c 5 t) (ix2 p q) : EReal) = sb m c t p q := by
  unfold out0_7
  by_cases h1 : p.val < 176
  · refine (canon_off (n := 176) _ _ _ p q (by omega)).trans ((canon_off (n := 176) _ _ _ p q (by omega)).trans ((canon_off (n := 176) _ _ _ p q (by omega)).trans ?_))
    exact (canon_band (o := 0) _ _ _ ⟨p.val, h1⟩ q p (by dsimp only; omega)).trans (s_0 m c t ⟨p.val, h1⟩ q)
  by_cases h2 : p.val < 352
  · refine (canon_off (n := 176) _ _ _ p q (by omega)).trans ((canon_off (n := 176) _ _ _ p q (by omega)).trans ?_)
    refine (canon_band (o := 176) _ _ _ ⟨p.val - 176, by omega⟩ q p (by dsimp only; omega)).trans ((s_176 m c t ⟨p.val - 176, by omega⟩ q).trans ?_)
    exact congrArg (sb m c t · q) (Fin.ext (by dsimp only; omega))
  by_cases h3 : p.val < 528
  · refine (canon_off (n := 176) _ _ _ p q (by omega)).trans ?_
    refine (canon_band (o := 352) _ _ _ ⟨p.val - 352, by omega⟩ q p (by dsimp only; omega)).trans ((s_352 m c t ⟨p.val - 352, by omega⟩ q).trans ?_)
    exact congrArg (sb m c t · q) (Fin.ext (by dsimp only; omega))
  refine (canon_band (o := 528) _ _ _ ⟨p.val - 528, by omega⟩ q p (by dsimp only; omega)).trans ((s_528 m c t ⟨p.val - 528, by omega⟩ q).trans ?_)
  exact congrArg (sb m c t · q) (Fin.ext (by dsimp only; omega))

/-- The norm stored a second time, in the format of the products, is the same. -/
theorem out8_eq (c : Dev nD) (t : Fin cfg0.N) : (out0_8 (iblk m c 0 t) (iblk m c 1 t) (iblk m c 2 t) (iblk m c 3 t) (iblk m c 4 t) (iblk m c 5 t) : S704x1024.Idx → EReal) = out0_7 (iblk m c 0 t) (iblk m c 1 t) (iblk m c 2 t) (iblk m c 3 t) (iblk m c 4 t) (iblk m c 5 t) := rfl

/-! ## The results -/

def P (c : Dev nD) : S4224x1024.Idx → EReal := (dats m 0 c).arrAt 6 cfg0.N
def N (c : Dev nD) : S4224x1024.Idx → EReal := (dats m 0 c).arrAt 7 cfg0.N
def N' (c : Dev nD) : S4224x1024.Idx → EReal := (dats m 0 c).arrAt 8 cfg0.N

/-- The residual stream after the projection, from the arrays. -/
def stream (c : Dev nD) (r : Fin 4224) (q : Fin 1024) : EReal :=
  alpha * aX m c r q + (∑ j : Fin 512, aC m c r j * aW m c ⟨j.val, by omega⟩ q + ∑ j : Fin 512, aO m c r j * aW m c ⟨512 + j.val, by omega⟩ q)
def normed (c : Dev nD) (r : Fin 4224) (q : Fin 1024) : EReal := xhat (stream m c r) q * aG m c 0 q + aB m c 0 q

theorem pb_eq (c : Dev nD) (t : Fin cfg0.N) (p : Fin 704) : pb m c t p = stream m c (row t p) := by
  funext q; unfold pb stream; simp only [iblk0, iblk1, iblk2, iblk3]
theorem sb_eq (c : Dev nD) (t : Fin cfg0.N) (p : Fin 704) (q : Fin 1024) : sb m c t p q = normed m c (row t p) q := by
  unfold sb normed; rw [pb_eq, iblk4, iblk5]

/-- The point that writes row `r`, and the row in its block. -/
theorem lt_N (r : Fin 4224) : r.val / 704 < cfg0.N := by have hN : cfg0.N = 6 := N_0; omega
def pt (r : Fin 4224) : Fin cfg0.N := ⟨r.val / 704, lt_N r⟩
def loc (r : Fin 4224) : Fin 704 := ⟨r.val % 704, by omega⟩
theorem row_pt (r : Fin 4224) : row (pt r) (loc r) = r := Fin.ext (show 704 * (r.val / 704) + r.val % 704 = r.val by omega)

theorem cut6 (t : Fin cfg0.N) (X : Vec Ideal S704x1024 .f32) (p : Fin 704) (q : Fin 1024) :
    (_root_.cast (congrArg (Elt Ideal) ((cfg0.win 6).blk t).view.elt_eq.symm) ((cfg0.win 6).cut (grid0.coords t) X (ix2 p q)) : EReal) = X (ix2 p q) := rfl

theorem P_apply (c : Dev nD) (r : Fin 4224) (q : Fin 1024) : P m c (ix2 r q) = stream m c r q := by
  have e := (dats m 0 c).arrAt_emb_eq_flushed 6 Value.disjoint6 (pt r) (flush0_6 _) (ix2 (loc r) q)
  have hi : ((cfg0.win 6).blk (pt r)).view.emb (ix2 (loc r) q) = ix2 r q := by
    obtain ⟨-, -, -, -, -, -, ⟨e0, e1⟩, -⟩ := idx (pt r)
    refine funext fun a => Fin.ext ?_
    match a with
    | ⟨0, _⟩ => show win0_6.index (pt r) (0 : Fin 2) * 704 + 1 * (r.val % 704) = r.val; rw [e0]; dsimp only [pt]; omega
    | ⟨1, _⟩ => show win0_6.index (pt r) (1 : Fin 2) * 1024 + 1 * q.val = q.val; omega
  rw [hi, Value.flushed6] at e
  refine e.trans (Eq.trans (b := stream m c (row (pt r) (loc r)) q) ?_ (by rw [row_pt]))
  exact (cut6 (pt r) _ (loc r) q).trans ((out6_at m c (pt r) (loc r) q).trans (congrFun (pb_eq m c (pt r) (loc r)) q))

theorem cut7 (t : Fin cfg0.N) (X : Vec Ideal S704x1024 .f32) (p : Fin 704) (q : Fin 1024) :
    (_root_.cast (congrArg (Elt Ideal) ((cfg0.win 7).blk t).view.elt_eq.symm) ((cfg0.win 7).cut (grid0.coords t) X (ix2 p q)) : EReal) = X (ix2 p q) := rfl

theorem N_apply (c : Dev nD) (r : Fin 4224) (q : Fin 1024) : N m c (ix2 r q) = normed m c r q := by
  have e := (dats m 0 c).arrAt_emb_eq_flushed 7 Value.disjoint7 (pt r) (flush0_7 _) (ix2 (loc r) q)
  have hi : ((cfg0.win 7).blk (pt r)).view.emb (ix2 (loc r) q) = ix2 r q := by
    obtain ⟨-, -, -, -, -, -, -, ⟨e0, e1⟩, -⟩ := idx (pt r)
    refine funext fun a => Fin.ext ?_
    match a with
    | ⟨0, _⟩ => show win0_7.index (pt r) (0 : Fin 2) * 704 + 1 * (r.val % 704) = r.val; rw [e0]; dsimp only [pt]; omega
    | ⟨1, _⟩ => show win0_7.index (pt r) (1 : Fin 2) * 1024 + 1 * q.val = q.val; omega
  rw [hi, Value.flushed7] at e
  refine e.trans (Eq.trans (b := normed m c (row (pt r) (loc r)) q) ?_ (by rw [row_pt]))
  exact (cut7 (pt r) _ (loc r) q).trans ((out7_at m c (pt r) (loc r) q).trans (sb_eq m c (pt r) (loc r) q))

theorem cut8 (t : Fin cfg0.N) (X : Vec Ideal S704x1024 .bf16) (p : Fin 704) (q : Fin 1024) :
    (_root_.cast (congrArg (Elt Ideal) ((cfg0.win 8).blk t).view.elt_eq.symm) ((cfg0.win 8).cut (grid0.coords t) X (ix2 p q)) : EReal) = X (ix2 p q) := rfl

theorem N'_apply (c : Dev nD) (r : Fin 4224) (q : Fin 1024) : N' m c (ix2 r q) = normed m c r q := by
  have e := (dats m 0 c).arrAt_emb_eq_flushed 8 Value.disjoint8 (pt r) (flush0_8 _) (ix2 (loc r) q)
  have hi : ((cfg0.win 8).blk (pt r)).view.emb (ix2 (loc r) q) = ix2 r q := by
    obtain ⟨-, -, -, -, -, -, -, -, e0, e1⟩ := idx (pt r)
    refine funext fun a => Fin.ext ?_
    match a with
    | ⟨0, _⟩ => show win0_8.index (pt r) (0 : Fin 2) * 704 + 1 * (r.val % 704) = r.val; rw [e0]; dsimp only [pt]; omega
    | ⟨1, _⟩ => show win0_8.index (pt r) (1 : Fin 2) * 1024 + 1 * q.val = q.val; omega
  rw [hi, Value.flushed8] at e
  refine e.trans (Eq.trans (b := normed m c (row (pt r) (loc r)) q) ?_ (by rw [row_pt]))
  exact (cut8 (pt r) _ (loc r) q).trans ((congrFun (out8_eq m c (pt r)) (ix2 (loc r) q)).trans ((out7_at m c (pt r) (loc r) q).trans (sb_eq m c (pt r) (loc r) q)))

end Cert.Kernel8Ideal.StepF
-- ==== Proof.ClaimF.lean ====
module

public import proofs.«01_k».proof.Proof.StepF
public import proofs.«01_k».proof.Proof.Gen.Reference8Ideal.Read
public import proofs.«01_k».proof.Defs
public import Idealize.ShloMosaic.Lib.StableHlo.ReadAt

/-! The output projection forward of the kernel is the reference's. -/

@[expose] public section
noncomputable section

namespace Cert.Kernel8Ideal.StepF
open Cert.Kernel8Ideal Cert.Kernel8Ideal.Gen Idealize.ShloMosaic Idealize.ShloMosaic.TcCoe Idealize.SL.Sem Cert.Spec

variable (m : (ℓ : Loc nD τ sig) → Buf (Elt Ideal) ℓ)

/-! ## The arrays the kernel is launched on -/

abbrev A0 (c : Dev nD) : S4224x1024.Idx → EReal := m ((c.tc : Thread nD τ).loc main_arg0)
abbrev A1 (c : Dev nD) : S4224x512.Idx → EReal := m ((c.tc : Thread nD τ).loc main_arg1)
abbrev A2 (c : Dev nD) : S4224x512.Idx → EReal := m ((c.tc : Thread nD τ).loc main_arg2)
abbrev A3 (c : Dev nD) : S1024x1024.Idx → EReal := m ((c.tc : Thread nD τ).loc main_arg3)
abbrev A4 (c : Dev nD) : S1x1024.Idx → EReal := m ((c.tc : Thread nD τ).loc main_arg4)
abbrev A5 (c : Dev nD) : S1x1024.Idx → EReal := m ((c.tc : Thread nD τ).loc main_arg5)

theorem aX_eq (c : Dev nD) (r : Fin 4224) (k : Fin 1024) : aX m c r k = A0 m c (ix2 r k) := by
  unfold aX V
  after_reads_at

theorem aC_eq (c : Dev nD) (r : Fin 4224) (k : Fin 512) : aC m c r k = A1 m c (ix2 r k) := by
  unfold aC V
  after_reads_at

theorem aO_eq (c : Dev nD) (r : Fin 4224) (k : Fin 512) : aO m c r k = A2 m c (ix2 r k) := by
  unfold aO V
  after_reads_at

theorem aW_eq (c : Dev nD) (k : Fin 1024) (q : Fin 1024) : aW m c k q = A3 m c (ix2 k q) := by
  unfold aW V
  after_reads_at

theorem aG_eq (c : Dev nD) (z : Fin 1) (q : Fin 1024) : aG m c z q = A4 m c (ix2 z q) := by
  unfold aG V
  after_reads_at

theorem aB_eq (c : Dev nD) (z : Fin 1) (q : Fin 1024) : aB m c z q = A5 m c (ix2 z q) := by
  unfold aB V
  after_reads_at

end Cert.Kernel8Ideal.StepF

namespace Cert.Reference8Ideal.RefF
open Cert.Reference8Ideal Cert.Reference8Ideal.Gen Cert.Reference8Ideal.Read Idealize.ShloMosaic Idealize.ShloMosaic.TcCoe Idealize.ShloMosaic.StableHlo Cert.Spec

variable (x0 : (⟨S4224x1024, .f32⟩ : BufTy).Contents (Elt Ideal)) (x1 x2 : (⟨S4224x512, .f32⟩ : BufTy).Contents (Elt Ideal))
  (x3 : (⟨S1024x1024, .f32⟩ : BufTy).Contents (Elt Ideal)) (x4 x5 : (⟨S1x1024, .f32⟩ : BufTy).Contents (Elt Ideal))

/-! ## The reference's values at an index -/

theorem v0_eq (r : Fin 4224) (k : Fin 1024) : val_main_v0 (F := Ideal) x1 x2 (ix2 r k)
    = (if h : k.val < 512 then x1 (ix2 r ⟨k.val, h⟩) else x2 (ix2 r ⟨k.val - 512, by omega⟩) : EReal) := by
  unfold val_main_v0
  pointwise

/-- A sum over 1024 in two halves. -/
theorem halves (f : Fin 1024 → EReal) : ∑ k, f k = ∑ j : Fin 512, f ⟨j.val, by omega⟩ + ∑ j : Fin 512, f ⟨512 + j.val, by omega⟩ :=
  Fin.sum_univ_add (a := 512) (b := 512) f

theorem v1_eq (r : Fin 4224) (q : Fin 1024) : (val_main_v1 (F := Ideal) x1 x2 x3 (ix2 r q) : EReal)
    = ∑ j : Fin 512, (x1 (ix2 r j) : EReal) * x3 (ix2 ⟨j.val, by omega⟩ q) + ∑ j : Fin 512, (x2 (ix2 r j) : EReal) * x3 (ix2 ⟨512 + j.val, by omega⟩ q) := by
  unfold val_main_v1
  pointwise
  simp only [v0_eq]
  refine (halves _).trans ?_
  refine congrArg₂ (· + ·) (Finset.sum_congr rfl fun j _ => ?_) (Finset.sum_congr rfl fun j _ => ?_)
  · rw [dif_pos j.isLt]
  · rw [dif_neg (show ¬ 512 + j.val < 512 by omega)]
    rw [show (⟨512 + j.val - 512, by omega⟩ : Fin 512) = j from Fin.ext (by dsimp only; omega)]

theorem v4_eq (r : Fin 4224) (q : Fin 1024) : (val_main_v4 (F := Ideal) x0 x1 x2 x3 (ix2 r q) : EReal)
    = alpha * x0 (ix2 r q) + (∑ j : Fin 512, (x1 (ix2 r j) : EReal) * x3 (ix2 ⟨j.val, by omega⟩ q)
      + ∑ j : Fin 512, (x2 (ix2 r j) : EReal) * x3 (ix2 ⟨512 + j.val, by omega⟩ q)) := by
  unfold val_main_v4 val_main_v3 val_main_v2 val_main_cst
  pointwise
  rw [v1_eq]

theorem v26_eq (r : Fin 4224) (q : Fin 1024) : (val_main_v26 (F := Ideal) x0 x1 x2 x3 x4 x5 (ix2 r q) : EReal)
    = xhat (fun k => val_main_v4 (F := Ideal) x0 x1 x2 x3 (ix2 r k)) q * x4 (ix2 0 q) + x5 (ix2 0 q) := by
  unfold val_main_v26 val_main_v25 val_main_v24 val_main_v23 val_main_v22 val_main_v21 val_main_v20 val_main_v19 val_main_v18 val_main_cst_4
    val_main_v17 val_main_v16 val_main_v15 val_main_v14 val_main_cst_3 val_main_v13 val_main_v12 val_main_cst_2 val_main_v11 val_main_v10
    val_main_v9 val_main_v8 val_main_v7 val_main_cst_1 val_main_v6 val_main_v5 val_main_cst_0
  pointwise
  rfl

theorem v27_eq : (val_main_v27 (F := Ideal) x0 x1 x2 x3 x4 x5 : S4224x1024.Idx → EReal) = val_main_v26 (F := Ideal) x0 x1 x2 x3 x4 x5 := rfl

end Cert.Reference8Ideal.RefF

namespace Cert.ClaimF
open Cert Cert.Kernel8Ideal Cert.Kernel8Ideal.Gen Cert.Kernel8Ideal.StepF Idealize.ShloMosaic Idealize.ShloMosaic.TcCoe Idealize.SL.Sem Cert.Spec

variable (m : (ℓ : Loc nD τ sig) → Buf (Elt Ideal) ℓ) (c : Dev nD)

theorem stream_eq (r : Fin 4224) (q : Fin 1024) :
    (Reference8Ideal.Read.val_main_v4 (F := Ideal) (A0 m c) (A1 m c) (A2 m c) (A3 m c) (ix2 r q) : EReal) = stream m c r q := by
  rw [Reference8Ideal.RefF.v4_eq]
  unfold stream
  simp only [aX_eq, aC_eq, aO_eq, aW_eq]

theorem out0 : Reference8Ideal.Read.val_main_v4 (F := Ideal) (A0 m c) (A1 m c) (A2 m c) (A3 m c) = P m c := by
  funext i
  obtain ⟨r, q, rfl⟩ : ∃ r q, i = ix2 r q := ⟨_, _, ValueIdx.eq_ix2 i⟩
  exact (stream_eq m c r q).trans (P_apply m c r q).symm

theorem norm_eq (r : Fin 4224) (q : Fin 1024) :
    (Reference8Ideal.Read.val_main_v26 (F := Ideal) (A0 m c) (A1 m c) (A2 m c) (A3 m c) (A4 m c) (A5 m c) (ix2 r q) : EReal) = normed m c r q := by
  rw [Reference8Ideal.RefF.v26_eq]
  have e : (fun k => (Reference8Ideal.Read.val_main_v4 (F := Ideal) (A0 m c) (A1 m c) (A2 m c) (A3 m c) (ix2 r k) : EReal)) = stream m c r :=
    funext fun k => stream_eq m c r k
  unfold normed
  rw [e, aG_eq, aB_eq]

theorem out1 : Reference8Ideal.Read.val_main_v26 (F := Ideal) (A0 m c) (A1 m c) (A2 m c) (A3 m c) (A4 m c) (A5 m c) = N m c := by
  funext i
  obtain ⟨r, q, rfl⟩ : ∃ r q, i = ix2 r q := ⟨_, _, ValueIdx.eq_ix2 i⟩
  exact (norm_eq m c r q).trans (N_apply m c r q).symm

theorem out2 : Reference8Ideal.Read.val_main_v27 (F := Ideal) (A0 m c) (A1 m c) (A2 m c) (A3 m c) (A4 m c) (A5 m c) = N' m c := by
  funext i
  obtain ⟨r, q, rfl⟩ : ∃ r q, i = ix2 r q := ⟨_, _, ValueIdx.eq_ix2 i⟩
  exact (congrFun (Reference8Ideal.RefF.v27_eq _ _ _ _ _ _) _).trans ((norm_eq m c r q).trans (N'_apply m c r q).symm)

theorem algebraic : Cert.algebraic_Kernel8Ideal_Reference8Ideal := by
  intro m g m' g' _ hargs
  refine ⟨fun c => P m c, fun c => N m c, fun c => N' m c, ?_, ?_⟩
  · refine (θ_run _ _ _).mono ?_ (Value.run_blocks m g)
    exact fun r h c => h c
  · refine (θ_run _ _ _).mono ?_ (Reference8Ideal.Value.run m' g')
    intro r h c
    obtain ⟨e0, e1, e2, hk⟩ := h c
    obtain ⟨a0, a1, a2, a3, a4, a5⟩ := hargs c
    refine ⟨e0.trans ?_, e1.trans ?_, e2.trans ?_, hk⟩
    · rw [Reference8Ideal.Read.val_main_v4_eq, a0, a1, a2, a3]; exact out0 m c
    · rw [Reference8Ideal.Read.val_main_v26_eq, a0, a1, a2, a3, a4, a5]; exact out1 m c
    · rw [Reference8Ideal.Read.val_main_v27_eq, a0, a1, a2, a3, a4, a5]; exact out2 m c

end Cert.ClaimF
-- ==== Proof.Adam.lean ====
module

public import proofs.«01_k».proof.Proof.Spec

/-! The optimiser's step on an entry. -/

@[expose] public section
noncomputable section
namespace Cert.Adam
open Idealize.ShloMosaic

/-- The new first moment, from the gradient and the old. -/
def newM (g m : EReal) : EReal := Ideal.ofBits FTy.f32 0x3F666666#32 * m + Ideal.ofBits FTy.f32 0x3DCCCCCD#32 * g
/-- The new second moment. -/
def newV (g v : EReal) : EReal := Ideal.ofBits FTy.f32 0x3F7FBE77#32 * v + Ideal.ofBits FTy.f32 0x3A83126F#32 * (g * g)
/-- The weight's step. -/
def delta (g w m v : EReal) : EReal := Ideal.ofBits FTy.f32 0xBA83126F#32 *
  (Ideal.div (Ideal.div (newM g m) (Ideal.ofBits FTy.f32 0x3F26BD02#32))
    (Ideal.sqrt (Ideal.div (newV g v) (Ideal.ofBits FTy.f32 0x3C231ACC#32)) + Ideal.ofBits FTy.f32 0x322BCC77#32)
    + Ideal.ofBits FTy.f32 0x3C23D70A#32 * w)

end Cert.Adam
-- ==== Proof.ClaimU9.lean ====
module

public import proofs.«01_k».proof.Proof.Gen.Kernel9Ideal.Value
public import proofs.«01_k».proof.Proof.Gen.Reference9Ideal.Read
public import proofs.«01_k».proof.Defs
public import proofs.«01_k».proof.Proof.Adam
public import Idealize.ShloMosaic.Lib.StableHlo.ReadAt

/-! The update of `w_ff1`: what the kernel leaves, and what the reference computes. -/

@[expose] public section
noncomputable section
namespace Cert.ClaimU9
open Cert Cert.Reference9Ideal.Read Cert.Kernel9Ideal Cert.Kernel9Ideal.Gen Idealize.ShloMosaic Idealize.ShloMosaic.TcCoe Idealize.SL.Sem Cert.Adam

variable (m : (ℓ : Loc nD τ sig) → Buf (Elt Ideal) ℓ) (c : Dev nD)

theorem hz : (![0, 0] : Fin 2 → Nat) = fun _ => 0 := by decide

abbrev A0 : S8x1024x512.Idx → EReal := m ((c.tc : Thread nD τ).loc main_arg0)
abbrev A1 : S1024x512.Idx → EReal := m ((c.tc : Thread nD τ).loc main_arg1)
abbrev A2 : S1024x512.Idx → EReal := m ((c.tc : Thread nD τ).loc main_arg2)
abbrev A3 : S1024x512.Idx → EReal := m ((c.tc : Thread nD τ).loc main_arg3)

/-! ## The blocks -/

theorem ltN (t : Fin cfg0.N) : t.val < 8 := lt_of_lt_of_eq t.isLt N_0
def row (t : Fin cfg0.N) (p : Fin 128) : Fin 1024 := ⟨128 * t.val + p.val, by have := ltN t; omega⟩

theorem idx (t : Fin cfg0.N) : (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)) t

theorem iblk0 (t : Fin cfg0.N) (k : Fin 8) (p : Fin 128) (q : Fin 512) : (iblk m c 0 t (ix3 k p q) : EReal) = A0 m c (ix3 k (row t p) q) := by
  refine (congrArg (V m c (Pipeline.arrRef spec0 0)) (a₂ := ix3 k (row t p) q) (funext fun a => Fin.ext ?_)).trans (by unfold V; after_reads_at)
  obtain ⟨⟨e0, e1, e2⟩, -⟩ := idx t
  match a with
  | ⟨0, _⟩ => show win0_0.index t (0 : Fin 3) * 8 + 1 * k.val = k.val; omega
  | ⟨1, _⟩ => show win0_0.index t (1 : Fin 3) * 128 + 1 * p.val = 128 * t.val + p.val; omega
  | ⟨2, _⟩ => show win0_0.index t (2 : Fin 3) * 512 + 1 * q.val = q.val; omega

theorem iblk1 (t : Fin cfg0.N) (p : Fin 128) (q : Fin 512) : (iblk m c 1 t (ix2 p q) : EReal) = A1 m c (ix2 (row t p) q) := by
  refine (congrArg (V m c (Pipeline.arrRef spec0 1)) (a₂ := ix2 (row t p) q) (funext fun a => Fin.ext ?_)).trans (by unfold V; after_reads_at)
  obtain ⟨-, ⟨e0, e1⟩, -⟩ := idx t
  match a with
  | ⟨0, _⟩ => show win0_1.index t (0 : Fin 2) * 128 + 1 * p.val = 128 * t.val + p.val; omega
  | ⟨1, _⟩ => show win0_1.index t (1 : Fin 2) * 512 + 1 * q.val = q.val; omega

theorem iblk2 (t : Fin cfg0.N) (p : Fin 128) (q : Fin 512) : (iblk m c 2 t (ix2 p q) : EReal) = A2 m c (ix2 (row t p) q) := by
  refine (congrArg (V m c (Pipeline.arrRef spec0 2)) (a₂ := ix2 (row t p) q) (funext fun a => Fin.ext ?_)).trans (by unfold V; after_reads_at)
  obtain ⟨-, -, ⟨e0, e1⟩, -⟩ := idx t
  match a with
  | ⟨0, _⟩ => show win0_2.index t (0 : Fin 2) * 128 + 1 * p.val = 128 * t.val + p.val; omega
  | ⟨1, _⟩ => show win0_2.index t (1 : Fin 2) * 512 + 1 * q.val = q.val; omega

theorem iblk3 (t : Fin cfg0.N) (p : Fin 128) (q : Fin 512) : (iblk m c 3 t (ix2 p q) : EReal) = A3 m c (ix2 (row t p) q) := by
  refine (congrArg (V m c (Pipeline.arrRef spec0 3)) (a₂ := ix2 (row t p) q) (funext fun a => Fin.ext ?_)).trans (by unfold V; after_reads_at)
  obtain ⟨-, -, -, ⟨e0, e1⟩, -⟩ := idx t
  match a with
  | ⟨0, _⟩ => show win0_3.index t (0 : Fin 2) * 128 + 1 * p.val = 128 * t.val + p.val; omega
  | ⟨1, _⟩ => show win0_3.index t (1 : Fin 2) * 512 + 1 * q.val = q.val; omega

/-! ## A point's outputs -/

section
variable (x0 : Vec Ideal S8x128x512 .bf16) (x1 x2 x3 : Vec Ideal S128x512 .f32) (p : Fin 128) (q : Fin 512)

theorem grad_at : (k0_pay5 (F := Ideal) x0 x1 x2 x3 (ix2 p q) : EReal) = ∑ k, x0 (ix3 k p q) := by
  unfold k0_pay5
  unfold_payloads
  pointwise
  rw [Fin.sum_univ_eight]

theorem out4_at : (out0_4 x0 x1 x2 x3 (ix2 p q) : EReal) = ∑ k, x0 (ix3 k p q) := by
  unfold out0_4
  rw [View.canon_unit_zero hz]
  exact grad_at x0 x1 x2 x3 p q

theorem out5_at : (out0_5 x0 x1 x2 x3 (ix2 p q) : EReal) = delta (∑ k, x0 (ix3 k p q)) (x1 (ix2 p q)) (x2 (ix2 p q)) (x3 (ix2 p q)) := by
  unfold out0_5
  rw [View.canon_unit_zero hz, ← grad_at x0 x1 x2 x3 p q]
  simp only [View.ld_unit_zero (S := S128x512) hz]
  rfl

theorem out6_at : (out0_6 x0 x1 x2 x3 (ix2 p q) : EReal) = newM (∑ k, x0 (ix3 k p q)) (x2 (ix2 p q)) := by
  unfold out0_6
  rw [View.canon_unit_zero hz, ← grad_at x0 x1 x2 x3 p q]
  simp only [View.ld_unit_zero (S := S128x512) hz]
  rfl

theorem out7_at : (out0_7 x0 x1 x2 x3 (ix2 p q) : EReal) = newV (∑ k, x0 (ix3 k p q)) (x3 (ix2 p q)) := by
  unfold out0_7
  rw [View.canon_unit_zero hz, ← grad_at x0 x1 x2 x3 p q]
  simp only [View.ld_unit_zero (S := S128x512) hz]
  rfl
end

/-! ## The results -/

abbrev gA (r : Fin 1024) (q : Fin 512) : EReal := ∑ k, A0 m c (ix3 k r q)
def pt (r : Fin 1024) : Fin cfg0.N := ⟨r.val / 128, lt_of_lt_of_eq (show r.val / 128 < 8 by omega) N_0.symm⟩
def loc (r : Fin 1024) : Fin 128 := ⟨r.val % 128, by omega⟩
theorem row_pt (r : Fin 1024) : row (pt r) (loc r) = r := Fin.ext (show 128 * (r.val / 128) + r.val % 128 = r.val by omega)

theorem cut4 (t : Fin cfg0.N) (X : Vec Ideal S128x512 .f32) (p : Fin 128) (q : Fin 512) :
    (_root_.cast (congrArg (Elt Ideal) ((cfg0.win 4).blk t).view.elt_eq.symm) ((cfg0.win 4).cut (grid0.coords t) X (ix2 p q)) : EReal) = X (ix2 p q) := rfl

theorem res4 (r : Fin 1024) (q : Fin 512) : ((dats m 0 c).arrAt 4 cfg0.N (ix2 r q) : EReal) = gA m c r q := by
  have e := (dats m 0 c).arrAt_emb_eq_flushed 4 Value.disjoint4 (pt r) (flush0_4 _) (ix2 (loc r) q)
  have hi : ((cfg0.win 4).blk (pt r)).view.emb (ix2 (loc r) q) = ix2 r q := by
    obtain ⟨-, -, -, -, ⟨e0, e1⟩, -⟩ := idx (pt r)
    refine funext fun a => Fin.ext ?_
    match a with
    | ⟨0, _⟩ => show win0_4.index (pt r) (0 : Fin 2) * 128 + 1 * (r.val % 128) = r.val; rw [e0]; dsimp only [pt]; omega
    | ⟨1, _⟩ => show win0_4.index (pt r) (1 : Fin 2) * 512 + 1 * q.val = q.val; omega
  rw [hi, Value.flushed4] at e
  refine e.trans ((cut4 (pt r) _ (loc r) q).trans ((out4_at (iblk m c 0 (pt r)) (iblk m c 1 (pt r)) (iblk m c 2 (pt r)) (iblk m c 3 (pt r)) (loc r) q).trans ?_))
  simp only [iblk0, iblk1, iblk2, iblk3, row_pt]

theorem cut5 (t : Fin cfg0.N) (X : Vec Ideal S128x512 .f32) (p : Fin 128) (q : Fin 512) :
    (_root_.cast (congrArg (Elt Ideal) ((cfg0.win 5).blk t).view.elt_eq.symm) ((cfg0.win 5).cut (grid0.coords t) X (ix2 p q)) : EReal) = X (ix2 p q) := rfl

theorem res5 (r : Fin 1024) (q : Fin 512) : ((dats m 0 c).arrAt 5 cfg0.N (ix2 r q) : EReal) = delta (gA m c r q) (A1 m c (ix2 r q)) (A2 m c (ix2 r q)) (A3 m c (ix2 r q)) := by
  have e := (dats m 0 c).arrAt_emb_eq_flushed 5 Value.disjoint5 (pt r) (flush0_5 _) (ix2 (loc r) q)
  have hi : ((cfg0.win 5).blk (pt r)).view.emb (ix2 (loc r) q) = ix2 r q := by
    obtain ⟨-, -, -, -, -, ⟨e0, e1⟩, -⟩ := idx (pt r)
    refine funext fun a => Fin.ext ?_
    match a with
    | ⟨0, _⟩ => show win0_5.index (pt r) (0 : Fin 2) * 128 + 1 * (r.val % 128) = r.val; rw [e0]; dsimp only [pt]; omega
    | ⟨1, _⟩ => show win0_5.index (pt r) (1 : Fin 2) * 512 + 1 * q.val = q.val; omega
  rw [hi, Value.flushed5] at e
  refine e.trans ((cut5 (pt r) _ (loc r) q).trans ((out5_at (iblk m c 0 (pt r)) (iblk m c 1 (pt r)) (iblk m c 2 (pt r)) (iblk m c 3 (pt r)) (loc r) q).trans ?_))
  simp only [iblk0, iblk1, iblk2, iblk3, row_pt]

theorem cut6 (t : Fin cfg0.N) (X : Vec Ideal S128x512 .f32) (p : Fin 128) (q : Fin 512) :
    (_root_.cast (congrArg (Elt Ideal) ((cfg0.win 6).blk t).view.elt_eq.symm) ((cfg0.win 6).cut (grid0.coords t) X (ix2 p q)) : EReal) = X (ix2 p q) := rfl

theorem res6 (r : Fin 1024) (q : Fin 512) : ((dats m 0 c).arrAt 6 cfg0.N (ix2 r q) : EReal) = newM (gA m c r q) (A2 m c (ix2 r q)) := by
  have e := (dats m 0 c).arrAt_emb_eq_flushed 6 Value.disjoint6 (pt r) (flush0_6 _) (ix2 (loc r) q)
  have hi : ((cfg0.win 6).blk (pt r)).view.emb (ix2 (loc r) q) = ix2 r q := by
    obtain ⟨-, -, -, -, -, -, ⟨e0, e1⟩, -⟩ := idx (pt r)
    refine funext fun a => Fin.ext ?_
    match a with
    | ⟨0, _⟩ => show win0_6.index (pt r) (0 : Fin 2) * 128 + 1 * (r.val % 128) = r.val; rw [e0]; dsimp only [pt]; omega
    | ⟨1, _⟩ => show win0_6.index (pt r) (1 : Fin 2) * 512 + 1 * q.val = q.val; omega
  rw [hi, Value.flushed6] at e
  refine e.trans ((cut6 (pt r) _ (loc r) q).trans ((out6_at (iblk m c 0 (pt r)) (iblk m c 1 (pt r)) (iblk m c 2 (pt r)) (iblk m c 3 (pt r)) (loc r) q).trans ?_))
  simp only [iblk0, iblk1, iblk2, iblk3, row_pt]

theorem cut7 (t : Fin cfg0.N) (X : Vec Ideal S128x512 .f32) (p : Fin 128) (q : Fin 512) :
    (_root_.cast (congrArg (Elt Ideal) ((cfg0.win 7).blk t).view.elt_eq.symm) ((cfg0.win 7).cut (grid0.coords t) X (ix2 p q)) : EReal) = X (ix2 p q) := rfl

theorem res7 (r : Fin 1024) (q : Fin 512) : ((dats m 0 c).arrAt 7 cfg0.N (ix2 r q) : EReal) = newV (gA m c r q) (A3 m c (ix2 r q)) := by
  have e := (dats m 0 c).arrAt_emb_eq_flushed 7 Value.disjoint7 (pt r) (flush0_7 _) (ix2 (loc r) q)
  have hi : ((cfg0.win 7).blk (pt r)).view.emb (ix2 (loc r) q) = ix2 r q := by
    obtain ⟨-, -, -, -, -, -, -, e0, e1⟩ := idx (pt r)
    refine funext fun a => Fin.ext ?_
    match a with
    | ⟨0, _⟩ => show win0_7.index (pt r) (0 : Fin 2) * 128 + 1 * (r.val % 128) = r.val; rw [e0]; dsimp only [pt]; omega
    | ⟨1, _⟩ => show win0_7.index (pt r) (1 : Fin 2) * 512 + 1 * q.val = q.val; omega
  rw [hi, Value.flushed7] at e
  refine e.trans ((cut7 (pt r) _ (loc r) q).trans ((out7_at (iblk m c 0 (pt r)) (iblk m c 1 (pt r)) (iblk m c 2 (pt r)) (iblk m c 3 (pt r)) (loc r) q).trans ?_))
  simp only [iblk0, iblk1, iblk2, iblk3, row_pt]

theorem ref4 : Reference9Ideal.Read.val_main_v1 (F := Ideal) (A0 m c) = (dats m 0 c).arrAt 4 cfg0.N := by
  funext i
  obtain ⟨r, q, rfl⟩ : ∃ r q, i = ix2 r q := ⟨_, _, ValueIdx.eq_ix2 i⟩
  refine Eq.trans ?_ (res4 m c r q).symm
  unfold val_main_v1 val_main_v0 val_main_cst
  pointwise

theorem ref5 : Reference9Ideal.Read.val_main_v25 (F := Ideal) (A0 m c) (A1 m c) (A2 m c) (A3 m c) = (dats m 0 c).arrAt 5 cfg0.N := by
  funext i
  obtain ⟨r, q, rfl⟩ : ∃ r q, i = ix2 r q := ⟨_, _, ValueIdx.eq_ix2 i⟩
  refine Eq.trans ?_ (res5 m c r q).symm
  unfold val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2 val_main_cst_3 val_main_cst_4 val_main_cst_5 val_main_cst_6 val_main_cst_7 val_main_cst_8
  pointwise
  rfl

theorem ref6 : Reference9Ideal.Read.val_main_v6 (F := Ideal) (A0 m c) (A2 m c) = (dats m 0 c).arrAt 6 cfg0.N := by
  funext i
  obtain ⟨r, q, rfl⟩ : ∃ r q, i = ix2 r q := ⟨_, _, ValueIdx.eq_ix2 i⟩
  refine Eq.trans ?_ (res6 m c r q).symm
  unfold val_main_v6 val_main_v5 val_main_v4 val_main_v3 val_main_v2 val_main_v1 val_main_v0 val_main_cst val_main_cst_0 val_main_cst_1
  pointwise
  rfl

theorem ref7 : Reference9Ideal.Read.val_main_v12 (F := Ideal) (A0 m c) (A3 m c) = (dats m 0 c).arrAt 7 cfg0.N := by
  funext i
  obtain ⟨r, q, rfl⟩ : ∃ r q, i = ix2 r q := ⟨_, _, ValueIdx.eq_ix2 i⟩
  refine Eq.trans ?_ (res7 m c r q).symm
  unfold val_main_v12 val_main_v11 val_main_v10 val_main_v9 val_main_v8 val_main_v7 val_main_v1 val_main_v0 val_main_cst val_main_cst_2 val_main_cst_3
  pointwise
  rfl

theorem algebraic : Cert.algebraic_Kernel9Ideal_Reference9Ideal := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N, ?_, ?_⟩
  · refine (θ_run _ _ _).mono ?_ (Value.run_blocks m g)
    exact fun r h c => h c
  · refine (θ_run _ _ _).mono ?_ (Reference9Ideal.Value.run m' g')
    intro r h c
    obtain ⟨e0, e1, e2, e3, hk⟩ := h c
    obtain ⟨a0, a1, a2, a3⟩ := hargs c
    refine ⟨e0.trans ?_, e1.trans ?_, e2.trans ?_, e3.trans ?_, hk⟩
    · rw [a0]; exact (Reference9Ideal.Read.val_main_v1_eq ..).trans (ref4 m c)
    · rw [a0, a1, a2, a3]; exact (Reference9Ideal.Read.val_main_v25_eq ..).trans (ref5 m c)
    · rw [a0, a2]; exact (Reference9Ideal.Read.val_main_v6_eq ..).trans (ref6 m c)
    · rw [a0, a3]; exact (Reference9Ideal.Read.val_main_v12_eq ..).trans (ref7 m c)

end Cert.ClaimU9
-- ==== Proof.ClaimU10.lean ====
module

public import proofs.«01_k».proof.Proof.Gen.Kernel10Ideal.Value
public import proofs.«01_k».proof.Proof.Gen.Reference10Ideal.Read
public import proofs.«01_k».proof.Defs
public import proofs.«01_k».proof.Proof.Adam
public import Idealize.ShloMosaic.Lib.StableHlo.ReadAt

/-! The update of `w_ff2`: what the kernel leaves, and what the reference computes. -/

@[expose] public section
noncomputable section
namespace Cert.ClaimU10
open Cert Cert.Reference10Ideal.Read Cert.Kernel10Ideal Cert.Kernel10Ideal.Gen Idealize.ShloMosaic Idealize.ShloMosaic.TcCoe Idealize.SL.Sem Cert.Adam

variable (m : (ℓ : Loc nD τ sig) → Buf (Elt Ideal) ℓ) (c : Dev nD)

theorem hz : (![0, 0] : Fin 2 → Nat) = fun _ => 0 := by decide

abbrev A0 : S8x512x1024.Idx → EReal := m ((c.tc : Thread nD τ).loc main_arg0)
abbrev A1 : S512x1024.Idx → EReal := m ((c.tc : Thread nD τ).loc main_arg1)
abbrev A2 : S512x1024.Idx → EReal := m ((c.tc : Thread nD τ).loc main_arg2)
abbrev A3 : S512x1024.Idx → EReal := m ((c.tc : Thread nD τ).loc main_arg3)

/-! ## The blocks -/

theorem ltN (t : Fin cfg0.N) : t.val < 4 := lt_of_lt_of_eq t.isLt N_0
def row (t : Fin cfg0.N) (p : Fin 128) : Fin 512 := ⟨128 * t.val + p.val, by have := ltN t; omega⟩

theorem idx (t : Fin cfg0.N) : (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)) t

theorem iblk0 (t : Fin cfg0.N) (k : Fin 8) (p : Fin 128) (q : Fin 1024) : (iblk m c 0 t (ix3 k p q) : EReal) = A0 m c (ix3 k (row t p) q) := by
  refine (congrArg (V m c (Pipeline.arrRef spec0 0)) (a₂ := ix3 k (row t p) q) (funext fun a => Fin.ext ?_)).trans (by unfold V; after_reads_at)
  obtain ⟨⟨e0, e1, e2⟩, -⟩ := idx t
  match a with
  | ⟨0, _⟩ => show win0_0.index t (0 : Fin 3) * 8 + 1 * k.val = k.val; omega
  | ⟨1, _⟩ => show win0_0.index t (1 : Fin 3) * 128 + 1 * p.val = 128 * t.val + p.val; omega
  | ⟨2, _⟩ => show win0_0.index t (2 : Fin 3) * 1024 + 1 * q.val = q.val; omega

theorem iblk1 (t : Fin cfg0.N) (p : Fin 128) (q : Fin 1024) : (iblk m c 1 t (ix2 p q) : EReal) = A1 m c (ix2 (row t p) q) := by
  refine (congrArg (V m c (Pipeline.arrRef spec0 1)) (a₂ := ix2 (row t p) q) (funext fun a => Fin.ext ?_)).trans (by unfold V; after_reads_at)
  obtain ⟨-, ⟨e0, e1⟩, -⟩ := idx t
  match a with
  | ⟨0, _⟩ => show win0_1.index t (0 : Fin 2) * 128 + 1 * p.val = 128 * t.val + p.val; omega
  | ⟨1, _⟩ => show win0_1.index t (1 : Fin 2) * 1024 + 1 * q.val = q.val; omega

theorem iblk2 (t : Fin cfg0.N) (p : Fin 128) (q : Fin 1024) : (iblk m c 2 t (ix2 p q) : EReal) = A2 m c (ix2 (row t p) q) := by
  refine (congrArg (V m c (Pipeline.arrRef spec0 2)) (a₂ := ix2 (row t p) q) (funext fun a => Fin.ext ?_)).trans (by unfold V; after_reads_at)
  obtain ⟨-, -, ⟨e0, e1⟩, -⟩ := idx t
  match a with
  | ⟨0, _⟩ => show win0_2.index t (0 : Fin 2) * 128 + 1 * p.val = 128 * t.val + p.val; omega
  | ⟨1, _⟩ => show win0_2.index t (1 : Fin 2) * 1024 + 1 * q.val = q.val; omega

theorem iblk3 (t : Fin cfg0.N) (p : Fin 128) (q : Fin 1024) : (iblk m c 3 t (ix2 p q) : EReal) = A3 m c (ix2 (row t p) q) := by
  refine (congrArg (V m c (Pipeline.arrRef spec0 3)) (a₂ := ix2 (row t p) q) (funext fun a => Fin.ext ?_)).trans (by unfold V; after_reads_at)
  obtain ⟨-, -, -, ⟨e0, e1⟩, -⟩ := idx t
  match a with
  | ⟨0, _⟩ => show win0_3.index t (0 : Fin 2) * 128 + 1 * p.val = 128 * t.val + p.val; omega
  | ⟨1, _⟩ => show win0_3.index t (1 : Fin 2) * 1024 + 1 * q.val = q.val; omega

/-! ## A point's outputs -/

section
variable (x0 : Vec Ideal S8x128x1024 .bf16) (x1 x2 x3 : Vec Ideal S128x1024 .f32) (p : Fin 128) (q : Fin 1024)

theorem grad_at : (k0_pay5 (F := Ideal) x0 x1 x2 x3 (ix2 p q) : EReal) = ∑ k, x0 (ix3 k p q) := by
  unfold k0_pay5
  unfold_payloads
  pointwise
  rw [Fin.sum_univ_eight]

theorem out4_at : (out0_4 x0 x1 x2 x3 (ix2 p q) : EReal) = ∑ k, x0 (ix3 k p q) := by
  unfold out0_4
  rw [View.canon_unit_zero hz]
  exact grad_at x0 x1 x2 x3 p q

theorem out5_at : (out0_5 x0 x1 x2 x3 (ix2 p q) : EReal) = delta (∑ k, x0 (ix3 k p q)) (x1 (ix2 p q)) (x2 (ix2 p q)) (x3 (ix2 p q)) := by
  unfold out0_5
  rw [View.canon_unit_zero hz, ← grad_at x0 x1 x2 x3 p q]
  simp only [View.ld_unit_zero (S := S128x1024) hz]
  rfl

theorem out6_at : (out0_6 x0 x1 x2 x3 (ix2 p q) : EReal) = newM (∑ k, x0 (ix3 k p q)) (x2 (ix2 p q)) := by
  unfold out0_6
  rw [View.canon_unit_zero hz, ← grad_at x0 x1 x2 x3 p q]
  simp only [View.ld_unit_zero (S := S128x1024) hz]
  rfl

theorem out7_at : (out0_7 x0 x1 x2 x3 (ix2 p q) : EReal) = newV (∑ k, x0 (ix3 k p q)) (x3 (ix2 p q)) := by
  unfold out0_7
  rw [View.canon_unit_zero hz, ← grad_at x0 x1 x2 x3 p q]
  simp only [View.ld_unit_zero (S := S128x1024) hz]
  rfl
end

/-! ## The results -/

abbrev gA (r : Fin 512) (q : Fin 1024) : EReal := ∑ k, A0 m c (ix3 k r q)
def pt (r : Fin 512) : Fin cfg0.N := ⟨r.val / 128, lt_of_lt_of_eq (show r.val / 128 < 4 by omega) N_0.symm⟩
def loc (r : Fin 512) : Fin 128 := ⟨r.val % 128, by omega⟩
theorem row_pt (r : Fin 512) : row (pt r) (loc r) = r := Fin.ext (show 128 * (r.val / 128) + r.val % 128 = r.val by omega)

theorem cut4 (t : Fin cfg0.N) (X : Vec Ideal S128x1024 .f32) (p : Fin 128) (q : Fin 1024) :
    (_root_.cast (congrArg (Elt Ideal) ((cfg0.win 4).blk t).view.elt_eq.symm) ((cfg0.win 4).cut (grid0.coords t) X (ix2 p q)) : EReal) = X (ix2 p q) := rfl

theorem res4 (r : Fin 512) (q : Fin 1024) : ((dats m 0 c).arrAt 4 cfg0.N (ix2 r q) : EReal) = gA m c r q := by
  have e := (dats m 0 c).arrAt_emb_eq_flushed 4 Value.disjoint4 (pt r) (flush0_4 _) (ix2 (loc r) q)
  have hi : ((cfg0.win 4).blk (pt r)).view.emb (ix2 (loc r) q) = ix2 r q := by
    obtain ⟨-, -, -, -, ⟨e0, e1⟩, -⟩ := idx (pt r)
    refine funext fun a => Fin.ext ?_
    match a with
    | ⟨0, _⟩ => show win0_4.index (pt r) (0 : Fin 2) * 128 + 1 * (r.val % 128) = r.val; rw [e0]; dsimp only [pt]; omega
    | ⟨1, _⟩ => show win0_4.index (pt r) (1 : Fin 2) * 1024 + 1 * q.val = q.val; omega
  rw [hi, Value.flushed4] at e
  refine e.trans ((cut4 (pt r) _ (loc r) q).trans ((out4_at (iblk m c 0 (pt r)) (iblk m c 1 (pt r)) (iblk m c 2 (pt r)) (iblk m c 3 (pt r)) (loc r) q).trans ?_))
  simp only [iblk0, iblk1, iblk2, iblk3, row_pt]

theorem cut5 (t : Fin cfg0.N) (X : Vec Ideal S128x1024 .f32) (p : Fin 128) (q : Fin 1024) :
    (_root_.cast (congrArg (Elt Ideal) ((cfg0.win 5).blk t).view.elt_eq.symm) ((cfg0.win 5).cut (grid0.coords t) X (ix2 p q)) : EReal) = X (ix2 p q) := rfl

theorem res5 (r : Fin 512) (q : Fin 1024) : ((dats m 0 c).arrAt 5 cfg0.N (ix2 r q) : EReal) = delta (gA m c r q) (A1 m c (ix2 r q)) (A2 m c (ix2 r q)) (A3 m c (ix2 r q)) := by
  have e := (dats m 0 c).arrAt_emb_eq_flushed 5 Value.disjoint5 (pt r) (flush0_5 _) (ix2 (loc r) q)
  have hi : ((cfg0.win 5).blk (pt r)).view.emb (ix2 (loc r) q) = ix2 r q := by
    obtain ⟨-, -, -, -, -, ⟨e0, e1⟩, -⟩ := idx (pt r)
    refine funext fun a => Fin.ext ?_
    match a with
    | ⟨0, _⟩ => show win0_5.index (pt r) (0 : Fin 2) * 128 + 1 * (r.val % 128) = r.val; rw [e0]; dsimp only [pt]; omega
    | ⟨1, _⟩ => show win0_5.index (pt r) (1 : Fin 2) * 1024 + 1 * q.val = q.val; omega
  rw [hi, Value.flushed5] at e
  refine e.trans ((cut5 (pt r) _ (loc r) q).trans ((out5_at (iblk m c 0 (pt r)) (iblk m c 1 (pt r)) (iblk m c 2 (pt r)) (iblk m c 3 (pt r)) (loc r) q).trans ?_))
  simp only [iblk0, iblk1, iblk2, iblk3, row_pt]

theorem cut6 (t : Fin cfg0.N) (X : Vec Ideal S128x1024 .f32) (p : Fin 128) (q : Fin 1024) :
    (_root_.cast (congrArg (Elt Ideal) ((cfg0.win 6).blk t).view.elt_eq.symm) ((cfg0.win 6).cut (grid0.coords t) X (ix2 p q)) : EReal) = X (ix2 p q) := rfl

theorem res6 (r : Fin 512) (q : Fin 1024) : ((dats m 0 c).arrAt 6 cfg0.N (ix2 r q) : EReal) = newM (gA m c r q) (A2 m c (ix2 r q)) := by
  have e := (dats m 0 c).arrAt_emb_eq_flushed 6 Value.disjoint6 (pt r) (flush0_6 _) (ix2 (loc r) q)
  have hi : ((cfg0.win 6).blk (pt r)).view.emb (ix2 (loc r) q) = ix2 r q := by
    obtain ⟨-, -, -, -, -, -, ⟨e0, e1⟩, -⟩ := idx (pt r)
    refine funext fun a => Fin.ext ?_
    match a with
    | ⟨0, _⟩ => show win0_6.index (pt r) (0 : Fin 2) * 128 + 1 * (r.val % 128) = r.val; rw [e0]; dsimp only [pt]; omega
    | ⟨1, _⟩ => show win0_6.index (pt r) (1 : Fin 2) * 1024 + 1 * q.val = q.val; omega
  rw [hi, Value.flushed6] at e
  refine e.trans ((cut6 (pt r) _ (loc r) q).trans ((out6_at (iblk m c 0 (pt r)) (iblk m c 1 (pt r)) (iblk m c 2 (pt r)) (iblk m c 3 (pt r)) (loc r) q).trans ?_))
  simp only [iblk0, iblk1, iblk2, iblk3, row_pt]

theorem cut7 (t : Fin cfg0.N) (X : Vec Ideal S128x1024 .f32) (p : Fin 128) (q : Fin 1024) :
    (_root_.cast (congrArg (Elt Ideal) ((cfg0.win 7).blk t).view.elt_eq.symm) ((cfg0.win 7).cut (grid0.coords t) X (ix2 p q)) : EReal) = X (ix2 p q) := rfl

theorem res7 (r : Fin 512) (q : Fin 1024) : ((dats m 0 c).arrAt 7 cfg0.N (ix2 r q) : EReal) = newV (gA m c r q) (A3 m c (ix2 r q)) := by
  have e := (dats m 0 c).arrAt_emb_eq_flushed 7 Value.disjoint7 (pt r) (flush0_7 _) (ix2 (loc r) q)
  have hi : ((cfg0.win 7).blk (pt r)).view.emb (ix2 (loc r) q) = ix2 r q := by
    obtain ⟨-, -, -, -, -, -, -, e0, e1⟩ := idx (pt r)
    refine funext fun a => Fin.ext ?_
    match a with
    | ⟨0, _⟩ => show win0_7.index (pt r) (0 : Fin 2) * 128 + 1 * (r.val % 128) = r.val; rw [e0]; dsimp only [pt]; omega
    | ⟨1, _⟩ => show win0_7.index (pt r) (1 : Fin 2) * 1024 + 1 * q.val = q.val; omega
  rw [hi, Value.flushed7] at e
  refine e.trans ((cut7 (pt r) _ (loc r) q).trans ((out7_at (iblk m c 0 (pt r)) (iblk m c 1 (pt r)) (iblk m c 2 (pt r)) (iblk m c 3 (pt r)) (loc r) q).trans ?_))
  simp only [iblk0, iblk1, iblk2, iblk3, row_pt]

theorem ref4 : Reference10Ideal.Read.val_main_v1 (F := Ideal) (A0 m c) = (dats m 0 c).arrAt 4 cfg0.N := by
  funext i
  obtain ⟨r, q, rfl⟩ : ∃ r q, i = ix2 r q := ⟨_, _, ValueIdx.eq_ix2 i⟩
  refine Eq.trans ?_ (res4 m c r q).symm
  unfold val_main_v1 val_main_v0 val_main_cst
  pointwise

theorem ref5 : Reference10Ideal.Read.val_main_v25 (F := Ideal) (A0 m c) (A1 m c) (A2 m c) (A3 m c) = (dats m 0 c).arrAt 5 cfg0.N := by
  funext i
  obtain ⟨r, q, rfl⟩ : ∃ r q, i = ix2 r q := ⟨_, _, ValueIdx.eq_ix2 i⟩
  refine Eq.trans ?_ (res5 m c r q).symm
  unfold val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2 val_main_cst_3 val_main_cst_4 val_main_cst_5 val_main_cst_6 val_main_cst_7 val_main_cst_8
  pointwise
  rfl

theorem ref6 : Reference10Ideal.Read.val_main_v6 (F := Ideal) (A0 m c) (A2 m c) = (dats m 0 c).arrAt 6 cfg0.N := by
  funext i
  obtain ⟨r, q, rfl⟩ : ∃ r q, i = ix2 r q := ⟨_, _, ValueIdx.eq_ix2 i⟩
  refine Eq.trans ?_ (res6 m c r q).symm
  unfold val_main_v6 val_main_v5 val_main_v4 val_main_v3 val_main_v2 val_main_v1 val_main_v0 val_main_cst val_main_cst_0 val_main_cst_1
  pointwise
  rfl

theorem ref7 : Reference10Ideal.Read.val_main_v12 (F := Ideal) (A0 m c) (A3 m c) = (dats m 0 c).arrAt 7 cfg0.N := by
  funext i
  obtain ⟨r, q, rfl⟩ : ∃ r q, i = ix2 r q := ⟨_, _, ValueIdx.eq_ix2 i⟩
  refine Eq.trans ?_ (res7 m c r q).symm
  unfold val_main_v12 val_main_v11 val_main_v10 val_main_v9 val_main_v8 val_main_v7 val_main_v1 val_main_v0 val_main_cst val_main_cst_2 val_main_cst_3
  pointwise
  rfl

theorem algebraic : Cert.algebraic_Kernel10Ideal_Reference10Ideal := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N, ?_, ?_⟩
  · refine (θ_run _ _ _).mono ?_ (Value.run_blocks m g)
    exact fun r h c => h c
  · refine (θ_run _ _ _).mono ?_ (Reference10Ideal.Value.run m' g')
    intro r h c
    obtain ⟨e0, e1, e2, e3, hk⟩ := h c
    obtain ⟨a0, a1, a2, a3⟩ := hargs c
    refine ⟨e0.trans ?_, e1.trans ?_, e2.trans ?_, e3.trans ?_, hk⟩
    · rw [a0]; exact (Reference10Ideal.Read.val_main_v1_eq ..).trans (ref4 m c)
    · rw [a0, a1, a2, a3]; exact (Reference10Ideal.Read.val_main_v25_eq ..).trans (ref5 m c)
    · rw [a0, a2]; exact (Reference10Ideal.Read.val_main_v6_eq ..).trans (ref6 m c)
    · rw [a0, a3]; exact (Reference10Ideal.Read.val_main_v12_eq ..).trans (ref7 m c)

end Cert.ClaimU10
-- ==== Proof.ClaimU11.lean ====
module

public import proofs.«01_k».proof.Proof.Gen.Kernel11Ideal.Value
public import proofs.«01_k».proof.Proof.Gen.Reference11Ideal.Read
public import proofs.«01_k».proof.Defs
public import proofs.«01_k».proof.Proof.Adam
public import Idealize.ShloMosaic.Lib.StableHlo.ReadAt

/-! The update of `w_in`, stated with the columns first as the kernel leaves it: what the kernel leaves, and what the reference computes. -/

@[expose] public section
noncomputable section
namespace Cert.ClaimU11
open Cert Cert.Reference11Ideal.Read Cert.Kernel11Ideal Cert.Kernel11Ideal.Gen Idealize.ShloMosaic Idealize.ShloMosaic.TcCoe Idealize.SL.Sem Cert.Adam

variable (m : (ℓ : Loc nD τ sig) → Buf (Elt Ideal) ℓ) (c : Dev nD)

theorem hz : (![0, 0, 0] : Fin 3 → Nat) = fun _ => 0 := by decide

abbrev A0 : S8x322x1024.Idx → EReal := m ((c.tc : Thread nD τ).loc main_arg0)
abbrev A1 : S1x1024x322.Idx → EReal := m ((c.tc : Thread nD τ).loc main_arg1)
abbrev A2 : S1x1024x322.Idx → EReal := m ((c.tc : Thread nD τ).loc main_arg2)
abbrev A3 : S1x1024x322.Idx → EReal := m ((c.tc : Thread nD τ).loc main_arg3)

/-! ## The blocks -/

theorem ltN (t : Fin cfg0.N) : t.val < 4 := lt_of_lt_of_eq t.isLt N_0
def col (t : Fin cfg0.N) (q : Fin 256) : Fin 1024 := ⟨256 * t.val + q.val, by have := ltN t; omega⟩

theorem idx (t : Fin cfg0.N) : (win0_0.index t (0 : Fin 3) = 0 ∧ win0_0.index t (1 : Fin 3) = 0 ∧ win0_0.index t (2 : Fin 3) = t.val)
    ∧ (win0_1.index t (0 : Fin 3) = 0 ∧ win0_1.index t (1 : Fin 3) = 0 ∧ win0_1.index t (2 : Fin 3) = t.val)
    ∧ (win0_2.index t (0 : Fin 3) = 0 ∧ win0_2.index t (1 : Fin 3) = 0 ∧ win0_2.index t (2 : Fin 3) = t.val)
    ∧ (win0_3.index t (0 : Fin 3) = 0 ∧ win0_3.index t (1 : Fin 3) = 0 ∧ win0_3.index t (2 : Fin 3) = t.val)
    ∧ (win0_4.index t (0 : Fin 3) = 0 ∧ win0_4.index t (1 : Fin 3) = 0 ∧ win0_4.index t (2 : Fin 3) = t.val)
    ∧ (win0_5.index t (0 : Fin 3) = 0 ∧ win0_5.index t (1 : Fin 3) = 0 ∧ win0_5.index t (2 : Fin 3) = t.val)
    ∧ (win0_6.index t (0 : Fin 3) = 0 ∧ win0_6.index t (1 : Fin 3) = 0 ∧ win0_6.index t (2 : Fin 3) = t.val)
    ∧ (win0_7.index t (0 : Fin 3) = 0 ∧ win0_7.index t (1 : Fin 3) = 0 ∧ win0_7.index t (2 : Fin 3) = t.val) :=
  (by decide +kernel : ∀ t : Fin grid0.N, (win0_0.index t (0 : Fin 3) = 0 ∧ win0_0.index t (1 : Fin 3) = 0 ∧ win0_0.index t (2 : Fin 3) = t.val)
    ∧ (win0_1.index t (0 : Fin 3) = 0 ∧ win0_1.index t (1 : Fin 3) = 0 ∧ win0_1.index t (2 : Fin 3) = t.val)
    ∧ (win0_2.index t (0 : Fin 3) = 0 ∧ win0_2.index t (1 : Fin 3) = 0 ∧ win0_2.index t (2 : Fin 3) = t.val)
    ∧ (win0_3.index t (0 : Fin 3) = 0 ∧ win0_3.index t (1 : Fin 3) = 0 ∧ win0_3.index t (2 : Fin 3) = t.val)
    ∧ (win0_4.index t (0 : Fin 3) = 0 ∧ win0_4.index t (1 : Fin 3) = 0 ∧ win0_4.index t (2 : Fin 3) = t.val)
    ∧ (win0_5.index t (0 : Fin 3) = 0 ∧ win0_5.index t (1 : Fin 3) = 0 ∧ win0_5.index t (2 : Fin 3) = t.val)
    ∧ (win0_6.index t (0 : Fin 3) = 0 ∧ win0_6.index t (1 : Fin 3) = 0 ∧ win0_6.index t (2 : Fin 3) = t.val)
    ∧ (win0_7.index t (0 : Fin 3) = 0 ∧ win0_7.index t (1 : Fin 3) = 0 ∧ win0_7.index t (2 : Fin 3) = t.val)) t

theorem iblk0 (t : Fin cfg0.N) (k : Fin 8) (p : Fin 322) (q : Fin 256) : (iblk m c 0 t (ix3 k p q) : EReal) = A0 m c (ix3 k p (col t q)) := by
  refine (congrArg (V m c (Pipeline.arrRef spec0 0)) (a₂ := ix3 k p (col t q)) (funext fun a => Fin.ext ?_)).trans (by unfold V; after_reads_at)
  obtain ⟨⟨e0, e1, e2⟩, -⟩ := idx t
  match a with
  | ⟨0, _⟩ => show win0_0.index t (0 : Fin 3) * 8 + 1 * k.val = k.val; omega
  | ⟨1, _⟩ => show win0_0.index t (1 : Fin 3) * 322 + 1 * p.val = p.val; omega
  | ⟨2, _⟩ => show win0_0.index t (2 : Fin 3) * 256 + 1 * q.val = 256 * t.val + q.val; omega

theorem arr1 (p : Fin 322) (o : Fin 1) (q : Fin 1024) : (V m c (Pipeline.arrRef spec0 1) (ix3 p o q) : EReal) = A1 m c (ix3 0 q p) := by
  unfold V
  after_reads_at

theorem iblk1 (t : Fin cfg0.N) (p : Fin 322) (o : Fin 1) (q : Fin 256) : (iblk m c 1 t (ix3 p o q) : EReal) = A1 m c (ix3 0 (col t q) p) := by
  refine (congrArg (V m c (Pipeline.arrRef spec0 1)) (a₂ := ix3 p o (col t q)) (funext fun a => Fin.ext ?_)).trans (arr1 m c p o (col t q))
  obtain ⟨-, ⟨e0, e1, e2⟩, -⟩ := idx t
  match a with
  | ⟨0, _⟩ => show win0_1.index t (0 : Fin 3) * 322 + 1 * p.val = p.val; omega
  | ⟨1, _⟩ => show win0_1.index t (1 : Fin 3) * 1 + 1 * o.val = o.val; omega
  | ⟨2, _⟩ => show win0_1.index t (2 : Fin 3) * 256 + 1 * q.val = 256 * t.val + q.val; omega

theorem arr2 (p : Fin 322) (o : Fin 1) (q : Fin 1024) : (V m c (Pipeline.arrRef spec0 2) (ix3 p o q) : EReal) = A2 m c (ix3 0 q p) := by
  unfold V
  after_reads_at

theorem iblk2 (t : Fin cfg0.N) (p : Fin 322) (o : Fin 1) (q : Fin 256) : (iblk m c 2 t (ix3 p o q) : EReal) = A2 m c (ix3 0 (col t q) p) := by
  refine (congrArg (V m c (Pipeline.arrRef spec0 2)) (a₂ := ix3 p o (col t q)) (funext fun a => Fin.ext ?_)).trans (arr2 m c p o (col t q))
  obtain ⟨-, -, ⟨e0, e1, e2⟩, -⟩ := idx t
  match a with
  | ⟨0, _⟩ => show win0_2.index t (0 : Fin 3) * 322 + 1 * p.val = p.val; omega
  | ⟨1, _⟩ => show win0_2.index t (1 : Fin 3) * 1 + 1 * o.val = o.val; omega
  | ⟨2, _⟩ => show win0_2.index t (2 : Fin 3) * 256 + 1 * q.val = 256 * t.val + q.val; omega

theorem arr3 (p : Fin 322) (o : Fin 1) (q : Fin 1024) : (V m c (Pipeline.arrRef spec0 3) (ix3 p o q) : EReal) = A3 m c (ix3 0 q p) := by
  unfold V
  after_reads_at

theorem iblk3 (t : Fin cfg0.N) (p : Fin 322) (o : Fin 1) (q : Fin 256) : (iblk m c 3 t (ix3 p o q) : EReal) = A3 m c (ix3 0 (col t q) p) := by
  refine (congrArg (V m c (Pipeline.arrRef spec0 3)) (a₂ := ix3 p o (col t q)) (funext fun a => Fin.ext ?_)).trans (arr3 m c p o (col t q))
  obtain ⟨-, -, -, ⟨e0, e1, e2⟩, -⟩ := idx t
  match a with
  | ⟨0, _⟩ => show win0_3.index t (0 : Fin 3) * 322 + 1 * p.val = p.val; omega
  | ⟨1, _⟩ => show win0_3.index t (1 : Fin 3) * 1 + 1 * o.val = o.val; omega
  | ⟨2, _⟩ => show win0_3.index t (2 : Fin 3) * 256 + 1 * q.val = 256 * t.val + q.val; omega

/-! ## A point's outputs -/

section
variable (x0 : Vec Ideal S8x322x256 .bf16) (x1 x2 x3 : Vec Ideal S322x1x256 .f32) (p : Fin 322) (q : Fin 256)

theorem grad_at : (k0_pay8 (F := Ideal) x0 x1 x2 x3 (ix2 p q) : EReal) = ∑ k, x0 (ix3 k p q) := by
  unfold k0_pay8
  unfold_payloads
  pointwise
  rw [Fin.sum_univ_eight]

theorem out4_at : (out0_4 x0 x1 x2 x3 (ix3 p 0 q) : EReal) = ∑ k, x0 (ix3 k p q) := by
  unfold out0_4
  rw [View.canon_unit_zero hz, ← grad_at x0 x1 x2 x3 p q]
  generalize k0_pay8 x0 x1 x2 x3 = g
  unfold_payloads
  pointwise

theorem out5_at : (out0_5 x0 x1 x2 x3 (ix3 p 0 q) : EReal) = delta (∑ k, x0 (ix3 k p q)) (x1 (ix3 p 0 q)) (x2 (ix3 p 0 q)) (x3 (ix3 p 0 q)) := by
  unfold out0_5
  rw [View.canon_unit_zero hz, ← grad_at x0 x1 x2 x3 p q]
  simp only [View.ld_unit_zero (S := S322x1x256) hz]
  generalize k0_pay8 x0 x1 x2 x3 = g
  unfold_payloads
  pointwise
  rfl

theorem out6_at : (out0_6 x0 x1 x2 x3 (ix3 p 0 q) : EReal) = newM (∑ k, x0 (ix3 k p q)) (x2 (ix3 p 0 q)) := by
  unfold out0_6
  rw [View.canon_unit_zero hz, ← grad_at x0 x1 x2 x3 p q]
  simp only [View.ld_unit_zero (S := S322x1x256) hz]
  generalize k0_pay8 x0 x1 x2 x3 = g
  unfold_payloads
  pointwise
  rfl

theorem out7_at : (out0_7 x0 x1 x2 x3 (ix3 p 0 q) : EReal) = newV (∑ k, x0 (ix3 k p q)) (x3 (ix3 p 0 q)) := by
  unfold out0_7
  rw [View.canon_unit_zero hz, ← grad_at x0 x1 x2 x3 p q]
  simp only [View.ld_unit_zero (S := S322x1x256) hz]
  generalize k0_pay8 x0 x1 x2 x3 = g
  unfold_payloads
  pointwise
  rfl

end

/-! ## The results -/

abbrev gA (p : Fin 322) (q : Fin 1024) : EReal := ∑ k, A0 m c (ix3 k p q)
def pt (q : Fin 1024) : Fin cfg0.N := ⟨q.val / 256, lt_of_lt_of_eq (show q.val / 256 < 4 by omega) N_0.symm⟩
def loc (q : Fin 1024) : Fin 256 := ⟨q.val % 256, by omega⟩
theorem col_pt (q : Fin 1024) : col (pt q) (loc q) = q := Fin.ext (show 256 * (q.val / 256) + q.val % 256 = q.val by omega)

theorem cut4 (t : Fin cfg0.N) (X : Vec Ideal S322x1x256 .f32) (p : Fin 322) (o : Fin 1) (q : Fin 256) :
    (_root_.cast (congrArg (Elt Ideal) ((cfg0.win 4).blk t).view.elt_eq.symm) ((cfg0.win 4).cut (grid0.coords t) X (ix3 p o q)) : EReal) = X (ix3 p o q) := rfl

theorem res4 (p : Fin 322) (q : Fin 1024) : ((dats m 0 c).arrAt 4 cfg0.N (ix3 p 0 q) : EReal) = gA m c p q := by
  have e := (dats m 0 c).arrAt_emb_eq_flushed 4 Value.disjoint4 (pt q) (flush0_4 _) (ix3 p 0 (loc q))
  have hi : ((cfg0.win 4).blk (pt q)).view.emb (ix3 p 0 (loc q)) = ix3 p 0 q := by
    obtain ⟨-, -, -, -, ⟨e0, e1, e2⟩, -⟩ := idx (pt q)
    refine funext fun a => Fin.ext ?_
    match a with
    | ⟨0, _⟩ => show win0_4.index (pt q) (0 : Fin 3) * 322 + 1 * p.val = p.val; rw [e0]; omega
    | ⟨1, _⟩ => show win0_4.index (pt q) (1 : Fin 3) * 1 + 1 * 0 = 0; rw [e1]
    | ⟨2, _⟩ => show win0_4.index (pt q) (2 : Fin 3) * 256 + 1 * (q.val % 256) = q.val; rw [e2]; dsimp only [pt]; omega
  rw [hi, Value.flushed4] at e
  refine e.trans ((cut4 (pt q) _ p 0 (loc q)).trans ((out4_at (iblk m c 0 (pt q)) (iblk m c 1 (pt q)) (iblk m c 2 (pt q)) (iblk m c 3 (pt q)) p (loc q)).trans ?_))
  simp only [iblk0, iblk1, iblk2, iblk3, col_pt]

theorem cut5 (t : Fin cfg0.N) (X : Vec Ideal S322x1x256 .f32) (p : Fin 322) (o : Fin 1) (q : Fin 256) :
    (_root_.cast (congrArg (Elt Ideal) ((cfg0.win 5).blk t).view.elt_eq.symm) ((cfg0.win 5).cut (grid0.coords t) X (ix3 p o q)) : EReal) = X (ix3 p o q) := rfl

theorem res5 (p : Fin 322) (q : Fin 1024) : ((dats m 0 c).arrAt 5 cfg0.N (ix3 p 0 q) : EReal) = delta (gA m c p q) (A1 m c (ix3 0 q p)) (A2 m c (ix3 0 q p)) (A3 m c (ix3 0 q p)) := by
  have e := (dats m 0 c).arrAt_emb_eq_flushed 5 Value.disjoint5 (pt q) (flush0_5 _) (ix3 p 0 (loc q))
  have hi : ((cfg0.win 5).blk (pt q)).view.emb (ix3 p 0 (loc q)) = ix3 p 0 q := by
    obtain ⟨-, -, -, -, -, ⟨e0, e1, e2⟩, -⟩ := idx (pt q)
    refine funext fun a => Fin.ext ?_
    match a with
    | ⟨0, _⟩ => show win0_5.index (pt q) (0 : Fin 3) * 322 + 1 * p.val = p.val; rw [e0]; omega
    | ⟨1, _⟩ => show win0_5.index (pt q) (1 : Fin 3) * 1 + 1 * 0 = 0; rw [e1]
    | ⟨2, _⟩ => show win0_5.index (pt q) (2 : Fin 3) * 256 + 1 * (q.val % 256) = q.val; rw [e2]; dsimp only [pt]; omega
  rw [hi, Value.flushed5] at e
  refine e.trans ((cut5 (pt q) _ p 0 (loc q)).trans ((out5_at (iblk m c 0 (pt q)) (iblk m c 1 (pt q)) (iblk m c 2 (pt q)) (iblk m c 3 (pt q)) p (loc q)).trans ?_))
  simp only [iblk0, iblk1, iblk2, iblk3, col_pt]

theorem cut6 (t : Fin cfg0.N) (X : Vec Ideal S322x1x256 .f32) (p : Fin 322) (o : Fin 1) (q : Fin 256) :
    (_root_.cast (congrArg (Elt Ideal) ((cfg0.win 6).blk t).view.elt_eq.symm) ((cfg0.win 6).cut (grid0.coords t) X (ix3 p o q)) : EReal) = X (ix3 p o q) := rfl

theorem res6 (p : Fin 322) (q : Fin 1024) : ((dats m 0 c).arrAt 6 cfg0.N (ix3 p 0 q) : EReal) = newM (gA m c p q) (A2 m c (ix3 0 q p)) := by
  have e := (dats m 0 c).arrAt_emb_eq_flushed 6 Value.disjoint6 (pt q) (flush0_6 _) (ix3 p 0 (loc q))
  have hi : ((cfg0.win 6).blk (pt q)).view.emb (ix3 p 0 (loc q)) = ix3 p 0 q := by
    obtain ⟨-, -, -, -, -, -, ⟨e0, e1, e2⟩, -⟩ := idx (pt q)
    refine funext fun a => Fin.ext ?_
    match a with
    | ⟨0, _⟩ => show win0_6.index (pt q) (0 : Fin 3) * 322 + 1 * p.val = p.val; rw [e0]; omega
    | ⟨1, _⟩ => show win0_6.index (pt q) (1 : Fin 3) * 1 + 1 * 0 = 0; rw [e1]
    | ⟨2, _⟩ => show win0_6.index (pt q) (2 : Fin 3) * 256 + 1 * (q.val % 256) = q.val; rw [e2]; dsimp only [pt]; omega
  rw [hi, Value.flushed6] at e
  refine e.trans ((cut6 (pt q) _ p 0 (loc q)).trans ((out6_at (iblk m c 0 (pt q)) (iblk m c 1 (pt q)) (iblk m c 2 (pt q)) (iblk m c 3 (pt q)) p (loc q)).trans ?_))
  simp only [iblk0, iblk1, iblk2, iblk3, col_pt]

theorem cut7 (t : Fin cfg0.N) (X : Vec Ideal S322x1x256 .f32) (p : Fin 322) (o : Fin 1) (q : Fin 256) :
    (_root_.cast (congrArg (Elt Ideal) ((cfg0.win 7).blk t).view.elt_eq.symm) ((cfg0.win 7).cut (grid0.coords t) X (ix3 p o q)) : EReal) = X (ix3 p o q) := rfl

theorem res7 (p : Fin 322) (q : Fin 1024) : ((dats m 0 c).arrAt 7 cfg0.N (ix3 p 0 q) : EReal) = newV (gA m c p q) (A3 m c (ix3 0 q p)) := by
  have e := (dats m 0 c).arrAt_emb_eq_flushed 7 Value.disjoint7 (pt q) (flush0_7 _) (ix3 p 0 (loc q))
  have hi : ((cfg0.win 7).blk (pt q)).view.emb (ix3 p 0 (loc q)) = ix3 p 0 q := by
    obtain ⟨-, -, -, -, -, -, -, e0, e1, e2⟩ := idx (pt q)
    refine funext fun a => Fin.ext ?_
    match a with
    | ⟨0, _⟩ => show win0_7.index (pt q) (0 : Fin 3) * 322 + 1 * p.val = p.val; rw [e0]; omega
    | ⟨1, _⟩ => show win0_7.index (pt q) (1 : Fin 3) * 1 + 1 * 0 = 0; rw [e1]
    | ⟨2, _⟩ => show win0_7.index (pt q) (2 : Fin 3) * 256 + 1 * (q.val % 256) = q.val; rw [e2]; dsimp only [pt]; omega
  rw [hi, Value.flushed7] at e
  refine e.trans ((cut7 (pt q) _ p 0 (loc q)).trans ((out7_at (iblk m c 0 (pt q)) (iblk m c 1 (pt q)) (iblk m c 2 (pt q)) (iblk m c 3 (pt q)) p (loc q)).trans ?_))
  simp only [iblk0, iblk1, iblk2, iblk3, col_pt]

theorem ref4 : Reference11Ideal.Read.val_main_v28 (F := Ideal) (A0 m c) = (dats m 0 c).arrAt 4 cfg0.N := by
  funext i
  obtain ⟨p, o, q, rfl⟩ : ∃ p o q, i = ix3 p o q := ⟨_, _, _, ValueIdx.eq_ix3 i⟩
  obtain rfl : o = 0 := Subsingleton.elim _ _
  refine Eq.trans ?_ (res4 m c p q).symm
  unfold val_main_v28 val_main_v3 val_main_v2 val_main_v1 val_main_v0 val_main_cst
  pointwise

theorem ref5 : Reference11Ideal.Read.val_main_v29 (F := Ideal) (A0 m c) (A1 m c) (A2 m c) (A3 m c) = (dats m 0 c).arrAt 5 cfg0.N := by
  funext i
  obtain ⟨p, o, q, rfl⟩ : ∃ p o q, i = ix3 p o q := ⟨_, _, _, ValueIdx.eq_ix3 i⟩
  obtain rfl : o = 0 := Subsingleton.elim _ _
  refine Eq.trans ?_ (res5 m c p q).symm
  unfold val_main_v29 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2 val_main_cst_3 val_main_cst_4 val_main_cst_5 val_main_cst_6 val_main_cst_7 val_main_cst_8
  pointwise
  rfl

theorem ref6 : Reference11Ideal.Read.val_main_v30 (F := Ideal) (A0 m c) (A2 m c) = (dats m 0 c).arrAt 6 cfg0.N := by
  funext i
  obtain ⟨p, o, q, rfl⟩ : ∃ p o q, i = ix3 p o q := ⟨_, _, _, ValueIdx.eq_ix3 i⟩
  obtain rfl : o = 0 := Subsingleton.elim _ _
  refine Eq.trans ?_ (res6 m c p q).symm
  unfold val_main_v30 val_main_v8 val_main_v7 val_main_v6 val_main_v5 val_main_v4 val_main_v3 val_main_v2 val_main_v1 val_main_v0 val_main_cst val_main_cst_0 val_main_cst_1
  pointwise
  rfl

theorem ref7 : Reference11Ideal.Read.val_main_v31 (F := Ideal) (A0 m c) (A3 m c) = (dats m 0 c).arrAt 7 cfg0.N := by
  funext i
  obtain ⟨p, o, q, rfl⟩ : ∃ p o q, i = ix3 p o q := ⟨_, _, _, ValueIdx.eq_ix3 i⟩
  obtain rfl : o = 0 := Subsingleton.elim _ _
  refine Eq.trans ?_ (res7 m c p q).symm
  unfold val_main_v31 val_main_v14 val_main_v13 val_main_v12 val_main_v11 val_main_v10 val_main_v9 val_main_v3 val_main_v2 val_main_v1 val_main_v0 val_main_cst val_main_cst_2 val_main_cst_3
  pointwise
  rfl

theorem algebraic : Cert.algebraic_Kernel11Ideal_Reference11Ideal := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N, ?_, ?_⟩
  · refine (θ_run _ _ _).mono ?_ (Value.run_blocks m g)
    exact fun r h c => h c
  · refine (θ_run _ _ _).mono ?_ (Reference11Ideal.Value.run m' g')
    intro r h c
    obtain ⟨e0, e1, e2, e3, hk⟩ := h c
    obtain ⟨a0, a1, a2, a3⟩ := hargs c
    refine ⟨e0.trans ?_, e1.trans ?_, e2.trans ?_, e3.trans ?_, hk⟩
    · rw [a0]; exact (Reference11Ideal.Read.val_main_v28_eq ..).trans (ref4 m c)
    · rw [a0, a1, a2, a3]; exact (Reference11Ideal.Read.val_main_v29_eq ..).trans (ref5 m c)
    · rw [a0, a2]; exact (Reference11Ideal.Read.val_main_v30_eq ..).trans (ref6 m c)
    · rw [a0, a3]; exact (Reference11Ideal.Read.val_main_v31_eq ..).trans (ref7 m c)

end Cert.ClaimU11
-- ==== Proof.ClaimU12.lean ====
module

public import proofs.«01_k».proof.Proof.Gen.Kernel12Ideal.Value
public import proofs.«01_k».proof.Proof.Gen.Reference12Ideal.Read
public import proofs.«01_k».proof.Defs
public import proofs.«01_k».proof.Proof.Adam
public import Idealize.ShloMosaic.Lib.StableHlo.ReadAt

/-! The update of `w_out`: what the kernel leaves, and what the reference computes. -/

@[expose] public section
noncomputable section
namespace Cert.ClaimU12
open Cert Cert.Reference12Ideal.Read Cert.Kernel12Ideal Cert.Kernel12Ideal.Gen Idealize.ShloMosaic Idealize.ShloMosaic.TcCoe Idealize.SL.Sem Cert.Adam

variable (m : (ℓ : Loc nD τ sig) → Buf (Elt Ideal) ℓ) (c : Dev nD)

theorem hz : (![0, 0] : Fin 2 → Nat) = fun _ => 0 := by decide

abbrev A0 : S8x128x1024.Idx → EReal := m ((c.tc : Thread nD τ).loc main_arg0)
abbrev A1 : S128x1024.Idx → EReal := m ((c.tc : Thread nD τ).loc main_arg1)
abbrev A2 : S128x1024.Idx → EReal := m ((c.tc : Thread nD τ).loc main_arg2)
abbrev A3 : S128x1024.Idx → EReal := m ((c.tc : Thread nD τ).loc main_arg3)

/-! ## The blocks -/

theorem ltN (t : Fin cfg0.N) : t.val < 1 := lt_of_lt_of_eq t.isLt N_0
def row (t : Fin cfg0.N) (p : Fin 128) : Fin 128 := ⟨128 * t.val + p.val, by have := ltN t; omega⟩

theorem idx (t : Fin cfg0.N) : (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)) t

theorem iblk0 (t : Fin cfg0.N) (k : Fin 8) (p : Fin 128) (q : Fin 1024) : (iblk m c 0 t (ix3 k p q) : EReal) = A0 m c (ix3 k (row t p) q) := by
  refine (congrArg (V m c (Pipeline.arrRef spec0 0)) (a₂ := ix3 k (row t p) q) (funext fun a => Fin.ext ?_)).trans (by unfold V; after_reads_at)
  obtain ⟨⟨e0, e1, e2⟩, -⟩ := idx t
  match a with
  | ⟨0, _⟩ => show win0_0.index t (0 : Fin 3) * 8 + 1 * k.val = k.val; omega
  | ⟨1, _⟩ => show win0_0.index t (1 : Fin 3) * 128 + 1 * p.val = 128 * t.val + p.val; omega
  | ⟨2, _⟩ => show win0_0.index t (2 : Fin 3) * 1024 + 1 * q.val = q.val; omega

theorem iblk1 (t : Fin cfg0.N) (p : Fin 128) (q : Fin 1024) : (iblk m c 1 t (ix2 p q) : EReal) = A1 m c (ix2 (row t p) q) := by
  refine (congrArg (V m c (Pipeline.arrRef spec0 1)) (a₂ := ix2 (row t p) q) (funext fun a => Fin.ext ?_)).trans (by unfold V; after_reads_at)
  obtain ⟨-, ⟨e0, e1⟩, -⟩ := idx t
  match a with
  | ⟨0, _⟩ => show win0_1.index t (0 : Fin 2) * 128 + 1 * p.val = 128 * t.val + p.val; omega
  | ⟨1, _⟩ => show win0_1.index t (1 : Fin 2) * 1024 + 1 * q.val = q.val; omega

theorem iblk2 (t : Fin cfg0.N) (p : Fin 128) (q : Fin 1024) : (iblk m c 2 t (ix2 p q) : EReal) = A2 m c (ix2 (row t p) q) := by
  refine (congrArg (V m c (Pipeline.arrRef spec0 2)) (a₂ := ix2 (row t p) q) (funext fun a => Fin.ext ?_)).trans (by unfold V; after_reads_at)
  obtain ⟨-, -, ⟨e0, e1⟩, -⟩ := idx t
  match a with
  | ⟨0, _⟩ => show win0_2.index t (0 : Fin 2) * 128 + 1 * p.val = 128 * t.val + p.val; omega
  | ⟨1, _⟩ => show win0_2.index t (1 : Fin 2) * 1024 + 1 * q.val = q.val; omega

theorem iblk3 (t : Fin cfg0.N) (p : Fin 128) (q : Fin 1024) : (iblk m c 3 t (ix2 p q) : EReal) = A3 m c (ix2 (row t p) q) := by
  refine (congrArg (V m c (Pipeline.arrRef spec0 3)) (a₂ := ix2 (row t p) q) (funext fun a => Fin.ext ?_)).trans (by unfold V; after_reads_at)
  obtain ⟨-, -, -, ⟨e0, e1⟩, -⟩ := idx t
  match a with
  | ⟨0, _⟩ => show win0_3.index t (0 : Fin 2) * 128 + 1 * p.val = 128 * t.val + p.val; omega
  | ⟨1, _⟩ => show win0_3.index t (1 : Fin 2) * 1024 + 1 * q.val = q.val; omega

/-! ## A point's outputs -/

section
variable (x0 : Vec Ideal S8x128x1024 .bf16) (x1 x2 x3 : Vec Ideal S128x1024 .f32) (p : Fin 128) (q : Fin 1024)

theorem grad_at : (k0_pay5 (F := Ideal) x0 x1 x2 x3 (ix2 p q) : EReal) = ∑ k, x0 (ix3 k p q) := by
  unfold k0_pay5
  unfold_payloads
  pointwise
  rw [Fin.sum_univ_eight]

theorem out4_at : (out0_4 x0 x1 x2 x3 (ix2 p q) : EReal) = ∑ k, x0 (ix3 k p q) := by
  unfold out0_4
  rw [View.canon_unit_zero hz]
  exact grad_at x0 x1 x2 x3 p q

theorem out5_at : (out0_5 x0 x1 x2 x3 (ix2 p q) : EReal) = delta (∑ k, x0 (ix3 k p q)) (x1 (ix2 p q)) (x2 (ix2 p q)) (x3 (ix2 p q)) := by
  unfold out0_5
  rw [View.canon_unit_zero hz, ← grad_at x0 x1 x2 x3 p q]
  simp only [View.ld_unit_zero (S := S128x1024) hz]
  rfl

theorem out6_at : (out0_6 x0 x1 x2 x3 (ix2 p q) : EReal) = newM (∑ k, x0 (ix3 k p q)) (x2 (ix2 p q)) := by
  unfold out0_6
  rw [View.canon_unit_zero hz, ← grad_at x0 x1 x2 x3 p q]
  simp only [View.ld_unit_zero (S := S128x1024) hz]
  rfl

theorem out7_at : (out0_7 x0 x1 x2 x3 (ix2 p q) : EReal) = newV (∑ k, x0 (ix3 k p q)) (x3 (ix2 p q)) := by
  unfold out0_7
  rw [View.canon_unit_zero hz, ← grad_at x0 x1 x2 x3 p q]
  simp only [View.ld_unit_zero (S := S128x1024) hz]
  rfl
end

/-! ## The results -/

abbrev gA (r : Fin 128) (q : Fin 1024) : EReal := ∑ k, A0 m c (ix3 k r q)
def pt (r : Fin 128) : Fin cfg0.N := ⟨r.val / 128, lt_of_lt_of_eq (show r.val / 128 < 1 by omega) N_0.symm⟩
def loc (r : Fin 128) : Fin 128 := ⟨r.val % 128, by omega⟩
theorem row_pt (r : Fin 128) : row (pt r) (loc r) = r := Fin.ext (show 128 * (r.val / 128) + r.val % 128 = r.val by omega)

theorem cut4 (t : Fin cfg0.N) (X : Vec Ideal S128x1024 .f32) (p : Fin 128) (q : Fin 1024) :
    (_root_.cast (congrArg (Elt Ideal) ((cfg0.win 4).blk t).view.elt_eq.symm) ((cfg0.win 4).cut (grid0.coords t) X (ix2 p q)) : EReal) = X (ix2 p q) := rfl

theorem res4 (r : Fin 128) (q : Fin 1024) : ((dats m 0 c).arrAt 4 cfg0.N (ix2 r q) : EReal) = gA m c r q := by
  have e := (dats m 0 c).arrAt_emb_eq_flushed 4 Value.disjoint4 (pt r) (flush0_4 _) (ix2 (loc r) q)
  have hi : ((cfg0.win 4).blk (pt r)).view.emb (ix2 (loc r) q) = ix2 r q := by
    obtain ⟨-, -, -, -, ⟨e0, e1⟩, -⟩ := idx (pt r)
    refine funext fun a => Fin.ext ?_
    match a with
    | ⟨0, _⟩ => show win0_4.index (pt r) (0 : Fin 2) * 128 + 1 * (r.val % 128) = r.val; rw [e0]; dsimp only [pt]; omega
    | ⟨1, _⟩ => show win0_4.index (pt r) (1 : Fin 2) * 1024 + 1 * q.val = q.val; omega
  rw [hi, Value.flushed4] at e
  refine e.trans ((cut4 (pt r) _ (loc r) q).trans ((out4_at (iblk m c 0 (pt r)) (iblk m c 1 (pt r)) (iblk m c 2 (pt r)) (iblk m c 3 (pt r)) (loc r) q).trans ?_))
  simp only [iblk0, iblk1, iblk2, iblk3, row_pt]

theorem cut5 (t : Fin cfg0.N) (X : Vec Ideal S128x1024 .f32) (p : Fin 128) (q : Fin 1024) :
    (_root_.cast (congrArg (Elt Ideal) ((cfg0.win 5).blk t).view.elt_eq.symm) ((cfg0.win 5).cut (grid0.coords t) X (ix2 p q)) : EReal) = X (ix2 p q) := rfl

theorem res5 (r : Fin 128) (q : Fin 1024) : ((dats m 0 c).arrAt 5 cfg0.N (ix2 r q) : EReal) = delta (gA m c r q) (A1 m c (ix2 r q)) (A2 m c (ix2 r q)) (A3 m c (ix2 r q)) := by
  have e := (dats m 0 c).arrAt_emb_eq_flushed 5 Value.disjoint5 (pt r) (flush0_5 _) (ix2 (loc r) q)
  have hi : ((cfg0.win 5).blk (pt r)).view.emb (ix2 (loc r) q) = ix2 r q := by
    obtain ⟨-, -, -, -, -, ⟨e0, e1⟩, -⟩ := idx (pt r)
    refine funext fun a => Fin.ext ?_
    match a with
    | ⟨0, _⟩ => show win0_5.index (pt r) (0 : Fin 2) * 128 + 1 * (r.val % 128) = r.val; rw [e0]; dsimp only [pt]; omega
    | ⟨1, _⟩ => show win0_5.index (pt r) (1 : Fin 2) * 1024 + 1 * q.val = q.val; omega
  rw [hi, Value.flushed5] at e
  refine e.trans ((cut5 (pt r) _ (loc r) q).trans ((out5_at (iblk m c 0 (pt r)) (iblk m c 1 (pt r)) (iblk m c 2 (pt r)) (iblk m c 3 (pt r)) (loc r) q).trans ?_))
  simp only [iblk0, iblk1, iblk2, iblk3, row_pt]

theorem cut6 (t : Fin cfg0.N) (X : Vec Ideal S128x1024 .f32) (p : Fin 128) (q : Fin 1024) :
    (_root_.cast (congrArg (Elt Ideal) ((cfg0.win 6).blk t).view.elt_eq.symm) ((cfg0.win 6).cut (grid0.coords t) X (ix2 p q)) : EReal) = X (ix2 p q) := rfl

theorem res6 (r : Fin 128) (q : Fin 1024) : ((dats m 0 c).arrAt 6 cfg0.N (ix2 r q) : EReal) = newM (gA m c r q) (A2 m c (ix2 r q)) := by
  have e := (dats m 0 c).arrAt_emb_eq_flushed 6 Value.disjoint6 (pt r) (flush0_6 _) (ix2 (loc r) q)
  have hi : ((cfg0.win 6).blk (pt r)).view.emb (ix2 (loc r) q) = ix2 r q := by
    obtain ⟨-, -, -, -, -, -, ⟨e0, e1⟩, -⟩ := idx (pt r)
    refine funext fun a => Fin.ext ?_
    match a with
    | ⟨0, _⟩ => show win0_6.index (pt r) (0 : Fin 2) * 128 + 1 * (r.val % 128) = r.val; rw [e0]; dsimp only [pt]; omega
    | ⟨1, _⟩ => show win0_6.index (pt r) (1 : Fin 2) * 1024 + 1 * q.val = q.val; omega
  rw [hi, Value.flushed6] at e
  refine e.trans ((cut6 (pt r) _ (loc r) q).trans ((out6_at (iblk m c 0 (pt r)) (iblk m c 1 (pt r)) (iblk m c 2 (pt r)) (iblk m c 3 (pt r)) (loc r) q).trans ?_))
  simp only [iblk0, iblk1, iblk2, iblk3, row_pt]

theorem cut7 (t : Fin cfg0.N) (X : Vec Ideal S128x1024 .f32) (p : Fin 128) (q : Fin 1024) :
    (_root_.cast (congrArg (Elt Ideal) ((cfg0.win 7).blk t).view.elt_eq.symm) ((cfg0.win 7).cut (grid0.coords t) X (ix2 p q)) : EReal) = X (ix2 p q) := rfl

theorem res7 (r : Fin 128) (q : Fin 1024) : ((dats m 0 c).arrAt 7 cfg0.N (ix2 r q) : EReal) = newV (gA m c r q) (A3 m c (ix2 r q)) := by
  have e := (dats m 0 c).arrAt_emb_eq_flushed 7 Value.disjoint7 (pt r) (flush0_7 _) (ix2 (loc r) q)
  have hi : ((cfg0.win 7).blk (pt r)).view.emb (ix2 (loc r) q) = ix2 r q := by
    obtain ⟨-, -, -, -, -, -, -, e0, e1⟩ := idx (pt r)
    refine funext fun a => Fin.ext ?_
    match a with
    | ⟨0, _⟩ => show win0_7.index (pt r) (0 : Fin 2) * 128 + 1 * (r.val % 128) = r.val; rw [e0]; dsimp only [pt]; omega
    | ⟨1, _⟩ => show win0_7.index (pt r) (1 : Fin 2) * 1024 + 1 * q.val = q.val; omega
  rw [hi, Value.flushed7] at e
  refine e.trans ((cut7 (pt r) _ (loc r) q).trans ((out7_at (iblk m c 0 (pt r)) (iblk m c 1 (pt r)) (iblk m c 2 (pt r)) (iblk m c 3 (pt r)) (loc r) q).trans ?_))
  simp only [iblk0, iblk1, iblk2, iblk3, row_pt]

theorem ref4 : Reference12Ideal.Read.val_main_v1 (F := Ideal) (A0 m c) = (dats m 0 c).arrAt 4 cfg0.N := by
  funext i
  obtain ⟨r, q, rfl⟩ : ∃ r q, i = ix2 r q := ⟨_, _, ValueIdx.eq_ix2 i⟩
  refine Eq.trans ?_ (res4 m c r q).symm
  unfold val_main_v1 val_main_v0 val_main_cst
  pointwise

theorem ref5 : Reference12Ideal.Read.val_main_v25 (F := Ideal) (A0 m c) (A1 m c) (A2 m c) (A3 m c) = (dats m 0 c).arrAt 5 cfg0.N := by
  funext i
  obtain ⟨r, q, rfl⟩ : ∃ r q, i = ix2 r q := ⟨_, _, ValueIdx.eq_ix2 i⟩
  refine Eq.trans ?_ (res5 m c r q).symm
  unfold val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2 val_main_cst_3 val_main_cst_4 val_main_cst_5 val_main_cst_6 val_main_cst_7 val_main_cst_8
  pointwise
  rfl

theorem ref6 : Reference12Ideal.Read.val_main_v6 (F := Ideal) (A0 m c) (A2 m c) = (dats m 0 c).arrAt 6 cfg0.N := by
  funext i
  obtain ⟨r, q, rfl⟩ : ∃ r q, i = ix2 r q := ⟨_, _, ValueIdx.eq_ix2 i⟩
  refine Eq.trans ?_ (res6 m c r q).symm
  unfold val_main_v6 val_main_v5 val_main_v4 val_main_v3 val_main_v2 val_main_v1 val_main_v0 val_main_cst val_main_cst_0 val_main_cst_1
  pointwise
  rfl

theorem ref7 : Reference12Ideal.Read.val_main_v12 (F := Ideal) (A0 m c) (A3 m c) = (dats m 0 c).arrAt 7 cfg0.N := by
  funext i
  obtain ⟨r, q, rfl⟩ : ∃ r q, i = ix2 r q := ⟨_, _, ValueIdx.eq_ix2 i⟩
  refine Eq.trans ?_ (res7 m c r q).symm
  unfold val_main_v12 val_main_v11 val_main_v10 val_main_v9 val_main_v8 val_main_v7 val_main_v1 val_main_v0 val_main_cst val_main_cst_2 val_main_cst_3
  pointwise
  rfl

theorem algebraic : Cert.algebraic_Kernel12Ideal_Reference12Ideal := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N, ?_, ?_⟩
  · refine (θ_run _ _ _).mono ?_ (Value.run_blocks m g)
    exact fun r h c => h c
  · refine (θ_run _ _ _).mono ?_ (Reference12Ideal.Value.run m' g')
    intro r h c
    obtain ⟨e0, e1, e2, e3, hk⟩ := h c
    obtain ⟨a0, a1, a2, a3⟩ := hargs c
    refine ⟨e0.trans ?_, e1.trans ?_, e2.trans ?_, e3.trans ?_, hk⟩
    · rw [a0]; exact (Reference12Ideal.Read.val_main_v1_eq ..).trans (ref4 m c)
    · rw [a0, a1, a2, a3]; exact (Reference12Ideal.Read.val_main_v25_eq ..).trans (ref5 m c)
    · rw [a0, a2]; exact (Reference12Ideal.Read.val_main_v6_eq ..).trans (ref6 m c)
    · rw [a0, a3]; exact (Reference12Ideal.Read.val_main_v12_eq ..).trans (ref7 m c)

end Cert.ClaimU12
-- ==== Proof.StepC13.lean ====
module

public import proofs.«01_k».proof.Proof.Gen.Kernel13Ideal.Value
public import proofs.«01_k».proof.Proof.Gen.Reference13Ideal.Read
public import proofs.«01_k».proof.Defs
public import Idealize.ShloMosaic.Lib.StableHlo.ReadAt
public import Idealize.ShloMosaic.Lib.Pointwise
public import Idealize.ShloMosaic.Lib.Pipeline.ValueKit.Tiles

/-! The convolution's forward at one point: what a trip of the loop stores, and the sum of shifted products it is. -/

@[expose] public section
set_option maxRecDepth 16384
noncomputable section
namespace Cert.StepC13
open Cert Cert.Kernel13Ideal Cert.Kernel13Ideal.Gen Idealize.ShloMosaic Idealize.ShloMosaic.TcCoe Idealize.ShloMosaic.Tactic Idealize.SL.Sem

/-! ## A trip's two payloads over the rows it loads -/

section
variable {F : FTy → Type} [FloatOps F] (W : Vec F S96x512 .f32) (R : ℕ → Vec F S1x512 .f32)

def pre3 : FVec F S64x512 .f32 := k0_pay3 W (R 6) (R 14) (R 22) (R 30) (R 7) (R 15)
def pre6 : FVec F S64x512 .f32 := k0_pay6 W (pre3 W R) (k0_pay4 W) (R 23) (R 0) (R 8) (R 16) (R 24) (R 1) (R 9)
def pre9 : FVec F S64x512 .f32 := k0_pay9 W (k0_pay5 W) (pre6 W R) (k0_pay7 W) (R 17) (R 25) (R 2) (R 10) (R 18) (R 26) (R 3)
def pre11 : FVec F S64x512 .f32 := k0_pay11 W (k0_pay8 W) (pre9 W R) (k0_pay10 W) (R 11) (R 19) (R 27) (R 4) (R 12) (R 20) (R 28)
def conv (cb : Vec F S1x512 .f32) : FVec F S64x512 .f32 := k0_pay14 (pre11 W R) (k0_pay12 W) (k0_pay13 W) (R 5) (R 13) (R 21) (R 29) cb
def act (cb cg cbe : Vec F S1x512 .f32) : FVec F S64x512 .bf16 :=
  k0_pay1 (k0_pay15 (pre11 W R) (k0_pay12 W) (k0_pay13 W) (R 5) (R 13) (R 21) (R 29) cb) cg cbe
end

section
variable (W : Vec Ideal S96x512 .f32) (R : ℕ → Vec Ideal S1x512 .f32) (cb cg cbe : Vec Ideal S1x512 .f32) (p : Fin 64) (q : Fin 512)

/-- The `o`-th shifted product of row `p`. -/
def tap (o : ℕ) : EReal := W (ix2 ⟨(p.val + o + 2) % 96, Nat.mod_lt _ (by decide)⟩ q) * R o (ix2 0 q)

theorem tap_eq (n : ℕ) (h : n < 96) (o : ℕ) (e : n = (p.val + o + 2) % 96) :
    (FloatOps.mulf (F := Ideal) (φ := .f32) (W (ix2 ⟨n, h⟩ q)) (R o (ix2 0 q)) : EReal) = tap W R p q o := by
  subst e
  rfl

/-- The order in which the kernel adds the products, and the order of the index. -/
theorem order (f : ℕ → EReal) :
    f 6 + f 14 + f 22 + f 30 + f 7 + f 15 + f 23 + f 0 + f 8 + f 16 + f 24 + f 1 + f 9 + f 17 + f 25 + f 2 + f 10 + f 18 + f 26 + f 3
      + f 11 + f 19 + f 27 + f 4 + f 12 + f 20 + f 28 + f 5 + f 13 + f 21 + f 29 = ∑ o ∈ Finset.range 31, f o := by
  simp only [Finset.sum_range_succ, Finset.sum_range_zero, zero_add]
  ac_rfl

theorem conv_at : (conv W R cb (ix2 p q) : EReal) = ∑ o ∈ Finset.range 31, tap W R p q o + cb (ix2 0 q) := by
  rw [← order]
  unfold conv pre11 pre9 pre6 pre3
  unfold_payloads
  pointwise
  refine congrArg₂ (fun a b : EReal => a + b) ?_ rfl
  repeat' first
    | exact tap_eq W R p q _ _ _ (by omega)
    | refine congrArg₂ (fun a b : EReal => a + b) ?_ ?_

/-! ## The norm and the activation of a row -/

abbrev width : EReal := Ideal.ofBits FTy.f32 0x44000000#32
abbrev eps : EReal := Ideal.ofBits FTy.f32 0x3727C5AC#32

def sigm (x : EReal) : EReal := Ideal.div 1 (1 + Ideal.exp (-x))
def mean (z : Fin 512 → EReal) : EReal := Ideal.div (∑ k, z k) width
def rstd (z : Fin 512 → EReal) : EReal := Ideal.rsqrt (Ideal.div (∑ k, (z k - mean z) * (z k - mean z)) width + eps)
def ln (z : Fin 512 → EReal) (g b : EReal) (q : Fin 512) : EReal := (z q - mean z) * rstd z * g + b
def silu (x : EReal) : EReal := x * sigm x

theorem act_at : (act W R cb cg cbe (ix2 p q) : EReal) = silu (ln (fun k => conv W R cb (ix2 p k)) (cg (ix2 0 q)) (cbe (ix2 0 q)) q) := by
  have h : act W R cb cg cbe = k0_pay1 (k0_pay15 (pre11 W R) (k0_pay12 W) (k0_pay13 W) (R 5) (R 13) (R 21) (R 29) cb) cg cbe := rfl
  rw [h]
  unfold k0_pay1 k0_pay15
  have h : k0_pay14 (pre11 W R) (k0_pay12 W) (k0_pay13 W) (R 5) (R 13) (R 21) (R 29) cb = conv W R cb := rfl
  rw [h]
  generalize conv W R cb = z
  pointwise
  rw [zero_sub]
  rfl

end

/-! ## The pieces of the loop -/

section
variable {F : FTy → Type} [FloatOps F] (𝒱 : Variants) (c : Dev nD) (bd : Option 𝒱.V) (i : grid0.Coords)
  (arg1 : Memref sig .tc .vmem S704x512 .f32) (harg1 : arg1.IsWhole)
  (arg2 : Memref sig .tc .vmem S704x512 .f32) (harg2 : arg2.IsWhole)
  (arg3 : Memref sig .tc .vmem S32x512 .f32) (harg3 : arg3.IsWhole)
  (arg4 : Memref sig .tc .vmem S32x512 .f32) (harg4 : arg4.IsWhole)
  (arg5 : Memref sig .tc .vmem S32x512 .f32) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S704x512 .f32) (harg9 : arg9.IsWhole)
  (arg10 : Memref sig .tc .vmem S704x512 .bf16) (harg10 : arg10.IsWhole)
  (arg11 : Memref sig .tc .vmem S736x512 .f32) (harg11 : arg11.IsWhole)
  (a0 a1 : BitVec 32) (X5 : BufTy.Contents (Elt F) arg5.view.ty) (X6 : BufTy.Contents (Elt F) arg6.view.ty)
  (X7 : BufTy.Contents (Elt F) arg7.view.ty) (X8 : BufTy.Contents (Elt F) arg8.view.ty) (X11 : BufTy.Contents (Elt F) arg11.view.ty)

theorem inb_row (o : ℕ) : ∀ a, (![o % 32, 0] : Fin 2 → ℕ) a + S1x512.size a ≤ S32x512.size a := fun a => by
  match a with
  | ⟨0, _⟩ => show o % 32 + 1 ≤ 32; omega
  | ⟨1, _⟩ => show 0 + 512 ≤ 512; omega

/-- The `o`-th row of the weights, as a trip loads it. -/
def row (o : ℕ) : Vec F S1x512 .f32 := View.readAt (Elt F) arg5.view (Rect.unit (s := S32x512) ![o % 32, 0] S1x512.size (inb_row o)).toLoadRect X5
/-- A vector, as a trip loads it. -/
def vec {arg : Memref sig .tc .vmem S1x512 .f32} (X : BufTy.Contents (Elt F) arg.view.ty) : Vec F S1x512 .f32 :=
  View.readAt (Elt F) arg.view (Rect.unit (s := S1x512) ![0, 0] S1x512.size inb_S1x512_S1x512_0_0).toLoadRect X
/-- The window of the `k`-th trip. -/
def win (k : Fin k0_t1_loop.trips) : Vec F S96x512 .f32 :=
  View.readAt (Elt F) arg11.view (Rect.unit (s := S736x512) (k0_off1 k) S96x512.size (k0_off1_inb k)).toLoadRect X11
def rect (k : Fin k0_t1_loop.trips) : Rect S704x512 := Rect.unit (s := S704x512) (k0_off2 k) S64x512.size (k0_off2_inb k)

theorem trip_eq (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 a0 a1 X5 X6 X7 X8 X11 k
      = ([⟨rect k, conv (win arg11 X11 k) (row arg5 X5) (vec X6)⟩], [⟨rect k, act (win arg11 X11 k) (row arg5 X5) (vec X6) (vec X7) (vec X8)⟩]) := by
  unfold tripL_k0_t1 trip_k0_t1
  rfl

/-- After any number of trips the pieces are those of trips. -/
theorem pieces (n : ℕ) :
    (∀ pc ∈ (pb_k0_t1 (F := F) 𝒱 c bd i arg1 harg1 arg2 harg2 arg3 harg3 arg4 harg4 arg5 harg5 arg6 harg6 arg7 harg7 arg8 harg8 arg9 harg9 arg10 harg10 arg11 harg11 a0 a1 X5 X6 X7 X8 X11 n).1,
        ∃ k, pc = ⟨rect k, conv (win arg11 X11 k) (row arg5 X5) (vec X6)⟩)
      ∧ ∀ pc ∈ (pb_k0_t1 (F := F) 𝒱 c bd i arg1 harg1 arg2 harg2 arg3 harg3 arg4 harg4 arg5 harg5 arg6 harg6 arg7 harg7 arg8 harg8 arg9 harg9 arg10 harg10 arg11 harg11 a0 a1 X5 X6 X7 X8 X11 n).2,
        ∃ k, pc = ⟨rect k, act (win arg11 X11 k) (row arg5 X5) (vec X6) (vec X7) (vec X8)⟩ := by
  induction n with
  | zero => exact ⟨fun _ h => (List.not_mem_nil h).elim, fun _ h => (List.not_mem_nil h).elim⟩
  | succ n ih =>
    by_cases h : n < k0_t1_loop.trips
    · rw [pb_k0_t1_succ 𝒱 c bd i arg1 harg1 arg2 harg2 arg3 harg3 arg4 harg4 arg5 harg5 arg6 harg6 arg7 harg7 arg8 harg8 arg9 harg9 arg10 harg10 arg11 harg11 a0 a1 X5 X6 X7 X8 X11 ⟨n, h⟩, trip_eq]
      refine ⟨fun pc hp => ?_, fun pc hp => ?_⟩
      · rcases List.mem_append.1 hp with hp | hp
        · exact ⟨_, List.mem_singleton.1 hp⟩
        · exact ih.1 pc hp
      · rcases List.mem_append.1 hp with hp | hp
        · exact ⟨_, List.mem_singleton.1 hp⟩
        · exact ih.2 pc hp
    · rw [pb_k0_t1.eq_2]
      unfold pb_k0_t1Step
      rw [dif_neg h]
      exact ih
end

/-! ## The pieces as tiles of one function -/

/-- The convolution at row `a` over a window `H` of 736 rows: the sum of the 31 shifted products and the bias. -/
def cv (H : S736x512.Idx → EReal) (w : S32x512.Idx → EReal) (b : S1x512.Idx → EReal) (a : ℕ) (q : Fin 512) : EReal :=
  ∑ o ∈ Finset.range 31, H (ix2 ⟨(a + o + 2) % 736, Nat.mod_lt _ (by decide)⟩ q) * w (ix2 ⟨o % 32, Nat.mod_lt _ (by decide)⟩ q) + b (ix2 0 q)

section
variable (i : grid0.Coords) (arg5 : Memref sig .tc .vmem S32x512 .f32) (arg6 arg7 arg8 : Memref sig .tc .vmem S1x512 .f32) (arg11 : Memref sig .tc .vmem S736x512 .f32)
  (X5 : BufTy.Contents (Elt Ideal) arg5.view.ty) (X6 : BufTy.Contents (Elt Ideal) arg6.view.ty)
  (X7 : BufTy.Contents (Elt Ideal) arg7.view.ty) (X8 : BufTy.Contents (Elt Ideal) arg8.view.ty) (X11 : BufTy.Contents (Elt Ideal) arg11.view.ty)

theorem row_at (o : ℕ) (q : Fin 512) : (row arg5 X5 o (ix2 0 q) : EReal) = arg5.view.read (Elt Ideal) X5 (ix2 ⟨o % 32, Nat.mod_lt _ (by decide)⟩ q) := by
  unfold row
  rw [View.readAt_eq_ld]
  refine View.ld_unit_apply_of _ _ _ _ _ _ fun a => ?_
  match a with
  | ⟨0, _⟩ => show o % 32 = o % 32 + 0; omega
  | ⟨1, _⟩ => show q.val = 0 + q.val; omega

theorem vec_at (q : Fin 512) : (vec X6 (ix2 0 q) : EReal) = arg6.view.read (Elt Ideal) X6 (ix2 0 q) := by
  unfold vec
  rw [View.readAt_eq_ld]
  refine View.ld_unit_apply_of _ _ _ _ _ _ fun a => ?_
  match a with
  | ⟨0, _⟩ => rfl
  | ⟨1, _⟩ => show q.val = 0 + q.val; omega

theorem k_lt (k : Fin k0_t1_loop.trips) : k.val < 11 := Nat.lt_of_lt_of_le k.isLt k0_t1_abs.2.1

theorem win_at (k : Fin k0_t1_loop.trips) (r : Fin 96) (q : Fin 512) :
    (win arg11 X11 k (ix2 r q) : EReal) = arg11.view.read (Elt Ideal) X11 (ix2 ⟨(64 * k.val + r.val) % 736, Nat.mod_lt _ (by decide)⟩ q) := by
  have := k_lt k
  unfold win
  rw [View.readAt_eq_ld]
  have e0 : k0_off1 k (0 : Fin 2) = 64 * k.val := congrFun (k0_off1_eq k) 0
  have e1 : k0_off1 k (1 : Fin 2) = 0 := congrFun (k0_off1_eq k) 1
  refine View.ld_unit_apply_of _ _ _ _ _ _ fun a => ?_
  match a with
  | ⟨0, _⟩ => show (64 * k.val + r.val) % 736 = k0_off1 k (0 : Fin 2) + r.val; omega
  | ⟨1, _⟩ => show q.val = k0_off1 k (1 : Fin 2) + q.val; omega

theorem tile8 (k : Fin k0_t1_loop.trips) (p : Fin 64) (q : Fin 512) : (conv (win arg11 X11 k) (row arg5 X5) (vec X6) (ix2 p q) : EReal)
    = cv (arg11.view.read (Elt Ideal) X11) (arg5.view.read (Elt Ideal) X5) (arg6.view.read (Elt Ideal) X6) (64 * k.val + p.val) q := by
  rw [conv_at, vec_at]
  unfold cv
  refine congrArg (· + _) (Finset.sum_congr rfl fun o ho => ?_)
  have ho := Finset.mem_range.1 ho
  unfold tap
  rw [win_at, row_at]
  refine congrArg (fun r => arg11.view.read (Elt Ideal) X11 (ix2 r q) * _) (Fin.ext ?_)
  show (64 * k.val + (p.val + o + 2) % 96) % 736 = (64 * k.val + p.val + o + 2) % 736
  omega

theorem emb_rect (k : Fin k0_t1_loop.trips) (p : Fin 64) (q : Fin 512) :
    (rect k).emb (ix2 p q) = ix2 ⟨64 * k.val + p.val, by have := k_lt k; omega⟩ q := by
  have e0 : k0_off2 k (0 : Fin 2) = 64 * k.val := congrFun (k0_off2_eq k) 0
  have e1 : k0_off2 k (1 : Fin 2) = 0 := congrFun (k0_off2_eq k) 1
  refine funext fun a => Fin.ext ((Rect.idx_unit_val _ _ _ _ a).trans ?_)
  match a with
  | ⟨0, _⟩ => show k0_off2 k (0 : Fin 2) + p.val = 64 * k.val + p.val; omega
  | ⟨1, _⟩ => show k0_off2 k (1 : Fin 2) + q.val = q.val; omega
end

/-! ## What a point leaves -/

section
variable (c : Dev nD) (i : grid0.Coords)
  (arg1 : Memref sig .tc .vmem S704x512 .f32) (harg1 : arg1.IsWhole)
  (arg2 : Memref sig .tc .vmem S704x512 .f32) (harg2 : arg2.IsWhole)
  (arg3 : Memref sig .tc .vmem S32x512 .f32) (harg3 : arg3.IsWhole)
  (arg4 : Memref sig .tc .vmem S32x512 .f32) (harg4 : arg4.IsWhole)
  (arg5 : Memref sig .tc .vmem S32x512 .f32) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S704x512 .f32) (harg9 : arg9.IsWhole)
  (arg10 : Memref sig .tc .vmem S704x512 .bf16) (harg10 : arg10.IsWhole)
  (arg11 : Memref sig .tc .vmem S736x512 .f32) (harg11 : arg11.IsWhole)
  (x0 x1 : Vec Ideal S704x512 .f32) (x2 x3 x4 : Vec Ideal S32x512 .f32) (x5 x6 x7 : Vec Ideal S1x512 .f32)

/-- The window the trips read: the rows before the block, then the block. -/
def hist : S736x512.Idx → EReal :=
  View.canon (Val := Elt Ideal) (s := S736x512) (e := .f32)
    [⟨Rect.unit (s := S736x512) ![32, 0] S704x512.size inb_S736x512_S704x512_32_0, k0_pay17 x0 x1⟩,
     ⟨Rect.unit (s := S736x512) ![0, 0] S32x512.size inb_S736x512_S32x512_0_0, k0_pay16 i x2 x3⟩]

/-- What the point writes to the window before the loop. -/
def filled : BufTy.Contents (Elt Ideal) arg11.view.ty :=
  arg11.view.writes (Elt Ideal) arg11.view.junk
    [⟨Rect.unit (s := S736x512) ![32, 0] S704x512.size inb_S736x512_S704x512_32_0,
        k0_pay17 (View.readAt (Elt Ideal) arg1.view (Rect.unit (s := S704x512) ![0, 0] S704x512.size inb_S704x512_S704x512_0_0).toLoadRect (harg1.unread x0))
          (View.readAt (Elt Ideal) arg2.view (Rect.unit (s := S704x512) ![0, 0] S704x512.size inb_S704x512_S704x512_0_0).toLoadRect (harg2.unread x1))⟩,
     ⟨Rect.unit (s := S736x512) ![0, 0] S32x512.size inb_S736x512_S32x512_0_0,
        k0_pay16 i (View.readAt (Elt Ideal) arg3.view (Rect.unit (s := S32x512) ![0, 0] S32x512.size inb_S32x512_S32x512_0_0).toLoadRect (harg3.unread x2))
          (View.readAt (Elt Ideal) arg4.view (Rect.unit (s := S32x512) ![0, 0] S32x512.size inb_S32x512_S32x512_0_0).toLoadRect (harg4.unread x3))⟩]

theorem hz : (![0, 0] : Fin 2 → Nat) = fun _ => 0 := by decide

theorem read_filled : arg11.view.read (Elt Ideal) (filled i arg1 harg1 arg2 harg2 arg3 harg3 arg4 harg4 arg11 x0 x1 x2 x3) = hist i x0 x1 x2 x3 := by
  unfold filled hist
  rw [View.read_writes_junk_eq_canon]
  simp only [View.readAt_eq_ld, harg1.read_unread, harg2.read_unread, harg3.read_unread, harg4.read_unread,
    View.ld_unit_zero (S := S704x512) hz, View.ld_unit_zero (S := S32x512) hz]

abbrev trips (n : ℕ) := pb_k0_t1 (F := Ideal) Variants.none c none i arg1 harg1 arg2 harg2 arg3 harg3 arg4 harg4 arg5 harg5 arg6 harg6 arg7 harg7 arg8 harg8 arg9 harg9 arg10 harg10 arg11 harg11 0#32 1#32
  (harg5.unread x4) (harg6.unread x5) (harg7.unread x6) (harg8.unread x7) (filled i arg1 harg1 arg2 harg2 arg3 harg3 arg4 harg4 arg11 x0 x1 x2 x3) n

theorem run_eq : (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6 x7).1
      = (trips c i arg1 harg1 arg2 harg2 arg3 harg3 arg4 harg4 arg5 harg5 arg6 harg6 arg7 harg7 arg8 harg8 arg9 harg9 arg10 harg10 arg11 harg11 x0 x1 x2 x3 x4 x5 x6 x7 (Scf.trips 0#32 (Scalar.addi 0#32 11#32) 1#32)).1
    ∧ (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6 x7).2.1
      = (trips c i arg1 harg1 arg2 harg2 arg3 harg3 arg4 harg4 arg5 harg5 arg6 harg6 arg7 harg7 arg8 harg8 arg9 harg9 arg10 harg10 arg11 harg11 x0 x1 x2 x3 x4 x5 x6 x7 (Scf.trips 0#32 (Scalar.addi 0#32 11#32) 1#32)).2 := by
  unfold kernelRun0_A
  exact ⟨rfl, rfl⟩

theorem out8_at (a : Fin 704) (q : Fin 512) :
    (out0_A_8 c i arg1 harg1 arg2 harg2 arg3 harg3 arg4 harg4 arg5 harg5 arg6 harg6 arg7 harg7 arg8 harg8 arg9 harg9 arg10 harg10 arg11 harg11 x0 x1 x2 x3 x4 x5 x6 x7 (ix2 a q) : EReal) = cv (hist i x0 x1 x2 x3) x4 x5 a.val q := by
  unfold out0_A_8
  rw [View.read_writes_junk_eq_canon]
  refine (View.canon_apply_of_pieces (fun y : S704x512.Idx => (cv (hist i x0 x1 x2 x3) x4 x5 (y 0).val (y 1) : EReal)) _ ?_ _
    (cover0_A_8 c i arg1 harg1 arg2 harg2 arg3 harg3 arg4 harg4 arg5 harg5 arg6 harg6 arg7 harg7 arg8 harg8 arg9 harg9 arg10 harg10 arg11 harg11 x0 x1 x2 x3 x4 x5 x6 x7 _)).trans rfl
  rw [(run_eq c i arg1 harg1 arg2 harg2 arg3 harg3 arg4 harg4 arg5 harg5 arg6 harg6 arg7 harg7 arg8 harg8 arg9 harg9 arg10 harg10 arg11 harg11 x0 x1 x2 x3 x4 x5 x6 x7).1]
  intro pc hp x
  obtain ⟨k, rfl⟩ := (pieces _ _ _ _ arg1 harg1 arg2 harg2 arg3 harg3 arg4 harg4 arg5 harg5 arg6 harg6 arg7 harg7 arg8 harg8 arg9 harg9 arg10 harg10 arg11 harg11 _ _ _ _ _ _ _ _).1 pc hp
  obtain ⟨p, q, rfl⟩ : ∃ (p : Fin 64) (q : Fin 512), x = ix2 p q := ⟨_, _, ValueIdx.eq_ix2 x⟩
  refine (tile8 arg5 arg6 arg11 _ _ _ k p q).trans ?_
  rw [read_filled, harg5.read_unread, harg6.read_unread, emb_rect]
  rfl

theorem out9_at (a : Fin 704) (q : Fin 512) :
    (out0_A_9 c i arg1 harg1 arg2 harg2 arg3 harg3 arg4 harg4 arg5 harg5 arg6 harg6 arg7 harg7 arg8 harg8 arg9 harg9 arg10 harg10 arg11 harg11 x0 x1 x2 x3 x4 x5 x6 x7 (ix2 a q) : EReal)
      = silu (ln (cv (hist i x0 x1 x2 x3) x4 x5 a.val) (x6 (ix2 0 q)) (x7 (ix2 0 q)) q) := by
  unfold out0_A_9
  rw [View.read_writes_junk_eq_canon]
  refine (View.canon_apply_of_pieces (fun y : S704x512.Idx =>
    (silu (ln (cv (hist i x0 x1 x2 x3) x4 x5 (y 0).val) (x6 (ix2 0 (y 1))) (x7 (ix2 0 (y 1))) (y 1)) : EReal)) _ ?_ _
    (cover0_A_9 c i arg1 harg1 arg2 harg2 arg3 harg3 arg4 harg4 arg5 harg5 arg6 harg6 arg7 harg7 arg8 harg8 arg9 harg9 arg10 harg10 arg11 harg11 x0 x1 x2 x3 x4 x5 x6 x7 _)).trans rfl
  rw [(run_eq c i arg1 harg1 arg2 harg2 arg3 harg3 arg4 harg4 arg5 harg5 arg6 harg6 arg7 harg7 arg8 harg8 arg9 harg9 arg10 harg10 arg11 harg11 x0 x1 x2 x3 x4 x5 x6 x7).2]
  intro pc hp x
  obtain ⟨k, rfl⟩ := (pieces _ _ _ _ arg1 harg1 arg2 harg2 arg3 harg3 arg4 harg4 arg5 harg5 arg6 harg6 arg7 harg7 arg8 harg8 arg9 harg9 arg10 harg10 arg11 harg11 _ _ _ _ _ _ _ _).2 pc hp
  obtain ⟨p, q, rfl⟩ : ∃ (p : Fin 64) (q : Fin 512), x = ix2 p q := ⟨_, _, ValueIdx.eq_ix2 x⟩
  refine (act_at _ _ _ _ _ p q).trans ?_
  simp only [tile8, vec_at]
  rw [read_filled, harg5.read_unread, harg6.read_unread, harg7.read_unread, harg8.read_unread, emb_rect]
  rfl
end

/-! ## The window -/

theorem pay17_at (x0 x1 : Vec Ideal S704x512 .f32) (p : Fin 704) (q : Fin 512) :
    (k0_pay17 (F := Ideal) x0 x1 (ix2 p q) : EReal) = x0 (ix2 p q) * sigm (x1 (ix2 p q)) := by
  unfold_payloads
  pointwise
  rw [zero_sub]
  rfl

/-- A sequence has three blocks; the first of them has no rows before it. -/
theorem first_eq : ∀ n : Fin 6, Scalar.cmpi .eq (Scalar.remsi (Scalar.muli (BitVec.ofNat 32 n.val) 704#32) 2112#32) 0#32
    = if n.val % 3 = 0 then 1#1 else 0#1 := by decide +kernel

theorem pay16_at (i : grid0.Coords) (x2 x3 : Vec Ideal S32x512 .f32) (p : Fin 32) (q : Fin 512) :
    (k0_pay16 (F := Ideal) i x2 x3 (ix2 p q) : EReal) = if (i 0).val % 3 = 0 then 0 else x2 (ix2 p q) * sigm (x3 (ix2 p q)) := by
  unfold_payloads
  pointwise
  have e := first_eq ⟨(i 0).val, (i 0).isLt⟩
  dsimp only at e
  rw [e, zero_sub]
  by_cases h : (i 0).val % 3 = 0
  · rw [if_pos h, if_pos h]
    rfl
  · rw [if_neg h, if_neg h]
    rfl

theorem emb_lo (r : ℕ) (h : r < 32) (q : Fin 512) : (ix2 ⟨r, by omega⟩ q : S736x512.Idx)
    = (Rect.unit (s := S736x512) ![0, 0] S32x512.size inb_S736x512_S32x512_0_0).emb (ix2 ⟨r, h⟩ q) := by
  refine funext fun a => Fin.ext (Eq.trans ?_ (Rect.idx_unit_val _ _ _ _ a).symm)
  match a with
  | ⟨0, _⟩ => exact (Nat.zero_add r).symm
  | ⟨1, _⟩ => exact (Nat.zero_add q.val).symm

theorem emb_hi (r : ℕ) (h : r < 704) (q : Fin 512) : (ix2 ⟨32 + r, by omega⟩ q : S736x512.Idx)
    = (Rect.unit (s := S736x512) ![32, 0] S704x512.size inb_S736x512_S704x512_32_0).emb (ix2 ⟨r, h⟩ q) := by
  refine funext fun a => Fin.ext (Eq.trans ?_ (Rect.idx_unit_val _ _ _ _ a).symm)
  match a with
  | ⟨0, _⟩ => rfl
  | ⟨1, _⟩ => exact (Nat.zero_add q.val).symm

section
variable (i : grid0.Coords) (x0 x1 : Vec Ideal S704x512 .f32) (x2 x3 : Vec Ideal S32x512 .f32)

theorem under (r₁ r₂ : Rect S736x512) (w₁ : r₁.shape.Idx → Elt Ideal .f32) (w₂ : r₂.shape.Idx → Elt Ideal .f32) (x : r₂.shape.Idx) (h : r₂.emb x ∉ r₁.set) :
    View.canon (Val := Elt Ideal) (s := S736x512) (e := .f32) [⟨r₁, w₁⟩, ⟨r₂, w₂⟩] (r₂.emb x) = w₂ x :=
  (View.canon_cons_of_not_mem (Val := Elt Ideal) (s := S736x512) (e := .f32) ⟨r₁, w₁⟩ [⟨r₂, w₂⟩] h).trans (View.canon_cons_emb r₂ w₂ [] x)

theorem not_hi (r : ℕ) (h : r < 32) (q : Fin 512) : (Rect.unit (s := S736x512) ![0, 0] S32x512.size inb_S736x512_S32x512_0_0).emb (ix2 ⟨r, h⟩ q)
    ∉ (Rect.unit (s := S736x512) ![32, 0] S704x512.size inb_S736x512_S704x512_32_0).set := fun hm => by
  rw [← emb_lo] at hm
  have hr : 32 ≤ r := ((Rect.mem_set_unit.1 hm) (0 : Fin 2)).1
  omega

/-- The window's first 32 rows. -/
theorem hist_lo (r : ℕ) (h : r < 32) (q : Fin 512) :
    hist i x0 x1 x2 x3 (ix2 ⟨r, by omega⟩ q) = if (i 0).val % 3 = 0 then 0 else x2 (ix2 ⟨r, h⟩ q) * sigm (x3 (ix2 ⟨r, h⟩ q)) := by
  rw [emb_lo r h q, ← pay16_at]
  unfold hist
  exact under _ _ _ _ _ (not_hi r h q)

/-- The window's other rows. -/
theorem hist_hi (r : ℕ) (h : r < 704) (q : Fin 512) :
    hist i x0 x1 x2 x3 (ix2 ⟨32 + r, by omega⟩ q) = x0 (ix2 ⟨r, h⟩ q) * sigm (x1 (ix2 ⟨r, h⟩ q)) := by
  rw [emb_hi r h q]
  exact (View.canon_cons_emb _ _ _ _).trans (pay17_at x0 x1 ⟨r, h⟩ q)
end
end Cert.StepC13
-- ==== Proof.ClaimC13.lean ====
module

public import proofs.«01_k».proof.Proof.StepC13

/-! The convolution's forward: what the kernel leaves, and what the reference computes. -/

@[expose] public section
noncomputable section
namespace Cert.ClaimC13
open Cert Cert.Reference13Ideal.Read Cert.Kernel13Ideal Cert.Kernel13Ideal.Gen Idealize.ShloMosaic Idealize.ShloMosaic.TcCoe Idealize.SL.Sem Cert.StepC13

/-! ## The reference -/

section
variable (U : S4224x2688.Idx → EReal) (C : S31x512.Idx → EReal) (B G E : S1x512.Idx → EReal)

/-- The gated unit at row `r`. -/
def glu (r : ℕ) (q : Fin 512) : EReal :=
  U (ix2 ⟨r % 4224, Nat.mod_lt _ (by decide)⟩ ⟨q.val, by omega⟩) * sigm (U (ix2 ⟨r % 4224, Nat.mod_lt _ (by decide)⟩ ⟨512 + q.val, by omega⟩))

/-- Row `r` of sequence `s` after 30 rows of zeros. -/
def padded (s : Fin 2) (r : ℕ) (q : Fin 512) : EReal := if r < 30 then 0 else glu U (2112 * s.val + (r - 30)) q

theorem pad_at (s : Fin 2) (r : Fin 2142) (q : Fin 512) : (val_main_v12 (F := Ideal) U (ix3 s r q) : EReal) = padded U s r.val q := by
  unfold val_main_v12 val_main_v11 val_main_v10 val_main_v9 val_main_v8 val_main_v7 val_main_v6 val_main_v5 val_main_v4 val_main_v3 val_main_v2 val_main_v1 val_main_v0 val_main_cst_1 val_main_cst_0 val_main_cst
  pointwise
  unfold padded glu
  split
  · rfl
  · have e : s.val * 2112 + (r.val - 30) = (2112 * s.val + (r.val - 30)) % 4224 := by omega
    simp only [e]
    rfl

def refTap (s : Fin 2) (p : Fin 2112) (q : Fin 512) (o : ℕ) : EReal := padded U s (p.val + o) q * C (ix2 ⟨o % 31, Nat.mod_lt _ (by decide)⟩ q)

theorem refTap_eq (s : Fin 2) (p : Fin 2112) (q : Fin 512) (o : ℕ) (r : Fin 2142) (k : Fin 31) (hr : r.val = p.val + o) (hk : k.val = o % 31) :
    (val_main_v12 (F := Ideal) U (ix3 s r q) * C (ix2 k q) : EReal) = refTap U C s p q o := by
  rw [pad_at, hr]
  unfold refTap
  congr 3
  exact Fin.ext hk

theorem refConv_at (s : Fin 2) (p : Fin 2112) (q : Fin 512) :
    (val_main_v233 (F := Ideal) U C B (ix3 s p q) : EReal) = ∑ o ∈ Finset.range 31, refTap U C s p q o + B (ix2 0 q) := by
  unfold val_main_v233 val_main_v232 val_main_v231 val_main_v230 val_main_v229 val_main_v228 val_main_v227 val_main_v226 val_main_v225 val_main_v224 val_main_v223 val_main_v222 val_main_v221 val_main_v220 val_main_v219 val_main_v218 val_main_v217 val_main_v216 val_main_v215 val_main_v214 val_main_v213 val_main_v212 val_main_v211 val_main_v210 val_main_v209 val_main_v208 val_main_v207 val_main_v206 val_main_v205 val_main_v204 val_main_v203 val_main_v202 val_main_v201 val_main_v200 val_main_v199 val_main_v198 val_main_v197 val_main_v196 val_main_v195 val_main_v194 val_main_v193 val_main_v192 val_main_v191 val_main_v190 val_main_v189 val_main_v188 val_main_v187 val_main_v186 val_main_v185 val_main_v184 val_main_v183 val_main_v182 val_main_v181 val_main_v180 val_main_v179 val_main_v178 val_main_v177 val_main_v176 val_main_v175 val_main_v174 val_main_v173 val_main_v172 val_main_v171 val_main_v170 val_main_v169 val_main_v168 val_main_v167 val_main_v166 val_main_v165 val_main_v164 val_main_v163 val_main_v162 val_main_v161 val_main_v160 val_main_v159 val_main_v158 val_main_v157 val_main_v156 val_main_v155 val_main_v154 val_main_v153 val_main_v152 val_main_v151 val_main_v150 val_main_v149 val_main_v148 val_main_v147 val_main_v146 val_main_v145 val_main_v144 val_main_v143 val_main_v142 val_main_v141 val_main_v140 val_main_v139 val_main_v138 val_main_v137 val_main_v136 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_cst_2 val_main_v18 val_main_v17 val_main_v16 val_main_v15 val_main_v14 val_main_v13
  pointwise
  simp only [Finset.sum_range_succ, Finset.sum_range_zero, zero_add]
  refine congrArg (· + _) ?_
  repeat' first
    | exact refTap_eq U C s p q _ _ _ (Nat.add_comm _ _) rfl
    | exact refTap_eq U C s p q 0 _ _ rfl rfl
    | refine congrArg₂ (fun a b : EReal => a + b) ?_ ?_

theorem refAct_at (s : Fin 2) (p : Fin 2112) (q : Fin 512) :
    (val_main_v258 (F := Ideal) U C B G E (ix3 s p q) : EReal)
      = silu (ln (fun k => val_main_v233 (F := Ideal) U C B (ix3 s p k)) (G (ix2 0 q)) (E (ix2 0 q)) q) := by
  unfold val_main_v258 val_main_call0_v5 val_main_call0_v4 val_main_call0_cst_0 val_main_call0_v3 val_main_call0_v2 val_main_call0_cst val_main_call0_v1 val_main_call0_v0 val_main_v257 val_main_v256 val_main_v255 val_main_v254 val_main_v253 val_main_v252 val_main_v251 val_main_v250 val_main_v249 val_main_v248 val_main_v247 val_main_cst_7 val_main_v246 val_main_v245 val_main_v244 val_main_v243 val_main_cst_6 val_main_v242 val_main_v241 val_main_cst_5 val_main_v240 val_main_v239 val_main_v238 val_main_v237 val_main_v236 val_main_cst_4 val_main_v235 val_main_v234 val_main_cst_3
  pointwise
  rfl
end

/-! ## The blocks -/

variable (m : (ℓ : Loc nD τ sig) → Buf (Elt Ideal) ℓ) (c : Dev nD)

abbrev aU : S4224x2688.Idx → EReal := m ((c.tc : Thread nD τ).loc main_arg0)
abbrev aC : S31x512.Idx → EReal := m ((c.tc : Thread nD τ).loc main_arg1)
abbrev aB : S1x512.Idx → EReal := m ((c.tc : Thread nD τ).loc main_arg2)
abbrev aG : S1x512.Idx → EReal := m ((c.tc : Thread nD τ).loc main_arg3)
abbrev aE : S1x512.Idx → EReal := m ((c.tc : Thread nD τ).loc main_arg4)

theorem ltN (t : Fin cfg0.N) : t.val < 6 := lt_of_lt_of_eq t.isLt N_0

theorem idx (t : Fin cfg0.N) : (win0_0.index t (0 : Fin 2) = t.val ∧ win0_0.index t (1 : Fin 2) = 0)
    ∧ (win0_1.index t (0 : Fin 2) = t.val ∧ win0_1.index t (1 : Fin 2) = 1)
    ∧ (win0_2.index t (0 : Fin 2) = 22 * t.val - 1 ∧ win0_2.index t (1 : Fin 2) = 0)
    ∧ (win0_3.index t (0 : Fin 2) = 22 * t.val - 1 ∧ win0_3.index t (1 : Fin 2) = 1)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (grid0.coords t (0 : Fin 1)).val = t.val :=
  (by decide +kernel : ∀ t : Fin grid0.N, (win0_0.index t (0 : Fin 2) = t.val ∧ win0_0.index t (1 : Fin 2) = 0)
    ∧ (win0_1.index t (0 : Fin 2) = t.val ∧ win0_1.index t (1 : Fin 2) = 1)
    ∧ (win0_2.index t (0 : Fin 2) = 22 * t.val - 1 ∧ win0_2.index t (1 : Fin 2) = 0)
    ∧ (win0_3.index t (0 : Fin 2) = 22 * t.val - 1 ∧ win0_3.index t (1 : Fin 2) = 1)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (grid0.coords t (0 : Fin 1)).val = t.val) t

theorem blk0 (t : Fin cfg0.N) (p : Fin 704) (q : Fin 512) :
    (X0_0 m c t (ix2 p q) : EReal) = aU m c (ix2 ⟨704 * t.val + p.val, by have := ltN t; omega⟩ ⟨q.val, by omega⟩) := by
  unfold X0_0 Pipeline.Window.fill
  rw [dif_pos (moved0_0 t _)]
  refine (congrArg (V m c (Pipeline.arrRef spec0 0)) (a₂ := ix2 ⟨704 * t.val + p.val, by have := ltN t; omega⟩ ⟨q.val, by omega⟩) (funext fun a => Fin.ext ?_)).trans (by unfold V; after_reads_at)
  obtain ⟨⟨e0, e1⟩, -⟩ := idx t
  match a with
  | ⟨0, _⟩ => show win0_0.index t (0 : Fin 2) * 704 + 1 * p.val = 704 * t.val + p.val; omega
  | ⟨1, _⟩ => show win0_0.index t (1 : Fin 2) * 512 + 1 * q.val = q.val; omega

theorem blk1 (t : Fin cfg0.N) (p : Fin 704) (q : Fin 512) :
    (X0_1 m c t (ix2 p q) : EReal) = aU m c (ix2 ⟨704 * t.val + p.val, by have := ltN t; omega⟩ ⟨512 + q.val, by omega⟩) := by
  unfold X0_1 Pipeline.Window.fill
  rw [dif_pos (moved0_1 t _)]
  refine (congrArg (V m c (Pipeline.arrRef spec0 1)) (a₂ := ix2 ⟨704 * t.val + p.val, by have := ltN t; omega⟩ ⟨512 + q.val, by omega⟩) (funext fun a => Fin.ext ?_)).trans (by unfold V; after_reads_at)
  obtain ⟨-, ⟨e0, e1⟩, -⟩ := idx t
  match a with
  | ⟨0, _⟩ => show win0_1.index t (0 : Fin 2) * 704 + 1 * p.val = 704 * t.val + p.val; omega
  | ⟨1, _⟩ => show win0_1.index t (1 : Fin 2) * 512 + 1 * q.val = 512 + q.val; omega

theorem blk2 (t : Fin cfg0.N) (p : Fin 32) (q : Fin 512) :
    (X0_2 m c t (ix2 p q) : EReal) = aU m c (ix2 ⟨32 * (22 * t.val - 1) + p.val, by have := ltN t; omega⟩ ⟨q.val, by omega⟩) := by
  unfold X0_2 Pipeline.Window.fill
  rw [dif_pos (moved0_2 t _)]
  refine (congrArg (V m c (Pipeline.arrRef spec0 2)) (a₂ := ix2 ⟨32 * (22 * t.val - 1) + p.val, by have := ltN t; omega⟩ ⟨q.val, by omega⟩) (funext fun a => Fin.ext ?_)).trans (by unfold V; after_reads_at)
  obtain ⟨-, -, ⟨e0, e1⟩, -⟩ := idx t
  match a with
  | ⟨0, _⟩ => show win0_2.index t (0 : Fin 2) * 32 + 1 * p.val = 32 * (22 * t.val - 1) + p.val; omega
  | ⟨1, _⟩ => show win0_2.index t (1 : Fin 2) * 512 + 1 * q.val = q.val; omega

theorem blk3 (t : Fin cfg0.N) (p : Fin 32) (q : Fin 512) :
    (X0_3 m c t (ix2 p q) : EReal) = aU m c (ix2 ⟨32 * (22 * t.val - 1) + p.val, by have := ltN t; omega⟩ ⟨512 + q.val, by omega⟩) := by
  unfold X0_3 Pipeline.Window.fill
  rw [dif_pos (moved0_3 t _)]
  refine (congrArg (V m c (Pipeline.arrRef spec0 3)) (a₂ := ix2 ⟨32 * (22 * t.val - 1) + p.val, by have := ltN t; omega⟩ ⟨512 + q.val, by omega⟩) (funext fun a => Fin.ext ?_)).trans (by unfold V; after_reads_at)
  obtain ⟨-, -, -, ⟨e0, e1⟩, -⟩ := idx t
  match a with
  | ⟨0, _⟩ => show win0_3.index t (0 : Fin 2) * 32 + 1 * p.val = 32 * (22 * t.val - 1) + p.val; omega
  | ⟨1, _⟩ => show win0_3.index t (1 : Fin 2) * 512 + 1 * q.val = 512 + q.val; omega

theorem arr4 (o : Fin 31) (q : Fin 512) : (V m c (Pipeline.arrRef spec0 4) (ix2 ⟨o.val, by omega⟩ q) : EReal) = aC m c (ix2 o q) := by
  unfold V
  after_reads_at

theorem blk4 (t : Fin cfg0.N) (o : ℕ) (h : o < 31) (q : Fin 512) :
    (iblk m c 4 t (ix2 ⟨o % 32, Nat.mod_lt _ (by decide)⟩ q) : EReal) = aC m c (ix2 ⟨o % 31, Nat.mod_lt _ (by decide)⟩ q) := by
  refine (congrArg (V m c (Pipeline.arrRef spec0 4)) (a₂ := ix2 ⟨o % 31, by omega⟩ q) (funext fun a => Fin.ext ?_)).trans (arr4 m c ⟨o % 31, by omega⟩ q)
  obtain ⟨-, -, -, -, ⟨e0, e1⟩, -⟩ := idx t
  match a with
  | ⟨0, _⟩ => show win0_4.index t (0 : Fin 2) * 32 + 1 * (o % 32) = o % 31; omega
  | ⟨1, _⟩ => show win0_4.index t (1 : Fin 2) * 512 + 1 * q.val = q.val; omega

theorem blk5 (t : Fin cfg0.N) (q : Fin 512) : (iblk m c 5 t (ix2 0 q) : EReal) = aB m c (ix2 0 q) := by
  refine (congrArg (V m c (Pipeline.arrRef spec0 5)) (a₂ := ix2 0 q) (funext fun a => Fin.ext ?_)).trans (by unfold V; after_reads_at)
  obtain ⟨-, -, -, -, -, ⟨e0, e1⟩, -⟩ := idx t
  match a with
  | ⟨0, _⟩ => show win0_5.index t (0 : Fin 2) * 1 + 1 * 0 = 0; omega
  | ⟨1, _⟩ => show win0_5.index t (1 : Fin 2) * 512 + 1 * q.val = q.val; omega

theorem blk6 (t : Fin cfg0.N) (q : Fin 512) : (iblk m c 6 t (ix2 0 q) : EReal) = aG m c (ix2 0 q) := by
  refine (congrArg (V m c (Pipeline.arrRef spec0 6)) (a₂ := ix2 0 q) (funext fun a => Fin.ext ?_)).trans (by unfold V; after_reads_at)
  obtain ⟨-, -, -, -, -, -, ⟨e0, e1⟩, -⟩ := idx t
  match a with
  | ⟨0, _⟩ => show win0_6.index t (0 : Fin 2) * 1 + 1 * 0 = 0; omega
  | ⟨1, _⟩ => show win0_6.index t (1 : Fin 2) * 512 + 1 * q.val = q.val; omega

theorem blk7 (t : Fin cfg0.N) (q : Fin 512) : (iblk m c 7 t (ix2 0 q) : EReal) = aE m c (ix2 0 q) := by
  refine (congrArg (V m c (Pipeline.arrRef spec0 7)) (a₂ := ix2 0 q) (funext fun a => Fin.ext ?_)).trans (by unfold V; after_reads_at)
  obtain ⟨-, -, -, -, -, -, -, ⟨e0, e1⟩, -⟩ := idx t
  match a with
  | ⟨0, _⟩ => show win0_7.index t (0 : Fin 2) * 1 + 1 * 0 = 0; omega
  | ⟨1, _⟩ => show win0_7.index t (1 : Fin 2) * 512 + 1 * q.val = q.val; omega

/-! ## A point's window and its convolution -/

def seq (t : Fin cfg0.N) : Fin 2 := ⟨t.val / 3, by have := ltN t; omega⟩
def pos (t : Fin cfg0.N) (a : Fin 704) : Fin 2112 := ⟨704 * (t.val % 3) + a.val, by omega⟩

theorem glu_eq (U : S4224x2688.Idx → EReal) (r : ℕ) (h : r < 4224) (n : ℕ) (q : Fin 512) (e : n = r) :
    U (ix2 ⟨r, h⟩ ⟨q.val, by omega⟩) * sigm (U (ix2 ⟨r, h⟩ ⟨512 + q.val, by omega⟩)) = glu U n q := by
  subst e
  unfold glu
  simp only [Nat.mod_eq_of_lt h]

theorem hist_eq (t : Fin cfg0.N) (a : Fin 704) (o : ℕ) (h : o < 31) (q : Fin 512) :
    hist (grid0.coords t) (X0_0 m c t) (X0_1 m c t) (X0_2 m c t) (X0_3 m c t) (ix2 ⟨(a.val + o + 2) % 736, Nat.mod_lt _ (by decide)⟩ q)
      = padded (aU m c) (seq t) ((pos t a).val + o) q := by
  have ht := ltN t
  have hp : (pos t a).val = 704 * (t.val % 3) + a.val := rfl
  have hs : (seq t).val = t.val / 3 := rfl
  have hc : (grid0.coords t (0 : Fin 1)).val = t.val := (idx t).2.2.2.2.2.2.2.2.2.2
  rcases Nat.lt_or_ge (a.val + o) 30 with hlt | hge
  · have e : (ix2 ⟨(a.val + o + 2) % 736, Nat.mod_lt _ (by decide)⟩ q : S736x512.Idx) = ix2 ⟨a.val + o + 2, by omega⟩ q :=
      congrArg (fun r => ix2 r q) (Fin.ext (show (a.val + o + 2) % 736 = a.val + o + 2 by omega))
    rw [e, hist_lo _ _ _ _ _ (a.val + o + 2) (by omega), hc]
    unfold padded
    by_cases h3 : t.val % 3 = 0
    · rw [if_pos h3, if_pos (by omega)]
    · rw [if_neg h3, if_neg (by omega), blk2, blk3]
      exact glu_eq _ _ _ _ _ (by dsimp only; omega)
  · have e : (ix2 ⟨(a.val + o + 2) % 736, Nat.mod_lt _ (by decide)⟩ q : S736x512.Idx) = ix2 ⟨32 + (a.val + o - 30), by omega⟩ q :=
      congrArg (fun r => ix2 r q) (Fin.ext (show (a.val + o + 2) % 736 = 32 + (a.val + o - 30) by omega))
    rw [e, hist_hi _ _ _ _ _ (a.val + o - 30) (by omega), blk0, blk1]
    unfold padded
    rw [if_neg (by omega)]
    exact glu_eq _ _ _ _ _ (by dsimp only; omega)

theorem cv_eq (t : Fin cfg0.N) (a : Fin 704) (q : Fin 512) :
    cv (hist (grid0.coords t) (X0_0 m c t) (X0_1 m c t) (X0_2 m c t) (X0_3 m c t)) (iblk m c 4 t) (iblk m c 5 t) a.val q
      = val_main_v233 (F := Ideal) (aU m c) (aC m c) (aB m c) (ix3 (seq t) (pos t a) q) := by
  rw [refConv_at]
  unfold cv
  refine congrArg₂ (fun a b : EReal => a + b) (Finset.sum_congr rfl fun o ho => ?_) (blk5 m c t q)
  have ho := Finset.mem_range.1 ho
  exact congrArg₂ (fun a b : EReal => a * b) (hist_eq m c t a o ho q) (blk4 m c t o ho q)

/-! ## The results -/

def pt (r : Fin 4224) : Fin cfg0.N := ⟨r.val / 704, lt_of_lt_of_eq (show r.val / 704 < 6 by omega) N_0.symm⟩
def loc (r : Fin 4224) : Fin 704 := ⟨r.val % 704, by omega⟩

theorem cut8 (t : Fin cfg0.N) (X : Vec Ideal S704x512 .f32) (p : Fin 704) (q : Fin 512) :
    (_root_.cast (congrArg (Elt Ideal) ((cfg0.win 8).blk t).view.elt_eq.symm) ((cfg0.win 8).cut (grid0.coords t) X (ix2 p q)) : EReal) = X (ix2 p q) := rfl

theorem res8 (r : Fin 4224) (q : Fin 512) : ((dats m 0 c).arrAt 8 cfg0.N (ix2 r q) : EReal)
    = val_main_v233 (F := Ideal) (aU m c) (aC m c) (aB m c) (ix3 (seq (pt r)) (pos (pt r) (loc r)) q) := by
  have e := (dats m 0 c).arrAt_emb_eq_flushed 8 Value.disjoint8 (pt r) (flush0_8 _) (ix2 (loc r) q)
  have hi : ((cfg0.win 8).blk (pt r)).view.emb (ix2 (loc r) q) = ix2 r q := by
    obtain ⟨-, -, -, -, -, -, -, -, ⟨e0, e1⟩, -⟩ := idx (pt r)
    refine funext fun a => Fin.ext ?_
    match a with
    | ⟨0, _⟩ => show win0_8.index (pt r) (0 : Fin 2) * 704 + 1 * (r.val % 704) = r.val; rw [e0]; dsimp only [pt]; omega
    | ⟨1, _⟩ => show win0_8.index (pt r) (1 : Fin 2) * 512 + 1 * q.val = q.val; rw [e1]; omega
  rw [hi, Value.flushed8_A] at e
  refine e.trans ((cut8 (pt r) _ (loc r) q).trans ((out8_at c (grid0.coords (pt r)) _ _ _ _ _ _ _ _ _ _ _ _ _ _ _ _ _ _ _ _ _ _
    (X0_0 m c (pt r)) (X0_1 m c (pt r)) (X0_2 m c (pt r)) (X0_3 m c (pt r)) (iblk m c 4 (pt r)) (iblk m c 5 (pt r)) (iblk m c 6 (pt r)) (iblk m c 7 (pt r)) (loc r) q).trans ?_))
  exact cv_eq m c (pt r) (loc r) q

theorem cut9 (t : Fin cfg0.N) (X : Vec Ideal S704x512 .bf16) (p : Fin 704) (q : Fin 512) :
    (_root_.cast (congrArg (Elt Ideal) ((cfg0.win 9).blk t).view.elt_eq.symm) ((cfg0.win 9).cut (grid0.coords t) X (ix2 p q)) : EReal) = X (ix2 p q) := rfl

theorem res9 (r : Fin 4224) (q : Fin 512) : ((dats m 0 c).arrAt 9 cfg0.N (ix2 r q) : EReal)
    = val_main_v258 (F := Ideal) (aU m c) (aC m c) (aB m c) (aG m c) (aE m c) (ix3 (seq (pt r)) (pos (pt r) (loc r)) q) := by
  have e := (dats m 0 c).arrAt_emb_eq_flushed 9 Value.disjoint9 (pt r) (flush0_9 _) (ix2 (loc r) q)
  have hi : ((cfg0.win 9).blk (pt r)).view.emb (ix2 (loc r) q) = ix2 r q := by
    obtain ⟨-, -, -, -, -, -, -, -, -, ⟨e0, e1⟩, -⟩ := idx (pt r)
    refine funext fun a => Fin.ext ?_
    match a with
    | ⟨0, _⟩ => show win0_9.index (pt r) (0 : Fin 2) * 704 + 1 * (r.val % 704) = r.val; rw [e0]; dsimp only [pt]; omega
    | ⟨1, _⟩ => show win0_9.index (pt r) (1 : Fin 2) * 512 + 1 * q.val = q.val; rw [e1]; omega
  rw [hi, Value.flushed9_A] at e
  refine e.trans ((cut9 (pt r) _ (loc r) q).trans ((out9_at c (grid0.coords (pt r)) _ _ _ _ _ _ _ _ _ _ _ _ _ _ _ _ _ _ _ _ _ _
    (X0_0 m c (pt r)) (X0_1 m c (pt r)) (X0_2 m c (pt r)) (X0_3 m c (pt r)) (iblk m c 4 (pt r)) (iblk m c 5 (pt r)) (iblk m c 6 (pt r)) (iblk m c 7 (pt r)) (loc r) q).trans ?_))
  rw [refAct_at, blk6, blk7]
  refine congrArg (fun z => silu (ln z (aG m c (ix2 0 q)) (aE m c (ix2 0 q)) q)) (funext fun k => ?_)
  exact cv_eq m c (pt r) (loc r) k

theorem split_row (r : Fin 4224) (q : Fin 512) (s : Fin 2) (p : Fin 2112) (hs : s.val = r.val / 2112) (hp : p.val = r.val % 2112) :
    (ix3 (seq (pt r)) (pos (pt r) (loc r)) q : Reference13Ideal.S2x2112x512.Idx) = ix3 s p q := by
  have e0 : seq (pt r) = s := Fin.ext (by dsimp only [seq, pt]; omega)
  have e1 : pos (pt r) (loc r) = p := Fin.ext (by dsimp only [pos, pt, loc]; omega)
  rw [e0, e1]

theorem ref8 : Reference13Ideal.Read.val_main_v259 (F := Ideal) (aU m c) (aC m c) (aB m c) = (dats m 0 c).arrAt 8 cfg0.N := by
  funext i
  obtain ⟨r, q, rfl⟩ : ∃ r q, i = ix2 r q := ⟨_, _, ValueIdx.eq_ix2 i⟩
  refine Eq.trans ?_ (res8 m c r q).symm
  unfold val_main_v259
  generalize val_main_v233 (F := Ideal) (aU m c) (aC m c) (aB m c) = z
  pointwise
  exact congrArg z (split_row r q _ _ rfl rfl).symm

theorem ref9 : Reference13Ideal.Read.val_main_v261 (F := Ideal) (aU m c) (aC m c) (aB m c) (aG m c) (aE m c) = (dats m 0 c).arrAt 9 cfg0.N := by
  funext i
  obtain ⟨r, q, rfl⟩ : ∃ r q, i = ix2 r q := ⟨_, _, ValueIdx.eq_ix2 i⟩
  refine Eq.trans ?_ (res9 m c r q).symm
  unfold val_main_v261 val_main_v260
  generalize val_main_v258 (F := Ideal) (aU m c) (aC m c) (aB m c) (aG m c) (aE m c) = z
  pointwise
  exact congrArg z (split_row r q _ _ rfl rfl).symm
theorem algebraic : Cert.algebraic_Kernel13Ideal_Reference13Ideal := by
  intro m g m' g' _ hargs
  refine ⟨fun c => (dats m 0 c).arrAt 8 cfg0.N, fun c => (dats m 0 c).arrAt 9 cfg0.N, ?_, ?_⟩
  · refine (θ_run _ _ _).mono ?_ (Value.run_blocks m g)
    exact fun r h c => h c
  · refine (θ_run _ _ _).mono ?_ (Reference13Ideal.Value.run m' g')
    intro r h c
    obtain ⟨e0, e1, hk⟩ := h c
    obtain ⟨a0, a1, a2, a3, a4⟩ := hargs c
    refine ⟨e0.trans ?_, e1.trans ?_, hk⟩
    · refine (Reference13Ideal.Read.val_main_v259_eq ..).trans (Eq.trans ?_ (ref8 m c))
      exact congr (congrArg₂ (Reference13Ideal.Read.val_main_v259 (F := Ideal)) a0 a1) a2
    · refine (Reference13Ideal.Read.val_main_v261_eq ..).trans (Eq.trans ?_ (ref9 m c))
      exact congr (congr (congr (congrArg₂ (Reference13Ideal.Read.val_main_v261 (F := Ideal)) a0 a1) a2) a3) a4

end Cert.ClaimC13
-- ==== Proof.ClaimL.lean ====
module

public import proofs.«01_k».proof.Proof.Gen.Kernel14Ideal.Value
public import proofs.«01_k».proof.Proof.Gen.Reference14Ideal.Read
public import proofs.«01_k».proof.Proof.Spec
public import proofs.«01_k».proof.Defs
public import Idealize.ShloMosaic.Lib.StableHlo.ReadAt
public import Idealize.ShloMosaic.Lib.Pointwise

/-! The first norm of the rows in front of each sequence: what the kernel leaves, and what the reference computes. -/

@[expose] public section
noncomputable section
namespace Cert.ClaimL
open Cert Cert.Reference14Ideal.Read Cert.Kernel14Ideal Cert.Kernel14Ideal.Gen Idealize.ShloMosaic Idealize.ShloMosaic.TcCoe Idealize.SL.Sem Cert.Spec

/-- The norm of row `p` of the front, 48 rows of zeros and the rows `M` after them. -/
def front (M : S16x1024.Idx → EReal) (G B : S1x1024.Idx → EReal) (p : Fin 64) (q : Fin 1024) : EReal :=
  if h : p.val < 48 then 0 else xhat (fun k => M (ix2 ⟨p.val - 48, by omega⟩ k)) q * G (ix2 0 q) + B (ix2 0 q)

/-! ## The reference -/

section
variable (M : S16x1024.Idx → EReal) (G B : S1x1024.Idx → EReal)

theorem ref_norm (p : Fin 16) (q : Fin 1024) : (val_main_v22 (F := Ideal) M G B (ix2 p q) : EReal)
    = xhat (fun k => M (ix2 p k)) q * G (ix2 0 q) + B (ix2 0 q) := by
  unfold val_main_v22 val_main_v21 val_main_v20 val_main_v19 val_main_v18 val_main_v17 val_main_v16 val_main_v15 val_main_v14 val_main_v13 val_main_v12
    val_main_v11 val_main_v10 val_main_v9 val_main_v8 val_main_v7 val_main_v6 val_main_v5 val_main_v4 val_main_v3 val_main_v2 val_main_v1
    val_main_cst_0 val_main_cst_1 val_main_cst_2 val_main_cst_3 val_main_cst_4
  pointwise
  rfl

theorem ref_front (p : Fin 64) (q : Fin 1024) : (val_main_v23 (F := Ideal) M G B (ix2 p q) : EReal) = front M G B p q := by
  unfold val_main_v23 val_main_v0 val_main_cst front
  pointwise
  simp only [ref_norm]

end

/-! ## The kernel's blocks -/

variable (m : (ℓ : Loc nD τ sig) → Buf (Elt Ideal) ℓ) (c : Dev nD)
abbrev aM : S16x1024.Idx → EReal := m ((c.tc : Thread nD τ).loc main_arg0)
abbrev aG : S1x1024.Idx → EReal := m ((c.tc : Thread nD τ).loc main_arg1)
abbrev aB : S1x1024.Idx → EReal := m ((c.tc : Thread nD τ).loc main_arg2)
abbrev aS : S4224x1024.Idx → EReal := m ((c.tc : Thread nD τ).loc main_arg3)
abbrev aT : S4224x1024.Idx → EReal := m ((c.tc : Thread nD τ).loc main_arg4)

theorem hz : (![0, 0] : Fin 2 → Nat) = fun _ => 0 := by decide

theorem idx (t : Fin cfg0.N) : (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 33 * t.val ∧ win0_3.index t (1 : Fin 2) = 0)
    ∧ (win0_4.index t (0 : Fin 2) = 33 * t.val ∧ win0_4.index t (1 : Fin 2) = 0) :=
  (by decide +kernel : ∀ t : Fin grid0.N, (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 33 * t.val ∧ win0_3.index t (1 : Fin 2) = 0)
    ∧ (win0_4.index t (0 : Fin 2) = 33 * t.val ∧ win0_4.index t (1 : Fin 2) = 0)) t

theorem ltN (t : Fin cfg0.N) : t.val < 2 := lt_of_lt_of_eq t.isLt N_0

theorem arr0 (p : Fin 64) (q : Fin 1024) (h : 48 ≤ p.val) : (V m c (Pipeline.arrRef spec0 0) (ix2 p q) : EReal) = aM m c (ix2 ⟨p.val - 48, by omega⟩ q) := by
  unfold V
  after_reads_at
  exact dif_pos ⟨h, by omega⟩

theorem blk0 (t : Fin cfg0.N) (p : Fin 64) (q : Fin 1024) (h : 48 ≤ p.val) : (iblk m c 0 t (ix2 p q) : EReal) = aM m c (ix2 ⟨p.val - 48, by omega⟩ q) := by
  refine (congrArg (V m c (Pipeline.arrRef spec0 0)) (a₂ := ix2 p q) (funext fun a => Fin.ext ?_)).trans (arr0 m c p q h)
  obtain ⟨⟨e0, e1⟩, -⟩ := idx t
  match a with
  | ⟨0, _⟩ => show win0_0.index t (0 : Fin 2) * 64 + 1 * p.val = p.val; omega
  | ⟨1, _⟩ => show win0_0.index t (1 : Fin 2) * 1024 + 1 * q.val = q.val; omega

theorem blk1 (t : Fin cfg0.N) (q : Fin 1024) : (iblk m c 1 t (ix2 0 q) : EReal) = aG m c (ix2 0 q) := by
  refine (congrArg (V m c (Pipeline.arrRef spec0 1)) (a₂ := ix2 0 q) (funext fun a => Fin.ext ?_)).trans (by unfold V; after_reads_at)
  obtain ⟨-, ⟨e0, e1⟩, -⟩ := idx t
  match a with
  | ⟨0, _⟩ => show win0_1.index t (0 : Fin 2) * 1 + 1 * 0 = 0; omega
  | ⟨1, _⟩ => show win0_1.index t (1 : Fin 2) * 1024 + 1 * q.val = q.val; omega

theorem blk2 (t : Fin cfg0.N) (q : Fin 1024) : (iblk m c 2 t (ix2 0 q) : EReal) = aB m c (ix2 0 q) := by
  refine (congrArg (V m c (Pipeline.arrRef spec0 2)) (a₂ := ix2 0 q) (funext fun a => Fin.ext ?_)).trans (by unfold V; after_reads_at)
  obtain ⟨-, -, ⟨e0, e1⟩, -⟩ := idx t
  match a with
  | ⟨0, _⟩ => show win0_2.index t (0 : Fin 2) * 1 + 1 * 0 = 0; omega
  | ⟨1, _⟩ => show win0_2.index t (1 : Fin 2) * 1024 + 1 * q.val = q.val; omega

theorem real_row : ∀ p : Fin 64, IntOp.cmpi CmpIPredicate.sge (BitVec.ofNat 32 p.val) 48#32 = if p.val < 48 then 0#1 else 1#1 := by decide

theorem pay_at (X : S64x1024.Idx → EReal) (G B : S1x1024.Idx → EReal) (p : Fin 64) (q : Fin 1024) :
    (k0_pay1 (F := Ideal) X G B (ix2 p q) : EReal) = if p.val < 48 then 0 else xhat (fun k => X (ix2 p k)) q * G (ix2 0 q) + B (ix2 0 q) := by
  unfold k0_pay1
  pointwise
  rw [real_row p]
  split <;> rfl

/-- What a point stores is the norm of the front. -/
theorem pay_front (t : Fin cfg0.N) (p : Fin 64) (q : Fin 1024) :
    (k0_pay1 (F := Ideal) (iblk m c 0 t) (iblk m c 1 t) (iblk m c 2 t) (ix2 p q) : EReal) = front (aM m c) (aG m c) (aB m c) p q := by
  refine (pay_at (iblk m c 0 t) (iblk m c 1 t) (iblk m c 2 t) p q).trans ?_
  unfold front
  by_cases h : p.val < 48
  · rw [if_pos h, dif_pos h]
  · rw [if_neg h, dif_neg h, blk1, blk2]
    refine congrArg (fun f : Fin 1024 → EReal => xhat f q * aG m c (ix2 0 q) + aB m c (ix2 0 q)) (funext fun k => ?_)
    exact blk0 m c t p k (Nat.le_of_not_lt h)

theorem out3_at (t : Fin cfg0.N) (p : Fin 64) (q : Fin 1024) :
    (out0_A_3 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (ix2 p q) : EReal)
      = front (aM m c) (aG m c) (aB m c) p q := by
  unfold out0_A_3
  rw [View.read_writes_eq_canon _ _ _ (fun y => cover0_A_3 (y := y) ..)]
  unfold kernelRun0_A; dsimp only
  sl_unfold_words
  rw [View.canon_unit_zero hz]
  simp only [View.readAt_eq_ld, View.ld_unit_zero (S := S64x1024) hz, View.ld_unit_zero (S := S1x1024) hz, shapeCast_self, (hs0_0 t).read_unread,
    (hs0_1 t).read_unread, (hs0_2 t).read_unread]
  exact pay_front m c t p q

theorem out4_at (t : Fin cfg0.N) (p : Fin 64) (q : Fin 1024) :
    (out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (ix2 p q) : EReal)
      = front (aM m c) (aG m c) (aB m c) p q := by
  unfold out0_A_4
  rw [View.read_writes_eq_canon _ _ _ (fun y => cover0_A_4 (y := y) ..)]
  unfold kernelRun0_A; dsimp only
  sl_unfold_words
  rw [View.canon_unit_zero hz]
  simp only [View.readAt_eq_ld, View.ld_unit_zero (S := S64x1024) hz, View.ld_unit_zero (S := S1x1024) hz, shapeCast_self, (hs0_0 t).read_unread,
    (hs0_1 t).read_unread, (hs0_2 t).read_unread]
  exact pay_front m c t p q

/-! ## The results -/

/-- Row `p` of sequence `s`. -/
def row (s : Fin 2) (p : Fin 2112) : Fin 4224 := ⟨2112 * s.val + p.val, by omega⟩
def pt (s : Fin 2) : Fin cfg0.N := ⟨s.val, lt_of_lt_of_eq s.isLt N_0.symm⟩

theorem cut3 (t : Fin cfg0.N) (X : Vec Ideal S64x1024 .f32) (p : Fin 64) (q : Fin 1024) :
    (_root_.cast (congrArg (Elt Ideal) ((cfg0.win 3).blk t).view.elt_eq.symm) ((cfg0.win 3).cut (grid0.coords t) X (ix2 p q)) : EReal) = X (ix2 p q) := rfl

theorem in3 (s : Fin 2) (p : Fin 64) (q : Fin 1024) : ((dats m 0 c).arrAt 3 cfg0.N (ix2 (row s ⟨p.val, by omega⟩) q) : EReal) = front (aM m c) (aG m c) (aB m c) p q := by
  have e := (dats m 0 c).arrAt_emb_eq_flushed 3 Value.disjoint3 (pt s) (flush0_3 _) (ix2 p q)
  have hi : ((cfg0.win 3).blk (pt s)).view.emb (ix2 p q) = ix2 (row s ⟨p.val, by omega⟩) q := by
    obtain ⟨-, -, -, ⟨e0, e1⟩, e2, e3⟩ := idx (pt s)
    refine funext fun a => Fin.ext ?_
    match a with
    | ⟨0, _⟩ => show win0_3.index (pt s) (0 : Fin 2) * 64 + 1 * p.val = 2112 * s.val + p.val; rw [e0]; dsimp only [pt]; omega
    | ⟨1, _⟩ => show win0_3.index (pt s) (1 : Fin 2) * 1024 + 1 * q.val = q.val; omega
  rw [hi, Value.flushed3_A] at e
  exact e.trans ((cut3 (pt s) _ p q).trans (out3_at m c (pt s) p q))

theorem rest3 (s : Fin 2) (p : Fin 2112) (h : 64 ≤ p.val) (q : Fin 1024) : ((dats m 0 c).arrAt 3 cfg0.N (ix2 (row s p) q) : EReal) = aS m c (ix2 (row s p) q) := by
  refine (Value.entry3 m c (ix2 (row s p) q) fun t _ hm => ?_).trans (by unfold V; after_reads_at; rfl)
  obtain ⟨x, -, hx⟩ := Finset.mem_map.mp hm
  have hx0 := congrArg (fun i : S4224x1024.Idx => (i (0 : Fin 2)).val) hx
  obtain ⟨-, -, -, ⟨e0, -⟩, e2, -⟩ := idx t
  have hl : (x (0 : Fin 2)).val < 64 := (x (0 : Fin 2)).isLt
  change win0_3.index t (0 : Fin 2) * 64 + 1 * (x (0 : Fin 2)).val = 2112 * s.val + p.val at hx0
  rw [e0] at hx0
  have hp := p.isLt
  omega

theorem cut4 (t : Fin cfg0.N) (X : Vec Ideal S64x1024 .bf16) (p : Fin 64) (q : Fin 1024) :
    (_root_.cast (congrArg (Elt Ideal) ((cfg0.win 4).blk t).view.elt_eq.symm) ((cfg0.win 4).cut (grid0.coords t) X (ix2 p q)) : EReal) = X (ix2 p q) := rfl

theorem in4 (s : Fin 2) (p : Fin 64) (q : Fin 1024) : ((dats m 0 c).arrAt 4 cfg0.N (ix2 (row s ⟨p.val, by omega⟩) q) : EReal) = front (aM m c) (aG m c) (aB m c) p q := by
  have e := (dats m 0 c).arrAt_emb_eq_flushed 4 Value.disjoint4 (pt s) (flush0_4 _) (ix2 p q)
  have hi : ((cfg0.win 4).blk (pt s)).view.emb (ix2 p q) = ix2 (row s ⟨p.val, by omega⟩) q := by
    obtain ⟨-, -, -, ⟨e0, e1⟩, e2, e3⟩ := idx (pt s)
    refine funext fun a => Fin.ext ?_
    match a with
    | ⟨0, _⟩ => show win0_4.index (pt s) (0 : Fin 2) * 64 + 1 * p.val = 2112 * s.val + p.val; rw [e2]; dsimp only [pt]; omega
    | ⟨1, _⟩ => show win0_4.index (pt s) (1 : Fin 2) * 1024 + 1 * q.val = q.val; omega
  rw [hi, Value.flushed4_A] at e
  exact e.trans ((cut4 (pt s) _ p q).trans (out4_at m c (pt s) p q))

theorem rest4 (s : Fin 2) (p : Fin 2112) (h : 64 ≤ p.val) (q : Fin 1024) : ((dats m 0 c).arrAt 4 cfg0.N (ix2 (row s p) q) : EReal) = aT m c (ix2 (row s p) q) := by
  refine (Value.entry4 m c (ix2 (row s p) q) fun t _ hm => ?_).trans (by unfold V; after_reads_at; rfl)
  obtain ⟨x, -, hx⟩ := Finset.mem_map.mp hm
  have hx0 := congrArg (fun i : S4224x1024.Idx => (i (0 : Fin 2)).val) hx
  obtain ⟨-, -, -, ⟨e0, -⟩, e2, -⟩ := idx t
  have hl : (x (0 : Fin 2)).val < 64 := (x (0 : Fin 2)).isLt
  change win0_4.index t (0 : Fin 2) * 64 + 1 * (x (0 : Fin 2)).val = 2112 * s.val + p.val at hx0
  rw [e2] at hx0
  have hp := p.isLt
  omega

theorem row_mod (s : Fin 2) (p : Fin 2112) : (row s p).val % 2112 = p.val := by
  dsimp only [row]
  have hp := p.isLt
  omega

theorem cut_row (i : S4224x1024.Idx) :
    i = ix2 (row ⟨(i (0 : Fin 2)).val / 2112, by have := (i (0 : Fin 2)).isLt; change _ < 4224 at this; omega⟩ ⟨(i (0 : Fin 2)).val % 2112, Nat.mod_lt _ (by decide)⟩)
      (i (1 : Fin 2)) := by
  refine funext fun a => ?_
  match a with
  | ⟨0, _⟩ => exact Fin.ext (Nat.div_add_mod _ _).symm
  | ⟨1, _⟩ => rfl

theorem ref3 (s : Fin 2) (p : Fin 2112) (q : Fin 1024) : (val_main_v29 (F := Ideal) (aM m c) (aG m c) (aB m c) (aS m c) (ix2 (row s p) q) : EReal)
    = if h : p.val < 64 then front (aM m c) (aG m c) (aB m c) ⟨p.val, h⟩ q else aS m c (ix2 (row s p) q) := by
  unfold val_main_v29 val_main_v28 val_main_v27 val_main_v26 val_main_v25 val_main_v24
  pointwise
  by_cases h : p.val < 64
  · rw [dif_pos (by rw [row_mod]; exact h), dif_pos h, ref_front]
    exact congrArg (fun a : Fin 64 => front (aM m c) (aG m c) (aB m c) a q) (Fin.ext (row_mod s p))
  · rw [dif_neg (by rw [row_mod]; exact h), dif_neg h]
    refine congrArg (fun a : Fin 4224 => aS m c (ix2 a q)) (Fin.ext ?_)
    dsimp only [row]
    have hp := p.isLt
    omega

theorem eq3 : val_main_v29 (F := Ideal) (aM m c) (aG m c) (aB m c) (aS m c) = (dats m 0 c).arrAt 3 cfg0.N := by
  refine funext fun i => ?_
  rw [cut_row i]
  refine (ref3 m c _ _ _).trans ?_
  by_cases h : (i (0 : Fin 2)).val % 2112 < 64
  · rw [dif_pos h]; exact (in3 m c _ ⟨_, h⟩ _).symm
  · rw [dif_neg h]; exact (rest3 m c _ _ (Nat.le_of_not_lt h) _).symm

theorem ref4 (s : Fin 2) (p : Fin 2112) (q : Fin 1024) : (val_main_v34 (F := Ideal) (aM m c) (aG m c) (aB m c) (aT m c) (ix2 (row s p) q) : EReal)
    = if h : p.val < 64 then front (aM m c) (aG m c) (aB m c) ⟨p.val, h⟩ q else aT m c (ix2 (row s p) q) := by
  unfold val_main_v34 val_main_v33 val_main_v32 val_main_v31 val_main_v30 val_main_v25 val_main_v24
  pointwise
  by_cases h : p.val < 64
  · rw [dif_pos (by rw [row_mod]; exact h), dif_pos h, ref_front]
    exact congrArg (fun a : Fin 64 => front (aM m c) (aG m c) (aB m c) a q) (Fin.ext (row_mod s p))
  · rw [dif_neg (by rw [row_mod]; exact h), dif_neg h]
    refine congrArg (fun a : Fin 4224 => aT m c (ix2 a q)) (Fin.ext ?_)
    dsimp only [row]
    have hp := p.isLt
    omega

theorem eq4 : val_main_v34 (F := Ideal) (aM m c) (aG m c) (aB m c) (aT m c) = (dats m 0 c).arrAt 4 cfg0.N := by
  refine funext fun i => ?_
  rw [cut_row i]
  refine (ref4 m c _ _ _).trans ?_
  by_cases h : (i (0 : Fin 2)).val % 2112 < 64
  · rw [dif_pos h]; exact (in4 m c _ ⟨_, h⟩ _).symm
  · rw [dif_neg h]; exact (rest4 m c _ _ (Nat.le_of_not_lt h) _).symm

theorem algebraic : Cert.algebraic_Kernel14Ideal_Reference14Ideal := by
  intro m g m' g' _ hargs
  refine ⟨fun c => (dats m 0 c).arrAt 3 cfg0.N, fun c => (dats m 0 c).arrAt 4 cfg0.N, ?_, ?_⟩
  · refine (θ_run _ _ _).mono ?_ (Value.run_blocks m g)
    exact fun r h c => h c
  · refine (θ_run _ _ _).mono ?_ (Reference14Ideal.Value.run m' g')
    intro r h c
    obtain ⟨e0, e1, hk⟩ := h c
    obtain ⟨a0, a1, a2, a3, a4⟩ := hargs c
    refine ⟨e0.trans ?_, e1.trans ?_, hk⟩
    · refine (Reference14Ideal.Read.val_main_v29_eq ..).trans (Eq.trans ?_ (eq3 m c))
      exact congr (congr (congrArg₂ (Reference14Ideal.Read.val_main_v29 (F := Ideal)) a0 a1) a2) a3
    · refine (Reference14Ideal.Read.val_main_v34_eq ..).trans (Eq.trans ?_ (eq4 m c))
      exact congr (congr (congrArg₂ (Reference14Ideal.Read.val_main_v34 (F := Ideal)) a0 a1) a2) a4

end Cert.ClaimL
-- ==== Proof.StepM.lean ====
module

public import proofs.«01_k».proof.Proof.Gen.Kernel15Ideal.Value
public import proofs.«01_k».proof.Proof.Spec

/-! What the kernel of the input projection's gradient at the front of the sequences leaves after each grid point, and its results. -/

@[expose] public section
noncomputable section
namespace Cert.Kernel15Ideal.StepM
open Cert.Kernel15Ideal Cert.Kernel15Ideal.Gen Idealize.ShloMosaic Idealize.ShloMosaic.TcCoe Idealize.SL.Sem Cert.Spec

variable (m : (ℓ : Loc nD τ sig) → Buf (Elt Ideal) ℓ)

theorem hz : (![0, 0] : Fin 2 → Nat) = fun _ => 0 := by decide

/-! ## The arrays the windows are cut from, and the blocks -/

def aD (c : Dev nD) (r : Fin 4224) (k : Fin 1024) : EReal := V m c (Pipeline.arrRef spec0 0) (ix2 r k)
def aU1 (c : Dev nD) (r : Fin 4224) (k : Fin 1024) : EReal := V m c (Pipeline.arrRef spec0 1) (ix2 r k)
def aU2 (c : Dev nD) (r : Fin 4224) (k : Fin 512) : EReal := V m c (Pipeline.arrRef spec0 2) (ix2 r k)
def aU3 (c : Dev nD) (r : Fin 4224) (k : Fin 512) : EReal := V m c (Pipeline.arrRef spec0 3) (ix2 r k)
def aU4 (c : Dev nD) (r : Fin 4224) (k : Fin 512) : EReal := V m c (Pipeline.arrRef spec0 4) (ix2 r k)
def aU5 (c : Dev nD) (r : Fin 4224) (k : Fin 128) : EReal := V m c (Pipeline.arrRef spec0 5) (ix2 r k)
def aX (c : Dev nD) (r : Fin 64) (k : Fin 1024) : EReal := V m c (Pipeline.arrRef spec0 6) (ix2 r k)
def aG (c : Dev nD) (r : Fin 1) (k : Fin 1024) : EReal := V m c (Pipeline.arrRef spec0 7) (ix2 r k)
def aW (c : Dev nD) (r : Fin 2688) (k : Fin 1024) : EReal := V m c (Pipeline.arrRef spec0 8) (ix2 r k)

theorem lt2 (t : Fin cfg0.N) : t.val < 2 := lt_of_lt_of_eq t.isLt N_0

/-- Row `p` of point `t`'s block, the front of a sequence. -/
def row (t : Fin cfg0.N) (p : Fin 64) : Fin 4224 := ⟨2112 * t.val + p.val, by have := lt2 t; omega⟩

def bD (c : Dev nD) (t : Fin cfg0.N) (r : Fin 64) (k : Fin 1024) : EReal := iblk m c 0 t (ix2 r k)
def bU1 (c : Dev nD) (t : Fin cfg0.N) (r : Fin 64) (k : Fin 1024) : EReal := iblk m c 1 t (ix2 r k)
def bU2 (c : Dev nD) (t : Fin cfg0.N) (r : Fin 64) (k : Fin 512) : EReal := iblk m c 2 t (ix2 r k)
def bU3 (c : Dev nD) (t : Fin cfg0.N) (r : Fin 64) (k : Fin 512) : EReal := iblk m c 3 t (ix2 r k)
def bU4 (c : Dev nD) (t : Fin cfg0.N) (r : Fin 64) (k : Fin 512) : EReal := iblk m c 4 t (ix2 r k)
def bU5 (c : Dev nD) (t : Fin cfg0.N) (r : Fin 64) (k : Fin 128) : EReal := iblk m c 5 t (ix2 r k)
def bX (c : Dev nD) (t : Fin cfg0.N) (r : Fin 64) (k : Fin 1024) : EReal := iblk m c 6 t (ix2 r k)
def bG (c : Dev nD) (t : Fin cfg0.N) (r : Fin 1) (k : Fin 1024) : EReal := iblk m c 7 t (ix2 r k)
def bW (c : Dev nD) (t : Fin cfg0.N) (r : Fin 2688) (k : Fin 1024) : EReal := iblk m c 8 t (ix2 r k)

theorem idx (t : Fin cfg0.N) : (win0_0.index t (0 : Fin 2) = 33 * t.val ∧ win0_0.index t (1 : Fin 2) = 0)
    ∧ (win0_1.index t (0 : Fin 2) = 33 * t.val ∧ win0_1.index t (1 : Fin 2) = 0)
    ∧ (win0_2.index t (0 : Fin 2) = 33 * t.val ∧ win0_2.index t (1 : Fin 2) = 0)
    ∧ (win0_3.index t (0 : Fin 2) = 33 * t.val ∧ win0_3.index t (1 : Fin 2) = 0)
    ∧ (win0_4.index t (0 : Fin 2) = 33 * t.val ∧ win0_4.index t (1 : Fin 2) = 0)
    ∧ (win0_5.index t (0 : Fin 2) = 33 * t.val ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, (win0_0.index t (0 : Fin 2) = 33 * t.val ∧ win0_0.index t (1 : Fin 2) = 0)
    ∧ (win0_1.index t (0 : Fin 2) = 33 * t.val ∧ win0_1.index t (1 : Fin 2) = 0)
    ∧ (win0_2.index t (0 : Fin 2) = 33 * t.val ∧ win0_2.index t (1 : Fin 2) = 0)
    ∧ (win0_3.index t (0 : Fin 2) = 33 * t.val ∧ win0_3.index t (1 : Fin 2) = 0)
    ∧ (win0_4.index t (0 : Fin 2) = 33 * t.val ∧ win0_4.index t (1 : Fin 2) = 0)
    ∧ (win0_5.index t (0 : Fin 2) = 33 * t.val ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)) t

theorem iblk0 (c : Dev nD) (t : Fin cfg0.N) (r : Fin 64) (k : Fin 1024) : bD m c t r k = aD m c (row t r) k := by
  refine congrArg (V m c (Pipeline.arrRef spec0 0)) (funext fun a => Fin.ext ?_)
  obtain ⟨⟨e0, e1⟩, -⟩ := idx t
  match a with
  | ⟨0, _⟩ => show win0_0.index t (0 : Fin 2) * 64 + 1 * r.val = 2112 * t.val + r.val; omega
  | ⟨1, _⟩ => show win0_0.index t (1 : Fin 2) * 1024 + 1 * k.val = k.val; omega

theorem iblk1 (c : Dev nD) (t : Fin cfg0.N) (r : Fin 64) (k : Fin 1024) : bU1 m c t r k = aU1 m c (row t r) k := by
  refine congrArg (V m c (Pipeline.arrRef spec0 1)) (funext fun a => Fin.ext ?_)
  obtain ⟨-, ⟨e0, e1⟩, -⟩ := idx t
  match a with
  | ⟨0, _⟩ => show win0_1.index t (0 : Fin 2) * 64 + 1 * r.val = 2112 * t.val + r.val; omega
  | ⟨1, _⟩ => show win0_1.index t (1 : Fin 2) * 1024 + 1 * k.val = k.val; omega

theorem iblk2 (c : Dev nD) (t : Fin cfg0.N) (r : Fin 64) (k : Fin 512) : bU2 m c t r k = aU2 m c (row t r) k := by
  refine congrArg (V m c (Pipeline.arrRef spec0 2)) (funext fun a => Fin.ext ?_)
  obtain ⟨-, -, ⟨e0, e1⟩, -⟩ := idx t
  match a with
  | ⟨0, _⟩ => show win0_2.index t (0 : Fin 2) * 64 + 1 * r.val = 2112 * t.val + r.val; omega
  | ⟨1, _⟩ => show win0_2.index t (1 : Fin 2) * 512 + 1 * k.val = k.val; omega

theorem iblk3 (c : Dev nD) (t : Fin cfg0.N) (r : Fin 64) (k : Fin 512) : bU3 m c t r k = aU3 m c (row t r) k := by
  refine congrArg (V m c (Pipeline.arrRef spec0 3)) (funext fun a => Fin.ext ?_)
  obtain ⟨-, -, -, ⟨e0, e1⟩, -⟩ := idx t
  match a with
  | ⟨0, _⟩ => show win0_3.index t (0 : Fin 2) * 64 + 1 * r.val = 2112 * t.val + r.val; omega
  | ⟨1, _⟩ => show win0_3.index t (1 : Fin 2) * 512 + 1 * k.val = k.val; omega

theorem iblk4 (c : Dev nD) (t : Fin cfg0.N) (r : Fin 64) (k : Fin 512) : bU4 m c t r k = aU4 m c (row t r) k := by
  refine congrArg (V m c (Pipeline.arrRef spec0 4)) (funext fun a => Fin.ext ?_)
  obtain ⟨-, -, -, -, ⟨e0, e1⟩, -⟩ := idx t
  match a with
  | ⟨0, _⟩ => show win0_4.index t (0 : Fin 2) * 64 + 1 * r.val = 2112 * t.val + r.val; omega
  | ⟨1, _⟩ => show win0_4.index t (1 : Fin 2) * 512 + 1 * k.val = k.val; omega

theorem iblk5 (c : Dev nD) (t : Fin cfg0.N) (r : Fin 64) (k : Fin 128) : bU5 m c t r k = aU5 m c (row t r) k := by
  refine congrArg (V m c (Pipeline.arrRef spec0 5)) (funext fun a => Fin.ext ?_)
  obtain ⟨-, -, -, -, -, ⟨e0, e1⟩, -⟩ := idx t
  match a with
  | ⟨0, _⟩ => show win0_5.index t (0 : Fin 2) * 64 + 1 * r.val = 2112 * t.val + r.val; omega
  | ⟨1, _⟩ => show win0_5.index t (1 : Fin 2) * 128 + 1 * k.val = k.val; omega

theorem iblk6 (c : Dev nD) (t : Fin cfg0.N) (r : Fin 64) (k : Fin 1024) : bX m c t r k = aX m c r k := by
  refine congrArg (V m c (Pipeline.arrRef spec0 6)) (funext fun a => Fin.ext ?_)
  obtain ⟨-, -, -, -, -, -, ⟨e0, e1⟩, -⟩ := idx t
  match a with
  | ⟨0, _⟩ => show win0_6.index t (0 : Fin 2) * 64 + 1 * r.val = r.val; omega
  | ⟨1, _⟩ => show win0_6.index t (1 : Fin 2) * 1024 + 1 * k.val = k.val; omega

theorem iblk7 (c : Dev nD) (t : Fin cfg0.N) (r : Fin 1) (k : Fin 1024) : bG m c t r k = aG m c r k := by
  refine congrArg (V m c (Pipeline.arrRef spec0 7)) (funext fun a => Fin.ext ?_)
  obtain ⟨-, -, -, -, -, -, -, ⟨e0, e1⟩, -⟩ := idx t
  match a with
  | ⟨0, _⟩ => show win0_7.index t (0 : Fin 2) * 1 + 1 * r.val = r.val; omega
  | ⟨1, _⟩ => show win0_7.index t (1 : Fin 2) * 1024 + 1 * k.val = k.val; omega

theorem iblk8 (c : Dev nD) (t : Fin cfg0.N) (r : Fin 2688) (k : Fin 1024) : bW m c t r k = aW m c r k := by
  refine congrArg (V m c (Pipeline.arrRef spec0 8)) (funext fun a => Fin.ext ?_)
  obtain ⟨-, -, -, -, -, -, -, -, ⟨e0, e1⟩, -⟩ := idx t
  match a with
  | ⟨0, _⟩ => show win0_8.index t (0 : Fin 2) * 2688 + 1 * r.val = r.val; omega
  | ⟨1, _⟩ => show win0_8.index t (1 : Fin 2) * 1024 + 1 * k.val = k.val; omega

/-! ## A point's outputs -/

/-- The gradient at the norm, row `p` of the block. -/
def ds (c : Dev nD) (t : Fin cfg0.N) (p : Fin 64) (q : Fin 1024) : EReal :=
  alpha * bD m c t p q + ∑ k : Fin 1024, bU1 m c t p k * bW m c t ⟨k.val, by omega⟩ q + ∑ k : Fin 512, bU2 m c t p k * bW m c t ⟨1024 + k.val, by omega⟩ q
    + ∑ k : Fin 512, bU3 m c t p k * bW m c t ⟨1536 + k.val, by omega⟩ q + ∑ k : Fin 512, bU4 m c t p k * bW m c t ⟨2048 + k.val, by omega⟩ q
    + ∑ k : Fin 128, bU5 m c t p k * bW m c t ⟨2560 + k.val, by omega⟩ q

/-- The real rows are the last 16 of the 64. -/
theorem real_row : ∀ p : Fin 64, IntOp.cmpi CmpIPredicate.sge (BitVec.ofNat 32 p.val) 48#32 = if p.val < 48 then 0#1 else 1#1 := by decide

/-- `x` in the real rows, zero before. -/
def mask (p : Fin 64) (x : EReal) : EReal := Scalar.select (IntOp.cmpi CmpIPredicate.sge (BitVec.ofNat 32 p.val) 48#32) x 0

theorem mask_zero (p : Fin 64) (x : EReal) (h : p.val < 48) : mask p x = 0 := by
  unfold mask; rw [real_row, if_pos h]; rfl
theorem mask_real (p : Fin 64) (x : EReal) (h : ¬ p.val < 48) : mask p x = x := by
  unfold mask; rw [real_row, if_neg h]; rfl

theorem cmp_real : ∀ p : Fin 16, IntOp.cmpi CmpIPredicate.sge (BitVec.ofNat 32 (48 + p.val)) 48#32 = 1#1 := by decide
theorem sel_real (x y : EReal) : Scalar.select 1#1 x y = x := rfl

/-- The real row `p`. -/
abbrev rr (p : Fin 16) : Fin 64 := ⟨48 + p.val, by omega⟩

/-- What the point before left. -/
abbrev prev (c : Dev nD) (t : Fin cfg0.N) := outsAt0 m c (t.val - 1) (Nat.lt_of_le_of_lt (Nat.sub_le _ _) t.isLt)

theorem dx_A (c : Dev nD) (t : Fin cfg0.N) (h0 : t.val % 2 = 0) (p : Fin 16) (q : Fin 1024) : (outsAt0 m c t.val t.isLt).1 (ix2 p q) = lnBwd (fun k => ds m c t (rr p) k * bG m c t 0 k) (fun k => bX m c t (rr p) k) q := by
  rw [outsAt0_A m c t h0]
  dsimp only
  unfold out0_A_9
  rw [View.read_writes_eq_canon _ _ _ (fun y => cover0_A_9 (y := y) ..)]
  unfold kernelRun0_A; dsimp only
  sl_unfold_words
  dsimp only
  simp only [View.readAt_eq_ld, View.canon_cons_unit_zero (S := S1x1024) hz, View.canon_cons_unit_zero (S := S16x1024) hz, View.readCov_unit_zero (S := S1x1024) _ hz,
    View.readCov_unit_zero (S := S16x1024) _ hz, View.ld_unit_zero (S := S64x1024) hz, View.ld_unit_zero (S := S16x1024) hz,
    View.ld_unit_zero (S := S64x512) hz, View.ld_unit_zero (S := S64x128) hz, View.ld_unit_zero (S := S1x1024) hz, shapeCast_self,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (Memref.isWhole_whole _).read_unread]
  unfold_payloads
  pointwise
  simp only [cmp_real, sel_real]
  rfl

theorem dg_A (c : Dev nD) (t : Fin cfg0.N) (h0 : t.val % 2 = 0) (q : Fin 1024) : (outsAt0 m c t.val t.isLt).2.1 (ix2 0 q) = ∑ p, mask p (ds m c t p q * xhat (fun k => bX m c t p k) q) := by
  rw [outsAt0_A m c t h0]
  dsimp only
  unfold out0_A_10
  rw [View.read_writes_eq_canon _ _ _ (fun y => cover0_A_10 (y := y) ..)]
  unfold kernelRun0_A; dsimp only
  sl_unfold_words
  dsimp only
  simp only [View.readAt_eq_ld, View.canon_cons_unit_zero (S := S1x1024) hz, View.canon_cons_unit_zero (S := S16x1024) hz, View.readCov_unit_zero (S := S1x1024) _ hz,
    View.readCov_unit_zero (S := S16x1024) _ hz, View.ld_unit_zero (S := S64x1024) hz, View.ld_unit_zero (S := S16x1024) hz,
    View.ld_unit_zero (S := S64x512) hz, View.ld_unit_zero (S := S64x128) hz, View.ld_unit_zero (S := S1x1024) hz, shapeCast_self,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (Memref.isWhole_whole _).read_unread]
  unfold_payloads
  pointwise
  rfl

theorem db_A (c : Dev nD) (t : Fin cfg0.N) (h0 : t.val % 2 = 0) (q : Fin 1024) : (outsAt0 m c t.val t.isLt).2.2 (ix2 0 q) = ∑ p, mask p (ds m c t p q) := by
  rw [outsAt0_A m c t h0]
  dsimp only
  unfold out0_A_11
  rw [View.read_writes_eq_canon _ _ _ (fun y => cover0_A_11 (y := y) ..)]
  unfold kernelRun0_A; dsimp only
  sl_unfold_words
  dsimp only
  simp only [View.readAt_eq_ld, View.canon_cons_unit_zero (S := S1x1024) hz, View.canon_cons_unit_zero (S := S16x1024) hz, View.readCov_unit_zero (S := S1x1024) _ hz,
    View.readCov_unit_zero (S := S16x1024) _ hz, View.ld_unit_zero (S := S64x1024) hz, View.ld_unit_zero (S := S16x1024) hz,
    View.ld_unit_zero (S := S64x512) hz, View.ld_unit_zero (S := S64x128) hz, View.ld_unit_zero (S := S1x1024) hz, shapeCast_self,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (Memref.isWhole_whole _).read_unread]
  unfold_payloads
  pointwise
  rfl

theorem dx_B (c : Dev nD) (t : Fin cfg0.N) (h0 : ¬t.val % 2 = 0) (p : Fin 16) (q : Fin 1024) : (outsAt0 m c t.val t.isLt).1 (ix2 p q) = (prev m c t).1 (ix2 p q) + lnBwd (fun k => ds m c t (rr p) k * bG m c t 0 k) (fun k => bX m c t (rr p) k) q := by
  rw [outsAt0_B m c t h0]
  dsimp only
  unfold out0_B_9
  rw [View.read_writes_eq_canon _ _ _ (fun y => cover0_B_9 (y := y) ..)]
  unfold kernelRun0_B; dsimp only
  sl_unfold_words
  dsimp only
  simp only [View.readAt_eq_ld, View.canon_cons_unit_zero (S := S1x1024) hz, View.canon_cons_unit_zero (S := S16x1024) hz, View.readCov_unit_zero (S := S1x1024) _ hz,
    View.readCov_unit_zero (S := S16x1024) _ hz, View.ld_unit_zero (S := S64x1024) hz, View.ld_unit_zero (S := S16x1024) hz,
    View.ld_unit_zero (S := S64x512) hz, View.ld_unit_zero (S := S64x128) hz, View.ld_unit_zero (S := S1x1024) hz, shapeCast_self,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (Memref.isWhole_whole _).read_unread]
  unfold_payloads
  pointwise
  simp only [cmp_real, sel_real]
  rfl

theorem dg_B (c : Dev nD) (t : Fin cfg0.N) (h0 : ¬t.val % 2 = 0) (q : Fin 1024) : (outsAt0 m c t.val t.isLt).2.1 (ix2 0 q) = (prev m c t).2.1 (ix2 0 q) + ∑ p, mask p (ds m c t p q * xhat (fun k => bX m c t p k) q) := by
  rw [outsAt0_B m c t h0]
  dsimp only
  unfold out0_B_10
  rw [View.read_writes_eq_canon _ _ _ (fun y => cover0_B_10 (y := y) ..)]
  unfold kernelRun0_B; dsimp only
  sl_unfold_words
  dsimp only
  simp only [View.readAt_eq_ld, View.canon_cons_unit_zero (S := S1x1024) hz, View.canon_cons_unit_zero (S := S16x1024) hz, View.readCov_unit_zero (S := S1x1024) _ hz,
    View.readCov_unit_zero (S := S16x1024) _ hz, View.ld_unit_zero (S := S64x1024) hz, View.ld_unit_zero (S := S16x1024) hz,
    View.ld_unit_zero (S := S64x512) hz, View.ld_unit_zero (S := S64x128) hz, View.ld_unit_zero (S := S1x1024) hz, shapeCast_self,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (Memref.isWhole_whole _).read_unread]
  unfold_payloads
  pointwise
  rfl

theorem db_B (c : Dev nD) (t : Fin cfg0.N) (h0 : ¬t.val % 2 = 0) (q : Fin 1024) : (outsAt0 m c t.val t.isLt).2.2 (ix2 0 q) = (prev m c t).2.2 (ix2 0 q) + ∑ p, mask p (ds m c t p q) := by
  rw [outsAt0_B m c t h0]
  dsimp only
  unfold out0_B_11
  rw [View.read_writes_eq_canon _ _ _ (fun y => cover0_B_11 (y := y) ..)]
  unfold kernelRun0_B; dsimp only
  sl_unfold_words
  dsimp only
  simp only [View.readAt_eq_ld, View.canon_cons_unit_zero (S := S1x1024) hz, View.canon_cons_unit_zero (S := S16x1024) hz, View.readCov_unit_zero (S := S1x1024) _ hz,
    View.readCov_unit_zero (S := S16x1024) _ hz, View.ld_unit_zero (S := S64x1024) hz, View.ld_unit_zero (S := S16x1024) hz,
    View.ld_unit_zero (S := S64x512) hz, View.ld_unit_zero (S := S64x128) hz, View.ld_unit_zero (S := S1x1024) hz, shapeCast_self,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (Memref.isWhole_whole _).read_unread]
  unfold_payloads
  pointwise
  rfl

/-! ## From the arrays -/

/-- The gradient at the norm, from the arrays, at row `r`. -/
def dsA (c : Dev nD) (i : Fin 4224) (q : Fin 1024) : EReal :=
  alpha * aD m c i q + ∑ k : Fin 1024, aU1 m c i k * aW m c ⟨k.val, by omega⟩ q + ∑ k : Fin 512, aU2 m c i k * aW m c ⟨1024 + k.val, by omega⟩ q
    + ∑ k : Fin 512, aU3 m c i k * aW m c ⟨1536 + k.val, by omega⟩ q + ∑ k : Fin 512, aU4 m c i k * aW m c ⟨2048 + k.val, by omega⟩ q
    + ∑ k : Fin 128, aU5 m c i k * aW m c ⟨2560 + k.val, by omega⟩ q

theorem ds_eq (c : Dev nD) (t : Fin cfg0.N) (p : Fin 64) (q : Fin 1024) : ds m c t p q = dsA m c (row t p) q := by
  unfold ds dsA
  simp only [iblk0, iblk1, iblk2, iblk3, iblk4, iblk5, iblk8]

/-- A masked sum over the 64 rows is the sum over the real ones. -/
theorem sum_real (f : Fin 64 → EReal) : ∑ p, mask p (f p) = ∑ p : Fin 16, f (rr p) := by
  refine (Fin.sum_univ_add (a := 48) (b := 16) fun p => mask p (f p)).trans ?_
  rw [Finset.sum_eq_zero fun p _ => mask_zero _ _ p.isLt, zero_add]
  exact Finset.sum_congr rfl fun p _ => mask_real _ _ (Nat.not_lt.2 (Nat.le_add_right 48 p.val))

theorem lt0 : 0 < cfg0.N := lt_of_lt_of_eq (by decide) N_0.symm
theorem lt1 : 1 < cfg0.N := lt_of_lt_of_eq (by decide) N_0.symm
abbrev t0 : Fin cfg0.N := ⟨0, lt0⟩
abbrev t1 : Fin cfg0.N := ⟨1, lt1⟩

/-- The meta tokens' row `p` of the block of the front. -/
abbrev xr (c : Dev nD) (p : Fin 16) (k : Fin 1024) : EReal := aX m c (rr p) k

/-- What a sequence adds to the three results. -/
def dxT (c : Dev nD) (t : Fin cfg0.N) (p : Fin 16) (q : Fin 1024) : EReal := lnBwd (fun k => dsA m c (row t (rr p)) k * aG m c 0 k) (xr m c p) q
def dgT (c : Dev nD) (t : Fin cfg0.N) (q : Fin 1024) : EReal := ∑ p : Fin 16, dsA m c (row t (rr p)) q * xhat (xr m c p) q
def dbT (c : Dev nD) (t : Fin cfg0.N) (q : Fin 1024) : EReal := ∑ p : Fin 16, dsA m c (row t (rr p)) q

theorem dx_term (c : Dev nD) (t : Fin cfg0.N) (p : Fin 16) (q : Fin 1024) : lnBwd (fun k => ds m c t (rr p) k * bG m c t 0 k) (fun k => bX m c t (rr p) k) q = dxT m c t p q := by
  simp only [ds_eq, iblk7, iblk6]
  rfl
theorem dg_term (c : Dev nD) (t : Fin cfg0.N) (q : Fin 1024) : ∑ p, mask p (ds m c t p q * xhat (fun k => bX m c t p k) q) = dgT m c t q := by
  rw [sum_real fun p => ds m c t p q * xhat (fun k => bX m c t p k) q]
  simp only [ds_eq, iblk6]
  rfl
theorem db_term (c : Dev nD) (t : Fin cfg0.N) (q : Fin 1024) : ∑ p, mask p (ds m c t p q) = dbT m c t q := by
  rw [sum_real fun p => ds m c t p q]
  simp only [ds_eq]
  rfl

theorem not0 : ¬ 1 % 2 = 0 := by decide

theorem dx_end (c : Dev nD) (p : Fin 16) (q : Fin 1024) : (outsAt0 m c 1 lt1).1 (ix2 p q) = dxT m c t0 p q + dxT m c t1 p q := by
  refine (dx_B m c ⟨1, lt1⟩ not0 p q).trans ?_
  exact congrArg₂ (· + ·) ((dx_A m c ⟨0, lt0⟩ rfl p q).trans (dx_term m c t0 p q)) (dx_term m c t1 p q)

theorem dg_end (c : Dev nD) (q : Fin 1024) : (outsAt0 m c 1 lt1).2.1 (ix2 0 q) = dgT m c t0 q + dgT m c t1 q := by
  refine (dg_B m c ⟨1, lt1⟩ not0 q).trans ?_
  exact congrArg₂ (· + ·) ((dg_A m c ⟨0, lt0⟩ rfl q).trans (dg_term m c t0 q)) (dg_term m c t1 q)

theorem db_end (c : Dev nD) (q : Fin 1024) : (outsAt0 m c 1 lt1).2.2 (ix2 0 q) = dbT m c t0 q + dbT m c t1 q := by
  refine (db_B m c ⟨1, lt1⟩ not0 q).trans ?_
  exact congrArg₂ (· + ·) ((db_A m c ⟨0, lt0⟩ rfl q).trans (db_term m c t0 q)) (db_term m c t1 q)

/-! ## The results -/

def X (c : Dev nD) : S16x1024.Idx → EReal := (dats m 0 c).arrAt 9 cfg0.N

theorem only9 : ∀ t t' : Fin cfg0.N, (cfg0.win 9).flush t = true → (cfg0.win 9).flush t' = true → t ≠ t' →
    Disjoint ((cfg0.win 9).blk t).view.set ((cfg0.win 9).blk t').view.set := fun t t' h h' hne =>
  (hne (Fin.ext (by have := (flush0_9 t).1 h; have := (flush0_9 t').1 h'; have := lt2 t; have := lt2 t'; omega))).elim

theorem cut9 (t : Fin cfg0.N) (X : Vec Ideal S16x1024 .f32) (p : Fin 16) (q : Fin 1024) :
    (_root_.cast (congrArg (Elt Ideal) ((cfg0.win 9).blk t).view.elt_eq.symm) ((cfg0.win 9).cut (grid0.coords t) X (ix2 p q)) : EReal) = X (ix2 p q) := rfl

theorem X_apply (c : Dev nD) (p : Fin 16) (q : Fin 1024) : X m c (ix2 p q) = dxT m c t0 p q + dxT m c t1 p q := by
  have e := (dats m 0 c).arrAt_emb_eq_flushed 9 only9 t1 ((flush0_9 _).2 rfl) (ix2 p q)
  have hi : ((cfg0.win 9).blk t1).view.emb (ix2 p q) = ix2 p q := by
    obtain ⟨-, -, -, -, -, -, -, -, -, ⟨e0, e1⟩, -⟩ := idx t1
    refine funext fun a => Fin.ext ?_
    match a with
    | ⟨0, _⟩ => show win0_9.index t1 (0 : Fin 2) * 16 + 1 * p.val = p.val; omega
    | ⟨1, _⟩ => show win0_9.index t1 (1 : Fin 2) * 1024 + 1 * q.val = q.val; omega
  rw [hi, Value.flushed9] at e
  exact e.trans ((cut9 _ _ p q).trans (dx_end m c p q))

def DG (c : Dev nD) : S1x1024.Idx → EReal := (dats m 0 c).arrAt 10 cfg0.N

theorem only10 : ∀ t t' : Fin cfg0.N, (cfg0.win 10).flush t = true → (cfg0.win 10).flush t' = true → t ≠ t' →
    Disjoint ((cfg0.win 10).blk t).view.set ((cfg0.win 10).blk t').view.set := fun t t' h h' hne =>
  (hne (Fin.ext (by have := (flush0_10 t).1 h; have := (flush0_10 t').1 h'; have := lt2 t; have := lt2 t'; omega))).elim

theorem cut10 (t : Fin cfg0.N) (X : Vec Ideal S1x1024 .f32) (q : Fin 1024) :
    (_root_.cast (congrArg (Elt Ideal) ((cfg0.win 10).blk t).view.elt_eq.symm) ((cfg0.win 10).cut (grid0.coords t) X (ix2 0 q)) : EReal) = X (ix2 0 q) := rfl

theorem DG_apply (c : Dev nD) (q : Fin 1024) : DG m c (ix2 0 q) = dgT m c t0 q + dgT m c t1 q := by
  have e := (dats m 0 c).arrAt_emb_eq_flushed 10 only10 t1 ((flush0_10 _).2 rfl) (ix2 0 q)
  have hi : ((cfg0.win 10).blk t1).view.emb (ix2 0 q) = ix2 0 q := by
    obtain ⟨-, -, -, -, -, -, -, -, -, -, ⟨e0, e1⟩, -⟩ := idx t1
    refine funext fun a => Fin.ext ?_
    match a with
    | ⟨0, _⟩ => show win0_10.index t1 (0 : Fin 2) * 1 + 1 * 0 = 0; omega
    | ⟨1, _⟩ => show win0_10.index t1 (1 : Fin 2) * 1024 + 1 * q.val = q.val; omega
  rw [hi, Value.flushed10] at e
  exact e.trans ((cut10 _ _ q).trans (dg_end m c q))

def DB (c : Dev nD) : S1x1024.Idx → EReal := (dats m 0 c).arrAt 11 cfg0.N

theorem only11 : ∀ t t' : Fin cfg0.N, (cfg0.win 11).flush t = true → (cfg0.win 11).flush t' = true → t ≠ t' →
    Disjoint ((cfg0.win 11).blk t).view.set ((cfg0.win 11).blk t').view.set := fun t t' h h' hne =>
  (hne (Fin.ext (by have := (flush0_11 t).1 h; have := (flush0_11 t').1 h'; have := lt2 t; have := lt2 t'; omega))).elim

theorem cut11 (t : Fin cfg0.N) (X : Vec Ideal S1x1024 .f32) (q : Fin 1024) :
    (_root_.cast (congrArg (Elt Ideal) ((cfg0.win 11).blk t).view.elt_eq.symm) ((cfg0.win 11).cut (grid0.coords t) X (ix2 0 q)) : EReal) = X (ix2 0 q) := rfl

theorem DB_apply (c : Dev nD) (q : Fin 1024) : DB m c (ix2 0 q) = dbT m c t0 q + dbT m c t1 q := by
  have e := (dats m 0 c).arrAt_emb_eq_flushed 11 only11 t1 ((flush0_11 _).2 rfl) (ix2 0 q)
  have hi : ((cfg0.win 11).blk t1).view.emb (ix2 0 q) = ix2 0 q := by
    obtain ⟨-, -, -, -, -, -, -, -, -, -, -, e0, e1⟩ := idx t1
    refine funext fun a => Fin.ext ?_
    match a with
    | ⟨0, _⟩ => show win0_11.index t1 (0 : Fin 2) * 1 + 1 * 0 = 0; omega
    | ⟨1, _⟩ => show win0_11.index t1 (1 : Fin 2) * 1024 + 1 * q.val = q.val; omega
  rw [hi, Value.flushed11] at e
  exact e.trans ((cut11 _ _ q).trans (db_end m c q))

end Cert.Kernel15Ideal.StepM
-- ==== Proof.RefM.lean ====
module

public import proofs.«01_k».proof.Proof.Gen.Reference15Ideal.Read
public import proofs.«01_k».proof.Proof.RefG

/-! The values of the input projection's gradient at the front of the sequences, as the reference computes them, at an index. -/

@[expose] public section
noncomputable section
namespace Cert.Reference15Ideal.RefM
open Cert.Reference15Ideal Cert.Reference15Ideal.Gen Cert.Reference15Ideal.Read Idealize.ShloMosaic Idealize.ShloMosaic.TcCoe Idealize.ShloMosaic.StableHlo Cert.Spec
open Cert.Reference5Ideal.RefG (cat dS)

variable (x0 : (⟨S16x1024, .f32⟩ : BufTy).Contents (Elt Ideal)) (x1 : (⟨S1x1024, .f32⟩ : BufTy).Contents (Elt Ideal))
  (x3 : (⟨S1024x2688, .f32⟩ : BufTy).Contents (Elt Ideal)) (x4 x5 : (⟨S4224x1024, .f32⟩ : BufTy).Contents (Elt Ideal))
  (x6 x7 x8 : (⟨S4224x512, .f32⟩ : BufTy).Contents (Elt Ideal)) (x9 : (⟨S4224x128, .f32⟩ : BufTy).Contents (Elt Ideal))

/-- A sum along the first two of three axes. -/
theorem reduce01 {n0 n1 n2 : Nat} (h : (⟨3, ![n0, n1, n2]⟩ : Shape).ReducesTo [0, 1] ⟨1, ![n2]⟩) (v : (⟨3, ![n0, n1, n2]⟩ : Shape).Idx → EReal) (init : EReal) (q : Fin n2) :
    Ideal.hostReduceAdd h v init (ix1 q) = init + ∑ s : Fin n0, ∑ p : Fin n1, v (ix3 s p q) := by
  refine congrArg (init + ·) ?_
  refine (Finset.sum_filter_eq_sum_of_fiber _ (fun k : Fin n0 × Fin n1 => ix3 k.1 k.2 q) (fun _ _ e => Prod.ext (congrFun e 0) (congrFun e 1)) (fun i => ?_) v).trans
    (by simp only [Fintype.sum_prod_type])
  constructor
  · intro e
    refine ⟨(i 0, i 1), funext fun a => Fin.ext ?_⟩
    match a with
    | ⟨0, _⟩ => rfl
    | ⟨1, _⟩ => rfl
    | ⟨2, _⟩ => exact (congrArg Fin.val (congrFun e (0 : Fin 1))).symm
  · rintro ⟨k, rfl⟩
    refine funext fun b => Fin.ext ?_
    match b with
    | ⟨0, _⟩ => rfl

/-- The meta tokens' row `p`, and its place among sequence `s`'s rows. -/
abbrev P (p : Fin 16) (k : Fin 1024) : EReal := x0 (ix2 p k)
def pos (s : Fin 2) (p : Fin 16) : Fin 4224 := ⟨2112 * s.val + (48 + p.val), by omega⟩

theorem v16_eq (s : Fin 2) (p : Fin 16) (q : Fin 1024) : val_main_v16 (F := Ideal) x0 (ix3 s p q) = cen (P x0 p) q := by
  unfold val_main_v16 val_main_v15 val_main_v5 val_main_v4 val_main_v3 val_main_v2 val_main_v1 val_main_v0 val_main_cst val_main_cst_0
  pointwise
  rfl

theorem v7_eq (s : Fin 2) (p : Fin 16) (q : Fin 1024) : val_main_v7 (F := Ideal) x0 (ix3 s p q) = cen (P x0 p) q := v16_eq x0 s p q

theorem v19_eq (s : Fin 2) (p : Fin 16) : val_main_v19 (F := Ideal) x0 (ix3 s p 0) = rstd (P x0 p) := by
  unfold val_main_v19 val_main_v18 val_main_v17 val_main_v14 val_main_v13 val_main_v12 val_main_v11 val_main_v8 val_main_cst_2 val_main_cst_3 val_main_cst_4
  pointwise
  simp only [v7_eq]
  rfl

theorem v24_eq (s : Fin 2) (p : Fin 16) (q : Fin 1024) : val_main_v24 (F := Ideal) x0 (ix3 s p q) = xhat (P x0 p) q := by
  unfold val_main_v24 val_main_v23
  pointwise
  rw [v16_eq, v19_eq]
  rfl

theorem v40_eq (r : Fin 4224) (k : Fin 2688) : val_main_v40 (F := Ideal) x5 x6 x7 x8 x9 (ix2 r k) = cat x5 x6 x7 x8 x9 r k := by
  unfold val_main_v40
  pointwise
  rfl

theorem v44_eq (r : Fin 4224) (q : Fin 1024) : val_main_v44 (F := Ideal) x3 x4 x5 x6 x7 x8 x9 (ix2 r q) = dS x3 x4 x5 x6 x7 x8 x9 r q := by
  unfold val_main_v44 val_main_v43 val_main_v42 val_main_v41 val_main_cst_11
  pointwise
  simp only [v40_eq]

theorem v47_eq (s : Fin 2) (p : Fin 16) (q : Fin 1024) : val_main_v47 (F := Ideal) x3 x4 x5 x6 x7 x8 x9 (ix3 s p q) = dS x3 x4 x5 x6 x7 x8 x9 (pos s p) q := by
  unfold val_main_v47 val_main_v45
  pointwise
  refine (v44_eq x3 x4 x5 x6 x7 x8 x9 _ q).trans (congrArg (fun a => dS x3 x4 x5 x6 x7 x8 x9 a q) (Fin.ext ?_))
  dsimp only [pos]
  omega

theorem v49_eq (q : Fin 1024) : val_main_v49 (F := Ideal) x3 x4 x5 x6 x7 x8 x9 (ix1 q) = ∑ s : Fin 2, ∑ p : Fin 16, dS x3 x4 x5 x6 x7 x8 x9 (pos s p) q := by
  unfold val_main_v49 val_main_cst_12
  pointwise
  rw [reduce01, zero_add]
  simp only [v47_eq]

theorem v52_eq (q : Fin 1024) : val_main_v52 (F := Ideal) x3 x4 x5 x6 x7 x8 x9 (ix2 0 q) = ∑ s : Fin 2, ∑ p : Fin 16, dS x3 x4 x5 x6 x7 x8 x9 (pos s p) q := by
  unfold val_main_v52 val_main_v51 val_main_v50 val_main_cst_13
  pointwise
  rw [reduce01, zero_add, Fin.sum_univ_one, Fin.sum_univ_one]
  pointwise
  exact v49_eq x3 x4 x5 x6 x7 x8 x9 q

theorem v53_eq (s : Fin 2) (p : Fin 16) (q : Fin 1024) : val_main_v53 (F := Ideal) x0 x3 x4 x5 x6 x7 x8 x9 (ix3 s p q) = xhat (P x0 p) q * dS x3 x4 x5 x6 x7 x8 x9 (pos s p) q := by
  unfold val_main_v53
  pointwise
  rw [v24_eq, v47_eq]

theorem v54_eq (q : Fin 1024) : val_main_v54 (F := Ideal) x0 x3 x4 x5 x6 x7 x8 x9 (ix1 q) = ∑ s : Fin 2, ∑ p : Fin 16, xhat (P x0 p) q * dS x3 x4 x5 x6 x7 x8 x9 (pos s p) q := by
  unfold val_main_v54 val_main_cst_14
  pointwise
  rw [reduce01, zero_add]
  simp only [v53_eq]

theorem v59_eq (q : Fin 1024) : val_main_v59 (F := Ideal) x0 x3 x4 x5 x6 x7 x8 x9 (ix2 0 q) = ∑ s : Fin 2, ∑ p : Fin 16, xhat (P x0 p) q * dS x3 x4 x5 x6 x7 x8 x9 (pos s p) q := by
  unfold val_main_v59 val_main_v58 val_main_v55 val_main_cst_15
  pointwise
  rw [reduce01, zero_add, Fin.sum_univ_one, Fin.sum_univ_one]
  pointwise
  exact v54_eq x0 x3 x4 x5 x6 x7 x8 x9 q

theorem v57_eq (s : Fin 2) (p : Fin 16) (q : Fin 1024) : val_main_v57 (F := Ideal) x1 x3 x4 x5 x6 x7 x8 x9 (ix3 s p q) = dS x3 x4 x5 x6 x7 x8 x9 (pos s p) q * x1 (ix2 0 q) := by
  unfold val_main_v57 val_main_v56 val_main_v25
  pointwise
  rw [v47_eq]

theorem v64_eq (s : Fin 2) (p : Fin 16) (q : Fin 1024) : val_main_v64 (F := Ideal) x0 x1 x3 x4 x5 x6 x7 x8 x9 (ix3 s p q) = dS x3 x4 x5 x6 x7 x8 x9 (pos s p) q * x1 (ix2 0 q) * rstd (P x0 p) := by
  unfold val_main_v64 val_main_v63
  pointwise
  rw [v57_eq, v19_eq]

theorem v73_eq (s : Fin 2) (p : Fin 16) (q : Fin 1024) : val_main_v73 (F := Ideal) x0 x1 x3 x4 x5 x6 x7 x8 x9 (ix3 s p q) = viaVar (fun k => dS x3 x4 x5 x6 x7 x8 x9 (pos s p) k * x1 (ix2 0 k)) (P x0 p) q := by
  unfold val_main_v73 val_main_v72 val_main_v71 val_main_v70 val_main_v69 val_main_v65 val_main_v62 val_main_v61 val_main_v60 val_main_v22 val_main_v21 val_main_v20 val_main_v18 val_main_v17 val_main_v14 val_main_v13 val_main_v12 val_main_v11 val_main_v10 val_main_v9 val_main_v8 val_main_cst_16 val_main_cst_5 val_main_cst_2 val_main_cst_3 val_main_cst_4 val_main_cst_18 val_main_cst_19 val_main_cst_1
  pointwise
  simp only [Fin.sum_univ_one, v57_eq, v7_eq, v16_eq, v19_eq]
  rfl

theorem v83_eq (s : Fin 2) (p : Fin 16) (q : Fin 1024) : val_main_v83 (F := Ideal) x0 x1 x3 x4 x5 x6 x7 x8 x9 (ix3 s p q) = lnVjp (fun k => dS x3 x4 x5 x6 x7 x8 x9 (pos s p) k * x1 (ix2 0 k)) (P x0 p) q := by
  unfold val_main_v83 val_main_v82 val_main_v81 val_main_v80 val_main_v79 val_main_v78 val_main_v77 val_main_v76 val_main_v75 val_main_v74 val_main_v68 val_main_v67 val_main_v66 val_main_cst_17 val_main_cst_20 val_main_cst_21 val_main_cst_22
  pointwise
  simp only [Fin.sum_univ_one, v64_eq, v73_eq]
  rfl

theorem v86_eq (p : Fin 16) (q : Fin 1024) : val_main_v86 (F := Ideal) x0 x1 x3 x4 x5 x6 x7 x8 x9 (ix2 p q) = ∑ s : Fin 2, lnVjp (fun k => dS x3 x4 x5 x6 x7 x8 x9 (pos s p) k * x1 (ix2 0 k)) (P x0 p) q := by
  unfold val_main_v86 val_main_v85 val_main_v84 val_main_cst_23 val_main_cst_24
  pointwise
  simp only [Fin.sum_univ_one, v83_eq]

end Cert.Reference15Ideal.RefM
-- ==== Proof.ClaimM.lean ====
module

public import proofs.«01_k».proof.Defs
public import proofs.«01_k».proof.Proof.StepM
public import proofs.«01_k».proof.Proof.RefM
public import proofs.«01_k».proof.Proof.Finite
public import proofs.«01_k».proof.Proof.Gen.Pre_finite15
public import Idealize.ShloMosaic.Lib.StableHlo.ReadAt

/-! The kernel of the input projection's gradient at the front of the sequences computes what the reference computes. -/

@[expose] public section
noncomputable section

namespace Cert.Pre_finite15
open Idealize.ShloMosaic Cert.Spec Cert.Pre_finite15.Gen

variable (x0 : FVec Ideal S16x1024 .f32) (x1 x2 : FVec Ideal S1x1024 .f32) (x3 : FVec Ideal S1024x2688 .f32) (x4 x5 : FVec Ideal S4224x1024 .f32)
  (x6 x7 x8 : FVec Ideal S4224x512 .f32) (x9 : FVec Ideal S4224x128 .f32)

/-- Under the precondition every argument's entries are real. -/
theorem real_args (h : ∀ i, fn (F := Ideal) x0 x1 x2 x3 x4 x5 x6 x7 x8 x9 i = 1#1) :
    (∀ i, IsReal (x0 i)) ∧ (∀ i, IsReal (x1 i)) ∧ (∀ i, IsReal (x3 i)) ∧ (∀ i, IsReal (x4 i)) ∧ (∀ i, IsReal (x5 i)) ∧ (∀ i, IsReal (x6 i))
      ∧ (∀ i, IsReal (x7 i)) ∧ (∀ i, IsReal (x8 i)) ∧ (∀ i, IsReal (x9 i)) := by
  have h := h ix0
  unfold fn fn_part1 fn_part2 at h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h0, h1⟩ := IntOp.andi_eq_one.1 h
  exact ⟨real_of_all _ _ (fun _ => rfl) _ _ _ _ h0, real_of_all _ _ (fun _ => rfl) _ _ _ _ h1, real_of_all _ _ (fun _ => rfl) _ _ _ _ h3,
    real_of_all _ _ (fun _ => rfl) _ _ _ _ h4, real_of_all _ _ (fun _ => rfl) _ _ _ _ h5, real_of_all _ _ (fun _ => rfl) _ _ _ _ h6,
    real_of_all _ _ (fun _ => rfl) _ _ _ _ h7, real_of_all _ _ (fun _ => rfl) _ _ _ _ h8, real_of_all _ _ (fun _ => rfl) _ _ _ _ h9⟩

end Cert.Pre_finite15

namespace Cert.ClaimM
open Cert Cert.Kernel15Ideal Cert.Kernel15Ideal.Gen Cert.Kernel15Ideal.StepM Idealize.ShloMosaic Idealize.ShloMosaic.TcCoe Idealize.SL.Sem Cert.Spec

variable (m : (ℓ : Loc nD τ sig) → Buf (Elt Ideal) ℓ) (c : Dev nD)

abbrev A0 : (⟨S16x1024, .f32⟩ : BufTy).Contents (Elt Ideal) := m ((c.tc : Thread nD τ).loc main_arg0)
abbrev A1 : (⟨S1x1024, .f32⟩ : BufTy).Contents (Elt Ideal) := m ((c.tc : Thread nD τ).loc main_arg1)
abbrev A3 : (⟨S1024x2688, .f32⟩ : BufTy).Contents (Elt Ideal) := m ((c.tc : Thread nD τ).loc main_arg3)
abbrev A4 : (⟨S4224x1024, .f32⟩ : BufTy).Contents (Elt Ideal) := m ((c.tc : Thread nD τ).loc main_arg4)
abbrev A5 : (⟨S4224x1024, .f32⟩ : BufTy).Contents (Elt Ideal) := m ((c.tc : Thread nD τ).loc main_arg5)
abbrev A6 : (⟨S4224x512, .f32⟩ : BufTy).Contents (Elt Ideal) := m ((c.tc : Thread nD τ).loc main_arg6)
abbrev A7 : (⟨S4224x512, .f32⟩ : BufTy).Contents (Elt Ideal) := m ((c.tc : Thread nD τ).loc main_arg7)
abbrev A8 : (⟨S4224x512, .f32⟩ : BufTy).Contents (Elt Ideal) := m ((c.tc : Thread nD τ).loc main_arg8)
abbrev A9 : (⟨S4224x128, .f32⟩ : BufTy).Contents (Elt Ideal) := m ((c.tc : Thread nD τ).loc main_arg9)

/-! ## The arrays the kernel is launched on -/

theorem aX_eq (p : Fin 16) (k : Fin 1024) : aX m c (rr p) k = A0 m c (ix2 p k) := by
  unfold aX V
  after_reads_at
theorem aG_eq (k) : aG m c 0 k = A1 m c (ix2 0 k) := by unfold aG V; after_reads_at
theorem aW_eq (k q) : aW m c k q = A3 m c (ix2 q k) := by unfold aW V; after_reads_at
theorem aD_eq (r k) : aD m c r k = A4 m c (ix2 r k) := by unfold aD V; after_reads_at
theorem aU1_eq (r k) : aU1 m c r k = A5 m c (ix2 r k) := by unfold aU1 V; after_reads_at
theorem aU2_eq (r k) : aU2 m c r k = A6 m c (ix2 r k) := by unfold aU2 V; after_reads_at
theorem aU3_eq (r k) : aU3 m c r k = A7 m c (ix2 r k) := by unfold aU3 V; after_reads_at
theorem aU4_eq (r k) : aU4 m c r k = A8 m c (ix2 r k) := by unfold aU4 V; after_reads_at
theorem aU5_eq (r k) : aU5 m c r k = A9 m c (ix2 r k) := by unfold aU5 V; after_reads_at

/-- The gradient at the norm, of the arguments, at row `r`. -/
abbrev R (r : Fin 4224) (q : Fin 1024) : EReal :=
  Reference5Ideal.RefG.dS (A3 m c) (A4 m c) (A5 m c) (A6 m c) (A7 m c) (A8 m c) (A9 m c) r q

theorem dsA_eq (i : Fin 4224) (q : Fin 1024) : dsA m c i q = R m c i q := by
  show _ = Reference5Ideal.RefG.dS _ _ _ _ _ _ _ _ _
  unfold Reference5Ideal.RefG.dS
  rw [Reference5Ideal.RefG.sum_cat _ _ _ _ _ _ (fun k => A3 m c (ix2 q k)), add_comm]
  unfold dsA
  simp only [aD_eq, aU1_eq, aU2_eq, aU3_eq, aU4_eq, aU5_eq, aW_eq, add_assoc]

theorem R_real (h3 : ∀ i, IsReal (A3 m c i)) (h4 : ∀ i, IsReal (A4 m c i)) (h5 : ∀ i, IsReal (A5 m c i)) (h6 : ∀ i, IsReal (A6 m c i))
    (h7 : ∀ i, IsReal (A7 m c i)) (h8 : ∀ i, IsReal (A8 m c i)) (h9 : ∀ i, IsReal (A9 m c i)) (i : Fin 4224) (q : Fin 1024) : IsReal (R m c i q) := by
  refine (IsReal.sum fun k => IsReal.mul ?_ (h3 _)).add (alpha_real.mul (h4 _))
  unfold Reference5Ideal.RefG.cat
  split_ifs <;> first | exact h5 _ | exact h6 _ | exact h7 _ | exact h8 _ | exact h9 _

theorem xr_eq (p : Fin 16) : xr m c p = Reference15Ideal.RefM.P (A0 m c) p := funext fun k => aX_eq m c p k

theorem out0 (h0 : ∀ i, IsReal (A0 m c i)) (h1 : ∀ i, IsReal (A1 m c i)) (hR : ∀ i q, IsReal (R m c i q)) :
    Reference15Ideal.Read.val_main_v86 (F := Ideal) (A0 m c) (A1 m c) (A3 m c) (A4 m c) (A5 m c) (A6 m c) (A7 m c) (A8 m c) (A9 m c) = X m c := by
  funext i
  obtain ⟨p, q, rfl⟩ : ∃ p q, i = ix2 p q := ⟨_, _, ValueIdx.eq_ix2 i⟩
  rw [Reference15Ideal.RefM.v86_eq, Fin.sum_univ_two]
  refine Eq.trans ?_ (X_apply m c p q).symm
  have one (t : Fin cfg0.N) (r : Fin 4224) (h : row t (rr p) = r) :
      lnVjp (fun k => R m c r k * A1 m c (ix2 0 k)) (Reference15Ideal.RefM.P (A0 m c) p) q = dxT m c t p q := by
    unfold dxT
    rw [h, xr_eq]
    simp only [dsA_eq, aG_eq]
    exact (lnBwd_eq (fun k => (hR r k).mul (h1 _)) (fun k => h0 _) q).symm
  exact congrArg₂ (· + ·) (one t0 _ rfl) (one t1 _ rfl)

theorem out1 : Reference15Ideal.Read.val_main_v59 (F := Ideal) (A0 m c) (A3 m c) (A4 m c) (A5 m c) (A6 m c) (A7 m c) (A8 m c) (A9 m c) = DG m c := by
  funext i
  obtain ⟨r, q, rfl⟩ : ∃ r q, i = ix2 r q := ⟨_, _, ValueIdx.eq_ix2 i⟩
  obtain rfl := Subsingleton.elim r 0
  rw [Reference15Ideal.RefM.v59_eq, Fin.sum_univ_two]
  refine Eq.trans ?_ (DG_apply m c q).symm
  have one (t : Fin cfg0.N) (s : Fin 2) (h : ∀ p, row t (rr p) = Reference15Ideal.RefM.pos s p) :
      ∑ p : Fin 16, xhat (Reference15Ideal.RefM.P (A0 m c) p) q * R m c (Reference15Ideal.RefM.pos s p) q = dgT m c t q := by
    unfold dgT
    refine Finset.sum_congr rfl fun p _ => ?_
    rw [h, xr_eq, dsA_eq, mul_comm]
  exact congrArg₂ (· + ·) (one t0 0 fun _ => rfl) (one t1 1 fun _ => rfl)

theorem out2 : Reference15Ideal.Read.val_main_v52 (F := Ideal) (A3 m c) (A4 m c) (A5 m c) (A6 m c) (A7 m c) (A8 m c) (A9 m c) = DB m c := by
  funext i
  obtain ⟨r, q, rfl⟩ : ∃ r q, i = ix2 r q := ⟨_, _, ValueIdx.eq_ix2 i⟩
  obtain rfl := Subsingleton.elim r 0
  rw [Reference15Ideal.RefM.v52_eq, Fin.sum_univ_two]
  refine Eq.trans ?_ (DB_apply m c q).symm
  have one (t : Fin cfg0.N) (s : Fin 2) (h : ∀ p, row t (rr p) = Reference15Ideal.RefM.pos s p) :
      ∑ p : Fin 16, R m c (Reference15Ideal.RefM.pos s p) q = dbT m c t q := by
    unfold dbT
    refine Finset.sum_congr rfl fun p _ => ?_
    rw [h, dsA_eq]
  exact congrArg₂ (· + ·) (one t0 0 fun _ => rfl) (one t1 1 fun _ => rfl)

theorem algebraic : Cert.algebraic_Kernel15Ideal_Reference15Ideal_pre_finite15 := by
  intro m g m' g' hpre hargs
  refine ⟨fun c => X m c, fun c => DG m c, fun c => DB m c, ?_, ?_⟩
  · refine (θ_run _ _ _).mono ?_ (Value.run_blocks m g)
    exact fun r h c => h c
  · refine (θ_run _ _ _).mono ?_ (Reference15Ideal.Value.run m' g')
    intro r h c
    obtain ⟨e0, e1, e2, hk⟩ := h c
    obtain ⟨a0, a1, -, a3, a4, a5, a6, a7, a8, a9⟩ := hargs c
    obtain ⟨h0, h1, h3, h4, h5, h6, h7, h8, h9⟩ := Pre_finite15.real_args _ _ _ _ _ _ _ _ _ _ (fun i => congrFun (hpre c) i)
    refine ⟨e0.trans ?_, e1.trans ?_, e2.trans ?_, hk⟩
    · rw [Reference15Ideal.Read.val_main_v86_eq, a0, a1, a3, a4, a5, a6, a7, a8, a9]; exact out0 m c h0 h1 (R_real m c h3 h4 h5 h6 h7 h8 h9)
    · rw [a0, a3, a4, a5, a6, a7, a8, a9]; exact (Reference15Ideal.Read.val_main_v59_eq ..).trans (out1 m c)
    · rw [a3, a4, a5, a6, a7, a8, a9]; exact (Reference15Ideal.Read.val_main_v52_eq ..).trans (out2 m c)

end Cert.ClaimM
-- ==== Proof.lean ====
module

public import proofs.«01_k».proof.Proof.ClaimA
public import proofs.«01_k».proof.Proof.ClaimB
public import proofs.«01_k».proof.Proof.ClaimC
public import proofs.«01_k».proof.Proof.ClaimD
public import proofs.«01_k».proof.Proof.ClaimG
public import proofs.«01_k».proof.Proof.ClaimH
public import proofs.«01_k».proof.Proof.StepE
public import proofs.«01_k».proof.Proof.ClaimF
public import proofs.«01_k».proof.Proof.ClaimU9
public import proofs.«01_k».proof.Proof.ClaimU10
public import proofs.«01_k».proof.Proof.ClaimU11
public import proofs.«01_k».proof.Proof.ClaimU12
public import proofs.«01_k».proof.Proof.ClaimC13
public import proofs.«01_k».proof.Proof.ClaimL
public import proofs.«01_k».proof.Proof.ClaimM
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel9.Frame
public import proofs.«01_k».proof.Proof.Gen.Kernel9Ideal.Frame
public import proofs.«01_k».proof.Proof.Gen.Kernel10.Frame
public import proofs.«01_k».proof.Proof.Gen.Kernel10Ideal.Frame
public import proofs.«01_k».proof.Proof.Gen.Kernel11.Frame
public import proofs.«01_k».proof.Proof.Gen.Kernel11Ideal.Frame
public import proofs.«01_k».proof.Proof.Gen.Kernel12.Frame
public import proofs.«01_k».proof.Proof.Gen.Kernel12Ideal.Frame
public import proofs.«01_k».proof.Proof.Gen.Kernel13.Frame
public import proofs.«01_k».proof.Proof.Gen.Kernel13Ideal.Frame
public import proofs.«01_k».proof.Proof.Gen.Kernel14.Frame
public import proofs.«01_k».proof.Proof.Gen.Kernel14Ideal.Frame
public import proofs.«01_k».proof.Proof.Gen.Kernel15.Frame
public import proofs.«01_k».proof.Proof.Gen.Kernel15Ideal.Frame
public import Idealize.ShloMosaic.Adequacy
public import Idealize.ShloMosaic.Init

@[expose] public section

noncomputable section

namespace Cert.Proof

open Idealize.ShloMosaic Idealize.SL.Sem

/-! Each reference's run read at its arguments; none declares a semaphore. -/

theorem frameR : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run m ρ)

theorem frameR2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run m ρ)

theorem frameR3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run m ρ)

theorem frameR4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

theorem frameR5 : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run m ρ)

theorem frameR6 : Cert.quiescent_Reference6Ideal := fun m ρ _ =>
  (θ_run Cert.Reference6Ideal.defs _ _).mono (fun r h => ⟨fun c => (h c).2.2.2.2.2.2, sem_eq_zero_of_no_sems (by decide) r.2⟩)
    (Cert.Reference6Ideal.Value.run m ρ)

theorem frameR7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

theorem frameR8 : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run m ρ)

theorem frameR9 : Cert.quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run m ρ)

theorem frameR10 : Cert.quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run m ρ)

theorem frameR11 : Cert.quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run m ρ)

theorem frameR12 : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run m ρ)

theorem frameR13 : Cert.quiescent_Reference13Ideal := fun m ρ _ =>
  (θ_run Cert.Reference13Ideal.defs _ _).mono (fun r h => ⟨fun c => (h c).2.2, sem_eq_zero_of_no_sems (by decide) r.2⟩)
    (Cert.Reference13Ideal.Value.run m ρ)

theorem frameR14 : Cert.quiescent_Reference14Ideal := fun m ρ _ =>
  (θ_run Cert.Reference14Ideal.defs _ _).mono (fun r h => ⟨fun c => (h c).2.2, sem_eq_zero_of_no_sems (by decide) r.2⟩)
    (Cert.Reference14Ideal.Value.run m ρ)

theorem frameR15 : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Pre_finite.Gen.facts, Cert.Pre_finite5.Gen.facts, Cert.Pre_finite6.Gen.facts, Cert.Pre_finite15.Gen.facts,
  fun m ρ _ => Cert.Kernel.Gen.frame m ρ,
  fun m ρ _ => Cert.KernelIdeal.Gen.frame m ρ,
  fun m ρ _ => Cert.KernelIdeal.Gen.frame m ρ,
  fun m ρ _ => frameR m ρ trivial,
  fun m ρ _ => frameR m ρ trivial,
  fun m ρ _ => Cert.Kernel2.Gen.frame m ρ,
  fun m ρ _ => Cert.Kernel2Ideal.Gen.frame m ρ,
  fun m ρ _ => frameR2 m ρ trivial,
  fun m ρ _ => Cert.Kernel3.Gen.frame m ρ,
  fun m ρ _ => Cert.Kernel3Ideal.Gen.frame m ρ,
  fun m ρ _ => frameR3 m ρ trivial,
  fun m ρ _ => Cert.Kernel4.Gen.frame m ρ,
  fun m ρ _ => Cert.Kernel4Ideal.Gen.frame m ρ,
  fun m ρ _ => frameR4 m ρ trivial,
  fun m ρ _ => Cert.Kernel5.Gen.frame m ρ,
  fun m ρ _ => Cert.Kernel5Ideal.Gen.frame m ρ,
  fun m ρ _ => Cert.Kernel5Ideal.Gen.frame m ρ,
  fun m ρ _ => frameR5 m ρ trivial,
  fun m ρ _ => frameR5 m ρ trivial,
  fun m ρ _ => Cert.Kernel6.Gen.frame m ρ,
  fun m ρ _ => Cert.Kernel6Ideal.Gen.frame m ρ,
  fun m ρ _ => Cert.Kernel6Ideal.Gen.frame m ρ,
  fun m ρ _ => frameR6 m ρ trivial,
  fun m ρ _ => frameR6 m ρ trivial,
  fun m ρ _ => Cert.Kernel7.Gen.frame m ρ,
  fun m ρ _ => Cert.Kernel7Ideal.Gen.frame m ρ,
  fun m ρ _ => frameR7 m ρ trivial,
  fun m ρ _ => Cert.Kernel8.Gen.frame m ρ,
  fun m ρ _ => Cert.Kernel8Ideal.Gen.frame m ρ,
  fun m ρ _ => frameR8 m ρ trivial,
  fun m ρ _ => Cert.Kernel9.Gen.frame m ρ,
  fun m ρ _ => Cert.Kernel9Ideal.Gen.frame m ρ,
  fun m ρ _ => frameR9 m ρ trivial,
  fun m ρ _ => Cert.Kernel10.Gen.frame m ρ,
  fun m ρ _ => Cert.Kernel10Ideal.Gen.frame m ρ,
  fun m ρ _ => frameR10 m ρ trivial,
  fun m ρ _ => Cert.Kernel11.Gen.frame m ρ,
  fun m ρ _ => Cert.Kernel11Ideal.Gen.frame m ρ,
  fun m ρ _ => frameR11 m ρ trivial,
  fun m ρ _ => Cert.Kernel12.Gen.frame m ρ,
  fun m ρ _ => Cert.Kernel12Ideal.Gen.frame m ρ,
  fun m ρ _ => frameR12 m ρ trivial,
  fun m ρ _ => Cert.Kernel13.Gen.frame m ρ,
  fun m ρ _ => Cert.Kernel13Ideal.Gen.frame m ρ,
  fun m ρ _ => frameR13 m ρ trivial,
  fun m ρ _ => Cert.Kernel14.Gen.frame m ρ,
  fun m ρ _ => Cert.Kernel14Ideal.Gen.frame m ρ,
  fun m ρ _ => frameR14 m ρ trivial,
  fun m ρ _ => Cert.Kernel15.Gen.frame m ρ,
  fun m ρ _ => Cert.Kernel15Ideal.Gen.frame m ρ,
  fun m ρ _ => Cert.Kernel15Ideal.Gen.frame m ρ,
  fun m ρ _ => frameR15 m ρ trivial,
  fun m ρ _ => frameR15 m ρ trivial,
  trivial,
  Cert.ClaimA.algebraic,
  trivial,
  Cert.ClaimB.algebraic,
  trivial,
  Cert.ClaimC.algebraic,
  trivial,
  Cert.ClaimD.algebraic,
  trivial,
  Cert.ClaimG.algebraic,
  trivial,
  Cert.ClaimH.algebraic,
  trivial,
  Cert.ClaimE.algebraic,
  trivial,
  Cert.ClaimF.algebraic,
  trivial,
  Cert.ClaimU9.algebraic,
  trivial,
  Cert.ClaimU10.algebraic,
  trivial,
  Cert.ClaimU11.algebraic,
  trivial,
  Cert.ClaimU12.algebraic,
  trivial,
  Cert.ClaimC13.algebraic,
  trivial,
  Cert.ClaimL.algebraic,
  trivial,
  Cert.ClaimM.algebraic⟩

end Cert.Proof

end
